-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v204) = v0 c
          ∧ r.2.mem ((c.tc : Thread Cert.Reference3Ideal.nD Cert.Reference3Ideal.τ).loc Cert.Reference3Ideal.main_v190) = v1 c
          ∧ r.2.mem ((c.tc : Thread Cert.Reference3Ideal.nD Cert.Reference3Ideal.τ).loc Cert.Reference3Ideal.main_v205) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S16x2304x3328 : Shape := ⟨3, ![16, 2304, 3328]⟩
abbrev S4 : Shape := ⟨1, ![4]⟩
abbrev S16x2304x384 : Shape := ⟨3, ![16, 2304, 384]⟩
abbrev S_ : Shape := ⟨0, ![]⟩

class Facts : Prop where
  slices_S16x2304x3328_S16x2304x384_0_0_0 : S16x2304x3328.Slices ![0, 0, 0] S16x2304x384
  bcast_S_S16x2304x384 : S_.BroadcastsInDim S16x2304x384 (![] : Fin 0 → Fin S16x2304x384.rank)
  bcast_S_S4 : S_.BroadcastsInDim S4 (![] : Fin 0 → Fin S4.rank)

variable [Facts]

def fn {F : FTy → Type} [FloatOps F] (main_arg0 : FVec F S16x2304x3328 .f32) (main_arg1 : FVec F S4 .f32) : IVec S16x2304x384 1 × IVec S4 1 :=
  let main_v0 : FVec F S16x2304x384 .f32 := (extractStridedSlice S16x2304x384 ![0, 0, 0] · slices_S16x2304x3328_S16x2304x384_0_0_0) main_arg0
  let main_v1 : FVec F S16x2304x384 .f32 := Host.absf main_v0
  let main_cst : FVec F S_ .f32 := constant S_ .f32 0x7F800000#32
  let main_v2 : FVec F S16x2304x384 .f32 := broadcastInDim S16x2304x384 ![] bcast_S_S16x2304x384 main_cst
  let main_v3 : IVec S16x2304x384 1 := cmpf .olt main_v1 main_v2
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  (main_v3, main_v6)
-- ==== Kernel.lean ====
abbrev S16x2304x3328 : Shape := ⟨3, ![16, 2304, 3328]⟩
abbrev S4 : Shape := ⟨1, ![4]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x64 : Shape := ⟨2, ![256, 64]⟩
abbrev S2304x64 : Shape := ⟨2, ![2304, 64]⟩
abbrev S1x2304x1x64 : Shape := ⟨4, ![1, 2304, 1, 64]⟩
abbrev S1x2304x4x64 : Shape := ⟨4, ![1, 2304, 4, 64]⟩
abbrev S2304x256 : Shape := ⟨2, ![2304, 256]⟩
abbrev S16x2304x256 : Shape := ⟨3, ![16, 2304, 256]⟩
abbrev S1x128x256 : Shape := ⟨3, ![1, 128, 256]⟩
abbrev S1x2304x128 : Shape := ⟨3, ![1, 2304, 128]⟩
abbrev S128x256 : Shape := ⟨2, ![128, 256]⟩
abbrev S2304x128 : Shape := ⟨2, ![2304, 128]⟩
abbrev S2x2304x64 : Shape := ⟨3, ![2, 2304, 64]⟩
abbrev S1x2304x64 : Shape := ⟨3, ![1, 2304, 64]⟩
abbrev S256x1 : Shape := ⟨2, ![256, 1]⟩
abbrev S128x64 : Shape := ⟨2, ![128, 64]⟩
abbrev S1x256x64 : Shape := ⟨3, ![1, 256, 64]⟩
abbrev S256x256 : Shape := ⟨2, ![256, 256]⟩
abbrev S1 : Shape := ⟨1, ![1]⟩
abbrev S256 : Shape := ⟨1, ![256]⟩
abbrev S1x384 : Shape := ⟨2, ![1, 384]⟩
abbrev S256x384 : Shape := ⟨2, ![256, 384]⟩
abbrev S1x384x64 : Shape := ⟨3, ![1, 384, 64]⟩
abbrev S384x64 : Shape := ⟨2, ![384, 64]⟩

abbrev nBuf : Space → Nat
  | .hbm => 94
  | .vmem => 16
  | .smem => 1
  | _ => 0

abbrev bufTy : (tb : Table) → Fin (tcTables nBuf tb) → BufTy
  | .hbm, ⟨0, _⟩ => ⟨S16x2304x3328, .f32⟩
  | .hbm, ⟨1, _⟩ => ⟨S4, .f32⟩
  | .hbm, ⟨2, _⟩ => ⟨S2048, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S_, .i1⟩
  | .hbm, ⟨57, _⟩ => ⟨S2048, .i1⟩
  | .hbm, ⟨58, _⟩ => ⟨S2048, .i1⟩
  | .hbm, ⟨59, _⟩ => ⟨S2048, .i1⟩
  | .hbm, ⟨60, _⟩ => ⟨S2048, .i32⟩
  | .hbm, ⟨61, _⟩ => ⟨S2048, .i32⟩
  | .hbm, ⟨62, _⟩ => ⟨S2048, .i32⟩
  | .hbm, ⟨63, _⟩ => ⟨S2048, .f32⟩
  | .hbm, ⟨64, _⟩ => ⟨S2048x1, .f32⟩
  | .hbm, ⟨65, _⟩ => ⟨S1x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x64, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x64, .f32⟩
  | .hbm, ⟨81, _⟩ => ⟨S_, .f32⟩
  | .hbm, ⟨82, _⟩ => ⟨S256x64, .f32⟩
  | .hbm, ⟨83, _⟩ => ⟨S2304x64, .f32⟩
  | .hbm, ⟨84, _⟩ => ⟨S_, .f32⟩
  | .hbm, ⟨85, _⟩ => ⟨S256x64, .f32⟩
  | .hbm, ⟨86, _⟩ => ⟨S2304x64, .f32⟩
  | .hbm, ⟨87, _⟩ => ⟨S1x2304x1x64, .f32⟩
  | .hbm, ⟨88, _⟩ => ⟨S1x2304x4x64, .f32⟩
  | .hbm, ⟨89, _⟩ => ⟨S2304x256, .f32⟩
  | .hbm, ⟨90, _⟩ => ⟨S1x2304x1x64, .f32⟩
  | .hbm, ⟨91, _⟩ => ⟨S1x2304x4x64, .f32⟩
  | .hbm, ⟨92, _⟩ => ⟨S2304x256, .f32⟩
  | .hbm, ⟨93, _⟩ => ⟨S16x2304x256, .f32⟩
  | .local _ .vmem, ⟨0, _⟩ => ⟨S1x128x256, .f32⟩
  | .local _ .vmem, ⟨1, _⟩ => ⟨S1x128x256, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S2304x128, .f32⟩
  | .local _ .vmem, ⟨11, _⟩ => ⟨S2304x128, .f32⟩
  | .local _ .vmem, ⟨12, _⟩ => ⟨S1x128x256, .f32⟩
  | .local _ .vmem, ⟨13, _⟩ => ⟨S1x128x256, .f32⟩
  | .local _ .vmem, ⟨14, _⟩ => ⟨S2x2304x64, .bf16⟩
  | .local _ .vmem, ⟨15, _⟩ => ⟨S2x2304x64, .bf16⟩
  | .local _ .smem, ⟨0, _⟩ => ⟨S4, .f32⟩
  | _, _ => ⟨S16x2304x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_4 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 18], ![false, false]⟩

def k0_cond3 (i : grid0.Coords) : BitVec 1 :=
  let arg1 : BitVec 32 := BitVec.ofNat 32 (i 1).val
  let c2_i32_13 : BitVec 32 := 2#32
  let v40 : BitVec 1 := Scalar.cmpi .sge arg1 c2_i32_13
  let v41 : BitVec 32 := Scalar.extui v40
  let c0_i32_14 : BitVec 32 := 0#32
  let v42 : BitVec 1 := Scalar.cmpi .ne v41 c0_i32_14
  v42

def k0_mult1 (i : grid0.Coords) : BitVec 32 :=
  let c256_i32 : BitVec 32 := 256#32
  let c1664_i32 : BitVec 32 := 1664#32
  let c0_i32_17 : BitVec 32 := 0#32
  let arg1 : BitVec 32 := BitVec.ofNat 32 (i 1).val
  let c2_i32_15 : BitVec 32 := 2#32
  let v43 : BitVec 32 := Scalar.subi arg1 c2_i32_15
  let c128_i32 : BitVec 32 := 128#32
  let v44 : BitVec 32 := Scalar.muli v43 c128_i32
  let c128_i32_16 : BitVec 32 := 128#32
  let v45 : BitVec 32 := Scalar.subi v44 c128_i32_16
  let v46 : BitVec 32 := Scalar.maxsi c0_i32_17 v45
  let v47 : BitVec 32 := Scalar.minsi c1664_i32 v46
  let v48 : BitVec 32 := Scalar.addi c256_i32 v47
  v48
def k0_off1 (i : grid0.Coords) : Fin 3 → Nat :=
  let c0_25 : Index := 0#32
  let c256_i32 : BitVec 32 := 256#32
  let c1664_i32 : BitVec 32 := 1664#32
  let c0_i32_17 : BitVec 32 := 0#32
  let arg1 : BitVec 32 := BitVec.ofNat 32 (i 1).val
  let c2_i32_15 : BitVec 32 := 2#32
  let v43 : BitVec 32 := Scalar.subi arg1 c2_i32_15
  let c128_i32 : BitVec 32 := 128#32
  let v44 : BitVec 32 := Scalar.muli v43 c128_i32
  let c128_i32_16 : BitVec 32 := 128#32
  let v45 : BitVec 32 := Scalar.subi v44 c128_i32_16
  let v46 : BitVec 32 := Scalar.maxsi c0_i32_17 v45
  let v47 : BitVec 32 := Scalar.minsi c1664_i32 v46
  let v48 : BitVec 32 := Scalar.addi c256_i32 v47
  let v49 : BitVec 32 := v48
  let v81 : Index := Scalar.indexCast v49
  let c0_26 : Index := 0#32
  ![0, v81.toNat, 0]
def k0_off2 (i : grid0.Coords) : Fin 3 → Nat :=
  let c1_46 : Index := 1#32
  let c256_i32 : BitVec 32 := 256#32
  let c1664_i32 : BitVec 32 := 1664#32
  let c0_i32_17 : BitVec 32 := 0#32
  let arg1 : BitVec 32 := BitVec.ofNat 32 (i 1).val
  let c2_i32_15 : BitVec 32 := 2#32
  let v43 : BitVec 32 := Scalar.subi arg1 c2_i32_15
  let c128_i32 : BitVec 32 := 128#32
  let v44 : BitVec 32 := Scalar.muli v43 c128_i32
  let c128_i32_16 : BitVec 32 := 128#32
  let v45 : BitVec 32 := Scalar.subi v44 c128_i32_16
  let v46 : BitVec 32 := Scalar.maxsi c0_i32_17 v45
  let v47 : BitVec 32 := Scalar.minsi c1664_i32 v46
  let v48 : BitVec 32 := Scalar.addi c256_i32 v47
  let v49 : BitVec 32 := v48
  let v133 : Index := Scalar.indexCast v49
  let c0_47 : Index := 0#32
  ![1, v133.toNat, 0]
def k0_cond2 (i : grid0.Coords) : BitVec 1 :=
  let arg1 : BitVec 32 := BitVec.ofNat 32 (i 1).val
  let c2_i32 : BitVec 32 := 2#32
  let v37 : BitVec 1 := Scalar.cmpi .slt arg1 c2_i32
  let v38 : BitVec 32 := Scalar.extui v37
  let c0_i32_12 : BitVec 32 := 0#32
  let v39 : BitVec 1 := Scalar.cmpi .ne v38 c0_i32_12
  v39

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2304x3328 : Shape := ⟨3, ![16, 2304, 3328]⟩
abbrev S4 : Shape := ⟨1, ![4]⟩
abbrev S16x2048x3328 : Shape := ⟨3, ![16, 2048, 3328]⟩
abbrev S16x256x3328 : Shape := ⟨3, ![16, 256, 3328]⟩
abbrev S16x2048x256 : Shape := ⟨3, ![16, 2048, 256]⟩
abbrev S16x2048x4x64 : Shape := ⟨4, ![16, 2048, 4, 64]⟩
abbrev S16x2048x128 : Shape := ⟨3, ![16, 2048, 128]⟩
abbrev S16x2048x2x64 : Shape := ⟨4, ![16, 2048, 2, 64]⟩
abbrev S16x256x256 : Shape := ⟨3, ![16, 256, 256]⟩
abbrev S16x256x4x64 : Shape := ⟨4, ![16, 256, 4, 64]⟩
abbrev S16x256x128 : Shape := ⟨3, ![16, 256, 128]⟩
abbrev S16x256x2x64 : Shape := ⟨4, ![16, 256, 2, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S16x2048x4x32 : Shape := ⟨4, ![16, 2048, 4, 32]⟩
abbrev S16x2048x4x16 : Shape := ⟨4, ![16, 2048, 4, 16]⟩
abbrev S1x2048x1x16 : Shape := ⟨4, ![1, 2048, 1, 16]⟩
abbrev S16x2048x2x32 : Shape := ⟨4, ![16, 2048, 2, 32]⟩
abbrev S16x2048x2x16 : Shape := ⟨4, ![16, 2048, 2, 16]⟩
abbrev S16x1 : Shape := ⟨2, ![16, 1]⟩
abbrev S384 : Shape := ⟨1, ![384]⟩
abbrev S1x384 : Shape := ⟨2, ![1, 384]⟩
abbrev S16x384 : Shape := ⟨2, ![16, 384]⟩
abbrev S16x2304x2x64 : Shape := ⟨4, ![16, 2304, 2, 64]⟩
abbrev S16x384x1 : Shape := ⟨3, ![16, 384, 1]⟩
abbrev S16x16x384x2x64 : Shape := ⟨5, ![16, 16, 384, 2, 64]⟩
abbrev S128 : Shape := ⟨1, ![128]⟩
abbrev S1x128 : Shape := ⟨2, ![1, 128]⟩
abbrev S16x128 : Shape := ⟨2, ![16, 128]⟩
abbrev S16x128x1 : Shape := ⟨3, ![16, 128, 1]⟩
abbrev S16x1x384 : Shape := ⟨3, ![16, 1, 384]⟩
abbrev S16x128x384 : Shape := ⟨3, ![16, 128, 384]⟩
abbrev S16x16x128x2x2x64 : Shape := ⟨6, ![16, 16, 128, 2, 2, 64]⟩
abbrev S16x16x2x384x128x2 : Shape := ⟨6, ![16, 16, 2, 384, 128, 2]⟩
abbrev S16x16x2x2x128x384 : Shape := ⟨6, ![16, 16, 2, 2, 128, 384]⟩
abbrev S1x16x1x1x128x384 : Shape := ⟨6, ![1, 16, 1, 1, 128, 384]⟩
abbrev S16x2x256x16x128x2 : Shape := ⟨6, ![16, 2, 256, 16, 128, 2]⟩
abbrev S16x16x2x2x128x256 : Shape := ⟨6, ![16, 16, 2, 2, 128, 256]⟩
abbrev S2x2 : Shape := ⟨2, ![2, 2]⟩
abbrev S1x1x2x2x1x1 : Shape := ⟨6, ![1, 1, 2, 2, 1, 1]⟩
abbrev S16x16x2x2x128x1 : Shape := ⟨6, ![16, 16, 2, 2, 128, 1]⟩
abbrev S16x16x2x2x128x641 : Shape := ⟨6, ![16, 16, 2, 2, 128, 641]⟩
abbrev S16x16x2x2x128 : Shape := ⟨5, ![16, 16, 2, 2, 128]⟩
abbrev S16x16x2x64x2x128 : Shape := ⟨6, ![16, 16, 2, 64, 2, 128]⟩
abbrev S16x2x64x16x2x128 : Shape := ⟨6, ![16, 2, 64, 16, 2, 128]⟩
abbrev S16x256x2x2x64 : Shape := ⟨5, ![16, 256, 2, 2, 64]⟩
abbrev S16x2x256x256x2 : Shape := ⟨5, ![16, 2, 256, 256, 2]⟩
abbrev S16x2x2x256x256 : Shape := ⟨5, ![16, 2, 2, 256, 256]⟩
abbrev S1x2x2x1x1 : Shape := ⟨5, ![1, 2, 2, 1, 1]⟩
abbrev S16x2x2x256x1 : Shape := ⟨5, ![16, 2, 2, 256, 1]⟩
abbrev S16x2x2x256x257 : Shape := ⟨5, ![16, 2, 2, 256, 257]⟩
abbrev S16x2x2x256 : Shape := ⟨4, ![16, 2, 2, 256]⟩
abbrev S16x2x64x2x256 : Shape := ⟨5, ![16, 2, 64, 2, 256]⟩
abbrev S16x2304x256 : Shape := ⟨3, ![16, 2304, 256]⟩

abbrev nBuf : Space → Nat
  | .hbm => 297
  | .vmem => 0
  | .smem => 0
  | _ => 0

abbrev hbmTy0_0 (i : Nat) : BufTy := match i % 128 with
  | 0 => ⟨S16x2304x3328, .f32⟩
  | 1 => ⟨S4, .f32⟩
  | 2 => ⟨S16x2048x3328, .f32⟩
  | 3 => ⟨S16x256x3328, .f32⟩
  | 4 => ⟨S16x2048x256, .f32⟩
  | 5 => ⟨S16x2048x4x64, .f32⟩
  | 6 => ⟨S16x2048x128, .f32⟩
  | 7 => ⟨S16x2048x2x64, .f32⟩
  | 8 => ⟨S16x2048x128, .f32⟩
  | 9 => ⟨S16x2048x2x64, .f32⟩
  | 10 => ⟨S16x256x256, .f32⟩
  | 11 => ⟨S16x256x4x64, .f32⟩
  | 12 => ⟨S16x256x128, .f32⟩
  | 13 => ⟨S16x256x2x64, .f32⟩
  | 14 => ⟨S16x256x128, .f32⟩
  | 15 => ⟨S16x256x2x64, .f32⟩
  | 16 => ⟨S2048, .i32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S_, .i32⟩
  | 32 => ⟨S_, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i1⟩
  | 39 => ⟨S2048, .i32⟩
  | 40 => ⟨S2048, .i32⟩
  | 41 => ⟨S_, .i32⟩
  | 42 => ⟨S2048, .i32⟩
  | 43 => ⟨S2048, .i1⟩
  | 44 => ⟨S2048, .i1⟩
  | 45 => ⟨S_, .i32⟩
  | 46 => ⟨S2048, .i32⟩
  | 47 => ⟨S2048, .i32⟩
  | 48 => ⟨S2048, .i32⟩
  | 49 => ⟨S2048, .f32⟩
  | 50 => ⟨S2048x1, .f32⟩
  | 51 => ⟨S1x16, .f32⟩
  | 52 => ⟨S2048x16, .f32⟩
  | 53 => ⟨S2048x16, .f32⟩
  | 54 => ⟨S2048x16, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S2048, .i32⟩
  | 62 => ⟨S2048, .i32⟩
  | 63 => ⟨S_, .i32⟩
  | 64 => ⟨S2048, .i32⟩
  | 65 => ⟨S2048, .i1⟩
  | 66 => ⟨S_, .i32⟩
  | 67 => ⟨S2048, .i32⟩
  | 68 => ⟨S2048, .i1⟩
  | 69 => ⟨S_, .i32⟩
  | 70 => ⟨S_, .i1⟩
  | 71 => ⟨S2048, .i1⟩
  | 72 => ⟨S2048, .i1⟩
  | 73 => ⟨S2048, .i1⟩
  | 74 => ⟨S2048, .i32⟩
  | 75 => ⟨S2048, .i32⟩
  | 76 => ⟨S2048, .i32⟩
  | 77 => ⟨S2048, .f32⟩
  | 78 => ⟨S2048x1, .f32⟩
  | 79 => ⟨S1x16, .f32⟩
  | 80 => ⟨S2048x16, .f32⟩
  | 81 => ⟨S2048x16, .f32⟩
  | 82 => ⟨S2048x16, .f32⟩
  | 83 => ⟨S16x2048x4x32, .f32⟩
  | 84 => ⟨S16x2048x4x32, .f32⟩
  | 85 => ⟨S16x2048x4x16, .f32⟩
  | 86 => ⟨S16x2048x4x16, .f32⟩
  | 87 => ⟨S2048x16, .f32⟩
  | 88 => ⟨S1x2048x1x16, .f32⟩
  | 89 => ⟨S2048x16, .f32⟩
  | 90 => ⟨S1x2048x1x16, .f32⟩
  | 91 => ⟨S16x2048x4x16, .f32⟩
  | 92 => ⟨S16x2048x4x16, .f32⟩
  | 93 => ⟨S16x2048x4x16, .f32⟩
  | 94 => ⟨S16x2048x4x16, .f32⟩
  | 95 => ⟨S16x2048x4x16, .f32⟩
  | 96 => ⟨S16x2048x4x16, .f32⟩
  | 97 => ⟨S16x2048x4x16, .f32⟩
  | 98 => ⟨S16x2048x4x16, .f32⟩
  | 99 => ⟨S16x2048x4x16, .f32⟩
  | 100 => ⟨S16x2048x4x16, .f32⟩
  | 101 => ⟨S16x2048x4x32, .f32⟩
  | 102 => ⟨S16x2048x4x16, .f32⟩
  | 103 => ⟨S16x2048x4x16, .f32⟩
  | 104 => ⟨S2048x16, .f32⟩
  | 105 => ⟨S1x2048x1x16, .f32⟩
  | 106 => ⟨S2048x16, .f32⟩
  | 107 => ⟨S1x2048x1x16, .f32⟩
  | 108 => ⟨S16x2048x4x16, .f32⟩
  | 109 => ⟨S16x2048x4x16, .f32⟩
  | 110 => ⟨S16x2048x4x16, .f32⟩
  | 111 => ⟨S16x2048x4x16, .f32⟩
  | 112 => ⟨S16x2048x4x16, .f32⟩
  | 113 => ⟨S16x2048x4x16, .f32⟩
  | 114 => ⟨S16x2048x4x16, .f32⟩
  | 115 => ⟨S16x2048x4x16, .f32⟩
  | 116 => ⟨S16x2048x4x16, .f32⟩
  | 117 => ⟨S16x2048x4x16, .f32⟩
  | 118 => ⟨S16x2048x4x32, .f32⟩
  | 119 => ⟨S16x2048x4x64, .f32⟩
  | 120 => ⟨S16x2048x2x32, .f32⟩
  | 121 => ⟨S16x2048x2x32, .f32⟩
  | 122 => ⟨S16x2048x2x16, .f32⟩
  | 123 => ⟨S16x2048x2x16, .f32⟩
  | 124 => ⟨S2048x16, .f32⟩
  | 125 => ⟨S1x2048x1x16, .f32⟩
  | 126 => ⟨S2048x16, .f32⟩
  | 127 => ⟨S1x2048x1x16, .f32⟩
  | _ => ⟨S16x2304x3328, .f32⟩

abbrev hbmTy0_1 (i : Nat) : BufTy := match i % 128 with
  | 0 => ⟨S16x2048x2x16, .f32⟩
  | 1 => ⟨S16x2048x2x16, .f32⟩
  | 2 => ⟨S16x2048x2x16, .f32⟩
  | 3 => ⟨S16x2048x2x16, .f32⟩
  | 4 => ⟨S16x2048x2x16, .f32⟩
  | 5 => ⟨S16x2048x2x16, .f32⟩
  | 6 => ⟨S16x2048x2x16, .f32⟩
  | 7 => ⟨S16x2048x2x16, .f32⟩
  | 8 => ⟨S16x2048x2x16, .f32⟩
  | 9 => ⟨S16x2048x2x16, .f32⟩
  | 10 => ⟨S16x2048x2x32, .f32⟩
  | 11 => ⟨S16x2048x2x16, .f32⟩
  | 12 => ⟨S16x2048x2x16, .f32⟩
  | 13 => ⟨S2048x16, .f32⟩
  | 14 => ⟨S1x2048x1x16, .f32⟩
  | 15 => ⟨S2048x16, .f32⟩
  | 16 => ⟨S1x2048x1x16, .f32⟩
  | 17 => ⟨S16x2048x2x16, .f32⟩
  | 18 => ⟨S16x2048x2x16, .f32⟩
  | 19 => ⟨S16x2048x2x16, .f32⟩
  | 20 => ⟨S16x2048x2x16, .f32⟩
  | 21 => ⟨S16x2048x2x16, .f32⟩
  | 22 => ⟨S16x2048x2x16, .f32⟩
  | 23 => ⟨S16x2048x2x16, .f32⟩
  | 24 => ⟨S16x2048x2x16, .f32⟩
  | 25 => ⟨S16x2048x2x16, .f32⟩
  | 26 => ⟨S16x2048x2x16, .f32⟩
  | 27 => ⟨S16x2048x2x32, .f32⟩
  | 28 => ⟨S16x2048x2x64, .f32⟩
  | 29 => ⟨S16, .i32⟩
  | 30 => ⟨S16x1, .i32⟩
  | 31 => ⟨S_, .i32⟩
  | 32 => ⟨S16x1, .i32⟩
  | 33 => ⟨S16x1, .i32⟩
  | 34 => ⟨S384, .i32⟩
  | 35 => ⟨S1x384, .i32⟩
  | 36 => ⟨S16x384, .i32⟩
  | 37 => ⟨S16x384, .i32⟩
  | 38 => ⟨S16x384, .i32⟩
  | 39 => ⟨S_, .i32⟩
  | 40 => ⟨S_, .f32⟩
  | 41 => ⟨S16x2304x2x64, .f32⟩
  | 42 => ⟨S_, .i32⟩
  | 43 => ⟨S16x384, .i32⟩
  | 44 => ⟨S16x384, .i1⟩
  | 45 => ⟨S_, .i32⟩
  | 46 => ⟨S16x384, .i32⟩
  | 47 => ⟨S16x384, .i32⟩
  | 48 => ⟨S16x384, .i32⟩
  | 49 => ⟨S16x384x1, .i32⟩
  | 50 => ⟨S16x16x384x2x64, .f32⟩
  | 51 => ⟨S_, .i32⟩
  | 52 => ⟨S_, .f32⟩
  | 53 => ⟨S16x2304x2x64, .f32⟩
  | 54 => ⟨S_, .i32⟩
  | 55 => ⟨S16x384, .i32⟩
  | 56 => ⟨S16x384, .i1⟩
  | 57 => ⟨S_, .i32⟩
  | 58 => ⟨S16x384, .i32⟩
  | 59 => ⟨S16x384, .i32⟩
  | 60 => ⟨S16x384, .i32⟩
  | 61 => ⟨S16x384x1, .i32⟩
  | 62 => ⟨S16x16x384x2x64, .f32⟩
  | 63 => ⟨S16, .i32⟩
  | 64 => ⟨S16x1, .i32⟩
  | 65 => ⟨S_, .i32⟩
  | 66 => ⟨S16x1, .i32⟩
  | 67 => ⟨S16x1, .i32⟩
  | 68 => ⟨S128, .i32⟩
  | 69 => ⟨S1x128, .i32⟩
  | 70 => ⟨S16x128, .i32⟩
  | 71 => ⟨S16x128, .i32⟩
  | 72 => ⟨S16x128, .i32⟩
  | 73 => ⟨S_, .i32⟩
  | 74 => ⟨S16x384, .i32⟩
  | 75 => ⟨S16x384, .i32⟩
  | 76 => ⟨S16x128x1, .i32⟩
  | 77 => ⟨S16x1x384, .i32⟩
  | 78 => ⟨S16x128x384, .i32⟩
  | 79 => ⟨S16x128x384, .i32⟩
  | 80 => ⟨S16x128x384, .i32⟩
  | 81 => ⟨S16x128x384, .i32⟩
  | 82 => ⟨S_, .i32⟩
  | 83 => ⟨S16x128x384, .i32⟩
  | 84 => ⟨S16x128x384, .i1⟩
  | 85 => ⟨S16x1x384, .i32⟩
  | 86 => ⟨S_, .i32⟩
  | 87 => ⟨S16x1x384, .i32⟩
  | 88 => ⟨S16x1x384, .i1⟩
  | 89 => ⟨S16x128x384, .i1⟩
  | 90 => ⟨S16x128x384, .i1⟩
  | 91 => ⟨S16x1x384, .i32⟩
  | 92 => ⟨S_, .i32⟩
  | 93 => ⟨S16x1x384, .i32⟩
  | 94 => ⟨S16x1x384, .i1⟩
  | 95 => ⟨S16x128x384, .i1⟩
  | 96 => ⟨S16x128x384, .i1⟩
  | 97 => ⟨S16x16x128x2x2x64, .f32⟩
  | 98 => ⟨S16x16x2x384x128x2, .f32⟩
  | 99 => ⟨S16x16x2x2x128x384, .f32⟩
  | 100 => ⟨S_, .f32⟩
  | 101 => ⟨S16x16x2x2x128x384, .f32⟩
  | 102 => ⟨S16x16x2x2x128x384, .f32⟩
  | 103 => ⟨S1x16x1x1x128x384, .i1⟩
  | 104 => ⟨S_, .f32⟩
  | 105 => ⟨S_, .f32⟩
  | 106 => ⟨S16x16x2x2x128x384, .i1⟩
  | 107 => ⟨S16x16x2x2x128x384, .f32⟩
  | 108 => ⟨S16x16x2x2x128x384, .f32⟩
  | 109 => ⟨S16x2x256x16x128x2, .f32⟩
  | 110 => ⟨S16x16x2x2x128x256, .f32⟩
  | 111 => ⟨S_, .f32⟩
  | 112 => ⟨S16x16x2x2x128x256, .f32⟩
  | 113 => ⟨S16x16x2x2x128x256, .f32⟩
  | 114 => ⟨S2x2, .f32⟩
  | 115 => ⟨S1x1x2x2x1x1, .f32⟩
  | 116 => ⟨S16x16x2x2x128x1, .f32⟩
  | 117 => ⟨S16x16x2x2x128x641, .f32⟩
  | 118 => ⟨S_, .f32⟩
  | 119 => ⟨S16x16x2x2x128, .f32⟩
  | 120 => ⟨S_, .f32⟩
  | 121 => ⟨S16x16x2x2x128, .f32⟩
  | 122 => ⟨S16x16x2x2x128, .f32⟩
  | 123 => ⟨S16x16x2x2x128x1, .f32⟩
  | 124 => ⟨S16x16x2x2x128x641, .f32⟩
  | 125 => ⟨S16x16x2x2x128x641, .f32⟩
  | 126 => ⟨S16x16x2x2x128x641, .f32⟩
  | 127 => ⟨S_, .f32⟩
  | _ => ⟨S16x2304x3328, .f32⟩

abbrev hbmTy0_2 (i : Nat) : BufTy := match i % 128 with
  | 0 => ⟨S16x16x2x2x128, .f32⟩
  | 1 => ⟨S16x16x2x2x128x1, .f32⟩
  | 2 => ⟨S16x16x2x2x128x641, .f32⟩
  | 3 => ⟨S16x16x2x2x128x641, .f32⟩
  | 4 => ⟨S16x16x2x2x128x384, .f32⟩
  | 5 => ⟨S16x16x2x2x128x256, .f32⟩
  | 6 => ⟨S16x16x2x64x2x128, .f32⟩
  | 7 => ⟨S16x16x128x2x2x64, .f32⟩
  | 8 => ⟨S16x2x64x16x2x128, .f32⟩
  | 9 => ⟨S16x16x128x2x2x64, .f32⟩
  | 10 => ⟨S16x16x128x2x2x64, .f32⟩
  | 11 => ⟨S16x2048x256, .f32⟩
  | 12 => ⟨S16x256x2x2x64, .f32⟩
  | 13 => ⟨S16x2x256x256x2, .f32⟩
  | 14 => ⟨S16x2x2x256x256, .f32⟩
  | 15 => ⟨S_, .f32⟩
  | 16 => ⟨S16x2x2x256x256, .f32⟩
  | 17 => ⟨S16x2x2x256x256, .f32⟩
  | 18 => ⟨S2x2, .f32⟩
  | 19 => ⟨S1x2x2x1x1, .f32⟩
  | 20 => ⟨S16x2x2x256x1, .f32⟩
  | 21 => ⟨S16x2x2x256x257, .f32⟩
  | 22 => ⟨S_, .f32⟩
  | 23 => ⟨S16x2x2x256, .f32⟩
  | 24 => ⟨S_, .f32⟩
  | 25 => ⟨S16x2x2x256, .f32⟩
  | 26 => ⟨S16x2x2x256, .f32⟩
  | 27 => ⟨S16x2x2x256x1, .f32⟩
  | 28 => ⟨S16x2x2x256x257, .f32⟩
  | 29 => ⟨S16x2x2x256x257, .f32⟩
  | 30 => ⟨S16x2x2x256x257, .f32⟩
  | 31 => ⟨S_, .f32⟩
  | 32 => ⟨S16x2x2x256, .f32⟩
  | 33 => ⟨S16x2x2x256x1, .f32⟩
  | 34 => ⟨S16x2x2x256x257, .f32⟩
  | 35 => ⟨S16x2x2x256x257, .f32⟩
  | 36 => ⟨S16x2x2x256x256, .f32⟩
  | 37 => ⟨S16x2x64x2x256, .f32⟩
  | 38 => ⟨S16x256x2x2x64, .f32⟩
  | 39 => ⟨S16x256x256, .f32⟩
  | 40 => ⟨S16x2304x256, .f32⟩
  | _ => ⟨S16x2304x3328, .f32⟩

abbrev hbmTy (i : Nat) : BufTy := match i / 128 with
  | 0 => hbmTy0_0 i
  | 1 => hbmTy0_1 i
  | 2 => hbmTy0_2 i
  | _ => ⟨S16x2304x3328, .f32⟩

abbrev bufTy : (tb : Table) → Fin (tcTables nBuf tb) → BufTy
  | .hbm, ⟨i, _⟩ => hbmTy i
  | _, _ => ⟨S16x2304x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_4 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_5 : Ref sig .tc := ⟨.hbm, 167, rfl⟩
abbrev main_call2_v0 : Ref sig .tc := ⟨.hbm, 168, rfl⟩
abbrev main_v122 : Ref sig .tc := ⟨.hbm, 169, rfl⟩
abbrev main_c_6 : Ref sig .tc := ⟨.hbm, 170, rfl⟩
abbrev main_v123 : Ref sig .tc := ⟨.hbm, 171, rfl⟩
abbrev main_v124 : Ref sig .tc := ⟨.hbm, 172, rfl⟩
abbrev main_c_7 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_8 : Ref sig .tc := ⟨.hbm, 179, rfl⟩
abbrev main_call3_v0 : Ref sig .tc := ⟨.hbm, 180, rfl⟩
abbrev main_v130 : Ref sig .tc := ⟨.hbm, 181, rfl⟩
abbrev main_c_9 : Ref sig .tc := ⟨.hbm, 182, rfl⟩
abbrev main_v131 : Ref sig .tc := ⟨.hbm, 183, rfl⟩
abbrev main_v132 : Ref sig .tc := ⟨.hbm, 184, rfl⟩
abbrev main_c_10 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_11 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_c_12 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_13 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_14 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_c_15 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_16 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_17 : Ref sig .tc := ⟨.hbm, 232, rfl⟩
abbrev main_call4_v0 : Ref sig .tc := ⟨.hbm, 233, rfl⟩
abbrev main_call4_v1 : Ref sig .tc := ⟨.hbm, 234, rfl⟩
abbrev main_call4_v2 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_18 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_19 : Ref sig .tc := ⟨.hbm, 246, rfl⟩
abbrev main_v182 : Ref sig .tc := ⟨.hbm, 247, rfl⟩
abbrev main_cst_20 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_21 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_cst_22 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_cst_23 : Ref sig .tc := ⟨.hbm, 278, rfl⟩
abbrev main_v210 : Ref sig .tc := ⟨.hbm, 279, rfl⟩
abbrev main_cst_24 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_cst_25 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x3328 : Shape := ⟨2, ![1024, 3328]⟩
abbrev S1x6144 : Shape := ⟨2, ![1, 6144]⟩
abbrev S17x6144 : Shape := ⟨2, ![17, 6144]⟩
abbrev S17x6x1024 : Shape := ⟨3, ![17, 6, 1024]⟩
abbrev S16x2304x1024 : Shape := ⟨3, ![16, 2304, 1024]⟩
abbrev S1x1024 : Shape := ⟨2, ![1, 1024]⟩
abbrev S16x2304x3328 : Shape := ⟨3, ![16, 2304, 3328]⟩
abbrev S1x256x1024 : Shape := ⟨3, ![1, 256, 1024]⟩
abbrev S1x6x1024 : Shape := ⟨3, ![1, 6, 1024]⟩
abbrev S1x256x3328 : Shape := ⟨3, ![1, 256, 3328]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x3328 : Shape := ⟨2, ![256, 3328]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x6144, .f32⟩
  | .hbm, ⟨3, _⟩ => ⟨S6144, .f32⟩
  | .hbm, ⟨4, _⟩ => ⟨S1024, .f32⟩
  | .hbm, ⟨5, _⟩ => ⟨S1024x3328, .f32⟩
  | .hbm, ⟨6, _⟩ => ⟨S1x6144, .f32⟩
  | .hbm, ⟨7, _⟩ => ⟨S17x6144, .f32⟩
  | .hbm, ⟨8, _⟩ => ⟨S17x6x1024, .f32⟩
  | .hbm, ⟨9, _⟩ => ⟨S16x2304x1024, .f32⟩
  | .hbm, ⟨10, _⟩ => ⟨S1024x3328, .bf16⟩
  | .hbm, ⟨11, _⟩ => ⟨S1x1024, .f32⟩
  | .hbm, ⟨12, _⟩ => ⟨S16x2304x3328, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3328, .bf16⟩
  | .local _ .vmem, ⟨6, _⟩ => ⟨S1x256x3328, .f32⟩
  | .local _ .vmem, ⟨7, _⟩ => ⟨S1x256x3328, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x3328 : Shape := ⟨2, ![1024, 3328]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x256x3328 : Shape := ⟨3, ![16, 256, 3328]⟩
abbrev S16x2048x3328 : Shape := ⟨3, ![16, 2048, 3328]⟩
abbrev S16x2304x3328 : Shape := ⟨3, ![16, 2304, 3328]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x6144, .f32⟩
  | .hbm, ⟨3, _⟩ => ⟨S6144, .f32⟩
  | .hbm, ⟨4, _⟩ => ⟨S1024, .f32⟩
  | .hbm, ⟨5, _⟩ => ⟨S1024x3328, .f32⟩
  | .hbm, ⟨6, _⟩ => ⟨S16x1x6144, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x256x1024, .f32⟩
  | .hbm, ⟨43, _⟩ => ⟨S_, .f32⟩
  | .hbm, ⟨44, _⟩ => ⟨S16x256, .f32⟩
  | .hbm, ⟨45, _⟩ => ⟨S16x256x1, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S_, .f32⟩
  | .hbm, ⟨50, _⟩ => ⟨S16x256x1, .f32⟩
  | .hbm, ⟨51, _⟩ => ⟨S16x256x1, .f32⟩
  | .hbm, ⟨52, _⟩ => ⟨S16x256x1, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S16x256x1024, .f32⟩
  | .hbm, ⟨63, _⟩ => ⟨S16x256x1024, .f32⟩
  | .hbm, ⟨64, _⟩ => ⟨S1x1x1024, .f32⟩
  | .hbm, ⟨65, _⟩ => ⟨S16x256x1024, .f32⟩
  | .hbm, ⟨66, _⟩ => ⟨S16x256x1024, .f32⟩
  | .hbm, ⟨67, _⟩ => ⟨S16x256x3328, .f32⟩
  | .hbm, ⟨68, _⟩ => ⟨S16x2048x3328, .f32⟩
  | .hbm, ⟨69, _⟩ => ⟨S16x2304x3328, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel3.lean ====
abbrev S16x2304x256 : Shape := ⟨3, ![16, 2304, 256]⟩
abbrev S16x2304x3328 : Shape := ⟨3, ![16, 2304, 3328]⟩
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x1024 : Shape := ⟨2, ![1024, 1024]⟩
abbrev S1024x2048 : Shape := ⟨2, ![1024, 2048]⟩
abbrev S128x128 : Shape := ⟨2, ![128, 128]⟩
abbrev S1x6144 : Shape := ⟨2, ![1, 6144]⟩
abbrev S17x6144 : Shape := ⟨2, ![17, 6144]⟩
abbrev S17x6x1024 : Shape := ⟨3, ![17, 6, 1024]⟩
abbrev S16x2304x1024 : Shape := ⟨3, ![16, 2304, 1024]⟩
abbrev S1x1024 : Shape := ⟨2, ![1, 1024]⟩
abbrev S16x128x36864 : Shape := ⟨3, ![16, 128, 36864]⟩
abbrev S1x256x256 : Shape := ⟨3, ![1, 256, 256]⟩
abbrev S1x256x1024 : Shape := ⟨3, ![1, 256, 1024]⟩
abbrev S1x6x1024 : Shape := ⟨3, ![1, 6, 1024]⟩
abbrev S16x128x256 : Shape := ⟨3, ![16, 128, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x1024 : Shape := ⟨2, ![256, 1024]⟩
abbrev S1x1x1024 : Shape := ⟨3, ![1, 1, 1024]⟩
abbrev S256x2048 : Shape := ⟨2, ![256, 2048]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 28
  | .vmem => 26
  | .smem => 0
  | _ => 0

abbrev bufTy : (tb : Table) → Fin (tcTables nBuf tb) → BufTy
  | .hbm, ⟨0, _⟩ => ⟨S16x2304x256, .f32⟩
  | .hbm, ⟨1, _⟩ => ⟨S16x2304x256, .f32⟩
  | .hbm, ⟨2, _⟩ => ⟨S16x2304x256, .f32⟩
  | .hbm, ⟨3, _⟩ => ⟨S16x2304x256, .f32⟩
  | .hbm, ⟨4, _⟩ => ⟨S16x2304x3328, .f32⟩
  | .hbm, ⟨5, _⟩ => ⟨S16x2048x1024, .f32⟩
  | .hbm, ⟨6, _⟩ => ⟨S16x256x1024, .f32⟩
  | .hbm, ⟨7, _⟩ => ⟨S16x6144, .f32⟩
  | .hbm, ⟨8, _⟩ => ⟨S6144, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S128x128, .f32⟩
  | .hbm, ⟨14, _⟩ => ⟨S128x128, .f32⟩
  | .hbm, ⟨15, _⟩ => ⟨S1x6144, .f32⟩
  | .hbm, ⟨16, _⟩ => ⟨S17x6144, .f32⟩
  | .hbm, ⟨17, _⟩ => ⟨S17x6x1024, .f32⟩
  | .hbm, ⟨18, _⟩ => ⟨S16x2304x1024, .f32⟩
  | .hbm, ⟨19, _⟩ => ⟨S1024x1024, .bf16⟩
  | .hbm, ⟨20, _⟩ => ⟨S1024x2048, .bf16⟩
  | .hbm, ⟨21, _⟩ => ⟨S128x128, .bf16⟩
  | .hbm, ⟨22, _⟩ => ⟨S128x128, .bf16⟩
  | .hbm, ⟨23, _⟩ => ⟨S1x1024, .f32⟩
  | .hbm, ⟨24, _⟩ => ⟨S1x1024, .f32⟩
  | .hbm, ⟨25, _⟩ => ⟨S16x2304x1024, .f32⟩
  | .hbm, ⟨26, _⟩ => ⟨S16x2304x1024, .f32⟩
  | .hbm, ⟨27, _⟩ => ⟨S16x128x36864, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x1024, .f32⟩
  | .local _ .vmem, ⟨11, _⟩ => ⟨S1x256x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x2048, .bf16⟩
  | .local _ .vmem, ⟨18, _⟩ => ⟨S128x128, .bf16⟩
  | .local _ .vmem, ⟨19, _⟩ => ⟨S128x128, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S16x128x256, .f32⟩
  | .local _ .vmem, ⟨25, _⟩ => ⟨S16x128x256, .f32⟩
  | _, _ => ⟨S16x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c12_i32 : BitVec 32 := 12#32
  let c0_i32_0 : BitVec 32 := 0#32
  ![arg0.toNat, v0.toNat, c12_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S16x2304x256 : Shape := ⟨3, ![16, 2304, 256]⟩
abbrev S16x2304x3328 : Shape := ⟨3, ![16, 2304, 3328]⟩
abbrev S16x2048x1024 : Shape := ⟨3, ![16, 2048, 1024]⟩
abbrev S16x256x1024 : Shape := ⟨3, ![16, 256, 1024]⟩
abbrev S16x6144 : Shape := ⟨2, ![16, 6144]⟩
abbrev S6144 : Shape := ⟨1, ![6144]⟩
abbrev S1024 : Shape := ⟨1, ![1024]⟩
abbrev S1024x1024 : Shape := ⟨2, ![1024, 1024]⟩
abbrev S1024x2048 : Shape := ⟨2, ![1024, 2048]⟩
abbrev S128x128 : Shape := ⟨2, ![128, 128]⟩
abbrev S16x1x6144 : Shape := ⟨3, ![16, 1, 6144]⟩
abbrev S16x1x1024 : Shape := ⟨3, ![16, 1, 1024]⟩
abbrev S16x2048x256 : Shape := ⟨3, ![16, 2048, 256]⟩
abbrev S16x256x256 : Shape := ⟨3, ![16, 256, 256]⟩
abbrev S_ : Shape := ⟨0, ![]⟩
abbrev S256 : Shape := ⟨1, ![256]⟩
abbrev S16x2048 : Shape := ⟨2, ![16, 2048]⟩
abbrev S16x2048x1 : Shape := ⟨3, ![16, 2048, 1]⟩
abbrev S1x1x256 : Shape := ⟨3, ![1, 1, 256]⟩
abbrev S16x256 : Shape := ⟨2, ![16, 256]⟩
abbrev S16x256x1 : Shape := ⟨3, ![16, 256, 1]⟩
abbrev S1x1x1024 : Shape := ⟨3, ![1, 1, 1024]⟩
abbrev S16x2304x1024 : Shape := ⟨3, ![16, 2304, 1024]⟩
abbrev S36864x1024 : Shape := ⟨2, ![36864, 1024]⟩
abbrev S36864x2048 : Shape := ⟨2, ![36864, 2048]⟩
abbrev S36864x8x2x128 : Shape := ⟨4, ![36864, 8, 2, 128]⟩
abbrev S36864x8x1x128 : Shape := ⟨4, ![36864, 8, 1, 128]⟩
abbrev S36864x8x128 : Shape := ⟨3, ![36864, 8, 128]⟩
abbrev S36864x16x128 : Shape := ⟨3, ![36864, 16, 128]⟩
abbrev S16x128x36864 : Shape := ⟨3, ![16, 128, 36864]⟩

abbrev nBuf : Space → Nat
  | .hbm => 269
  | .vmem => 0
  | .smem => 0
  | _ => 0

abbrev hbmTy0_0 (i : Nat) : BufTy := match i % 128 with
  | 0 => ⟨S16x2304x256, .f32⟩
  | 1 => ⟨S16x2304x256, .f32⟩
  | 2 => ⟨S16x2304x256, .f32⟩
  | 3 => ⟨S16x2304x256, .f32⟩
  | 4 => ⟨S16x2304x3328, .f32⟩
  | 5 => ⟨S16x2048x1024, .f32⟩
  | 6 => ⟨S16x256x1024, .f32⟩
  | 7 => ⟨S16x6144, .f32⟩
  | 8 => ⟨S6144, .f32⟩
  | 9 => ⟨S1024, .f32⟩
  | 10 => ⟨S1024x1024, .f32⟩
  | 11 => ⟨S1024, .f32⟩
  | 12 => ⟨S1024x2048, .f32⟩
  | 13 => ⟨S128x128, .f32⟩
  | 14 => ⟨S128x128, .f32⟩
  | 15 => ⟨S16x1x6144, .f32⟩
  | 16 => ⟨S16x1x1024, .f32⟩
  | 17 => ⟨S16x1x1024, .f32⟩
  | 18 => ⟨S16x1x1024, .f32⟩
  | 19 => ⟨S16x1x1024, .f32⟩
  | 20 => ⟨S16x1x1024, .f32⟩
  | 21 => ⟨S16x1x1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S16x2048x256, .f32⟩
  | 29 => ⟨S16x256x256, .f32⟩
  | 30 => ⟨S16x2048x256, .f32⟩
  | 31 => ⟨S16x2048x256, .f32⟩
  | 32 => ⟨S16x2048x256, .f32⟩
  | 33 => ⟨S_, .f32⟩
  | 34 => ⟨S16x2048x256, .f32⟩
  | 35 => ⟨S16x2048x256, .f32⟩
  | 36 => ⟨S_, .f32⟩
  | 37 => ⟨S16x2048x256, .f32⟩
  | 38 => ⟨S16x2048x256, .f32⟩
  | 39 => ⟨S16x2048x256, .f32⟩
  | 40 => ⟨S16x2048x256, .f32⟩
  | 41 => ⟨S16x2048x256, .f32⟩
  | 42 => ⟨S16x2048x256, .f32⟩
  | 43 => ⟨S16x2048x256, .f32⟩
  | 44 => ⟨S256, .f32⟩
  | 45 => ⟨S256, .f32⟩
  | 46 => ⟨S256, .f32⟩
  | 47 => ⟨S256, .f32⟩
  | 48 => ⟨S16x2048x256, .f32⟩
  | 49 => ⟨S_, .f32⟩
  | 50 => ⟨S16x2048, .f32⟩
  | 51 => ⟨S16x2048x1, .f32⟩
  | 52 => ⟨S_, .f32⟩
  | 53 => ⟨S16x2048x1, .f32⟩
  | 54 => ⟨S16x2048x1, .f32⟩
  | 55 => ⟨S_, .f32⟩
  | 56 => ⟨S16x2048x1, .f32⟩
  | 57 => ⟨S16x2048x1, .f32⟩
  | 58 => ⟨S16x2048x1, .f32⟩
  | 59 => ⟨S16x2048x256, .f32⟩
  | 60 => ⟨S16x2048x256, .f32⟩
  | 61 => ⟨S1x1x256, .f32⟩
  | 62 => ⟨S16x2048x256, .f32⟩
  | 63 => ⟨S16x2048x256, .f32⟩
  | 64 => ⟨S16x2048x256, .f32⟩
  | 65 => ⟨S_, .f32⟩
  | 66 => ⟨S16x2048, .f32⟩
  | 67 => ⟨S16x2048x1, .f32⟩
  | 68 => ⟨S_, .f32⟩
  | 69 => ⟨S16x2048x1, .f32⟩
  | 70 => ⟨S16x2048x1, .f32⟩
  | 71 => ⟨S_, .f32⟩
  | 72 => ⟨S16x2048x1, .f32⟩
  | 73 => ⟨S16x2048x1, .f32⟩
  | 74 => ⟨S16x2048x1, .f32⟩
  | 75 => ⟨S16x2048x256, .f32⟩
  | 76 => ⟨S16x2048x256, .f32⟩
  | 77 => ⟨S1x1x256, .f32⟩
  | 78 => ⟨S16x2048x256, .f32⟩
  | 79 => ⟨S16x2048x256, .f32⟩
  | 80 => ⟨S16x2048x256, .f32⟩
  | 81 => ⟨S_, .f32⟩
  | 82 => ⟨S16x2048, .f32⟩
  | 83 => ⟨S16x2048x1, .f32⟩
  | 84 => ⟨S_, .f32⟩
  | 85 => ⟨S16x2048x1, .f32⟩
  | 86 => ⟨S16x2048x1, .f32⟩
  | 87 => ⟨S_, .f32⟩
  | 88 => ⟨S16x2048x1, .f32⟩
  | 89 => ⟨S16x2048x1, .f32⟩
  | 90 => ⟨S16x2048x1, .f32⟩
  | 91 => ⟨S16x2048x256, .f32⟩
  | 92 => ⟨S16x2048x256, .f32⟩
  | 93 => ⟨S1x1x256, .f32⟩
  | 94 => ⟨S16x2048x256, .f32⟩
  | 95 => ⟨S16x2048x256, .f32⟩
  | 96 => ⟨S16x2048x256, .f32⟩
  | 97 => ⟨S_, .f32⟩
  | 98 => ⟨S16x2048, .f32⟩
  | 99 => ⟨S16x2048x1, .f32⟩
  | 100 => ⟨S_, .f32⟩
  | 101 => ⟨S16x2048x1, .f32⟩
  | 102 => ⟨S16x2048x1, .f32⟩
  | 103 => ⟨S_, .f32⟩
  | 104 => ⟨S16x2048x1, .f32⟩
  | 105 => ⟨S16x2048x1, .f32⟩
  | 106 => ⟨S16x2048x1, .f32⟩
  | 107 => ⟨S16x2048x256, .f32⟩
  | 108 => ⟨S16x2048x256, .f32⟩
  | 109 => ⟨S1x1x256, .f32⟩
  | 110 => ⟨S16x2048x256, .f32⟩
  | 111 => ⟨S16x2048x256, .f32⟩
  | 112 => ⟨S16x2048x1024, .f32⟩
  | 113 => ⟨S16x2048x1024, .f32⟩
  | 114 => ⟨S16x256x256, .f32⟩
  | 115 => ⟨S16x256x256, .f32⟩
  | 116 => ⟨S16x256x256, .f32⟩
  | 117 => ⟨S_, .f32⟩
  | 118 => ⟨S16x256x256, .f32⟩
  | 119 => ⟨S16x256x256, .f32⟩
  | 120 => ⟨S_, .f32⟩
  | 121 => ⟨S16x256x256, .f32⟩
  | 122 => ⟨S16x256x256, .f32⟩
  | 123 => ⟨S16x256x256, .f32⟩
  | 124 => ⟨S16x256x256, .f32⟩
  | 125 => ⟨S16x256x256, .f32⟩
  | 126 => ⟨S16x256x256, .f32⟩
  | 127 => ⟨S16x256x256, .f32⟩
  | _ => ⟨S16x2304x256, .f32⟩

abbrev hbmTy0_1 (i : Nat) : BufTy := match i % 128 with
  | 0 => ⟨S256, .f32⟩
  | 1 => ⟨S256, .f32⟩
  | 2 => ⟨S256, .f32⟩
  | 3 => ⟨S256, .f32⟩
  | 4 => ⟨S16x256x256, .f32⟩
  | 5 => ⟨S_, .f32⟩
  | 6 => ⟨S16x256, .f32⟩
  | 7 => ⟨S16x256x1, .f32⟩
  | 8 => ⟨S_, .f32⟩
  | 9 => ⟨S16x256x1, .f32⟩
  | 10 => ⟨S16x256x1, .f32⟩
  | 11 => ⟨S_, .f32⟩
  | 12 => ⟨S16x256x1, .f32⟩
  | 13 => ⟨S16x256x1, .f32⟩
  | 14 => ⟨S16x256x1, .f32⟩
  | 15 => ⟨S16x256x256, .f32⟩
  | 16 => ⟨S16x256x256, .f32⟩
  | 17 => ⟨S1x1x256, .f32⟩
  | 18 => ⟨S16x256x256, .f32⟩
  | 19 => ⟨S16x256x256, .f32⟩
  | 20 => ⟨S16x256x256, .f32⟩
  | 21 => ⟨S_, .f32⟩
  | 22 => ⟨S16x256, .f32⟩
  | 23 => ⟨S16x256x1, .f32⟩
  | 24 => ⟨S_, .f32⟩
  | 25 => ⟨S16x256x1, .f32⟩
  | 26 => ⟨S16x256x1, .f32⟩
  | 27 => ⟨S_, .f32⟩
  | 28 => ⟨S16x256x1, .f32⟩
  | 29 => ⟨S16x256x1, .f32⟩
  | 30 => ⟨S16x256x1, .f32⟩
  | 31 => ⟨S16x256x256, .f32⟩
  | 32 => ⟨S16x256x256, .f32⟩
  | 33 => ⟨S1x1x256, .f32⟩
  | 34 => ⟨S16x256x256, .f32⟩
  | 35 => ⟨S16x256x256, .f32⟩
  | 36 => ⟨S16x256x256, .f32⟩
  | 37 => ⟨S_, .f32⟩
  | 38 => ⟨S16x256, .f32⟩
  | 39 => ⟨S16x256x1, .f32⟩
  | 40 => ⟨S_, .f32⟩
  | 41 => ⟨S16x256x1, .f32⟩
  | 42 => ⟨S16x256x1, .f32⟩
  | 43 => ⟨S_, .f32⟩
  | 44 => ⟨S16x256x1, .f32⟩
  | 45 => ⟨S16x256x1, .f32⟩
  | 46 => ⟨S16x256x1, .f32⟩
  | 47 => ⟨S16x256x256, .f32⟩
  | 48 => ⟨S16x256x256, .f32⟩
  | 49 => ⟨S1x1x256, .f32⟩
  | 50 => ⟨S16x256x256, .f32⟩
  | 51 => ⟨S16x256x256, .f32⟩
  | 52 => ⟨S16x256x256, .f32⟩
  | 53 => ⟨S_, .f32⟩
  | 54 => ⟨S16x256, .f32⟩
  | 55 => ⟨S16x256x1, .f32⟩
  | 56 => ⟨S_, .f32⟩
  | 57 => ⟨S16x256x1, .f32⟩
  | 58 => ⟨S16x256x1, .f32⟩
  | 59 => ⟨S_, .f32⟩
  | 60 => ⟨S16x256x1, .f32⟩
  | 61 => ⟨S16x256x1, .f32⟩
  | 62 => ⟨S16x256x1, .f32⟩
  | 63 => ⟨S16x256x256, .f32⟩
  | 64 => ⟨S16x256x256, .f32⟩
  | 65 => ⟨S1x1x256, .f32⟩
  | 66 => ⟨S16x256x256, .f32⟩
  | 67 => ⟨S16x256x256, .f32⟩
  | 68 => ⟨S16x256x1024, .f32⟩
  | 69 => ⟨S16x256x1024, .f32⟩
  | 70 => ⟨S16x2048x1024, .f32⟩
  | 71 => ⟨S16x2048x1024, .f32⟩
  | 72 => ⟨S16x2048x1024, .f32⟩
  | 73 => ⟨S16x2048x1024, .f32⟩
  | 74 => ⟨S_, .f32⟩
  | 75 => ⟨S16x2048, .f32⟩
  | 76 => ⟨S16x2048x1, .f32⟩
  | 77 => ⟨S_, .f32⟩
  | 78 => ⟨S16x2048x1, .f32⟩
  | 79 => ⟨S16x2048x1, .f32⟩
  | 80 => ⟨S_, .f32⟩
  | 81 => ⟨S16x2048x1, .f32⟩
  | 82 => ⟨S16x2048x1, .f32⟩
  | 83 => ⟨S16x2048x1, .f32⟩
  | 84 => ⟨S16x2048x1024, .f32⟩
  | 85 => ⟨S16x2048x1024, .f32⟩
  | 86 => ⟨S1x1x1024, .f32⟩
  | 87 => ⟨S16x2048x1024, .f32⟩
  | 88 => ⟨S16x2048x1024, .f32⟩
  | 89 => ⟨S_, .f32⟩
  | 90 => ⟨S16x1x1024, .f32⟩
  | 91 => ⟨S16x1x1024, .f32⟩
  | 92 => ⟨S16x2048x1024, .f32⟩
  | 93 => ⟨S16x2048x1024, .f32⟩
  | 94 => ⟨S16x2048x1024, .f32⟩
  | 95 => ⟨S16x2048x1024, .f32⟩
  | 96 => ⟨S1x1x1024, .f32⟩
  | 97 => ⟨S16x256x1024, .f32⟩
  | 98 => ⟨S16x256x1024, .f32⟩
  | 99 => ⟨S16x256x1024, .f32⟩
  | 100 => ⟨S16x256x1024, .f32⟩
  | 101 => ⟨S_, .f32⟩
  | 102 => ⟨S16x256, .f32⟩
  | 103 => ⟨S16x256x1, .f32⟩
  | 104 => ⟨S_, .f32⟩
  | 105 => ⟨S16x256x1, .f32⟩
  | 106 => ⟨S16x256x1, .f32⟩
  | 107 => ⟨S_, .f32⟩
  | 108 => ⟨S16x256x1, .f32⟩
  | 109 => ⟨S16x256x1, .f32⟩
  | 110 => ⟨S16x256x1, .f32⟩
  | 111 => ⟨S16x256x1024, .f32⟩
  | 112 => ⟨S16x256x1024, .f32⟩
  | 113 => ⟨S1x1x1024, .f32⟩
  | 114 => ⟨S16x256x1024, .f32⟩
  | 115 => ⟨S16x256x1024, .f32⟩
  | 116 => ⟨S_, .f32⟩
  | 117 => ⟨S1024, .f32⟩
  | 118 => ⟨S1024, .f32⟩
  | 119 => ⟨S1x1x1024, .f32⟩
  | 120 => ⟨S16x256x1024, .f32⟩
  | 121 => ⟨S16x256x1024, .f32⟩
  | 122 => ⟨S1x1x1024, .f32⟩
  | 123 => ⟨S16x256x1024, .f32⟩
  | 124 => ⟨S16x256x1024, .f32⟩
  | 125 => ⟨S16x2304x1024, .f32⟩
  | 126 => ⟨S36864x1024, .f32⟩
  | 127 => ⟨S36864x2048, .f32⟩
  | _ => ⟨S16x2304x256, .f32⟩

abbrev hbmTy0_2 (i : Nat) : BufTy := match i % 128 with
  | 0 => ⟨S36864x8x2x128, .f32⟩
  | 1 => ⟨S36864x8x1x128, .f32⟩
  | 2 => ⟨S36864x8x128, .f32⟩
  | 3 => ⟨S36864x8x128, .f32⟩
  | 4 => ⟨S36864x8x1x128, .f32⟩
  | 5 => ⟨S36864x8x128, .f32⟩
  | 6 => ⟨S36864x8x128, .f32⟩
  | 7 => ⟨S36864x8x1x128, .f32⟩
  | 8 => ⟨S36864x8x1x128, .f32⟩
  | 9 => ⟨S36864x8x2x128, .f32⟩
  | 10 => ⟨S36864x16x128, .f32⟩
  | 11 => ⟨S16x2304x1024, .f32⟩
  | 12 => ⟨S16x128x36864, .f32⟩
  | _ => ⟨S16x2304x256, .f32⟩

abbrev hbmTy (i : Nat) : BufTy := match i / 128 with
  | 0 => hbmTy0_0 i
  | 1 => hbmTy0_1 i
  | 2 => hbmTy0_2 i
  | _ => ⟨S16x2304x256, .f32⟩

abbrev bufTy : (tb : Table) → Fin (tcTables nBuf tb) → BufTy
  | .hbm, ⟨i, _⟩ => hbmTy i
  | _, _ => ⟨S16x2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_cst_0 : Ref sig .tc := ⟨.hbm, 52, rfl⟩
abbrev main_v28 : Ref sig .tc := ⟨.hbm, 53, rfl⟩
abbrev main_v29 : Ref sig .tc := ⟨.hbm, 54, rfl⟩
abbrev main_cst_1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_11 : Ref sig .tc := ⟨.hbm, 133, rfl⟩
abbrev main_v90 : Ref sig .tc := ⟨.hbm, 134, rfl⟩
abbrev main_v91 : Ref sig .tc := ⟨.hbm, 135, rfl⟩
abbrev main_cst_12 : Ref sig .tc := ⟨.hbm, 136, rfl⟩
abbrev main_v92 : Ref sig .tc := ⟨.hbm, 137, rfl⟩
abbrev main_v93 : Ref sig .tc := ⟨.hbm, 138, rfl⟩
abbrev main_cst_13 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_14 : Ref sig .tc := ⟨.hbm, 149, rfl⟩
abbrev main_v103 : Ref sig .tc := ⟨.hbm, 150, rfl⟩
abbrev main_v104 : Ref sig .tc := ⟨.hbm, 151, rfl⟩
abbrev main_cst_15 : Ref sig .tc := ⟨.hbm, 152, rfl⟩
abbrev main_v105 : Ref sig .tc := ⟨.hbm, 153, rfl⟩
abbrev main_v106 : Ref sig .tc := ⟨.hbm, 154, rfl⟩
abbrev main_cst_16 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_17 : Ref sig .tc := ⟨.hbm, 165, rfl⟩
abbrev main_v116 : Ref sig .tc := ⟨.hbm, 166, rfl⟩
abbrev main_v117 : Ref sig .tc := ⟨.hbm, 167, rfl⟩
abbrev main_cst_18 : Ref sig .tc := ⟨.hbm, 168, rfl⟩
abbrev main_v118 : Ref sig .tc := ⟨.hbm, 169, rfl⟩
abbrev main_v119 : Ref sig .tc := ⟨.hbm, 170, rfl⟩
abbrev main_cst_19 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_20 : Ref sig .tc := ⟨.hbm, 181, rfl⟩
abbrev main_v129 : Ref sig .tc := ⟨.hbm, 182, rfl⟩
abbrev main_v130 : Ref sig .tc := ⟨.hbm, 183, rfl⟩
abbrev main_cst_21 : Ref sig .tc := ⟨.hbm, 184, rfl⟩
abbrev main_v131 : Ref sig .tc := ⟨.hbm, 185, rfl⟩
abbrev main_v132 : Ref sig .tc := ⟨.hbm, 186, rfl⟩
abbrev main_cst_22 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_23 : Ref sig .tc := ⟨.hbm, 202, rfl⟩
abbrev main_v147 : Ref sig .tc := ⟨.hbm, 203, rfl⟩
abbrev main_v148 : Ref sig .tc := ⟨.hbm, 204, rfl⟩
abbrev main_cst_24 : Ref sig .tc := ⟨.hbm, 205, rfl⟩
abbrev main_v149 : Ref sig .tc := ⟨.hbm, 206, rfl⟩
abbrev main_v150 : Ref sig .tc := ⟨.hbm, 207, rfl⟩
abbrev main_cst_25 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_26 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_27 : Ref sig .tc := ⟨.hbm, 229, rfl⟩
abbrev main_v170 : Ref sig .tc := ⟨.hbm, 230, rfl⟩
abbrev main_v171 : Ref sig .tc := ⟨.hbm, 231, rfl⟩
abbrev main_cst_28 : Ref sig .tc := ⟨.hbm, 232, rfl⟩
abbrev main_v172 : Ref sig .tc := ⟨.hbm, 233, rfl⟩
abbrev main_v173 : Ref sig .tc := ⟨.hbm, 234, rfl⟩
abbrev main_cst_29 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_30 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩

abbrev nD : Nat := 1
abbrev τ : Topo := Topo.v7x

variable {F : FTy → Type} [FloatOps F]
-- ==== Proof.Ref1.lean ====
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v57`, named. It packs its operands into a list of dependent pairs
    whose shapes a later argument's type mentions, so `simp` cannot rewrite an operand where it stands; applied by
    name, the operands are plain arguments, which the window lemmas below rewrite before the name unfolds. -/
def fn_main_v57 : (⟨S16x2048x4x16, .f32⟩ : BufTy).Contents (Elt F) → (⟨S16x2048x4x16, .f32⟩ : BufTy).Contents (Elt F) → (⟨S16x2048x4x32, .f32⟩ : BufTy).Contents (Elt F) :=
  (fun a b => concatenate S16x2048x4x32 3 [⟨S16x2048x4x16, a⟩, ⟨S16x2048x4x16, b⟩] concatenates_S16x2048x4x16_S16x2048x4x16_S16x2048x4x32_d3)

/-- The function of the operation that writes `main_v74`, named. It packs its operands into a list of dependent pairs
    whose shapes a later argument's type mentions, so `simp` cannot rewrite an operand where it stands; applied by
    name, the operands are plain arguments, which the window lemmas below rewrite before the name unfolds. -/
def fn_main_v74 : (⟨S16x2048x4x16, .f32⟩ : BufTy).Contents (Elt F) → (⟨S16x2048x4x16, .f32⟩ : BufTy).Contents (Elt F) → (⟨S16x2048x4x32, .f32⟩ : BufTy).Contents (Elt F) :=
  (fun a b => concatenate S16x2048x4x32 3 [⟨S16x2048x4x16, a⟩, ⟨S16x2048x4x16, b⟩] concatenates_S16x2048x4x16_S16x2048x4x16_S16x2048x4x32_d3)

/-- The function of the operation that writes `main_v75`, named. It packs its operands into a list of dependent pairs
    whose shapes a later argument's type mentions, so `simp` cannot rewrite an operand where it stands; applied by
    name, the operands are plain arguments, which the window lemmas below rewrite before the name unfolds. -/
def fn_main_v75 : (⟨S16x2048x4x32, .f32⟩ : BufTy).Contents (Elt F) → (⟨S16x2048x4x32, .f32⟩ : BufTy).Contents (Elt F) → (⟨S16x2048x4x64, .f32⟩ : BufTy).Contents (Elt F) :=
  (fun a b => concatenate S16x2048x4x64 3 [⟨S16x2048x4x32, a⟩, ⟨S16x2048x4x32, b⟩] concatenates_S16x2048x4x32_S16x2048x4x32_S16x2048x4x64_d3)

/-- The function of the operation that writes `main_v94`, named. It packs its operands into a list of dependent pairs
    whose shapes a later argument's type mentions, so `simp` cannot rewrite an operand where it stands; applied by
    name, the operands are plain arguments, which the window lemmas below rewrite before the name unfolds. -/
def fn_main_v94 : (⟨S16x2048x2x16, .f32⟩ : BufTy).Contents (Elt F) → (⟨S16x2048x2x16, .f32⟩ : BufTy).Contents (Elt F) → (⟨S16x2048x2x32, .f32⟩ : BufTy).Contents (Elt F) :=
  (fun a b => concatenate S16x2048x2x32 3 [⟨S16x2048x2x16, a⟩, ⟨S16x2048x2x16, b⟩] concatenates_S16x2048x2x16_S16x2048x2x16_S16x2048x2x32_d3)

/-- The function of the operation that writes `main_v111`, named. It packs its operands into a list of dependent pairs
    whose shapes a later argument's type mentions, so `simp` cannot rewrite an operand where it stands; applied by
    name, the operands are plain arguments, which the window lemmas below rewrite before the name unfolds. -/
def fn_main_v111 : (⟨S16x2048x2x16, .f32⟩ : BufTy).Contents (Elt F) → (⟨S16x2048x2x16, .f32⟩ : BufTy).Contents (Elt F) → (⟨S16x2048x2x32, .f32⟩ : BufTy).Contents (Elt F) :=
  (fun a b => concatenate S16x2048x2x32 3 [⟨S16x2048x2x16, a⟩, ⟨S16x2048x2x16, b⟩] concatenates_S16x2048x2x16_S16x2048x2x16_S16x2048x2x32_d3)

/-- The function of the operation that writes `main_v112`, named. It packs its operands into a list of dependent pairs
    whose shapes a later argument's type mentions, so `simp` cannot rewrite an operand where it stands; applied by
    name, the operands are plain arguments, which the window lemmas below rewrite before the name unfolds. -/
def fn_main_v112 : (⟨S16x2048x2x32, .f32⟩ : BufTy).Contents (Elt F) → (⟨S16x2048x2x32, .f32⟩ : BufTy).Contents (Elt F) → (⟨S16x2048x2x64, .f32⟩ : BufTy).Contents (Elt F) :=
  (fun a b => concatenate S16x2048x2x64 3 [⟨S16x2048x2x32, a⟩, ⟨S16x2048x2x32, b⟩] concatenates_S16x2048x2x32_S16x2048x2x32_S16x2048x2x64_d3)

/-- The function of the operation that writes `main_v181`, named. It packs its operands into a list of dependent pairs
    whose shapes a later argument's type mentions, so `simp` cannot rewrite an operand where it stands; applied by
    name, the operands are plain arguments, which the window lemmas below rewrite before the name unfolds. -/
def fn_main_v181 : (main_v173 : Ref sig .tc).ty.Contents (Elt F) → (main_v177 : Ref sig .tc).ty.Contents (Elt F) → (main_v180 : Ref sig .tc).ty.Contents (Elt F) → (main_v181 : Ref sig .tc).ty.Contents (Elt F) :=
  (fun u0 u1 u2 => (concatenate S16x16x2x2x128x641 5 [⟨S16x16x2x2x128x384, (u0 : (⟨S16x16x2x2x128x384, .f32⟩ : BufTy).Contents (Elt F))⟩, ⟨S16x16x2x2x128x256, (u1 : (⟨S16x16x2x2x128x256, .f32⟩ : BufTy).Contents (Elt F))⟩, ⟨S16x16x2x2x128x1, (u2 : (⟨S16x16x2x2x128x1, .f32⟩ : BufTy).Contents (Elt F))⟩] concatenates_S16x16x2x2x128x384_S16x16x2x2x128x256_S16x16x2x2x128x1_S16x16x2x2x128x641_d5 : (⟨S16x16x2x2x128x641, .f32⟩ : BufTy).Contents (Elt F)))

/-- The function of the operation that writes `main_v209`, named. It packs its operands into a list of dependent pairs
    whose shapes a later argument's type mentions, so `simp` cannot rewrite an operand where it stands; applied by
    name, the operands are plain arguments, which the window lemmas below rewrite before the name unfolds. -/
def fn_main_v209 : (⟨S16x2x2x256x256, .f32⟩ : BufTy).Contents (Elt F) → (⟨S16x2x2x256x1, .f32⟩ : BufTy).Contents (Elt F) → (⟨S16x2x2x256x257, .f32⟩ : BufTy).Contents (Elt F) :=
  (fun a b => concatenate S16x2x2x256x257 4 [⟨S16x2x2x256x256, a⟩, ⟨S16x2x2x256x1, b⟩] concatenates_S16x2x2x256x256_S16x2x2x256x1_S16x2x2x256x257_d4)

/-- The function of the operation that writes `main_v225`, named. It packs its operands into a list of dependent pairs
    whose shapes a later argument's type mentions, so `simp` cannot rewrite an operand where it stands; applied by
    name, the operands are plain arguments, which the window lemmas below rewrite before the name unfolds. -/
def fn_main_v225 : (⟨S16x256x256, .f32⟩ : BufTy).Contents (Elt F) → (⟨S16x2048x256, .f32⟩ : BufTy).Contents (Elt F) → (⟨S16x2304x256, .f32⟩ : BufTy).Contents (Elt F) :=
  (fun a b => concatenate S16x2304x256 1 [⟨S16x256x256, a⟩, ⟨S16x2048x256, b⟩] concatenates_S16x256x256_S16x2048x256_S16x2304x256_d1)

/-- @main's operations 1 … 30 of 295 (window `main_part0`). -/
abbrev ops_part0_0 : List (HloOp τ sig (Elt F)) :=
  [ unary main_arg0 main_v0 ((extractStridedSlice S16x2048x3328 ![0, 256, 0] · slices_S16x2304x3328_S16x2048x3328_0_256_0) : (⟨S16x2304x3328, .f32⟩ : BufTy).Contents (Elt F) → (⟨S16x2048x3328, .f32⟩ : BufTy).Contents (Elt F)),
    unary main_arg0 main_v1 ((extractStridedSlice S16x256x3328 ![0, 0, 0] · slices_S16x2304x3328_S16x256x3328_0_0_0) : (⟨S16x2304x3328, .f32⟩ : BufTy).Contents (Elt F) → (⟨S16x256x3328, .f32⟩ : BufTy).Contents (Elt F)),
    unary main_v0 main_v2 ((extractStridedSlice S16x2048x256 ![0, 0, 0] · slices_S16x2048x3328_S16x2048x256_0_0_0) : (⟨S16x2048x3328, .f32⟩ : BufTy).Contents (Elt F) → (⟨S16x2048x256, .f32⟩ : BufTy).Contents (Elt F)),
    reshape main_v2 main_v3 (rfl : (.f32 : EltTy) = .f32) shapeCasts_S16x2048x256_S16x2048x4x64,
    unary main_v0 main_v4 ((extractStridedSlice S16x2048x128 ![0, 0, 256] · slices_S16x2048x3328_S16x2048x128_0_0_256) : (⟨S16x2048x3328, .f32⟩ : BufTy).Contents (Elt F) → (⟨S16x2048x128, .f32⟩ : BufTy).Contents (Elt F)),
    reshape main_v4 main_v5 (rfl : (.f32 : EltTy) = .f32) shapeCasts_S16x2048x128_S16x2048x2x64,
    unary main_v0 main_v6 ((extractStridedSlice S16x2048x128 ![0, 0, 384] · slices_S16x2048x3328_S16x2048x128_0_0_384) : (⟨S16x2048x3328, .f32⟩ : BufTy).Contents (Elt F) → (⟨S16x2048x128, .f32⟩ : BufTy).Contents (Elt F)),
    reshape main_v6 main_v7 (rfl : (.f32 : EltTy) = .f32) shapeCasts_S16x2048x128_S16x2048x2x64,
    unary main_v1 main_v8 ((extractStridedSlice S16x256x256 ![0, 0, 0] · slices_S16x256x3328_S16x256x256_0_0_0) : (⟨S16x256x3328, .f32⟩ : BufTy).Contents (Elt F) → (⟨S16x256x256, .f32⟩ : BufTy).Contents (Elt F)),
    reshape main_v8 main_v9 (rfl : (.f32 : EltTy) = .f32) shapeCasts_S16x256x256_S16x256x4x64,
    unary main_v1 main_v10 ((extractStridedSlice S16x256x128 ![0, 0, 256] · slices_S16x256x3328_S16x256x128_0_0_256) : (⟨S16x256x3328, .f32⟩ : BufTy).Contents (Elt F) → (⟨S16x256x128, .f32⟩ : BufTy).Contents (Elt F)),
    reshape main_v10 main_v11 (rfl : (.f32 : EltTy) = .f32) shapeCasts_S16x256x128_S16x256x2x64,
    unary main_v1 main_v12 ((extractStridedSlice S16x256x128 ![0, 0, 384] · slices_S16x256x3328_S16x256x128_0_0_384) : (⟨S16x256x3328, .f32⟩ : BufTy).Contents (Elt F) → (⟨S16x256x128, .f32⟩ : BufTy).Contents (Elt F)),
    reshape main_v12 main_v13 (rfl : (.f32 : EltTy) = .f32) shapeCasts_S16x256x128_S16x256x2x64,
    nullary main_v14 (iotaInDim S2048 32 0),
    nullary main_v15 (sitofp .f32 (iotaInDim S16 32 0)),
    nullary main_cst (constant S_ .f32 0x40000000#32),
    unary main_cst main_v16 (broadcastInDim S16 ![] bcast_S_S16 : (⟨S_, .f32⟩ : BufTy).Contents (Elt F) → (⟨S16, .f32⟩ : BufTy).Contents (Elt F)),
    binary main_v16 main_v15 main_v17 (mulf : (⟨S16, .f32⟩ : BufTy).Contents (Elt F) → (⟨S16, .f32⟩ : BufTy).Contents (Elt F) → (⟨S16, .f32⟩ : BufTy).Contents (Elt F)),
    nullary main_cst_0 (constant S_ .f32 0x00000000#32),
    unary main_cst_0 main_v18 (broadcastInDim S16 ![] bcast_S_S16 : (⟨S_, .f32⟩ : BufTy).Contents (Elt F) → (⟨S16, .f32⟩ : BufTy).Contents (Elt F)),
    binary main_v18 main_v17 main_v19 (addf : (⟨S16, .f32⟩ : BufTy).Contents (Elt F) → (⟨S16, .f32⟩ : BufTy).Contents (Elt F) → (⟨S16, .f32⟩ : BufTy).Contents (Elt F)),
    unary main_v19 main_v20 (Host.negf : (⟨S16, .f32⟩ : BufTy).Contents (Elt F) → (⟨S16, .f32⟩ : BufTy).Contents (Elt F)),
    nullary main_cst_1 (constant S_ .f32 0x42000000#32),
    unary main_cst_1 main_v21 (broadcastInDim S16 ![] bcast_S_S16 : (⟨S_, .f32⟩ : BufTy).Contents (Elt F) → (⟨S16, .f32⟩ : BufTy).Contents (Elt F)),
    binary main_v20 main_v21 main_v22 (Host.divf : (⟨S16, .f32⟩ : BufTy).Contents (Elt F) → (⟨S16, .f32⟩ : BufTy).Contents (Elt F) → (⟨S16, .f32⟩ : BufTy).Contents (Elt F)),
    nullary main_cst_2 (constant S_ .f32 0x461C4000#32),
    unary main_cst_2 main_v23 (broadcastInDim S16 ![] bcast_S_S16 : (⟨S_, .f32⟩ : BufTy).Contents (Elt F) → (⟨S16, .f32⟩ : BufTy).Contents (Elt F)),
    binary main_v23 main_v22 main_v24 (Host.powf : (⟨S16, .f32⟩ : BufTy).Contents (Elt F) → (⟨S16, .f32⟩ : BufTy).Contents (Elt F) → (⟨S16, .f32⟩ : BufTy).Contents (Elt F)),
    nullary main_c (constantI S_ 32 64#32) ]

/-- @main's operations 31 … 60 of 295 (window `main_part0`). -/
abbrev ops_part0_1 : List (HloOp τ sig (Elt F)) :=
  [ TRef.unary (TRef.of (T := ⟨S_, .i32⟩) main_c) (TRef.of (T := ⟨S_, .i32⟩) main_call0_v0) id,
    TRef.unary (TRef.of (T := ⟨S_, .i32⟩) main_call0_v0) (TRef.of (T := ⟨S2048, .i32⟩) main_call0_v1) (broadcastInDim S2048 ![] bcast_S_S2048),
    TRef.binary (TRef.of (T := ⟨S2048, .i32⟩) main_v14) (TRef.of (T := ⟨S2048, .i32⟩) main_call0_v1) (TRef.of (T := ⟨S2048, .i32⟩) main_call0_v2) Host.divsi,
    TRef.unary (TRef.of (T := ⟨S2048, .i32⟩) main_v14) (TRef.of (T := ⟨S2048, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S2048, .i32⟩) main_call0_v5) (broadcastInDim S2048 ![] bcast_S_S2048),
    TRef.binary (TRef.of (T := ⟨S2048, .i32⟩) main_call0_v3) (TRef.of (T := ⟨S2048, .i32⟩) main_call0_v5) (TRef.of (T := ⟨S2048, .i1⟩) main_call0_v6) (cmpi .ne),
    TRef.unary (TRef.of (T := ⟨S_, .i32⟩) main_call0_v0) (TRef.of (T := ⟨S2048, .i32⟩) main_call0_v7) (broadcastInDim S2048 ![] bcast_S_S2048),
    TRef.binary (TRef.of (T := ⟨S2048, .i32⟩) main_v14) (TRef.of (T := ⟨S2048, .i32⟩) main_call0_v7) (TRef.of (T := ⟨S2048, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S2048, .i32⟩) main_call0_v9) (broadcastInDim S2048 ![] bcast_S_S2048),
    TRef.binary (TRef.of (T := ⟨S2048, .i32⟩) main_call0_v8) (TRef.of (T := ⟨S2048, .i32⟩) main_call0_v9) (TRef.of (T := ⟨S2048, .i1⟩) main_call0_v10) (cmpi .ne),
    TRef.binary (TRef.of (T := ⟨S2048, .i1⟩) main_call0_v6) (TRef.of (T := ⟨S2048, .i1⟩) main_call0_v10) (TRef.of (T := ⟨S2048, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S2048, .i32⟩) main_call0_v12) (broadcastInDim S2048 ![] bcast_S_S2048),
    TRef.binary (TRef.of (T := ⟨S2048, .i32⟩) main_call0_v2) (TRef.of (T := ⟨S2048, .i32⟩) main_call0_v12) (TRef.of (T := ⟨S2048, .i32⟩) main_call0_v13) subi,
    TRef.ternary (TRef.of (T := ⟨S2048, .i1⟩) main_call0_v11) (TRef.of (T := ⟨S2048, .i32⟩) main_call0_v13) (TRef.of (T := ⟨S2048, .i32⟩) main_call0_v2) (TRef.of (T := ⟨S2048, .i32⟩) main_v25) select,
    unary main_v25 main_v26 (sitofp .f32 : (⟨S2048, .i32⟩ : BufTy).Contents (Elt F) → (⟨S2048, .f32⟩ : BufTy).Contents (Elt F)),
    unary main_v26 main_v27 (broadcastInDim S2048x1 ![0] bcast_S2048_S2048x1_0 : (⟨S2048, .f32⟩ : BufTy).Contents (Elt F) → (⟨S2048x1, .f32⟩ : BufTy).Contents (Elt F)),
    unary main_v24 main_v28 (broadcastInDim S1x16 ![1] bcast_S16_S1x16_1 : (⟨S16, .f32⟩ : BufTy).Contents (Elt F) → (⟨S1x16, .f32⟩ : BufTy).Contents (Elt F)),
    unary main_v27 main_v29 (broadcastInDim S2048x16 ![0, 1] bcast_S2048x1_S2048x16_0_1 : (⟨S2048x1, .f32⟩ : BufTy).Contents (Elt F) → (⟨S2048x16, .f32⟩ : BufTy).Contents (Elt F)),
    unary main_v28 main_v30 (broadcastInDim S2048x16 ![0, 1] bcast_S1x16_S2048x16_0_1 : (⟨S1x16, .f32⟩ : BufTy).Contents (Elt F) → (⟨S2048x16, .f32⟩ : BufTy).Contents (Elt F)),
    binary main_v29 main_v30 main_v31 (mulf : (⟨S2048x16, .f32⟩ : BufTy).Contents (Elt F) → (⟨S2048x16, .f32⟩ : BufTy).Contents (Elt F) → (⟨S2048x16, .f32⟩ : BufTy).Contents (Elt F)),
    nullary main_c_3 (constantI S_ 32 64#32),
    TRef.unary (TRef.of (T := ⟨S_, .i32⟩) main_c_3) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S2048, .i32⟩) main_call1_v3) (broadcastInDim S2048 ![] bcast_S_S2048) ]

/-- @main's operations 61 … 90 of 295 (window `main_part0`). -/
abbrev ops_part0_2 : List (HloOp τ sig (Elt F)) :=
  [ TRef.binary (TRef.of (T := ⟨S2048, .i32⟩) main_v14) (TRef.of (T := ⟨S2048, .i32⟩) main_call1_v3) (TRef.of (T := ⟨S2048, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S2048, .i32⟩) main_call1_v5) (broadcastInDim S2048 ![] bcast_S_S2048),
    TRef.binary (TRef.of (T := ⟨S2048, .i32⟩) main_call1_v4) (TRef.of (T := ⟨S2048, .i32⟩) main_call1_v5) (TRef.of (T := ⟨S2048, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S2048, .i32⟩) main_call1_v7) (broadcastInDim S2048 ![] bcast_S_S2048),
    TRef.binary (TRef.of (T := ⟨S2048, .i32⟩) main_call1_v4) (TRef.of (T := ⟨S2048, .i32⟩) main_call1_v7) (TRef.of (T := ⟨S2048, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S2048, .i1⟩) main_call1_v10) (broadcastInDim S2048 ![] bcast_S_S2048),
    TRef.binary (TRef.of (T := ⟨S2048, .i1⟩) main_call1_v8) (TRef.of (T := ⟨S2048, .i1⟩) main_call1_v10) (TRef.of (T := ⟨S2048, .i1⟩) main_call1_v11) (cmpi .ne),
    TRef.binary (TRef.of (T := ⟨S2048, .i1⟩) main_call1_v11) (TRef.of (T := ⟨S2048, .i1⟩) main_call1_v6) (TRef.of (T := ⟨S2048, .i1⟩) main_call1_v12) andi,
    TRef.unary (TRef.of (T := ⟨S_, .i32⟩) main_call1_v2) (TRef.of (T := ⟨S2048, .i32⟩) main_call1_v13) (broadcastInDim S2048 ![] bcast_S_S2048),
    TRef.binary (TRef.of (T := ⟨S2048, .i32⟩) main_call1_v4) (TRef.of (T := ⟨S2048, .i32⟩) main_call1_v13) (TRef.of (T := ⟨S2048, .i32⟩) main_call1_v14) addi,
    TRef.ternary (TRef.of (T := ⟨S2048, .i1⟩) main_call1_v12) (TRef.of (T := ⟨S2048, .i32⟩) main_call1_v14) (TRef.of (T := ⟨S2048, .i32⟩) main_call1_v4) (TRef.of (T := ⟨S2048, .i32⟩) main_v32) select,
    unary main_v32 main_v33 (sitofp .f32 : (⟨S2048, .i32⟩ : BufTy).Contents (Elt F) → (⟨S2048, .f32⟩ : BufTy).Contents (Elt F)),
    unary main_v33 main_v34 (broadcastInDim S2048x1 ![0] bcast_S2048_S2048x1_0 : (⟨S2048, .f32⟩ : BufTy).Contents (Elt F) → (⟨S2048x1, .f32⟩ : BufTy).Contents (Elt F)),
    unary main_v24 main_v35 (broadcastInDim S1x16 ![1] bcast_S16_S1x16_1 : (⟨S16, .f32⟩ : BufTy).Contents (Elt F) → (⟨S1x16, .f32⟩ : BufTy).Contents (Elt F)),
    unary main_v34 main_v36 (broadcastInDim S2048x16 ![0, 1] bcast_S2048x1_S2048x16_0_1 : (⟨S2048x1, .f32⟩ : BufTy).Contents (Elt F) → (⟨S2048x16, .f32⟩ : BufTy).Contents (Elt F)),
    unary main_v35 main_v37 (broadcastInDim S2048x16 ![0, 1] bcast_S1x16_S2048x16_0_1 : (⟨S1x16, .f32⟩ : BufTy).Contents (Elt F) → (⟨S2048x16, .f32⟩ : BufTy).Contents (Elt F)),
    binary main_v36 main_v37 main_v38 (mulf : (⟨S2048x16, .f32⟩ : BufTy).Contents (Elt F) → (⟨S2048x16, .f32⟩ : BufTy).Contents (Elt F) → (⟨S2048x16, .f32⟩ : BufTy).Contents (Elt F)),
    unary main_v3 main_v39 ((extractStridedSlice S16x2048x4x32 ![0, 0, 0, 0] · slices_S16x2048x4x64_S16x2048x4x32_0_0_0_0) : (⟨S16x2048x4x64, .f32⟩ : BufTy).Contents (Elt F) → (⟨S16x2048x4x32, .f32⟩ : BufTy).Contents (Elt F)),
    unary main_v3 main_v40 ((extractStridedSlice S16x2048x4x32 ![0, 0, 0, 32] · slices_S16x2048x4x64_S16x2048x4x32_0_0_0_32) : (⟨S16x2048x4x64, .f32⟩ : BufTy).Contents (Elt F) → (⟨S16x2048x4x32, .f32⟩ : BufTy).Contents (Elt F)),
    unary main_v39 main_v41 ((extractStridedSlice S16x2048x4x16 ![0, 0, 0, 0] · slices_S16x2048x4x32_S16x2048x4x16_0_0_0_0) : (⟨S16x2048x4x32, .f32⟩ : BufTy).Contents (Elt F) → (⟨S16x2048x4x16, .f32⟩ : BufTy).Contents (Elt F)),
    unary main_v39 main_v42 ((extractStridedSlice S16x2048x4x16 ![0, 0, 0, 16] · slices_S16x2048x4x32_S16x2048x4x16_0_0_0_16) : (⟨S16x2048x4x32, .f32⟩ : BufTy).Contents (Elt F) → (⟨S16x2048x4x16, .f32⟩ : BufTy).Contents (Elt F)),
    unary main_v31 main_v43 (Host.cos : (⟨S2048x16, .f32⟩ : BufTy).Contents (Elt F) → (⟨S2048x16, .f32⟩ : BufTy).Contents (Elt F)),
    unary main_v43 main_v44 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v31 main_v45 (Host.sin : (⟨S2048x16, .f32⟩ : BufTy).Contents (Elt F) → (⟨S2048x16, .f32⟩ : BufTy).Contents (Elt F)),
    unary main_v45 main_v46 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v44 main_v47 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)) ]

/-- @main's operations 91 … 96 of 295 (window `main_part0`). -/
abbrev ops_part0_3 : List (HloOp τ sig (Elt F)) :=
  [ binary main_v41 main_v47 main_v48 (mulf : (⟨S16x2048x4x16, .f32⟩ : BufTy).Contents (Elt F) → (⟨S16x2048x4x16, .f32⟩ : BufTy).Contents (Elt F) → (⟨S16x2048x4x16, .f32⟩ : BufTy).Contents (Elt F)),
    unary main_v46 main_v49 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v42 main_v49 main_v50 (mulf : (⟨S16x2048x4x16, .f32⟩ : BufTy).Contents (Elt F) → (⟨S16x2048x4x16, .f32⟩ : BufTy).Contents (Elt F) → (⟨S16x2048x4x16, .f32⟩ : BufTy).Contents (Elt F)),
    binary main_v48 main_v50 main_v51 (subf : (⟨S16x2048x4x16, .f32⟩ : BufTy).Contents (Elt F) → (⟨S16x2048x4x16, .f32⟩ : BufTy).Contents (Elt F) → (⟨S16x2048x4x16, .f32⟩ : BufTy).Contents (Elt F)),
    unary main_v46 main_v52 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v41 main_v52 main_v53 (mulf : (⟨S16x2048x4x16, .f32⟩ : BufTy).Contents (Elt F) → (⟨S16x2048x4x16, .f32⟩ : BufTy).Contents (Elt F) → (⟨S16x2048x4x16, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 97 … 156 of 295 (window `main_part1`). -/
abbrev ops_part1 : List (HloOp τ sig (Elt F)) :=
  [ unary main_v44 main_v54 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v42 main_v54 main_v55 (mulf : (⟨S16x2048x4x16, .f32⟩ : BufTy).Contents (Elt F) → (⟨S16x2048x4x16, .f32⟩ : BufTy).Contents (Elt F) → (⟨S16x2048x4x16, .f32⟩ : BufTy).Contents (Elt F)),
    binary main_v53 main_v55 main_v56 (addf : (⟨S16x2048x4x16, .f32⟩ : BufTy).Contents (Elt F) → (⟨S16x2048x4x16, .f32⟩ : BufTy).Contents (Elt F) → (⟨S16x2048x4x16, .f32⟩ : BufTy).Contents (Elt F)),
    binary main_v51 main_v56 main_v57 (fn_main_v57 (F := F)),
    unary main_v40 main_v58 ((extractStridedSlice S16x2048x4x16 ![0, 0, 0, 0] · slices_S16x2048x4x32_S16x2048x4x16_0_0_0_0) : (⟨S16x2048x4x32, .f32⟩ : BufTy).Contents (Elt F) → (⟨S16x2048x4x16, .f32⟩ : BufTy).Contents (Elt F)),
    unary main_v40 main_v59 ((extractStridedSlice S16x2048x4x16 ![0, 0, 0, 16] · slices_S16x2048x4x32_S16x2048x4x16_0_0_0_16) : (⟨S16x2048x4x32, .f32⟩ : BufTy).Contents (Elt F) → (⟨S16x2048x4x16, .f32⟩ : BufTy).Contents (Elt F)),
    unary main_v38 main_v60 (Host.cos : (⟨S2048x16, .f32⟩ : BufTy).Contents (Elt F) → (⟨S2048x16, .f32⟩ : BufTy).Contents (Elt F)),
    unary main_v60 main_v61 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v38 main_v62 (Host.sin : (⟨S2048x16, .f32⟩ : BufTy).Contents (Elt F) → (⟨S2048x16, .f32⟩ : BufTy).Contents (Elt F)),
    unary main_v62 main_v63 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v61 main_v64 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v58 main_v64 main_v65 (mulf : (⟨S16x2048x4x16, .f32⟩ : BufTy).Contents (Elt F) → (⟨S16x2048x4x16, .f32⟩ : BufTy).Contents (Elt F) → (⟨S16x2048x4x16, .f32⟩ : BufTy).Contents (Elt F)),
    unary main_v63 main_v66 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v59 main_v66 main_v67 (mulf : (⟨S16x2048x4x16, .f32⟩ : BufTy).Contents (Elt F) → (⟨S16x2048x4x16, .f32⟩ : BufTy).Contents (Elt F) → (⟨S16x2048x4x16, .f32⟩ : BufTy).Contents (Elt F)),
    binary main_v65 main_v67 main_v68 (subf : (⟨S16x2048x4x16, .f32⟩ : BufTy).Contents (Elt F) → (⟨S16x2048x4x16, .f32⟩ : BufTy).Contents (Elt F) → (⟨S16x2048x4x16, .f32⟩ : BufTy).Contents (Elt F)),
    unary main_v63 main_v69 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v58 main_v69 main_v70 (mulf : (⟨S16x2048x4x16, .f32⟩ : BufTy).Contents (Elt F) → (⟨S16x2048x4x16, .f32⟩ : BufTy).Contents (Elt F) → (⟨S16x2048x4x16, .f32⟩ : BufTy).Contents (Elt F)),
    unary main_v61 main_v71 (broadcastInDim S16x2048x4x16 ![0, 1, 2, 3] bcast_S1x2048x1x16_S16x2048x4x16_0_1_2_3 : (⟨S1x2048x1x16, .f32⟩ : BufTy).Contents (Elt F) → (⟨S16x2048x4x16, .f32⟩ : BufTy).Contents (Elt F)),
    binary main_v59 main_v71 main_v72 (mulf : (⟨S16x2048x4x16, .f32⟩ : BufTy).Contents (Elt F) → (⟨S16x2048x4x16, .f32⟩ : BufTy).Contents (Elt F) → (⟨S16x2048x4x16, .f32⟩ : BufTy).Contents (Elt F)),
    binary main_v70 main_v72 main_v73 (addf : (⟨S16x2048x4x16, .f32⟩ : BufTy).Contents (Elt F) → (⟨S16x2048x4x16, .f32⟩ : BufTy).Contents (Elt F) → (⟨S16x2048x4x16, .f32⟩ : BufTy).Contents (Elt F)),
    binary main_v68 main_v73 main_v74 (fn_main_v74 (F := F)),
    binary main_v57 main_v74 main_v75 (fn_main_v75 (F := F)),
    unary main_v5 main_v76 ((extractStridedSlice S16x2048x2x32 ![0, 0, 0, 0] · slices_S16x2048x2x64_S16x2048x2x32_0_0_0_0) : (⟨S16x2048x2x64, .f32⟩ : BufTy).Contents (Elt F) → (⟨S16x2048x2x32, .f32⟩ : BufTy).Contents (Elt F)),
    unary main_v5 main_v77 ((extractStridedSlice S16x2048x2x32 ![0, 0, 0, 32] · slices_S16x2048x2x64_S16x2048x2x32_0_0_0_32) : (⟨S16x2048x2x64, .f32⟩ : BufTy).Contents (Elt F) → (⟨S16x2048x2x32, .f32⟩ : BufTy).Contents (Elt F)),
    unary main_v76 main_v78 ((extractStridedSlice S16x2048x2x16 ![0, 0, 0, 0] · slices_S16x2048x2x32_S16x2048x2x16_0_0_0_0) : (⟨S16x2048x2x32, .f32⟩ : BufTy).Contents (Elt F) → (⟨S16x2048x2x16, .f32⟩ : BufTy).Contents (Elt F)),
    unary main_v76 main_v79 ((extractStridedSlice S16x2048x2x16 ![0, 0, 0, 16] · slices_S16x2048x2x32_S16x2048x2x16_0_0_0_16) : (⟨S16x2048x2x32, .f32⟩ : BufTy).Contents (Elt F) → (⟨S16x2048x2x16, .f32⟩ : BufTy).Contents (Elt F)),
    unary main_v31 main_v80 (Host.cos : (⟨S2048x16, .f32⟩ : BufTy).Contents (Elt F) → (⟨S2048x16, .f32⟩ : BufTy).Contents (Elt F)),
    unary main_v80 main_v81 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v31 main_v82 (Host.sin : (⟨S2048x16, .f32⟩ : BufTy).Contents (Elt F) → (⟨S2048x16, .f32⟩ : BufTy).Contents (Elt F)),
    unary main_v82 main_v83 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v81 main_v84 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v78 main_v84 main_v85 (mulf : (⟨S16x2048x2x16, .f32⟩ : BufTy).Contents (Elt F) → (⟨S16x2048x2x16, .f32⟩ : BufTy).Contents (Elt F) → (⟨S16x2048x2x16, .f32⟩ : BufTy).Contents (Elt F)),
    unary main_v83 main_v86 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v79 main_v86 main_v87 (mulf : (⟨S16x2048x2x16, .f32⟩ : BufTy).Contents (Elt F) → (⟨S16x2048x2x16, .f32⟩ : BufTy).Contents (Elt F) → (⟨S16x2048x2x16, .f32⟩ : BufTy).Contents (Elt F)),
    binary main_v85 main_v87 main_v88 (subf : (⟨S16x2048x2x16, .f32⟩ : BufTy).Contents (Elt F) → (⟨S16x2048x2x16, .f32⟩ : BufTy).Contents (Elt F) → (⟨S16x2048x2x16, .f32⟩ : BufTy).Contents (Elt F)),
    unary main_v83 main_v89 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v78 main_v89 main_v90 (mulf : (⟨S16x2048x2x16, .f32⟩ : BufTy).Contents (Elt F) → (⟨S16x2048x2x16, .f32⟩ : BufTy).Contents (Elt F) → (⟨S16x2048x2x16, .f32⟩ : BufTy).Contents (Elt F)),
    unary main_v81 main_v91 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v79 main_v91 main_v92 (mulf : (⟨S16x2048x2x16, .f32⟩ : BufTy).Contents (Elt F) → (⟨S16x2048x2x16, .f32⟩ : BufTy).Contents (Elt F) → (⟨S16x2048x2x16, .f32⟩ : BufTy).Contents (Elt F)),
    binary main_v90 main_v92 main_v93 (addf : (⟨S16x2048x2x16, .f32⟩ : BufTy).Contents (Elt F) → (⟨S16x2048x2x16, .f32⟩ : BufTy).Contents (Elt F) → (⟨S16x2048x2x16, .f32⟩ : BufTy).Contents (Elt F)),
    binary main_v88 main_v93 main_v94 (fn_main_v94 (F := F)),
    unary main_v77 main_v95 ((extractStridedSlice S16x2048x2x16 ![0, 0, 0, 0] · slices_S16x2048x2x32_S16x2048x2x16_0_0_0_0) : (⟨S16x2048x2x32, .f32⟩ : BufTy).Contents (Elt F) → (⟨S16x2048x2x16, .f32⟩ : BufTy).Contents (Elt F)),
    unary main_v77 main_v96 ((extractStridedSlice S16x2048x2x16 ![0, 0, 0, 16] · slices_S16x2048x2x32_S16x2048x2x16_0_0_0_16) : (⟨S16x2048x2x32, .f32⟩ : BufTy).Contents (Elt F) → (⟨S16x2048x2x16, .f32⟩ : BufTy).Contents (Elt F)),
    unary main_v38 main_v97 (Host.cos : (⟨S2048x16, .f32⟩ : BufTy).Contents (Elt F) → (⟨S2048x16, .f32⟩ : BufTy).Contents (Elt F)),
    unary main_v97 main_v98 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v38 main_v99 (Host.sin : (⟨S2048x16, .f32⟩ : BufTy).Contents (Elt F) → (⟨S2048x16, .f32⟩ : BufTy).Contents (Elt F)),
    unary main_v99 main_v100 (broadcastInDim S1x2048x1x16 ![1, 3] bcast_S2048x16_S1x2048x1x16_1_3 : (⟨S2048x16, .f32⟩ : BufTy).Contents (Elt F) → (⟨S1x2048x1x16, .f32⟩ : BufTy).Contents (Elt F)),
    unary main_v98 main_v101 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v95 main_v101 main_v102 (mulf : (⟨S16x2048x2x16, .f32⟩ : BufTy).Contents (Elt F) → (⟨S16x2048x2x16, .f32⟩ : BufTy).Contents (Elt F) → (⟨S16x2048x2x16, .f32⟩ : BufTy).Contents (Elt F)),
    unary main_v100 main_v103 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v96 main_v103 main_v104 (mulf : (⟨S16x2048x2x16, .f32⟩ : BufTy).Contents (Elt F) → (⟨S16x2048x2x16, .f32⟩ : BufTy).Contents (Elt F) → (⟨S16x2048x2x16, .f32⟩ : BufTy).Contents (Elt F)),
    binary main_v102 main_v104 main_v105 (subf : (⟨S16x2048x2x16, .f32⟩ : BufTy).Contents (Elt F) → (⟨S16x2048x2x16, .f32⟩ : BufTy).Contents (Elt F) → (⟨S16x2048x2x16, .f32⟩ : BufTy).Contents (Elt F)),
    unary main_v100 main_v106 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v95 main_v106 main_v107 (mulf : (⟨S16x2048x2x16, .f32⟩ : BufTy).Contents (Elt F) → (⟨S16x2048x2x16, .f32⟩ : BufTy).Contents (Elt F) → (⟨S16x2048x2x16, .f32⟩ : BufTy).Contents (Elt F)),
    unary main_v98 main_v108 (broadcastInDim S16x2048x2x16 ![0, 1, 2, 3] bcast_S1x2048x1x16_S16x2048x2x16_0_1_2_3 : (⟨S1x2048x1x16, .f32⟩ : BufTy).Contents (Elt F) → (⟨S16x2048x2x16, .f32⟩ : BufTy).Contents (Elt F)),
    binary main_v96 main_v108 main_v109 (mulf : (⟨S16x2048x2x16, .f32⟩ : BufTy).Contents (Elt F) → (⟨S16x2048x2x16, .f32⟩ : BufTy).Contents (Elt F) → (⟨S16x2048x2x16, .f32⟩ : BufTy).Contents (Elt F)),
    binary main_v107 main_v109 main_v110 (addf : (⟨S16x2048x2x16, .f32⟩ : BufTy).Contents (Elt F) → (⟨S16x2048x2x16, .f32⟩ : BufTy).Contents (Elt F) → (⟨S16x2048x2x16, .f32⟩ : BufTy).Contents (Elt F)),
    binary main_v105 main_v110 main_v111 (fn_main_v111 (F := F)),
    binary main_v94 main_v111 main_v112 (fn_main_v112 (F := F)),
    nullary main_v113 (iotaInDim S16 32 0) ]

/-- @main's operations 157 … 186 of 295 (window `main_part2`). -/
abbrev ops_part2_0 : List (HloOp τ sig (Elt F)) :=
  [ unary main_v113 main_v114 (broadcastInDim S16x1 ![0] bcast_S16_S16x1_0 : (⟨S16, .i32⟩ : BufTy).Contents (Elt F) → (⟨S16x1, .i32⟩ : BufTy).Contents (Elt F)),
    nullary main_c_4 (constantI S_ 32 128#32),
    unary main_c_4 main_v115 (broadcastInDim S16x1 ![] bcast_S_S16x1 : (⟨S_, .i32⟩ : BufTy).Contents (Elt F) → (⟨S16x1, .i32⟩ : BufTy).Contents (Elt F)),
    binary main_v114 main_v115 main_v116 (muli : (⟨S16x1, .i32⟩ : BufTy).Contents (Elt F) → (⟨S16x1, .i32⟩ : BufTy).Contents (Elt F) → (⟨S16x1, .i32⟩ : BufTy).Contents (Elt F)),
    nullary main_v117 (iotaInDim S384 32 0),
    unary main_v117 main_v118 (broadcastInDim S1x384 ![1] bcast_S384_S1x384_1 : (⟨S384, .i32⟩ : BufTy).Contents (Elt F) → (⟨S1x384, .i32⟩ : BufTy).Contents (Elt F)),
    unary main_v116 main_v119 (broadcastInDim S16x384 ![0, 1] bcast_S16x1_S16x384_0_1 : (⟨S16x1, .i32⟩ : BufTy).Contents (Elt F) → (⟨S16x384, .i32⟩ : BufTy).Contents (Elt F)),
    unary main_v118 main_v120 (broadcastInDim S16x384 ![0, 1] bcast_S1x384_S16x384_0_1 : (⟨S1x384, .i32⟩ : BufTy).Contents (Elt F) → (⟨S16x384, .i32⟩ : BufTy).Contents (Elt F)),
    binary main_v119 main_v120 main_v121 (addi : (⟨S16x384, .i32⟩ : BufTy).Contents (Elt F) → (⟨S16x384, .i32⟩ : BufTy).Contents (Elt F) → (⟨S16x384, .i32⟩ : BufTy).Contents (Elt F)),
    nullary main_c_5 (constantI S_ 32 0#32),
    TRef.unary (TRef.of (T := ⟨S_, .i32⟩) main_c_5) (TRef.of (T := ⟨S_, .f32⟩) main_call2_v0) (sitofp .f32),
    TRef.binary (TRef.of (T := ⟨S16x2048x2x64, .f32⟩) main_v112) (TRef.of (T := ⟨S_, .f32⟩) main_call2_v0) (TRef.of (T := ⟨S16x2304x2x64, .f32⟩) main_v122) (fun x v => pad S16x2304x2x64 ![0, 128, 0, 0] ![0, 128, 0, 0] ![0, 0, 0, 0] x v pads_S16x2048x2x64_S16x2304x2x64_000_1281280_000_000 h_S_),
    nullary main_c_6 (constantI S_ 32 0#32),
    unary main_c_6 main_v123 (broadcastInDim S16x384 ![] bcast_S_S16x384 : (⟨S_, .i32⟩ : BufTy).Contents (Elt F) → (⟨S16x384, .i32⟩ : BufTy).Contents (Elt F)),
    binary main_v121 main_v123 main_v124 (cmpi .slt : (⟨S16x384, .i32⟩ : BufTy).Contents (Elt F) → (⟨S16x384, .i32⟩ : BufTy).Contents (Elt F) → (⟨S16x384, .i1⟩ : BufTy).Contents (Elt F)),
    nullary main_c_7 (constantI S_ 32 2304#32),
    unary main_c_7 main_v125 (broadcastInDim S16x384 ![] bcast_S_S16x384 : (⟨S_, .i32⟩ : BufTy).Contents (Elt F) → (⟨S16x384, .i32⟩ : BufTy).Contents (Elt F)),
    binary main_v121 main_v125 main_v126 (addi : (⟨S16x384, .i32⟩ : BufTy).Contents (Elt F) → (⟨S16x384, .i32⟩ : BufTy).Contents (Elt F) → (⟨S16x384, .i32⟩ : BufTy).Contents (Elt F)),
    ternary main_v124 main_v126 main_v121 main_v127 (select : (⟨S16x384, .i1⟩ : BufTy).Contents (Elt F) → (⟨S16x384, .i32⟩ : BufTy).Contents (Elt F) → (⟨S16x384, .i32⟩ : BufTy).Contents (Elt F) → (⟨S16x384, .i32⟩ : BufTy).Contents (Elt F)),
    unary main_v127 main_v128 (broadcastInDim S16x384x1 ![0, 1] bcast_S16x384_S16x384x1_0_1 : (⟨S16x384, .i32⟩ : BufTy).Contents (Elt F) → (⟨S16x384x1, .i32⟩ : BufTy).Contents (Elt F)),
    binary main_v122 main_v128 main_v129 ((fun x i => Host.gather gather_S16x2304x2x64_S16x384x1_S16x16x384x2x64_034_1_n_n_1_2_161264 x i) : (⟨S16x2304x2x64, .f32⟩ : BufTy).Contents (Elt F) → (⟨S16x384x1, .i32⟩ : BufTy).Contents (Elt F) → (⟨S16x16x384x2x64, .f32⟩ : BufTy).Contents (Elt F)),
    nullary main_c_8 (constantI S_ 32 0#32),
    TRef.unary (TRef.of (T := ⟨S_, .i32⟩) main_c_8) (TRef.of (T := ⟨S_, .f32⟩) main_call3_v0) (sitofp .f32),
    TRef.binary (TRef.of (T := ⟨S16x2048x2x64, .f32⟩) main_v7) (TRef.of (T := ⟨S_, .f32⟩) main_call3_v0) (TRef.of (T := ⟨S16x2304x2x64, .f32⟩) main_v130) (fun x v => pad S16x2304x2x64 ![0, 128, 0, 0] ![0, 128, 0, 0] ![0, 0, 0, 0] x v pads_S16x2048x2x64_S16x2304x2x64_000_1281280_000_000 h_S_),
    nullary main_c_9 (constantI S_ 32 0#32),
    unary main_c_9 main_v131 (broadcastInDim S16x384 ![] bcast_S_S16x384 : (⟨S_, .i32⟩ : BufTy).Contents (Elt F) → (⟨S16x384, .i32⟩ : BufTy).Contents (Elt F)),
    binary main_v121 main_v131 main_v132 (cmpi .slt : (⟨S16x384, .i32⟩ : BufTy).Contents (Elt F) → (⟨S16x384, .i32⟩ : BufTy).Contents (Elt F) → (⟨S16x384, .i1⟩ : BufTy).Contents (Elt F)),
    nullary main_c_10 (constantI S_ 32 2304#32),
    unary main_c_10 main_v133 (broadcastInDim S16x384 ![] bcast_S_S16x384 : (⟨S_, .i32⟩ : BufTy).Contents (Elt F) → (⟨S16x384, .i32⟩ : BufTy).Contents (Elt F)),
    binary main_v121 main_v133 main_v134 (addi : (⟨S16x384, .i32⟩ : BufTy).Contents (Elt F) → (⟨S16x384, .i32⟩ : BufTy).Contents (Elt F) → (⟨S16x384, .i32⟩ : BufTy).Contents (Elt F)) ]

/-- @main's operations 187 … 216 of 295 (window `main_part2`). -/
abbrev ops_part2_1 : List (HloOp τ sig (Elt F)) :=
  [ ternary main_v132 main_v134 main_v121 main_v135 (select : (⟨S16x384, .i1⟩ : BufTy).Contents (Elt F) → (⟨S16x384, .i32⟩ : BufTy).Contents (Elt F) → (⟨S16x384, .i32⟩ : BufTy).Contents (Elt F) → (⟨S16x384, .i32⟩ : BufTy).Contents (Elt F)),
    unary main_v135 main_v136 (broadcastInDim S16x384x1 ![0, 1] bcast_S16x384_S16x384x1_0_1 : (⟨S16x384, .i32⟩ : BufTy).Contents (Elt F) → (⟨S16x384x1, .i32⟩ : BufTy).Contents (Elt F)),
    binary main_v130 main_v136 main_v137 ((fun x i => Host.gather gather_S16x2304x2x64_S16x384x1_S16x16x384x2x64_034_1_n_n_1_2_161264 x i) : (⟨S16x2304x2x64, .f32⟩ : BufTy).Contents (Elt F) → (⟨S16x384x1, .i32⟩ : BufTy).Contents (Elt F) → (⟨S16x16x384x2x64, .f32⟩ : BufTy).Contents (Elt F)),
    nullary main_v138 (iotaInDim S16 32 0),
    unary main_v138 main_v139 (broadcastInDim S16x1 ![0] bcast_S16_S16x1_0 : (⟨S16, .i32⟩ : BufTy).Contents (Elt F) → (⟨S16x1, .i32⟩ : BufTy).Contents (Elt F)),
    nullary main_c_11 (constantI S_ 32 128#32),
    unary main_c_11 main_v140 (broadcastInDim S16x1 ![] bcast_S_S16x1 : (⟨S_, .i32⟩ : BufTy).Contents (Elt F) → (⟨S16x1, .i32⟩ : BufTy).Contents (Elt F)),
    binary main_v139 main_v140 main_v141 (muli : (⟨S16x1, .i32⟩ : BufTy).Contents (Elt F) → (⟨S16x1, .i32⟩ : BufTy).Contents (Elt F) → (⟨S16x1, .i32⟩ : BufTy).Contents (Elt F)),
    nullary main_v142 (iotaInDim S128 32 0),
    unary main_v142 main_v143 (broadcastInDim S1x128 ![1] bcast_S128_S1x128_1 : (⟨S128, .i32⟩ : BufTy).Contents (Elt F) → (⟨S1x128, .i32⟩ : BufTy).Contents (Elt F)),
    unary main_v141 main_v144 (broadcastInDim S16x128 ![0, 1] bcast_S16x1_S16x128_0_1 : (⟨S16x1, .i32⟩ : BufTy).Contents (Elt F) → (⟨S16x128, .i32⟩ : BufTy).Contents (Elt F)),
    unary main_v143 main_v145 (broadcastInDim S16x128 ![0, 1] bcast_S1x128_S16x128_0_1 : (⟨S1x128, .i32⟩ : BufTy).Contents (Elt F) → (⟨S16x128, .i32⟩ : BufTy).Contents (Elt F)),
    binary main_v144 main_v145 main_v146 (addi : (⟨S16x128, .i32⟩ : BufTy).Contents (Elt F) → (⟨S16x128, .i32⟩ : BufTy).Contents (Elt F) → (⟨S16x128, .i32⟩ : BufTy).Contents (Elt F)),
    nullary main_c_12 (constantI S_ 32 128#32),
    unary main_c_12 main_v147 (broadcastInDim S16x384 ![] bcast_S_S16x384 : (⟨S_, .i32⟩ : BufTy).Contents (Elt F) → (⟨S16x384, .i32⟩ : BufTy).Contents (Elt F)),
    binary main_v121 main_v147 main_v148 (subi : (⟨S16x384, .i32⟩ : BufTy).Contents (Elt F) → (⟨S16x384, .i32⟩ : BufTy).Contents (Elt F) → (⟨S16x384, .i32⟩ : BufTy).Contents (Elt F)),
    unary main_v146 main_v149 (broadcastInDim S16x128x1 ![0, 1] bcast_S16x128_S16x128x1_0_1 : (⟨S16x128, .i32⟩ : BufTy).Contents (Elt F) → (⟨S16x128x1, .i32⟩ : BufTy).Contents (Elt F)),
    unary main_v148 main_v150 (broadcastInDim S16x1x384 ![0, 2] bcast_S16x384_S16x1x384_0_2 : (⟨S16x384, .i32⟩ : BufTy).Contents (Elt F) → (⟨S16x1x384, .i32⟩ : BufTy).Contents (Elt F)),
    unary main_v149 main_v151 (broadcastInDim S16x128x384 ![0, 1, 2] bcast_S16x128x1_S16x128x384_0_1_2 : (⟨S16x128x1, .i32⟩ : BufTy).Contents (Elt F) → (⟨S16x128x384, .i32⟩ : BufTy).Contents (Elt F)),
    unary main_v150 main_v152 (broadcastInDim S16x128x384 ![0, 1, 2] bcast_S16x1x384_S16x128x384_0_1_2 : (⟨S16x1x384, .i32⟩ : BufTy).Contents (Elt F) → (⟨S16x128x384, .i32⟩ : BufTy).Contents (Elt F)),
    binary main_v151 main_v152 main_v153 (subi : (⟨S16x128x384, .i32⟩ : BufTy).Contents (Elt F) → (⟨S16x128x384, .i32⟩ : BufTy).Contents (Elt F) → (⟨S16x128x384, .i32⟩ : BufTy).Contents (Elt F)),
    unary main_v153 main_v154 (absi : (⟨S16x128x384, .i32⟩ : BufTy).Contents (Elt F) → (⟨S16x128x384, .i32⟩ : BufTy).Contents (Elt F)),
    nullary main_c_13 (constantI S_ 32 128#32),
    unary main_c_13 main_v155 (broadcastInDim S16x128x384 ![] bcast_S_S16x128x384 : (⟨S_, .i32⟩ : BufTy).Contents (Elt F) → (⟨S16x128x384, .i32⟩ : BufTy).Contents (Elt F)),
    binary main_v154 main_v155 main_v156 (cmpi .sle : (⟨S16x128x384, .i32⟩ : BufTy).Contents (Elt F) → (⟨S16x128x384, .i32⟩ : BufTy).Contents (Elt F) → (⟨S16x128x384, .i1⟩ : BufTy).Contents (Elt F)),
    unary main_v148 main_v157 (broadcastInDim S16x1x384 ![0, 2] bcast_S16x384_S16x1x384_0_2 : (⟨S16x384, .i32⟩ : BufTy).Contents (Elt F) → (⟨S16x1x384, .i32⟩ : BufTy).Contents (Elt F)),
    nullary main_c_14 (constantI S_ 32 0#32),
    unary main_c_14 main_v158 (broadcastInDim S16x1x384 ![] bcast_S_S16x1x384 : (⟨S_, .i32⟩ : BufTy).Contents (Elt F) → (⟨S16x1x384, .i32⟩ : BufTy).Contents (Elt F)),
    binary main_v157 main_v158 main_v159 (cmpi .sge : (⟨S16x1x384, .i32⟩ : BufTy).Contents (Elt F) → (⟨S16x1x384, .i32⟩ : BufTy).Contents (Elt F) → (⟨S16x1x384, .i1⟩ : BufTy).Contents (Elt F)),
    unary main_v159 main_v160 (broadcastInDim S16x128x384 ![0, 1, 2] bcast_S16x1x384_S16x128x384_0_1_2 : (⟨S16x1x384, .i1⟩ : BufTy).Contents (Elt F) → (⟨S16x128x384, .i1⟩ : BufTy).Contents (Elt F)) ]

/-- @main's operations 217 … 218 of 295 (window `main_part2`). -/
abbrev ops_part2_2 : List (HloOp τ sig (Elt F)) :=
  [ binary main_v156 main_v160 main_v161 (andi : (⟨S16x128x384, .i1⟩ : BufTy).Contents (Elt F) → (⟨S16x128x384, .i1⟩ : BufTy).Contents (Elt F) → (⟨S16x128x384, .i1⟩ : BufTy).Contents (Elt F)),
    unary main_v148 main_v162 (broadcastInDim S16x1x384 ![0, 2] bcast_S16x384_S16x1x384_0_2 : (⟨S16x384, .i32⟩ : BufTy).Contents (Elt F) → (⟨S16x1x384, .i32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 219 … 248 of 295 (window `main_part3`). -/
abbrev ops_part3_0 : List (HloOp τ sig (Elt F)) :=
  [ nullary main_c_15 (constantI S_ 32 2048#32),
    unary main_c_15 main_v163 (broadcastInDim S16x1x384 ![] bcast_S_S16x1x384 : (⟨S_, .i32⟩ : BufTy).Contents (Elt F) → (⟨S16x1x384, .i32⟩ : BufTy).Contents (Elt F)),
    binary main_v162 main_v163 main_v164 (cmpi .slt : (⟨S16x1x384, .i32⟩ : BufTy).Contents (Elt F) → (⟨S16x1x384, .i32⟩ : BufTy).Contents (Elt F) → (⟨S16x1x384, .i1⟩ : BufTy).Contents (Elt F)),
    unary main_v164 main_v165 (broadcastInDim S16x128x384 ![0, 1, 2] bcast_S16x1x384_S16x128x384_0_1_2 : (⟨S16x1x384, .i1⟩ : BufTy).Contents (Elt F) → (⟨S16x128x384, .i1⟩ : BufTy).Contents (Elt F)),
    binary main_v161 main_v165 main_v166 (andi : (⟨S16x128x384, .i1⟩ : BufTy).Contents (Elt F) → (⟨S16x128x384, .i1⟩ : BufTy).Contents (Elt F) → (⟨S16x128x384, .i1⟩ : BufTy).Contents (Elt F)),
    reshape main_v75 main_v167 (rfl : (.f32 : EltTy) = .f32) shapeCasts_S16x2048x4x64_S16x16x128x2x2x64,
    binary main_v129 main_v167 main_v168 ((fun l r => Host.dotGeneral dot_S16x16x384x2x64_S16x16x128x2x2x64_S16x16x2x384x128x2_4_5_2_24_013_013 none l r) : (⟨S16x16x384x2x64, .f32⟩ : BufTy).Contents (Elt F) → (⟨S16x16x128x2x2x64, .f32⟩ : BufTy).Contents (Elt F) → (⟨S16x16x2x384x128x2, .f32⟩ : BufTy).Contents (Elt F)),
    unary main_v168 main_v169 ((transpose S16x16x2x2x128x384 [0, 1, 2, 5, 4, 3] · transposes_S16x16x2x384x128x2_S16x16x2x2x128x384_0_1_2_5_4_3) : (⟨S16x16x2x384x128x2, .f32⟩ : BufTy).Contents (Elt F) → (⟨S16x16x2x2x128x384, .f32⟩ : BufTy).Contents (Elt F)),
    nullary main_cst_16 (constant S_ .f32 0x3E000000#32),
    unary main_cst_16 main_v170 (broadcastInDim S16x16x2x2x128x384 ![] bcast_S_S16x16x2x2x128x384 : (⟨S_, .f32⟩ : BufTy).Contents (Elt F) → (⟨S16x16x2x2x128x384, .f32⟩ : BufTy).Contents (Elt F)),
    binary main_v169 main_v170 main_v171 (mulf : (⟨S16x16x2x2x128x384, .f32⟩ : BufTy).Contents (Elt F) → (⟨S16x16x2x2x128x384, .f32⟩ : BufTy).Contents (Elt F) → (⟨S16x16x2x2x128x384, .f32⟩ : BufTy).Contents (Elt F)),
    unary main_v166 main_v172 (broadcastInDim S1x16x1x1x128x384 ![1, 4, 5] bcast_S16x128x384_S1x16x1x1x128x384_1_4_5 : (⟨S16x128x384, .i1⟩ : BufTy).Contents (Elt F) → (⟨S1x16x1x1x128x384, .i1⟩ : BufTy).Contents (Elt F)),
    nullary main_cst_17 (constant S_ .f32 0xFF800000#32),
    TRef.unary (TRef.of (T := ⟨S_, .f32⟩) main_cst_17) (TRef.of (T := ⟨S_, .f32⟩) main_call4_v0) id,
    TRef.unary (TRef.of (T := ⟨S1x16x1x1x128x384, .i1⟩) main_v172) (TRef.of (T := ⟨S16x16x2x2x128x384, .i1⟩) main_call4_v1) (broadcastInDim S16x16x2x2x128x384 ![0, 1, 2, 3, 4, 5] bcast_S1x16x1x1x128x384_S16x16x2x2x128x384_0_1_2_3_4_5),
    TRef.unary (TRef.of (T := ⟨S_, .f32⟩) main_call4_v0) (TRef.of (T := ⟨S16x16x2x2x128x384, .f32⟩) main_call4_v2) (broadcastInDim S16x16x2x2x128x384 ![] bcast_S_S16x16x2x2x128x384),
    TRef.ternary (TRef.of (T := ⟨S16x16x2x2x128x384, .i1⟩) main_call4_v1) (TRef.of (T := ⟨S16x16x2x2x128x384, .f32⟩) main_v171) (TRef.of (T := ⟨S16x16x2x2x128x384, .f32⟩) main_call4_v2) (TRef.of (T := ⟨S16x16x2x2x128x384, .f32⟩) main_v173) select,
    binary main_v11 main_v167 main_v174 ((fun l r => Host.dotGeneral dot_S16x256x2x64_S16x16x128x2x2x64_S16x2x256x16x128x2_3_5_1_124_02_03 none l r) : (⟨S16x256x2x64, .f32⟩ : BufTy).Contents (Elt F) → (⟨S16x16x128x2x2x64, .f32⟩ : BufTy).Contents (Elt F) → (⟨S16x2x256x16x128x2, .f32⟩ : BufTy).Contents (Elt F)),
    unary main_v174 main_v175 ((transpose S16x16x2x2x128x256 [0, 3, 1, 5, 4, 2] · transposes_S16x2x256x16x128x2_S16x16x2x2x128x256_0_3_1_5_4_2) : (⟨S16x2x256x16x128x2, .f32⟩ : BufTy).Contents (Elt F) → (⟨S16x16x2x2x128x256, .f32⟩ : BufTy).Contents (Elt F)),
    nullary main_cst_18 (constant S_ .f32 0x3E000000#32),
    unary main_cst_18 main_v176 (broadcastInDim S16x16x2x2x128x256 ![] bcast_S_S16x16x2x2x128x256 : (⟨S_, .f32⟩ : BufTy).Contents (Elt F) → (⟨S16x16x2x2x128x256, .f32⟩ : BufTy).Contents (Elt F)),
    binary main_v175 main_v176 main_v177 (mulf : (⟨S16x16x2x2x128x256, .f32⟩ : BufTy).Contents (Elt F) → (⟨S16x16x2x2x128x256, .f32⟩ : BufTy).Contents (Elt F) → (⟨S16x16x2x2x128x256, .f32⟩ : BufTy).Contents (Elt F)),
    reshape main_arg1 main_v178 (rfl : (.f32 : EltTy) = .f32) shapeCasts_S4_S2x2,
    unary main_v178 main_v179 (broadcastInDim S1x1x2x2x1x1 ![2, 3] bcast_S2x2_S1x1x2x2x1x1_2_3 : (⟨S2x2, .f32⟩ : BufTy).Contents (Elt F) → (⟨S1x1x2x2x1x1, .f32⟩ : BufTy).Contents (Elt F)),
    unary main_v179 main_v180 (broadcastInDim S16x16x2x2x128x1 ![0, 1, 2, 3, 4, 5] bcast_S1x1x2x2x1x1_S16x16x2x2x128x1_0_1_2_3_4_5 : (⟨S1x1x2x2x1x1, .f32⟩ : BufTy).Contents (Elt F) → (⟨S16x16x2x2x128x1, .f32⟩ : BufTy).Contents (Elt F)),
    nary ![main_v173, main_v177, main_v180] main_v181 (fun u => fn_main_v181 (F := F) (u 0) (u 1) (u 2)),
    nullary main_cst_19 (constant S_ .f32 0xFF800000#32),
    binary main_v181 main_cst_19 main_v182 ((fun x v => Host.reduce FloatOps.maximumf x v reducesTo_S16x16x2x2x128x641_S16x16x2x2x128_d5 h_S_) : (⟨S16x16x2x2x128x641, .f32⟩ : BufTy).Contents (Elt F) → (⟨S_, .f32⟩ : BufTy).Contents (Elt F) → (⟨S16x16x2x2x128, .f32⟩ : BufTy).Contents (Elt F)),
    nullary main_cst_20 (constant S_ .f32 0xFF800000#32),
    unary main_cst_20 main_v183 (broadcastInDim S16x16x2x2x128 ![] bcast_S_S16x16x2x2x128 : (⟨S_, .f32⟩ : BufTy).Contents (Elt F) → (⟨S16x16x2x2x128, .f32⟩ : BufTy).Contents (Elt F)) ]

/-- @main's operations 249 … 278 of 295 (window `main_part3`). -/
abbrev ops_part3_1 : List (HloOp τ sig (Elt F)) :=
  [ binary main_v183 main_v182 main_v184 (maximumf : (⟨S16x16x2x2x128, .f32⟩ : BufTy).Contents (Elt F) → (⟨S16x16x2x2x128, .f32⟩ : BufTy).Contents (Elt F) → (⟨S16x16x2x2x128, .f32⟩ : BufTy).Contents (Elt F)),
    unary main_v184 main_v185 (broadcastInDim S16x16x2x2x128x1 ![0, 1, 2, 3, 4] bcast_S16x16x2x2x128_S16x16x2x2x128x1_0_1_2_3_4 : (⟨S16x16x2x2x128, .f32⟩ : BufTy).Contents (Elt F) → (⟨S16x16x2x2x128x1, .f32⟩ : BufTy).Contents (Elt F)),
    unary main_v185 main_v186 (broadcastInDim S16x16x2x2x128x641 ![0, 1, 2, 3, 4, 5] bcast_S16x16x2x2x128x1_S16x16x2x2x128x641_0_1_2_3_4_5 : (⟨S16x16x2x2x128x1, .f32⟩ : BufTy).Contents (Elt F) → (⟨S16x16x2x2x128x641, .f32⟩ : BufTy).Contents (Elt F)),
    binary main_v181 main_v186 main_v187 (subf : (⟨S16x16x2x2x128x641, .f32⟩ : BufTy).Contents (Elt F) → (⟨S16x16x2x2x128x641, .f32⟩ : BufTy).Contents (Elt F) → (⟨S16x16x2x2x128x641, .f32⟩ : BufTy).Contents (Elt F)),
    unary main_v187 main_v188 (Host.exp : (⟨S16x16x2x2x128x641, .f32⟩ : BufTy).Contents (Elt F) → (⟨S16x16x2x2x128x641, .f32⟩ : BufTy).Contents (Elt F)),
    nullary main_cst_21 (constant S_ .f32 0x00000000#32),
    binary main_v188 main_cst_21 main_v189 ((fun x v => Host.reduceAdd x v reducesTo_S16x16x2x2x128x641_S16x16x2x2x128_d5 h_S_) : (⟨S16x16x2x2x128x641, .f32⟩ : BufTy).Contents (Elt F) → (⟨S_, .f32⟩ : BufTy).Contents (Elt F) → (⟨S16x16x2x2x128, .f32⟩ : BufTy).Contents (Elt F)),
    unary main_v189 main_v190 (broadcastInDim S16x16x2x2x128x1 ![0, 1, 2, 3, 4] bcast_S16x16x2x2x128_S16x16x2x2x128x1_0_1_2_3_4 : (⟨S16x16x2x2x128, .f32⟩ : BufTy).Contents (Elt F) → (⟨S16x16x2x2x128x1, .f32⟩ : BufTy).Contents (Elt F)),
    unary main_v190 main_v191 (broadcastInDim S16x16x2x2x128x641 ![0, 1, 2, 3, 4, 5] bcast_S16x16x2x2x128x1_S16x16x2x2x128x641_0_1_2_3_4_5 : (⟨S16x16x2x2x128x1, .f32⟩ : BufTy).Contents (Elt F) → (⟨S16x16x2x2x128x641, .f32⟩ : BufTy).Contents (Elt F)),
    binary main_v188 main_v191 main_v192 (Host.divf : (⟨S16x16x2x2x128x641, .f32⟩ : BufTy).Contents (Elt F) → (⟨S16x16x2x2x128x641, .f32⟩ : BufTy).Contents (Elt F) → (⟨S16x16x2x2x128x641, .f32⟩ : BufTy).Contents (Elt F)),
    unary main_v192 main_v193 ((extractStridedSlice S16x16x2x2x128x384 ![0, 0, 0, 0, 0, 0] · slices_S16x16x2x2x128x641_S16x16x2x2x128x384_0_0_0_0_0_0) : (⟨S16x16x2x2x128x641, .f32⟩ : BufTy).Contents (Elt F) → (⟨S16x16x2x2x128x384, .f32⟩ : BufTy).Contents (Elt F)),
    unary main_v192 main_v194 ((extractStridedSlice S16x16x2x2x128x256 ![0, 0, 0, 0, 0, 384] · slices_S16x16x2x2x128x641_S16x16x2x2x128x256_0_0_0_0_0_384) : (⟨S16x16x2x2x128x641, .f32⟩ : BufTy).Contents (Elt F) → (⟨S16x16x2x2x128x256, .f32⟩ : BufTy).Contents (Elt F)),
    binary main_v137 main_v193 main_v195 ((fun l r => Host.dotGeneral dot_S16x16x384x2x64_S16x16x2x2x128x384_S16x16x2x64x2x128_2_5_4_34_013_012 none l r) : (⟨S16x16x384x2x64, .f32⟩ : BufTy).Contents (Elt F) → (⟨S16x16x2x2x128x384, .f32⟩ : BufTy).Contents (Elt F) → (⟨S16x16x2x64x2x128, .f32⟩ : BufTy).Contents (Elt F)),
    unary main_v195 main_v196 ((transpose S16x16x128x2x2x64 [0, 1, 5, 2, 4, 3] · transposes_S16x16x2x64x2x128_S16x16x128x2x2x64_0_1_5_2_4_3) : (⟨S16x16x2x64x2x128, .f32⟩ : BufTy).Contents (Elt F) → (⟨S16x16x128x2x2x64, .f32⟩ : BufTy).Contents (Elt F)),
    binary main_v13 main_v194 main_v197 ((fun l r => Host.dotGeneral dot_S16x256x2x64_S16x16x2x2x128x256_S16x2x64x16x2x128_1_5_3_134_02_02 none l r) : (⟨S16x256x2x64, .f32⟩ : BufTy).Contents (Elt F) → (⟨S16x16x2x2x128x256, .f32⟩ : BufTy).Contents (Elt F) → (⟨S16x2x64x16x2x128, .f32⟩ : BufTy).Contents (Elt F)),
    unary main_v197 main_v198 ((transpose S16x16x128x2x2x64 [0, 3, 5, 1, 4, 2] · transposes_S16x2x64x16x2x128_S16x16x128x2x2x64_0_3_5_1_4_2) : (⟨S16x2x64x16x2x128, .f32⟩ : BufTy).Contents (Elt F) → (⟨S16x16x128x2x2x64, .f32⟩ : BufTy).Contents (Elt F)),
    binary main_v196 main_v198 main_v199 (addf : (⟨S16x16x128x2x2x64, .f32⟩ : BufTy).Contents (Elt F) → (⟨S16x16x128x2x2x64, .f32⟩ : BufTy).Contents (Elt F) → (⟨S16x16x128x2x2x64, .f32⟩ : BufTy).Contents (Elt F)),
    reshape main_v199 main_v200 (rfl : (.f32 : EltTy) = .f32) shapeCasts_S16x16x128x2x2x64_S16x2048x256,
    reshape main_v9 main_v201 (rfl : (.f32 : EltTy) = .f32) shapeCasts_S16x256x4x64_S16x256x2x2x64,
    binary main_v11 main_v201 main_v202 ((fun l r => Host.dotGeneral dot_S16x256x2x64_S16x256x2x2x64_S16x2x256x256x2_3_4_1_13_02_02 none l r) : (⟨S16x256x2x64, .f32⟩ : BufTy).Contents (Elt F) → (⟨S16x256x2x2x64, .f32⟩ : BufTy).Contents (Elt F) → (⟨S16x2x256x256x2, .f32⟩ : BufTy).Contents (Elt F)),
    unary main_v202 main_v203 ((transpose S16x2x2x256x256 [0, 1, 4, 3, 2] · transposes_S16x2x256x256x2_S16x2x2x256x256_0_1_4_3_2) : (⟨S16x2x256x256x2, .f32⟩ : BufTy).Contents (Elt F) → (⟨S16x2x2x256x256, .f32⟩ : BufTy).Contents (Elt F)),
    nullary main_cst_22 (constant S_ .f32 0x3E000000#32),
    unary main_cst_22 main_v204 (broadcastInDim S16x2x2x256x256 ![] bcast_S_S16x2x2x256x256 : (⟨S_, .f32⟩ : BufTy).Contents (Elt F) → (⟨S16x2x2x256x256, .f32⟩ : BufTy).Contents (Elt F)),
    binary main_v203 main_v204 main_v205 (mulf : (⟨S16x2x2x256x256, .f32⟩ : BufTy).Contents (Elt F) → (⟨S16x2x2x256x256, .f32⟩ : BufTy).Contents (Elt F) → (⟨S16x2x2x256x256, .f32⟩ : BufTy).Contents (Elt F)),
    reshape main_arg1 main_v206 (rfl : (.f32 : EltTy) = .f32) shapeCasts_S4_S2x2,
    unary main_v206 main_v207 (broadcastInDim S1x2x2x1x1 ![1, 2] bcast_S2x2_S1x2x2x1x1_1_2 : (⟨S2x2, .f32⟩ : BufTy).Contents (Elt F) → (⟨S1x2x2x1x1, .f32⟩ : BufTy).Contents (Elt F)),
    unary main_v207 main_v208 (broadcastInDim S16x2x2x256x1 ![0, 1, 2, 3, 4] bcast_S1x2x2x1x1_S16x2x2x256x1_0_1_2_3_4 : (⟨S1x2x2x1x1, .f32⟩ : BufTy).Contents (Elt F) → (⟨S16x2x2x256x1, .f32⟩ : BufTy).Contents (Elt F)),
    binary main_v205 main_v208 main_v209 (fn_main_v209 (F := F)),
    nullary main_cst_23 (constant S_ .f32 0xFF800000#32),
    binary main_v209 main_cst_23 main_v210 ((fun x v => Host.reduce FloatOps.maximumf x v reducesTo_S16x2x2x256x257_S16x2x2x256_d4 h_S_) : (⟨S16x2x2x256x257, .f32⟩ : BufTy).Contents (Elt F) → (⟨S_, .f32⟩ : BufTy).Contents (Elt F) → (⟨S16x2x2x256, .f32⟩ : BufTy).Contents (Elt F)) ]

/-- @main's operations 279 … 281 of 295 (window `main_part3`). -/
abbrev ops_part3_2 : List (HloOp τ sig (Elt F)) :=
  [ nullary main_cst_24 (constant S_ .f32 0xFF800000#32),
    unary main_cst_24 main_v211 (broadcastInDim S16x2x2x256 ![] bcast_S_S16x2x2x256 : (⟨S_, .f32⟩ : BufTy).Contents (Elt F) → (⟨S16x2x2x256, .f32⟩ : BufTy).Contents (Elt F)),
    binary main_v211 main_v210 main_v212 (maximumf : (⟨S16x2x2x256, .f32⟩ : BufTy).Contents (Elt F) → (⟨S16x2x2x256, .f32⟩ : BufTy).Contents (Elt F) → (⟨S16x2x2x256, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 282 … 295 of 295 (window `main_part4`). -/
abbrev ops_part4 : List (HloOp τ sig (Elt F)) :=
  [ unary main_v212 main_v213 (broadcastInDim S16x2x2x256x1 ![0, 1, 2, 3] bcast_S16x2x2x256_S16x2x2x256x1_0_1_2_3 : (⟨S16x2x2x256, .f32⟩ : BufTy).Contents (Elt F) → (⟨S16x2x2x256x1, .f32⟩ : BufTy).Contents (Elt F)),
    unary main_v213 main_v214 (broadcastInDim S16x2x2x256x257 ![0, 1, 2, 3, 4] bcast_S16x2x2x256x1_S16x2x2x256x257_0_1_2_3_4 : (⟨S16x2x2x256x1, .f32⟩ : BufTy).Contents (Elt F) → (⟨S16x2x2x256x257, .f32⟩ : BufTy).Contents (Elt F)),
    binary main_v209 main_v214 main_v215 (subf : (⟨S16x2x2x256x257, .f32⟩ : BufTy).Contents (Elt F) → (⟨S16x2x2x256x257, .f32⟩ : BufTy).Contents (Elt F) → (⟨S16x2x2x256x257, .f32⟩ : BufTy).Contents (Elt F)),
    unary main_v215 main_v216 (Host.exp : (⟨S16x2x2x256x257, .f32⟩ : BufTy).Contents (Elt F) → (⟨S16x2x2x256x257, .f32⟩ : BufTy).Contents (Elt F)),
    nullary main_cst_25 (constant S_ .f32 0x00000000#32),
    binary main_v216 main_cst_25 main_v217 ((fun x v => Host.reduceAdd x v reducesTo_S16x2x2x256x257_S16x2x2x256_d4 h_S_) : (⟨S16x2x2x256x257, .f32⟩ : BufTy).Contents (Elt F) → (⟨S_, .f32⟩ : BufTy).Contents (Elt F) → (⟨S16x2x2x256, .f32⟩ : BufTy).Contents (Elt F)),
    unary main_v217 main_v218 (broadcastInDim S16x2x2x256x1 ![0, 1, 2, 3] bcast_S16x2x2x256_S16x2x2x256x1_0_1_2_3 : (⟨S16x2x2x256, .f32⟩ : BufTy).Contents (Elt F) → (⟨S16x2x2x256x1, .f32⟩ : BufTy).Contents (Elt F)),
    unary main_v218 main_v219 (broadcastInDim S16x2x2x256x257 ![0, 1, 2, 3, 4] bcast_S16x2x2x256x1_S16x2x2x256x257_0_1_2_3_4 : (⟨S16x2x2x256x1, .f32⟩ : BufTy).Contents (Elt F) → (⟨S16x2x2x256x257, .f32⟩ : BufTy).Contents (Elt F)),
    binary main_v216 main_v219 main_v220 (Host.divf : (⟨S16x2x2x256x257, .f32⟩ : BufTy).Contents (Elt F) → (⟨S16x2x2x256x257, .f32⟩ : BufTy).Contents (Elt F) → (⟨S16x2x2x256x257, .f32⟩ : BufTy).Contents (Elt F)),
    unary main_v220 main_v221 ((extractStridedSlice S16x2x2x256x256 ![0, 0, 0, 0, 0] · slices_S16x2x2x256x257_S16x2x2x256x256_0_0_0_0_0) : (⟨S16x2x2x256x257, .f32⟩ : BufTy).Contents (Elt F) → (⟨S16x2x2x256x256, .f32⟩ : BufTy).Contents (Elt F)),
    binary main_v13 main_v221 main_v222 ((fun l r => Host.dotGeneral dot_S16x256x2x64_S16x2x2x256x256_S16x2x64x2x256_1_4_3_23_02_01 none l r) : (⟨S16x256x2x64, .f32⟩ : BufTy).Contents (Elt F) → (⟨S16x2x2x256x256, .f32⟩ : BufTy).Contents (Elt F) → (⟨S16x2x64x2x256, .f32⟩ : BufTy).Contents (Elt F)),
    unary main_v222 main_v223 ((transpose S16x256x2x2x64 [0, 4, 1, 3, 2] · transposes_S16x2x64x2x256_S16x256x2x2x64_0_4_1_3_2) : (⟨S16x2x64x2x256, .f32⟩ : BufTy).Contents (Elt F) → (⟨S16x256x2x2x64, .f32⟩ : BufTy).Contents (Elt F)),
    reshape main_v223 main_v224 (rfl : (.f32 : EltTy) = .f32) shapeCasts_S16x256x2x2x64_S16x256x256,
    binary main_v224 main_v200 main_v225 (fn_main_v225 (F := F)) ]

/-- @main's 295 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., unary_bufs_sub .., binary_bufs_sub .., binary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨ternary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., unary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_0_sub : (ops_part3_0 : List (HloOp τ sig (Elt F))).Forall fun op => op.bufs ⊆ tcRefs τ sig :=
  ⟨nullary_bufs_sub .., unary_bufs_sub .., binary_bufs_sub .., unary_bufs_sub .., binary_bufs_sub .., reshape_bufs_sub .., binary_bufs_sub .., unary_bufs_sub .., nullary_bufs_sub .., unary_bufs_sub .., binary_bufs_sub .., unary_bufs_sub .., nullary_bufs_sub .., unary_bufs_sub .., unary_bufs_sub .., unary_bufs_sub .., ternary_bufs_sub .., binary_bufs_sub .., unary_bufs_sub .., nullary_bufs_sub .., unary_bufs_sub .., binary_bufs_sub .., reshape_bufs_sub .., unary_bufs_sub .., unary_bufs_sub .., nary_bufs_sub .., nullary_bufs_sub .., binary_bufs_sub .., nullary_bufs_sub .., unary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., binary_bufs_sub .., unary_bufs_sub .., binary_bufs_sub .., reshape_bufs_sub .., reshape_bufs_sub .., binary_bufs_sub .., unary_bufs_sub .., nullary_bufs_sub .., unary_bufs_sub .., binary_bufs_sub .., reshape_bufs_sub .., unary_bufs_sub .., unary_bufs_sub .., binary_bufs_sub .., nullary_bufs_sub .., binary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨nullary_bufs_sub .., unary_bufs_sub .., binary_bufs_sub ..⟩
set_option maxRecDepth 8192 in
theorem ops_part3_2_fresh : (ops_part3_2 : List (HloOp τ sig (Elt F))).Forall fun op => op.fresh = ∅ :=
  ⟨rfl, rfl, rfl⟩
set_option maxRecDepth 8192 in
theorem ops_part4_sub : (ops_part4 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., reshape_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part2, ops_part3, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part2, ops_part3, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.ReferenceIdeal.Value

end
-- ==== Proof.Ref2.lean ====
module

public import proofs.«01_k».proof.Proof.Ref1
public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v0`'s composed term of the arguments (named: it is used 3 times). -/
def res_main_v0 (V0 : Valuation τ sig (Elt F)) : (⟨S16x2048x3328, .f32⟩ : BufTy).Contents (Elt F) :=
  extractStridedSlice S16x2048x3328 ![0, 256, 0] (V0 (Proc.devRef .tc main_arg0)) slices_S16x2304x3328_S16x2048x3328_0_256_0

set_option maxRecDepth 8192 in
/-- `main_v1`'s composed term of the arguments (named: it is used 3 times). -/
def res_main_v1 (V0 : Valuation τ sig (Elt F)) : (⟨S16x256x3328, .f32⟩ : BufTy).Contents (Elt F) :=
  extractStridedSlice S16x256x3328 ![0, 0, 0] (V0 (Proc.devRef .tc main_arg0)) slices_S16x2304x3328_S16x256x3328_0_0_0

set_option maxRecDepth 8192 in
/-- `main_v3`'s composed term of the arguments (named: it is used 2 times). -/
def res_main_v3 (V0 : Valuation τ sig (Elt F)) : (⟨S16x2048x4x64, .f32⟩ : BufTy).Contents (Elt F) :=
  shapeCast _ (extractStridedSlice S16x2048x256 ![0, 0, 0] (res_main_v0 V0) slices_S16x2048x3328_S16x2048x256_0_0_0) shapeCasts_S16x2048x256_S16x2048x4x64

set_option maxRecDepth 8192 in
/-- `main_v5`'s composed term of the arguments (named: it is used 2 times). -/
def res_main_v5 (V0 : Valuation τ sig (Elt F)) : (⟨S16x2048x2x64, .f32⟩ : BufTy).Contents (Elt F) :=
  shapeCast _ (extractStridedSlice S16x2048x128 ![0, 0, 256] (res_main_v0 V0) slices_S16x2048x3328_S16x2048x128_0_0_256) shapeCasts_S16x2048x128_S16x2048x2x64

set_option maxRecDepth 8192 in
/-- `main_v11`'s composed term of the arguments (named: it is used 2 times). -/
def res_main_v11 (V0 : Valuation τ sig (Elt F)) : (⟨S16x256x2x64, .f32⟩ : BufTy).Contents (Elt F) :=
  shapeCast _ (extractStridedSlice S16x256x128 ![0, 0, 256] (res_main_v1 V0) slices_S16x256x3328_S16x256x128_0_0_256) shapeCasts_S16x256x128_S16x256x2x64

set_option maxRecDepth 8192 in
/-- `main_v13`'s composed term of the arguments (named: it is used 2 times). -/
def res_main_v13 (V0 : Valuation τ sig (Elt F)) : (⟨S16x256x2x64, .f32⟩ : BufTy).Contents (Elt F) :=
  shapeCast _ (extractStridedSlice S16x256x128 ![0, 0, 384] (res_main_v1 V0) slices_S16x256x3328_S16x256x128_0_0_384) shapeCasts_S16x256x128_S16x256x2x64

set_option maxRecDepth 8192 in
/-- `main_v14`'s composed term of the arguments (named: it is used 4 times). -/
def res_main_v14 (V0 : Valuation τ sig (Elt F)) : (⟨S2048, .i32⟩ : BufTy).Contents (Elt F) :=
  iotaInDim S2048 32 0

set_option maxRecDepth 8192 in
/-- `main_v24`'s composed term of the arguments (named: it is used 2 times). -/
def res_main_v24 (V0 : Valuation τ sig (Elt F)) : (⟨S16, .f32⟩ : BufTy).Contents (Elt F) :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

set_option maxRecDepth 8192 in
/-- `main_call0_v0`'s composed term of the arguments (named: it is used 3 times). -/
def res_main_call0_v0 (V0 : Valuation τ sig (Elt F)) : (⟨S_, .i32⟩ : BufTy).Contents (Elt F) :=
  id (constantI S_ 32 64#32)

set_option maxRecDepth 8192 in
/-- `main_call0_v2`'s composed term of the arguments (named: it is used 2 times). -/
def res_main_call0_v2 (V0 : Valuation τ sig (Elt F)) : (⟨S2048, .i32⟩ : BufTy).Contents (Elt F) :=
  Host.divsi (res_main_v14 V0) (broadcastInDim S2048 ![] bcast_S_S2048 (res_main_call0_v0 V0))

set_option maxRecDepth 8192 in
/-- `main_v31`'s composed term of the arguments (named: it is used 4 times). -/
def res_main_v31 (V0 : Valuation τ sig (Elt F)) : (⟨S2048x16, .f32⟩ : BufTy).Contents (Elt F) :=
  mulf (broadcastInDim S2048x16 ![0, 1] bcast_S2048x1_S2048x16_0_1 (broadcastInDim S2048x1 ![0] bcast_S2048_S2048x1_0 (sitofp .f32 (select (andi (cmpi .ne (signi (res_main_v14 V0)) (broadcastInDim S2048 ![] bcast_S_S2048 (signi (res_main_call0_v0 V0)))) (cmpi .ne (Host.remsi (res_main_v14 V0) (broadcastInDim S2048 ![] bcast_S_S2048 (res_main_call0_v0 V0))) (broadcastInDim S2048 ![] bcast_S_S2048 (constantI S_ 32 0#32)))) (subi (res_main_call0_v2 V0) (broadcastInDim S2048 ![] bcast_S_S2048 (constantI S_ 32 1#32))) (res_main_call0_v2 V0))))) (broadcastInDim S2048x16 ![0, 1] bcast_S1x16_S2048x16_0_1 (broadcastInDim S1x16 ![1] bcast_S16_S1x16_1 (res_main_v24 V0)))

set_option maxRecDepth 8192 in
/-- `main_call1_v0`'s composed term of the arguments (named: it is used 2 times). -/
def res_main_call1_v0 (V0 : Valuation τ sig (Elt F)) : (⟨S_, .i32⟩ : BufTy).Contents (Elt F) :=
  id (constantI S_ 32 64#32)

set_option maxRecDepth 8192 in
/-- `main_call1_v2`'s composed term of the arguments (named: it is used 3 times). -/
def res_main_call1_v2 (V0 : Valuation τ sig (Elt F)) : (⟨S_, .i32⟩ : BufTy).Contents (Elt F) :=
  select (cmpi .eq (res_main_call1_v0 V0) (constantI S_ 32 0#32)) (constantI S_ 32 1#32) (res_main_call1_v0 V0)

set_option maxRecDepth 8192 in
/-- `main_call1_v4`'s composed term of the arguments (named: it is used 4 times). -/
def res_main_call1_v4 (V0 : Valuation τ sig (Elt F)) : (⟨S2048, .i32⟩ : BufTy).Contents (Elt F) :=
  Host.remsi (res_main_v14 V0) (broadcastInDim S2048 ![] bcast_S_S2048 (res_main_call1_v2 V0))

set_option maxRecDepth 8192 in
/-- `main_v38`'s composed term of the arguments (named: it is used 4 times). -/
def res_main_v38 (V0 : Valuation τ sig (Elt F)) : (⟨S2048x16, .f32⟩ : BufTy).Contents (Elt F) :=
  mulf (broadcastInDim S2048x16 ![0, 1] bcast_S2048x1_S2048x16_0_1 (broadcastInDim S2048x1 ![0] bcast_S2048_S2048x1_0 (sitofp .f32 (select (andi (cmpi .ne (cmpi .slt (res_main_call1_v4 V0) (broadcastInDim S2048 ![] bcast_S_S2048 (constantI S_ 32 0#32))) (broadcastInDim S2048 ![] bcast_S_S2048 (cmpi .slt (res_main_call1_v2 V0) (constantI S_ 32 0#32)))) (cmpi .ne (res_main_call1_v4 V0) (broadcastInDim S2048 ![] bcast_S_S2048 (constantI S_ 32 0#32)))) (addi (res_main_call1_v4 V0) (broadcastInDim S2048 ![] bcast_S_S2048 (res_main_call1_v2 V0))) (res_main_call1_v4 V0))))) (broadcastInDim S2048x16 ![0, 1] bcast_S1x16_S2048x16_0_1 (broadcastInDim S1x16 ![1] bcast_S16_S1x16_1 (res_main_v24 V0)))

set_option maxRecDepth 8192 in
/-- `main_v39`'s composed term of the arguments (named: it is used 2 times). -/
def res_main_v39 (V0 : Valuation τ sig (Elt F)) : (⟨S16x2048x4x32, .f32⟩ : BufTy).Contents (Elt F) :=
  extractStridedSlice S16x2048x4x32 ![0, 0, 0, 0] (res_main_v3 V0) slices_S16x2048x4x64_S16x2048x4x32_0_0_0_0

set_option maxRecDepth 8192 in
/-- `main_v40`'s composed term of the arguments (named: it is used 2 times). -/
def res_main_v40 (V0 : Valuation τ sig (Elt F)) : (⟨S16x2048x4x32, .f32⟩ : BufTy).Contents (Elt F) :=
  extractStridedSlice S16x2048x4x32 ![0, 0, 0, 32] (res_main_v3 V0) slices_S16x2048x4x64_S16x2048x4x32_0_0_0_32

set_option maxRecDepth 8192 in
/-- `main_v41`'s composed term of the arguments (named: it is used 2 times). -/
def res_main_v41 (V0 : Valuation τ sig (Elt F)) : (⟨S16x2048x4x16, .f32⟩ : BufTy).Contents (Elt F) :=
  extractStridedSlice S16x2048x4x16 ![0, 0, 0, 0] (res_main_v39 V0) slices_S16x2048x4x32_S16x2048x4x16_0_0_0_0

set_option maxRecDepth 8192 in
/-- `main_v42`'s composed term of the arguments (named: it is used 2 times). -/
def res_main_v42 (V0 : Valuation τ sig (Elt F)) : (⟨S16x2048x4x16, .f32⟩ : BufTy).Contents (Elt F) :=
  extractStridedSlice S16x2048x4x16 ![0, 0, 0, 16] (res_main_v39 V0) slices_S16x2048x4x32_S16x2048x4x16_0_0_0_16

set_option maxRecDepth 8192 in
/-- `main_v44`'s composed term of the arguments (named: it is used 2 times). -/
def res_main_v44 (V0 : Valuation τ sig (Elt F)) : (⟨S1x2048x1x16, .f32⟩ : BufTy).Contents (Elt F) :=
  broadcastInDim S1x2048x1x16 ![1, 3] bcast_S2048x16_S1x2048x1x16_1_3 (Host.cos (res_main_v31 V0))

set_option maxRecDepth 8192 in
/-- `main_v46`'s composed term of the arguments (named: it is used 2 times). -/
def res_main_v46 (V0 : Valuation τ sig (Elt F)) : (⟨S1x2048x1x16, .f32⟩ : BufTy).Contents (Elt F) :=
  broadcastInDim S1x2048x1x16 ![1, 3] bcast_S2048x16_S1x2048x1x16_1_3 (Host.sin (res_main_v31 V0))

set_option maxRecDepth 8192 in
/-- `main_v58`'s composed term of the arguments (named: it is used 2 times). -/
def res_main_v58 (V0 : Valuation τ sig (Elt F)) : (⟨S16x2048x4x16, .f32⟩ : BufTy).Contents (Elt F) :=
  extractStridedSlice S16x2048x4x16 ![0, 0, 0, 0] (res_main_v40 V0) slices_S16x2048x4x32_S16x2048x4x16_0_0_0_0

set_option maxRecDepth 8192 in
/-- `main_v59`'s composed term of the arguments (named: it is used 2 times). -/
def res_main_v59 (V0 : Valuation τ sig (Elt F)) : (⟨S16x2048x4x16, .f32⟩ : BufTy).Contents (Elt F) :=
  extractStridedSlice S16x2048x4x16 ![0, 0, 0, 16] (res_main_v40 V0) slices_S16x2048x4x32_S16x2048x4x16_0_0_0_16

set_option maxRecDepth 8192 in
/-- `main_v61`'s composed term of the arguments (named: it is used 2 times). -/
def res_main_v61 (V0 : Valuation τ sig (Elt F)) : (⟨S1x2048x1x16, .f32⟩ : BufTy).Contents (Elt F) :=
  broadcastInDim S1x2048x1x16 ![1, 3] bcast_S2048x16_S1x2048x1x16_1_3 (Host.cos (res_main_v38 V0))

set_option maxRecDepth 8192 in
/-- `main_v63`'s composed term of the arguments (named: it is used 2 times). -/
def res_main_v63 (V0 : Valuation τ sig (Elt F)) : (⟨S1x2048x1x16, .f32⟩ : BufTy).Contents (Elt F) :=
  broadcastInDim S1x2048x1x16 ![1, 3] bcast_S2048x16_S1x2048x1x16_1_3 (Host.sin (res_main_v38 V0))

set_option maxRecDepth 8192 in
/-- `main_v76`'s composed term of the arguments (named: it is used 2 times). -/
def res_main_v76 (V0 : Valuation τ sig (Elt F)) : (⟨S16x2048x2x32, .f32⟩ : BufTy).Contents (Elt F) :=
  extractStridedSlice S16x2048x2x32 ![0, 0, 0, 0] (res_main_v5 V0) slices_S16x2048x2x64_S16x2048x2x32_0_0_0_0

set_option maxRecDepth 8192 in
/-- `main_v77`'s composed term of the arguments (named: it is used 2 times). -/
def res_main_v77 (V0 : Valuation τ sig (Elt F)) : (⟨S16x2048x2x32, .f32⟩ : BufTy).Contents (Elt F) :=
  extractStridedSlice S16x2048x2x32 ![0, 0, 0, 32] (res_main_v5 V0) slices_S16x2048x2x64_S16x2048x2x32_0_0_0_32

set_option maxRecDepth 8192 in
/-- `main_v78`'s composed term of the arguments (named: it is used 2 times). -/
def res_main_v78 (V0 : Valuation τ sig (Elt F)) : (⟨S16x2048x2x16, .f32⟩ : BufTy).Contents (Elt F) :=
  extractStridedSlice S16x2048x2x16 ![0, 0, 0, 0] (res_main_v76 V0) slices_S16x2048x2x32_S16x2048x2x16_0_0_0_0

set_option maxRecDepth 8192 in
/-- `main_v79`'s composed term of the arguments (named: it is used 2 times). -/
def res_main_v79 (V0 : Valuation τ sig (Elt F)) : (⟨S16x2048x2x16, .f32⟩ : BufTy).Contents (Elt F) :=
  extractStridedSlice S16x2048x2x16 ![0, 0, 0, 16] (res_main_v76 V0) slices_S16x2048x2x32_S16x2048x2x16_0_0_0_16

set_option maxRecDepth 8192 in
/-- `main_v81`'s composed term of the arguments (named: it is used 2 times). -/
def res_main_v81 (V0 : Valuation τ sig (Elt F)) : (⟨S1x2048x1x16, .f32⟩ : BufTy).Contents (Elt F) :=
  broadcastInDim S1x2048x1x16 ![1, 3] bcast_S2048x16_S1x2048x1x16_1_3 (Host.cos (res_main_v31 V0))

set_option maxRecDepth 8192 in
/-- `main_v83`'s composed term of the arguments (named: it is used 2 times). -/
def res_main_v83 (V0 : Valuation τ sig (Elt F)) : (⟨S1x2048x1x16, .f32⟩ : BufTy).Contents (Elt F) :=
  broadcastInDim S1x2048x1x16 ![1, 3] bcast_S2048x16_S1x2048x1x16_1_3 (Host.sin (res_main_v31 V0))

set_option maxRecDepth 8192 in
/-- `main_v95`'s composed term of the arguments (named: it is used 2 times). -/
def res_main_v95 (V0 : Valuation τ sig (Elt F)) : (⟨S16x2048x2x16, .f32⟩ : BufTy).Contents (Elt F) :=
  extractStridedSlice S16x2048x2x16 ![0, 0, 0, 0] (res_main_v77 V0) slices_S16x2048x2x32_S16x2048x2x16_0_0_0_0

set_option maxRecDepth 8192 in
/-- `main_v96`'s composed term of the arguments (named: it is used 2 times). -/
def res_main_v96 (V0 : Valuation τ sig (Elt F)) : (⟨S16x2048x2x16, .f32⟩ : BufTy).Contents (Elt F) :=
  extractStridedSlice S16x2048x2x16 ![0, 0, 0, 16] (res_main_v77 V0) slices_S16x2048x2x32_S16x2048x2x16_0_0_0_16

set_option maxRecDepth 8192 in
/-- `main_v98`'s composed term of the arguments (named: it is used 2 times). -/
def res_main_v98 (V0 : Valuation τ sig (Elt F)) : (⟨S1x2048x1x16, .f32⟩ : BufTy).Contents (Elt F) :=
  broadcastInDim S1x2048x1x16 ![1, 3] bcast_S2048x16_S1x2048x1x16_1_3 (Host.cos (res_main_v38 V0))

set_option maxRecDepth 8192 in
/-- `main_v100`'s composed term of the arguments (named: it is used 2 times). -/
def res_main_v100 (V0 : Valuation τ sig (Elt F)) : (⟨S1x2048x1x16, .f32⟩ : BufTy).Contents (Elt F) :=
  broadcastInDim S1x2048x1x16 ![1, 3] bcast_S2048x16_S1x2048x1x16_1_3 (Host.sin (res_main_v38 V0))

set_option maxRecDepth 8192 in
/-- `main_v121`'s composed term of the arguments (named: it is used 7 times). -/
def res_main_v121 (V0 : Valuation τ sig (Elt F)) : (⟨S16x384, .i32⟩ : BufTy).Contents (Elt F) :=
  addi (broadcastInDim S16x384 ![0, 1] bcast_S16x1_S16x384_0_1 (muli (broadcastInDim S16x1 ![0] bcast_S16_S16x1_0 (iotaInDim S16 32 0)) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))

set_option maxRecDepth 8192 in
/-- `main_v148`'s composed term of the arguments (named: it is used 3 times). -/
def res_main_v148 (V0 : Valuation τ sig (Elt F)) : (⟨S16x384, .i32⟩ : BufTy).Contents (Elt F) :=
  subi (res_main_v121 V0) (broadcastInDim S16x384 ![] bcast_S_S16x384 (constantI S_ 32 128#32))

set_option maxRecDepth 8192 in
/-- `main_v167`'s composed term of the arguments (named: it is used 2 times). -/
def res_main_v167 (V0 : Valuation τ sig (Elt F)) : (⟨S16x16x128x2x2x64, .f32⟩ : BufTy).Contents (Elt F) :=
  shapeCast _ (concatenate S16x2048x4x64 3 [⟨S16x2048x4x32, (concatenate S16x2048x4x32 3 [⟨S16x2048x4x16, (subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))))⟩, ⟨S16x2048x4x16, (addf (mulf (res_main_v41 V0) (broadcastInDim S16x2048x4x16 ![0, 1, 2, 3] bcast_S1x2048x1x16_S16x2048x4x16_0_1_2_3 (res_main_v46 V0))) (mulf (res_main_v42 V0) (broadcastInDim S16x2048x4x16 ![0, 1, 2, 3] bcast_S1x2048x1x16_S16x2048x4x16_0_1_2_3 (res_main_v44 V0))))⟩] concatenates_S16x2048x4x16_S16x2048x4x16_S16x2048x4x32_d3)⟩, ⟨S16x2048x4x32, (concatenate S16x2048x4x32 3 [⟨S16x2048x4x16, (subf (mulf (res_main_v58 V0) (broadcastInDim S16x2048x4x16 ![0, 1, 2, 3] bcast_S1x2048x1x16_S16x2048x4x16_0_1_2_3 (res_main_v61 V0))) (mulf (res_main_v59 V0) (broadcastInDim S16x2048x4x16 ![0, 1, 2, 3] bcast_S1x2048x1x16_S16x2048x4x16_0_1_2_3 (res_main_v63 V0))))⟩, ⟨S16x2048x4x16, (addf (mulf (res_main_v58 V0) (broadcastInDim S16x2048x4x16 ![0, 1, 2, 3] bcast_S1x2048x1x16_S16x2048x4x16_0_1_2_3 (res_main_v63 V0))) (mulf (res_main_v59 V0) (broadcastInDim S16x2048x4x16 ![0, 1, 2, 3] bcast_S1x2048x1x16_S16x2048x4x16_0_1_2_3 (res_main_v61 V0))))⟩] concatenates_S16x2048x4x16_S16x2048x4x16_S16x2048x4x32_d3)⟩] concatenates_S16x2048x4x32_S16x2048x4x32_S16x2048x4x64_d3) shapeCasts_S16x2048x4x64_S16x16x128x2x2x64

set_option maxRecDepth 8192 in
/-- `main_v181`'s composed term of the arguments (named: it is used 2 times). -/
def res_main_v181 (V0 : Valuation τ sig (Elt F)) : (⟨S16x16x2x2x128x641, .f32⟩ : BufTy).Contents (Elt F) :=
  (concatenate S16x16x2x2x128x641 5 [⟨S16x16x2x2x128x384, ((select (broadcastInDim S16x16x2x2x128x384 ![0, 1, 2, 3, 4, 5] bcast_S1x16x1x1x128x384_S16x16x2x2x128x384_0_1_2_3_4_5 (broadcastInDim S1x16x1x1x128x384 ![1, 4, 5] bcast_S16x128x384_S1x16x1x1x128x384_1_4_5 (andi (andi (cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (res_main_v148 V0))))) (broadcastInDim S16x128x384 ![] bcast_S_S16x128x384 (constantI S_ 32 128#32))) (broadcastInDim S16x128x384 ![0, 1, 2] bcast_S16x1x384_S16x128x384_0_1_2 (cmpi .sge (broadcastInDim S16x1x384 ![0, 2] bcast_S16x384_S16x1x384_0_2 (res_main_v148 V0)) (broadcastInDim S16x1x384 ![] bcast_S_S16x1x384 (constantI S_ 32 0#32))))) (broadcastInDim S16x128x384 ![0, 1, 2] bcast_S16x1x384_S16x128x384_0_1_2 (cmpi .slt (broadcastInDim S16x1x384 ![0, 2] bcast_S16x384_S16x1x384_0_2 (res_main_v148 V0)) (broadcastInDim S16x1x384 ![] bcast_S_S16x1x384 (constantI S_ 32 2048#32))))))) (mulf (transpose S16x16x2x2x128x384 [0, 1, 2, 5, 4, 3] (Host.dotGeneral dot_S16x16x384x2x64_S16x16x128x2x2x64_S16x16x2x384x128x2_4_5_2_24_013_013 none (Host.gather gather_S16x2304x2x64_S16x384x1_S16x16x384x2x64_034_1_n_n_1_2_161264 (pad S16x2304x2x64 ![0, 128, 0, 0] ![0, 128, 0, 0] ![0, 0, 0, 0] (concatenate S16x2048x2x64 3 [⟨S16x2048x2x32, (concatenate S16x2048x2x32 3 [⟨S16x2048x2x16, (subf (mulf (res_main_v78 V0) (broadcastInDim S16x2048x2x16 ![0, 1, 2, 3] bcast_S1x2048x1x16_S16x2048x2x16_0_1_2_3 (res_main_v81 V0))) (mulf (res_main_v79 V0) (broadcastInDim S16x2048x2x16 ![0, 1, 2, 3] bcast_S1x2048x1x16_S16x2048x2x16_0_1_2_3 (res_main_v83 V0))))⟩, ⟨S16x2048x2x16, (addf (mulf (res_main_v78 V0) (broadcastInDim S16x2048x2x16 ![0, 1, 2, 3] bcast_S1x2048x1x16_S16x2048x2x16_0_1_2_3 (res_main_v83 V0))) (mulf (res_main_v79 V0) (broadcastInDim S16x2048x2x16 ![0, 1, 2, 3] bcast_S1x2048x1x16_S16x2048x2x16_0_1_2_3 (res_main_v81 V0))))⟩] concatenates_S16x2048x2x16_S16x2048x2x16_S16x2048x2x32_d3)⟩, ⟨S16x2048x2x32, (concatenate S16x2048x2x32 3 [⟨S16x2048x2x16, (subf (mulf (res_main_v95 V0) (broadcastInDim S16x2048x2x16 ![0, 1, 2, 3] bcast_S1x2048x1x16_S16x2048x2x16_0_1_2_3 (res_main_v98 V0))) (mulf (res_main_v96 V0) (broadcastInDim S16x2048x2x16 ![0, 1, 2, 3] bcast_S1x2048x1x16_S16x2048x2x16_0_1_2_3 (res_main_v100 V0))))⟩, ⟨S16x2048x2x16, (addf (mulf (res_main_v95 V0) (broadcastInDim S16x2048x2x16 ![0, 1, 2, 3] bcast_S1x2048x1x16_S16x2048x2x16_0_1_2_3 (res_main_v100 V0))) (mulf (res_main_v96 V0) (broadcastInDim S16x2048x2x16 ![0, 1, 2, 3] bcast_S1x2048x1x16_S16x2048x2x16_0_1_2_3 (res_main_v98 V0))))⟩] concatenates_S16x2048x2x16_S16x2048x2x16_S16x2048x2x32_d3)⟩] concatenates_S16x2048x2x32_S16x2048x2x32_S16x2048x2x64_d3) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0)))) (res_main_v167 V0)) transposes_S16x16x2x384x128x2_S16x16x2x2x128x384_0_1_2_5_4_3) (broadcastInDim S16x16x2x2x128x384 ![] bcast_S_S16x16x2x2x128x384 (constant S_ .f32 0x3E000000#32))) (broadcastInDim S16x16x2x2x128x384 ![] bcast_S_S16x16x2x2x128x384 (id (constant S_ .f32 0xFF800000#32)))) : (⟨S16x16x2x2x128x384, .f32⟩ : BufTy).Contents (Elt F))⟩, ⟨S16x16x2x2x128x256, ((mulf (transpose S16x16x2x2x128x256 [0, 3, 1, 5, 4, 2] (Host.dotGeneral dot_S16x256x2x64_S16x16x128x2x2x64_S16x2x256x16x128x2_3_5_1_124_02_03 none (res_main_v11 V0) (res_main_v167 V0)) transposes_S16x2x256x16x128x2_S16x16x2x2x128x256_0_3_1_5_4_2) (broadcastInDim S16x16x2x2x128x256 ![] bcast_S_S16x16x2x2x128x256 (constant S_ .f32 0x3E000000#32))) : (⟨S16x16x2x2x128x256, .f32⟩ : BufTy).Contents (Elt F))⟩, ⟨S16x16x2x2x128x1, ((broadcastInDim S16x16x2x2x128x1 ![0, 1, 2, 3, 4, 5] bcast_S1x1x2x2x1x1_S16x16x2x2x128x1_0_1_2_3_4_5 (broadcastInDim S1x1x2x2x1x1 ![2, 3] bcast_S2x2_S1x1x2x2x1x1_2_3 (shapeCast _ (V0 (Proc.devRef .tc main_arg1)) shapeCasts_S4_S2x2))) : (⟨S16x16x2x2x128x1, .f32⟩ : BufTy).Contents (Elt F))⟩] concatenates_S16x16x2x2x128x384_S16x16x2x2x128x256_S16x16x2x2x128x1_S16x16x2x2x128x641_d5 : (⟨S16x16x2x2x128x641, .f32⟩ : BufTy).Contents (Elt F))

set_option maxRecDepth 8192 in
/-- `main_v188`'s composed term of the arguments (named: it is used 2 times). -/
def res_main_v188 (V0 : Valuation τ sig (Elt F)) : (⟨S16x16x2x2x128x641, .f32⟩ : BufTy).Contents (Elt F) :=
  Host.exp (subf (res_main_v181 V0) (broadcastInDim S16x16x2x2x128x641 ![0, 1, 2, 3, 4, 5] bcast_S16x16x2x2x128x1_S16x16x2x2x128x641_0_1_2_3_4_5 (broadcastInDim S16x16x2x2x128x1 ![0, 1, 2, 3, 4] bcast_S16x16x2x2x128_S16x16x2x2x128x1_0_1_2_3_4 (maximumf (broadcastInDim S16x16x2x2x128 ![] bcast_S_S16x16x2x2x128 (constant S_ .f32 0xFF800000#32)) (Host.reduce FloatOps.maximumf (res_main_v181 V0) (constant S_ .f32 0xFF800000#32) reducesTo_S16x16x2x2x128x641_S16x16x2x2x128_d5 h_S_)))))

set_option maxRecDepth 8192 in
/-- `main_v192`'s composed term of the arguments (named: it is used 2 times). -/
def res_main_v192 (V0 : Valuation τ sig (Elt F)) : (⟨S16x16x2x2x128x641, .f32⟩ : BufTy).Contents (Elt F) :=
  Host.divf (res_main_v188 V0) (broadcastInDim S16x16x2x2x128x641 ![0, 1, 2, 3, 4, 5] bcast_S16x16x2x2x128x1_S16x16x2x2x128x641_0_1_2_3_4_5 (broadcastInDim S16x16x2x2x128x1 ![0, 1, 2, 3, 4] bcast_S16x16x2x2x128_S16x16x2x2x128x1_0_1_2_3_4 (Host.reduceAdd (res_main_v188 V0) (constant S_ .f32 0x00000000#32) reducesTo_S16x16x2x2x128x641_S16x16x2x2x128_d5 h_S_)))

set_option maxRecDepth 8192 in
/-- `main_v209`'s composed term of the arguments (named: it is used 2 times). -/
def res_main_v209 (V0 : Valuation τ sig (Elt F)) : (⟨S16x2x2x256x257, .f32⟩ : BufTy).Contents (Elt F) :=
  concatenate S16x2x2x256x257 4 [⟨S16x2x2x256x256, (mulf (transpose S16x2x2x256x256 [0, 1, 4, 3, 2] (Host.dotGeneral dot_S16x256x2x64_S16x256x2x2x64_S16x2x256x256x2_3_4_1_13_02_02 none (res_main_v11 V0) (shapeCast _ (shapeCast _ (extractStridedSlice S16x256x256 ![0, 0, 0] (res_main_v1 V0) slices_S16x256x3328_S16x256x256_0_0_0) shapeCasts_S16x256x256_S16x256x4x64) shapeCasts_S16x256x4x64_S16x256x2x2x64)) transposes_S16x2x256x256x2_S16x2x2x256x256_0_1_4_3_2) (broadcastInDim S16x2x2x256x256 ![] bcast_S_S16x2x2x256x256 (constant S_ .f32 0x3E000000#32)))⟩, ⟨S16x2x2x256x1, (broadcastInDim S16x2x2x256x1 ![0, 1, 2, 3, 4] bcast_S1x2x2x1x1_S16x2x2x256x1_0_1_2_3_4 (broadcastInDim S1x2x2x1x1 ![1, 2] bcast_S2x2_S1x2x2x1x1_1_2 (shapeCast _ (V0 (Proc.devRef .tc main_arg1)) shapeCasts_S4_S2x2)))⟩] concatenates_S16x2x2x256x256_S16x2x2x256x1_S16x2x2x256x257_d4

set_option maxRecDepth 8192 in
/-- `main_v216`'s composed term of the arguments (named: it is used 2 times). -/
def res_main_v216 (V0 : Valuation τ sig (Elt F)) : (⟨S16x2x2x256x257, .f32⟩ : BufTy).Contents (Elt F) :=
  Host.exp (subf (res_main_v209 V0) (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (maximumf (broadcastInDim S16x2x2x256 ![] bcast_S_S16x2x2x256 (constant S_ .f32 0xFF800000#32)) (Host.reduce FloatOps.maximumf (res_main_v209 V0) (constant S_ .f32 0xFF800000#32) reducesTo_S16x2x2x256x257_S16x2x2x256_d4 h_S_)))))

end Cert.ReferenceIdeal.Value

end
-- ==== Proof.Ref3.lean ====
module

public import proofs.«01_k».proof.Proof.Ref2
public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_cst, main_v16, main_v17, main_cst_0, main_v18, main_v19, main_v20, main_cst_1, main_v21, main_v22, main_cst_2, main_v23, main_v24, main_c]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v3 (V0 : Valuation τ sig (Elt F)) : val0_1 V0 (no_index (Proc.devRef .tc main_v3)) = res_main_v3 V0 := by
  unfold val0_1
  simp only [ops_part0_0]
  after_results_simp
  simp only [val0_main_arg0] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  simp only [val0_main_arg0] <;> rfl
set_option maxRecDepth 8192 in
set_option maxHeartbeats 2000000 in
theorem val0_1_main_v7 (V0 : Valuation τ sig (Elt F)) : val0_1 V0 (no_index (Proc.devRef .tc main_v7)) = shapeCast _ (extractStridedSlice S16x2048x128 ![0, 0, 384] (res_main_v0 V0) slices_S16x2048x3328_S16x2048x128_0_0_384) shapeCasts_S16x2048x128_S16x2048x2x64 := by
  unfold val0_1
  simp only [ops_part0_0]
  after_results_simp
  simp only [val0_main_arg0] <;> rfl
set_option maxRecDepth 8192 in
set_option maxHeartbeats 2000000 in
theorem val0_1_main_v9 (V0 : Valuation τ sig (Elt F)) : val0_1 V0 (no_index (Proc.devRef .tc main_v9)) = shapeCast _ (extractStridedSlice S16x256x256 ![0, 0, 0] (res_main_v1 V0) slices_S16x256x3328_S16x256x256_0_0_0) shapeCasts_S16x256x256_S16x256x4x64 := by
  unfold val0_1
  simp only [ops_part0_0]
  after_results_simp
  simp only [val0_main_arg0] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0]
  after_results_simp
  simp only [val0_main_arg0] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0]
  after_results_simp
  simp only [val0_main_arg0] <;> rfl
set_option maxRecDepth 8192 in
set_option maxHeartbeats 2000000 in
theorem val0_1_main_v14 (V0 : Valuation τ sig (Elt F)) : val0_1 V0 (no_index (Proc.devRef .tc main_v14)) = res_main_v14 V0 := by
  unfold val0_1
  simp only [ops_part0_0]
  after_results_simp
  all_goals rfl
set_option maxRecDepth 8192 in
set_option maxHeartbeats 2000000 in
theorem val0_1_main_v24 (V0 : Valuation τ sig (Elt F)) : val0_1 V0 (no_index (Proc.devRef .tc main_v24)) = res_main_v24 V0 := by
  unfold val0_1
  simp only [ops_part0_0]
  after_results_simp
  all_goals rfl
set_option maxRecDepth 8192 in
set_option maxHeartbeats 2000000 in
theorem val0_1_main_c (V0 : Valuation τ sig (Elt F)) : val0_1 V0 (no_index (Proc.devRef .tc main_c)) = constantI S_ 32 64#32 := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v25, main_v26, main_v27, main_v28, main_v29, main_v30, main_v31, main_c_3, main_call1_v0, main_call1_c, main_call1_v1, main_call1_c_0, main_call1_v2, main_call1_v3]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v3 (V0 : Valuation τ sig (Elt F)) : val0_2 V0 (no_index (Proc.devRef .tc main_v3)) = res_main_v3 V0 :=
  (val0_2_keep V0 main_v3 (by decide)).trans (val0_1_main_v3 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v7 (V0 : Valuation τ sig (Elt F)) : val0_2 V0 (no_index (Proc.devRef .tc main_v7)) = shapeCast _ (extractStridedSlice S16x2048x128 ![0, 0, 384] (res_main_v0 V0) slices_S16x2048x3328_S16x2048x128_0_0_384) shapeCasts_S16x2048x128_S16x2048x2x64 :=
  (val0_2_keep V0 main_v7 (by decide)).trans (val0_1_main_v7 V0)
theorem val0_2_main_v9 (V0 : Valuation τ sig (Elt F)) : val0_2 V0 (no_index (Proc.devRef .tc main_v9)) = shapeCast _ (extractStridedSlice S16x256x256 ![0, 0, 0] (res_main_v1 V0) slices_S16x256x3328_S16x256x256_0_0_0) shapeCasts_S16x256x256_S16x256x4x64 :=
  (val0_2_keep V0 main_v9 (by decide)).trans (val0_1_main_v9 V0)
theorem val0_2_main_v11 (V0 : Valuation τ sig (Elt F)) : val0_2 V0 (no_index (Proc.devRef .tc main_v11)) = res_main_v11 V0 :=
  (val0_2_keep V0 main_v11 (by decide)).trans (val0_1_main_v11 V0)
theorem val0_2_main_v13 (V0 : Valuation τ sig (Elt F)) : val0_2 V0 (no_index (Proc.devRef .tc main_v13)) = res_main_v13 V0 :=
  (val0_2_keep V0 main_v13 (by decide)).trans (val0_1_main_v13 V0)
theorem val0_2_main_v14 (V0 : Valuation τ sig (Elt F)) : val0_2 V0 (no_index (Proc.devRef .tc main_v14)) = res_main_v14 V0 :=
  (val0_2_keep V0 main_v14 (by decide)).trans (val0_1_main_v14 V0)
theorem val0_2_main_v24 (V0 : Valuation τ sig (Elt F)) : val0_2 V0 (no_index (Proc.devRef .tc main_v24)) = res_main_v24 V0 :=
  (val0_2_keep V0 main_v24 (by decide)).trans (val0_1_main_v24 V0)
set_option maxRecDepth 8192 in
set_option maxHeartbeats 2000000 in
theorem val0_2_main_v31 (V0 : Valuation τ sig (Elt F)) : val0_2 V0 (no_index (Proc.devRef .tc main_v31)) = res_main_v31 V0 := by
  unfold val0_2
  simp only [ops_part0_1, TRef.binary, TRef.nullary, TRef.ternary, TRef.unary, TRef.toBuf, TRef.ofBuf, cast_eq]
  after_results_simp
  simp only [val0_1_main_v24, val0_1_main_c, val0_1_main_v14] <;> rfl
set_option maxRecDepth 8192 in
set_option maxHeartbeats 2000000 in
theorem val0_2_main_call1_v2 (V0 : Valuation τ sig (Elt F)) : val0_2 V0 (no_index (Proc.devRef .tc main_call1_v2)) = res_main_call1_v2 V0 := by
  unfold val0_2
  simp only [ops_part0_1, TRef.binary, TRef.nullary, TRef.ternary, TRef.unary, TRef.toBuf, TRef.ofBuf, cast_eq]
  after_results_simp
  all_goals rfl
set_option maxRecDepth 8192 in
set_option maxHeartbeats 2000000 in
theorem val0_2_main_call1_v3 (V0 : Valuation τ sig (Elt F)) : val0_2 V0 (no_index (Proc.devRef .tc main_call1_v3)) = broadcastInDim S2048 ![] bcast_S_S2048 (res_main_call1_v2 V0) := by
  unfold val0_2
  simp only [ops_part0_1, TRef.binary, TRef.nullary, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_v4, main_call1_c_1, main_call1_v5, main_call1_v6, main_call1_c_2, main_call1_v7, main_call1_v8, main_call1_c_3, main_call1_v9, main_call1_v10, main_call1_v11, main_call1_v12, main_call1_v13, main_call1_v14, main_v32, main_v33, main_v34, main_v35, main_v36, main_v37, main_v38, main_v39, main_v40, main_v41, main_v42, main_v43, main_v44, main_v45, main_v46, main_v47]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_v5 (V0 : Valuation τ sig (Elt F)) : val0_3 V0 (no_index (Proc.devRef .tc main_v5)) = res_main_v5 V0 :=
  (val0_3_keep V0 main_v5 (by decide)).trans (val0_2_main_v5 V0)
theorem val0_3_main_v7 (V0 : Valuation τ sig (Elt F)) : val0_3 V0 (no_index (Proc.devRef .tc main_v7)) = shapeCast _ (extractStridedSlice S16x2048x128 ![0, 0, 384] (res_main_v0 V0) slices_S16x2048x3328_S16x2048x128_0_0_384) shapeCasts_S16x2048x128_S16x2048x2x64 :=
  (val0_3_keep V0 main_v7 (by decide)).trans (val0_2_main_v7 V0)
theorem val0_3_main_v9 (V0 : Valuation τ sig (Elt F)) : val0_3 V0 (no_index (Proc.devRef .tc main_v9)) = shapeCast _ (extractStridedSlice S16x256x256 ![0, 0, 0] (res_main_v1 V0) slices_S16x256x3328_S16x256x256_0_0_0) shapeCasts_S16x256x256_S16x256x4x64 :=
  (val0_3_keep V0 main_v9 (by decide)).trans (val0_2_main_v9 V0)
theorem val0_3_main_v11 (V0 : Valuation τ sig (Elt F)) : val0_3 V0 (no_index (Proc.devRef .tc main_v11)) = res_main_v11 V0 :=
  (val0_3_keep V0 main_v11 (by decide)).trans (val0_2_main_v11 V0)
theorem val0_3_main_v13 (V0 : Valuation τ sig (Elt F)) : val0_3 V0 (no_index (Proc.devRef .tc main_v13)) = res_main_v13 V0 :=
  (val0_3_keep V0 main_v13 (by decide)).trans (val0_2_main_v13 V0)
theorem val0_3_main_v31 (V0 : Valuation τ sig (Elt F)) : val0_3 V0 (no_index (Proc.devRef .tc main_v31)) = res_main_v31 V0 :=
  (val0_3_keep V0 main_v31 (by decide)).trans (val0_2_main_v31 V0)
set_option maxRecDepth 8192 in
set_option maxHeartbeats 2000000 in
theorem val0_3_main_v38 (V0 : Valuation τ sig (Elt F)) : val0_3 V0 (no_index (Proc.devRef .tc main_v38)) = res_main_v38 V0 := by
  unfold val0_3
  simp only [ops_part0_2, TRef.binary, TRef.nullary, TRef.ternary, TRef.unary, TRef.toBuf, TRef.ofBuf, cast_eq]
  after_results_simp
  simp only [val0_2_main_v24, val0_2_main_call1_v3, val0_2_main_v14, val0_2_main_call1_v2] <;> rfl
set_option maxRecDepth 8192 in
set_option maxHeartbeats 2000000 in
theorem val0_3_main_v40 (V0 : Valuation τ sig (Elt F)) : val0_3 V0 (no_index (Proc.devRef .tc main_v40)) = res_main_v40 V0 := by
  unfold val0_3
  simp only [ops_part0_2, TRef.binary, TRef.nullary, TRef.ternary, TRef.unary, TRef.toBuf, TRef.ofBuf, cast_eq]
  after_results_simp
  simp only [val0_2_main_v3] <;> rfl
set_option maxRecDepth 8192 in
set_option maxHeartbeats 2000000 in
theorem val0_3_main_v41 (V0 : Valuation τ sig (Elt F)) : val0_3 V0 (no_index (Proc.devRef .tc main_v41)) = res_main_v41 V0 := by
  unfold val0_3
  simp only [ops_part0_2, TRef.binary, TRef.nullary, TRef.ternary, TRef.unary, TRef.toBuf, TRef.ofBuf, cast_eq]
  after_results_simp
  simp only [val0_2_main_v3] <;> rfl
set_option maxRecDepth 8192 in
set_option maxHeartbeats 2000000 in
theorem val0_3_main_v42 (V0 : Valuation τ sig (Elt F)) : val0_3 V0 (no_index (Proc.devRef .tc main_v42)) = res_main_v42 V0 := by
  unfold val0_3
  simp only [ops_part0_2, TRef.binary, TRef.nullary, TRef.ternary, TRef.unary, TRef.toBuf, TRef.ofBuf, cast_eq]
  after_results_simp
  simp only [val0_2_main_v3] <;> rfl
set_option maxRecDepth 8192 in
set_option maxHeartbeats 2000000 in
theorem val0_3_main_v44 (V0 : Valuation τ sig (Elt F)) : val0_3 V0 (no_index (Proc.devRef .tc main_v44)) = res_main_v44 V0 := by
  unfold val0_3
  simp only [ops_part0_2, TRef.binary, TRef.nullary, TRef.ternary, TRef.unary, TRef.toBuf, TRef.ofBuf, cast_eq]
  after_results_simp
  simp only [val0_2_main_v31] <;> rfl
set_option maxRecDepth 8192 in
set_option maxHeartbeats 2000000 in
theorem val0_3_main_v46 (V0 : Valuation τ sig (Elt F)) : val0_3 V0 (no_index (Proc.devRef .tc main_v46)) = res_main_v46 V0 := by
  unfold val0_3
  simp only [ops_part0_2, TRef.binary, TRef.nullary, TRef.ternary, TRef.unary, TRef.toBuf, TRef.ofBuf, cast_eq]
  after_results_simp
  simp only [val0_2_main_v31] <;> rfl
set_option maxRecDepth 8192 in
set_option maxHeartbeats 2000000 in
theorem val0_3_main_v47 (V0 : Valuation τ sig (Elt F)) : val0_3 V0 (no_index (Proc.devRef .tc main_v47)) = broadcastInDim S16x2048x4x16 ![0, 1, 2, 3] bcast_S1x2048x1x16_S16x2048x4x16_0_1_2_3 (res_main_v44 V0) := by
  unfold val0_3
  simp only [ops_part0_2, TRef.binary, TRef.nullary, TRef.ternary, TRef.unary, TRef.toBuf, TRef.ofBuf, cast_eq]
  after_results_simp
  simp only [val0_2_main_v31] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v48, main_v49, main_v50, main_v51, main_v52, main_v53]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_v5 (V0 : Valuation τ sig (Elt F)) : val1 V0 (no_index (Proc.devRef .tc main_v5)) = res_main_v5 V0 :=
  (val1_keep V0 main_v5 (by decide)).trans (val0_3_main_v5 V0)
theorem val1_main_v7 (V0 : Valuation τ sig (Elt F)) : val1 V0 (no_index (Proc.devRef .tc main_v7)) = shapeCast _ (extractStridedSlice S16x2048x128 ![0, 0, 384] (res_main_v0 V0) slices_S16x2048x3328_S16x2048x128_0_0_384) shapeCasts_S16x2048x128_S16x2048x2x64 :=
  (val1_keep V0 main_v7 (by decide)).trans (val0_3_main_v7 V0)
theorem val1_main_v9 (V0 : Valuation τ sig (Elt F)) : val1 V0 (no_index (Proc.devRef .tc main_v9)) = shapeCast _ (extractStridedSlice S16x256x256 ![0, 0, 0] (res_main_v1 V0) slices_S16x256x3328_S16x256x256_0_0_0) shapeCasts_S16x256x256_S16x256x4x64 :=
  (val1_keep V0 main_v9 (by decide)).trans (val0_3_main_v9 V0)
theorem val1_main_v11 (V0 : Valuation τ sig (Elt F)) : val1 V0 (no_index (Proc.devRef .tc main_v11)) = res_main_v11 V0 :=
  (val1_keep V0 main_v11 (by decide)).trans (val0_3_main_v11 V0)
theorem val1_main_v13 (V0 : Valuation τ sig (Elt F)) : val1 V0 (no_index (Proc.devRef .tc main_v13)) = res_main_v13 V0 :=
  (val1_keep V0 main_v13 (by decide)).trans (val0_3_main_v13 V0)
theorem val1_main_v31 (V0 : Valuation τ sig (Elt F)) : val1 V0 (no_index (Proc.devRef .tc main_v31)) = res_main_v31 V0 :=
  (val1_keep V0 main_v31 (by decide)).trans (val0_3_main_v31 V0)
theorem val1_main_v38 (V0 : Valuation τ sig (Elt F)) : val1 V0 (no_index (Proc.devRef .tc main_v38)) = res_main_v38 V0 :=
  (val1_keep V0 main_v38 (by decide)).trans (val0_3_main_v38 V0)
theorem val1_main_v40 (V0 : Valuation τ sig (Elt F)) : val1 V0 (no_index (Proc.devRef .tc main_v40)) = res_main_v40 V0 :=
  (val1_keep V0 main_v40 (by decide)).trans (val0_3_main_v40 V0)
theorem val1_main_v42 (V0 : Valuation τ sig (Elt F)) : val1 V0 (no_index (Proc.devRef .tc main_v42)) = res_main_v42 V0 :=
  (val1_keep V0 main_v42 (by decide)).trans (val0_3_main_v42 V0)
theorem val1_main_v44 (V0 : Valuation τ sig (Elt F)) : val1 V0 (no_index (Proc.devRef .tc main_v44)) = res_main_v44 V0 :=
  (val1_keep V0 main_v44 (by decide)).trans (val0_3_main_v44 V0)
set_option maxRecDepth 8192 in
theorem val1_main_v51 (V0 : Valuation τ sig (Elt F)) : val1 V0 (no_index (Proc.devRef .tc main_v51)) = subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))) := by
  unfold val1
  simp only [ops_part0_3]
  after_results_simp
  simp only [val0_3_main_v46, val0_3_main_v42, val0_3_main_v47, val0_3_main_v41] <;> rfl
set_option maxRecDepth 8192 in
theorem val1_main_v53 (V0 : Valuation τ sig (Elt F)) : val1 V0 (no_index (Proc.devRef .tc main_v53)) = mulf (res_main_v41 V0) (broadcastInDim S16x2048x4x16 ![0, 1, 2, 3] bcast_S1x2048x1x16_S16x2048x4x16_0_1_2_3 (res_main_v46 V0)) := by
  unfold val1
  simp only [ops_part0_3]
  after_results_simp
  simp only [val0_3_main_v46, val0_3_main_v41] <;> rfl

end Cert.ReferenceIdeal.Value

end
-- ==== Proof.Ref4.lean ====
module

public import proofs.«01_k».proof.Proof.Ref3
public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v7 (V0 : Valuation τ sig (Elt F)) : val2 V0 (no_index (Proc.devRef .tc main_v7)) = shapeCast _ (extractStridedSlice S16x2048x128 ![0, 0, 384] (res_main_v0 V0) slices_S16x2048x3328_S16x2048x128_0_0_384) shapeCasts_S16x2048x128_S16x2048x2x64 :=
  (val2_keep V0 main_v7 (by decide)).trans (val1_main_v7 V0)
theorem val2_main_v9 (V0 : Valuation τ sig (Elt F)) : val2 V0 (no_index (Proc.devRef .tc main_v9)) = shapeCast _ (extractStridedSlice S16x256x256 ![0, 0, 0] (res_main_v1 V0) slices_S16x256x3328_S16x256x256_0_0_0) shapeCasts_S16x256x256_S16x256x4x64 :=
  (val2_keep V0 main_v9 (by decide)).trans (val1_main_v9 V0)
theorem val2_main_v11 (V0 : Valuation τ sig (Elt F)) : val2 V0 (no_index (Proc.devRef .tc main_v11)) = res_main_v11 V0 :=
  (val2_keep V0 main_v11 (by decide)).trans (val1_main_v11 V0)
theorem val2_main_v13 (V0 : Valuation τ sig (Elt F)) : val2 V0 (no_index (Proc.devRef .tc main_v13)) = res_main_v13 V0 :=
  (val2_keep V0 main_v13 (by decide)).trans (val1_main_v13 V0)
set_option maxRecDepth 8192 in
set_option maxHeartbeats 2000000 in
theorem val2_main_v75 (V0 : Valuation τ sig (Elt F)) : val2 V0 (no_index (Proc.devRef .tc main_v75)) = concatenate S16x2048x4x64 3 [⟨S16x2048x4x32, (concatenate S16x2048x4x32 3 [⟨S16x2048x4x16, (subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))))⟩, ⟨S16x2048x4x16, (addf (mulf (res_main_v41 V0) (broadcastInDim S16x2048x4x16 ![0, 1, 2, 3] bcast_S1x2048x1x16_S16x2048x4x16_0_1_2_3 (res_main_v46 V0))) (mulf (res_main_v42 V0) (broadcastInDim S16x2048x4x16 ![0, 1, 2, 3] bcast_S1x2048x1x16_S16x2048x4x16_0_1_2_3 (res_main_v44 V0))))⟩] concatenates_S16x2048x4x16_S16x2048x4x16_S16x2048x4x32_d3)⟩, ⟨S16x2048x4x32, (concatenate S16x2048x4x32 3 [⟨S16x2048x4x16, (subf (mulf (res_main_v58 V0) (broadcastInDim S16x2048x4x16 ![0, 1, 2, 3] bcast_S1x2048x1x16_S16x2048x4x16_0_1_2_3 (res_main_v61 V0))) (mulf (res_main_v59 V0) (broadcastInDim S16x2048x4x16 ![0, 1, 2, 3] bcast_S1x2048x1x16_S16x2048x4x16_0_1_2_3 (res_main_v63 V0))))⟩, ⟨S16x2048x4x16, (addf (mulf (res_main_v58 V0) (broadcastInDim S16x2048x4x16 ![0, 1, 2, 3] bcast_S1x2048x1x16_S16x2048x4x16_0_1_2_3 (res_main_v63 V0))) (mulf (res_main_v59 V0) (broadcastInDim S16x2048x4x16 ![0, 1, 2, 3] bcast_S1x2048x1x16_S16x2048x4x16_0_1_2_3 (res_main_v61 V0))))⟩] concatenates_S16x2048x4x16_S16x2048x4x16_S16x2048x4x32_d3)⟩] concatenates_S16x2048x4x32_S16x2048x4x32_S16x2048x4x64_d3 := by
  unfold val2
  simp only [ops_part1]
  after_results_simp
  simp only [val1_main_v38, val1_main_v40, val1_main_v44, val1_main_v42, val1_main_v53, val1_main_v51] <;> rfl
set_option maxRecDepth 8192 in
set_option maxHeartbeats 2000000 in
theorem val2_main_v112 (V0 : Valuation τ sig (Elt F)) : val2 V0 (no_index (Proc.devRef .tc main_v112)) = concatenate S16x2048x2x64 3 [⟨S16x2048x2x32, (concatenate S16x2048x2x32 3 [⟨S16x2048x2x16, (subf (mulf (res_main_v78 V0) (broadcastInDim S16x2048x2x16 ![0, 1, 2, 3] bcast_S1x2048x1x16_S16x2048x2x16_0_1_2_3 (res_main_v81 V0))) (mulf (res_main_v79 V0) (broadcastInDim S16x2048x2x16 ![0, 1, 2, 3] bcast_S1x2048x1x16_S16x2048x2x16_0_1_2_3 (res_main_v83 V0))))⟩, ⟨S16x2048x2x16, (addf (mulf (res_main_v78 V0) (broadcastInDim S16x2048x2x16 ![0, 1, 2, 3] bcast_S1x2048x1x16_S16x2048x2x16_0_1_2_3 (res_main_v83 V0))) (mulf (res_main_v79 V0) (broadcastInDim S16x2048x2x16 ![0, 1, 2, 3] bcast_S1x2048x1x16_S16x2048x2x16_0_1_2_3 (res_main_v81 V0))))⟩] concatenates_S16x2048x2x16_S16x2048x2x16_S16x2048x2x32_d3)⟩, ⟨S16x2048x2x32, (concatenate S16x2048x2x32 3 [⟨S16x2048x2x16, (subf (mulf (res_main_v95 V0) (broadcastInDim S16x2048x2x16 ![0, 1, 2, 3] bcast_S1x2048x1x16_S16x2048x2x16_0_1_2_3 (res_main_v98 V0))) (mulf (res_main_v96 V0) (broadcastInDim S16x2048x2x16 ![0, 1, 2, 3] bcast_S1x2048x1x16_S16x2048x2x16_0_1_2_3 (res_main_v100 V0))))⟩, ⟨S16x2048x2x16, (addf (mulf (res_main_v95 V0) (broadcastInDim S16x2048x2x16 ![0, 1, 2, 3] bcast_S1x2048x1x16_S16x2048x2x16_0_1_2_3 (res_main_v100 V0))) (mulf (res_main_v96 V0) (broadcastInDim S16x2048x2x16 ![0, 1, 2, 3] bcast_S1x2048x1x16_S16x2048x2x16_0_1_2_3 (res_main_v98 V0))))⟩] concatenates_S16x2048x2x16_S16x2048x2x16_S16x2048x2x32_d3)⟩] concatenates_S16x2048x2x32_S16x2048x2x32_S16x2048x2x64_d3 := by
  unfold val2
  simp only [ops_part1]
  after_results_simp
  simp only [val1_main_v38, val1_main_v5, val1_main_v31] <;> rfl
set_option maxRecDepth 8192 in
set_option maxHeartbeats 2000000 in
theorem val2_main_v113 (V0 : Valuation τ sig (Elt F)) : val2 V0 (no_index (Proc.devRef .tc main_v113)) = iotaInDim S16 32 0 := by
  unfold val2
  simp only [ops_part1]
  after_results_simp
  all_goals rfl

/-- The device's buffer contents after @main's first 186 operations. -/
def val2_1 (V0 : Valuation τ sig (Elt F)) : Valuation τ sig (Elt F) := after ops_part2_0 (val2 V0)
/-- The buffers that window `ops_part2_0`'s operations write. -/
abbrev ops_part2_0_W : List (Ref sig .tc) := [main_v114, main_c_4, main_v115, main_v116, main_v117, main_v118, main_v119, main_v120, main_v121, main_c_5, main_call2_v0, main_v122, main_c_6, main_v123, main_v124, main_c_7, main_v125, main_v126, main_v127, main_v128, main_v129, main_c_8, main_call3_v0, main_v130, main_c_9, main_v131, main_v132, main_c_10, main_v133, main_v134]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_v9 (V0 : Valuation τ sig (Elt F)) : val2_1 V0 (no_index (Proc.devRef .tc main_v9)) = shapeCast _ (extractStridedSlice S16x256x256 ![0, 0, 0] (res_main_v1 V0) slices_S16x256x3328_S16x256x256_0_0_0) shapeCasts_S16x256x256_S16x256x4x64 :=
  (val2_1_keep V0 main_v9 (by decide)).trans (val2_main_v9 V0)
theorem val2_1_main_v11 (V0 : Valuation τ sig (Elt F)) : val2_1 V0 (no_index (Proc.devRef .tc main_v11)) = res_main_v11 V0 :=
  (val2_1_keep V0 main_v11 (by decide)).trans (val2_main_v11 V0)
theorem val2_1_main_v13 (V0 : Valuation τ sig (Elt F)) : val2_1 V0 (no_index (Proc.devRef .tc main_v13)) = res_main_v13 V0 :=
  (val2_1_keep V0 main_v13 (by decide)).trans (val2_main_v13 V0)
theorem val2_1_main_v75 (V0 : Valuation τ sig (Elt F)) : val2_1 V0 (no_index (Proc.devRef .tc main_v75)) = concatenate S16x2048x4x64 3 [⟨S16x2048x4x32, (concatenate S16x2048x4x32 3 [⟨S16x2048x4x16, (subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))))⟩, ⟨S16x2048x4x16, (addf (mulf (res_main_v41 V0) (broadcastInDim S16x2048x4x16 ![0, 1, 2, 3] bcast_S1x2048x1x16_S16x2048x4x16_0_1_2_3 (res_main_v46 V0))) (mulf (res_main_v42 V0) (broadcastInDim S16x2048x4x16 ![0, 1, 2, 3] bcast_S1x2048x1x16_S16x2048x4x16_0_1_2_3 (res_main_v44 V0))))⟩] concatenates_S16x2048x4x16_S16x2048x4x16_S16x2048x4x32_d3)⟩, ⟨S16x2048x4x32, (concatenate S16x2048x4x32 3 [⟨S16x2048x4x16, (subf (mulf (res_main_v58 V0) (broadcastInDim S16x2048x4x16 ![0, 1, 2, 3] bcast_S1x2048x1x16_S16x2048x4x16_0_1_2_3 (res_main_v61 V0))) (mulf (res_main_v59 V0) (broadcastInDim S16x2048x4x16 ![0, 1, 2, 3] bcast_S1x2048x1x16_S16x2048x4x16_0_1_2_3 (res_main_v63 V0))))⟩, ⟨S16x2048x4x16, (addf (mulf (res_main_v58 V0) (broadcastInDim S16x2048x4x16 ![0, 1, 2, 3] bcast_S1x2048x1x16_S16x2048x4x16_0_1_2_3 (res_main_v63 V0))) (mulf (res_main_v59 V0) (broadcastInDim S16x2048x4x16 ![0, 1, 2, 3] bcast_S1x2048x1x16_S16x2048x4x16_0_1_2_3 (res_main_v61 V0))))⟩] concatenates_S16x2048x4x16_S16x2048x4x16_S16x2048x4x32_d3)⟩] concatenates_S16x2048x4x32_S16x2048x4x32_S16x2048x4x64_d3 :=
  (val2_1_keep V0 main_v75 (by decide)).trans (val2_main_v75 V0)
set_option maxRecDepth 8192 in
set_option maxHeartbeats 2000000 in
theorem val2_1_main_v121 (V0 : Valuation τ sig (Elt F)) : val2_1 V0 (no_index (Proc.devRef .tc main_v121)) = res_main_v121 V0 := by
  unfold val2_1
  simp only [ops_part2_0, TRef.binary, TRef.unary, TRef.toBuf, TRef.ofBuf, cast_eq]
  after_results_simp
  simp only [val2_main_v113] <;> rfl
set_option maxRecDepth 8192 in
set_option maxHeartbeats 2000000 in
theorem val2_1_main_v129 (V0 : Valuation τ sig (Elt F)) : val2_1 V0 (no_index (Proc.devRef .tc main_v129)) = Host.gather gather_S16x2304x2x64_S16x384x1_S16x16x384x2x64_034_1_n_n_1_2_161264 (pad S16x2304x2x64 ![0, 128, 0, 0] ![0, 128, 0, 0] ![0, 0, 0, 0] (concatenate S16x2048x2x64 3 [⟨S16x2048x2x32, (concatenate S16x2048x2x32 3 [⟨S16x2048x2x16, (subf (mulf (res_main_v78 V0) (broadcastInDim S16x2048x2x16 ![0, 1, 2, 3] bcast_S1x2048x1x16_S16x2048x2x16_0_1_2_3 (res_main_v81 V0))) (mulf (res_main_v79 V0) (broadcastInDim S16x2048x2x16 ![0, 1, 2, 3] bcast_S1x2048x1x16_S16x2048x2x16_0_1_2_3 (res_main_v83 V0))))⟩, ⟨S16x2048x2x16, (addf (mulf (res_main_v78 V0) (broadcastInDim S16x2048x2x16 ![0, 1, 2, 3] bcast_S1x2048x1x16_S16x2048x2x16_0_1_2_3 (res_main_v83 V0))) (mulf (res_main_v79 V0) (broadcastInDim S16x2048x2x16 ![0, 1, 2, 3] bcast_S1x2048x1x16_S16x2048x2x16_0_1_2_3 (res_main_v81 V0))))⟩] concatenates_S16x2048x2x16_S16x2048x2x16_S16x2048x2x32_d3)⟩, ⟨S16x2048x2x32, (concatenate S16x2048x2x32 3 [⟨S16x2048x2x16, (subf (mulf (res_main_v95 V0) (broadcastInDim S16x2048x2x16 ![0, 1, 2, 3] bcast_S1x2048x1x16_S16x2048x2x16_0_1_2_3 (res_main_v98 V0))) (mulf (res_main_v96 V0) (broadcastInDim S16x2048x2x16 ![0, 1, 2, 3] bcast_S1x2048x1x16_S16x2048x2x16_0_1_2_3 (res_main_v100 V0))))⟩, ⟨S16x2048x2x16, (addf (mulf (res_main_v95 V0) (broadcastInDim S16x2048x2x16 ![0, 1, 2, 3] bcast_S1x2048x1x16_S16x2048x2x16_0_1_2_3 (res_main_v100 V0))) (mulf (res_main_v96 V0) (broadcastInDim S16x2048x2x16 ![0, 1, 2, 3] bcast_S1x2048x1x16_S16x2048x2x16_0_1_2_3 (res_main_v98 V0))))⟩] concatenates_S16x2048x2x16_S16x2048x2x16_S16x2048x2x32_d3)⟩] concatenates_S16x2048x2x32_S16x2048x2x32_S16x2048x2x64_d3) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) := by
  unfold val2_1
  simp only [ops_part2_0, TRef.binary, TRef.unary, TRef.toBuf, TRef.ofBuf, cast_eq]
  after_results_simp
  simp only [val2_main_v113, val2_main_v112] <;> rfl
set_option maxRecDepth 8192 in
set_option maxHeartbeats 2000000 in
theorem val2_1_main_v130 (V0 : Valuation τ sig (Elt F)) : val2_1 V0 (no_index (Proc.devRef .tc main_v130)) = pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_ := by
  unfold val2_1
  simp only [ops_part2_0, TRef.binary, TRef.unary, TRef.toBuf, TRef.ofBuf, cast_eq]
  after_results_simp
  simp only [val2_main_v7] <;> rfl
set_option maxRecDepth 8192 in
set_option maxHeartbeats 2000000 in
theorem val2_1_main_v132 (V0 : Valuation τ sig (Elt F)) : val2_1 V0 (no_index (Proc.devRef .tc main_v132)) = cmpi .slt (res_main_v121 V0) (broadcastInDim S16x384 ![] bcast_S_S16x384 (constantI S_ 32 0#32)) := by
  unfold val2_1
  simp only [ops_part2_0, TRef.binary, TRef.unary, TRef.toBuf, TRef.ofBuf, cast_eq]
  after_results_simp
  simp only [val2_main_v113] <;> rfl
set_option maxRecDepth 8192 in
set_option maxHeartbeats 2000000 in
theorem val2_1_main_v134 (V0 : Valuation τ sig (Elt F)) : val2_1 V0 (no_index (Proc.devRef .tc main_v134)) = addi (res_main_v121 V0) (broadcastInDim S16x384 ![] bcast_S_S16x384 (constantI S_ 32 2304#32)) := by
  unfold val2_1
  simp only [ops_part2_0, TRef.binary, TRef.unary, TRef.toBuf, TRef.ofBuf, cast_eq]
  after_results_simp
  simp only [val2_main_v113] <;> rfl

/-- The device's buffer contents after @main's first 216 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v135, main_v136, main_v137, main_v138, main_v139, main_c_11, main_v140, main_v141, main_v142, main_v143, main_v144, main_v145, main_v146, main_c_12, main_v147, main_v148, main_v149, main_v150, main_v151, main_v152, main_v153, main_v154, main_c_13, main_v155, main_v156, main_v157, main_c_14, main_v158, main_v159, main_v160]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_v9 (V0 : Valuation τ sig (Elt F)) : val2_2 V0 (no_index (Proc.devRef .tc main_v9)) = shapeCast _ (extractStridedSlice S16x256x256 ![0, 0, 0] (res_main_v1 V0) slices_S16x256x3328_S16x256x256_0_0_0) shapeCasts_S16x256x256_S16x256x4x64 :=
  (val2_2_keep V0 main_v9 (by decide)).trans (val2_1_main_v9 V0)
theorem val2_2_main_v11 (V0 : Valuation τ sig (Elt F)) : val2_2 V0 (no_index (Proc.devRef .tc main_v11)) = res_main_v11 V0 :=
  (val2_2_keep V0 main_v11 (by decide)).trans (val2_1_main_v11 V0)
theorem val2_2_main_v13 (V0 : Valuation τ sig (Elt F)) : val2_2 V0 (no_index (Proc.devRef .tc main_v13)) = res_main_v13 V0 :=
  (val2_2_keep V0 main_v13 (by decide)).trans (val2_1_main_v13 V0)
theorem val2_2_main_v75 (V0 : Valuation τ sig (Elt F)) : val2_2 V0 (no_index (Proc.devRef .tc main_v75)) = concatenate S16x2048x4x64 3 [⟨S16x2048x4x32, (concatenate S16x2048x4x32 3 [⟨S16x2048x4x16, (subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))))⟩, ⟨S16x2048x4x16, (addf (mulf (res_main_v41 V0) (broadcastInDim S16x2048x4x16 ![0, 1, 2, 3] bcast_S1x2048x1x16_S16x2048x4x16_0_1_2_3 (res_main_v46 V0))) (mulf (res_main_v42 V0) (broadcastInDim S16x2048x4x16 ![0, 1, 2, 3] bcast_S1x2048x1x16_S16x2048x4x16_0_1_2_3 (res_main_v44 V0))))⟩] concatenates_S16x2048x4x16_S16x2048x4x16_S16x2048x4x32_d3)⟩, ⟨S16x2048x4x32, (concatenate S16x2048x4x32 3 [⟨S16x2048x4x16, (subf (mulf (res_main_v58 V0) (broadcastInDim S16x2048x4x16 ![0, 1, 2, 3] bcast_S1x2048x1x16_S16x2048x4x16_0_1_2_3 (res_main_v61 V0))) (mulf (res_main_v59 V0) (broadcastInDim S16x2048x4x16 ![0, 1, 2, 3] bcast_S1x2048x1x16_S16x2048x4x16_0_1_2_3 (res_main_v63 V0))))⟩, ⟨S16x2048x4x16, (addf (mulf (res_main_v58 V0) (broadcastInDim S16x2048x4x16 ![0, 1, 2, 3] bcast_S1x2048x1x16_S16x2048x4x16_0_1_2_3 (res_main_v63 V0))) (mulf (res_main_v59 V0) (broadcastInDim S16x2048x4x16 ![0, 1, 2, 3] bcast_S1x2048x1x16_S16x2048x4x16_0_1_2_3 (res_main_v61 V0))))⟩] concatenates_S16x2048x4x16_S16x2048x4x16_S16x2048x4x32_d3)⟩] concatenates_S16x2048x4x32_S16x2048x4x32_S16x2048x4x64_d3 :=
  (val2_2_keep V0 main_v75 (by decide)).trans (val2_1_main_v75 V0)
theorem val2_2_main_v129 (V0 : Valuation τ sig (Elt F)) : val2_2 V0 (no_index (Proc.devRef .tc main_v129)) = Host.gather gather_S16x2304x2x64_S16x384x1_S16x16x384x2x64_034_1_n_n_1_2_161264 (pad S16x2304x2x64 ![0, 128, 0, 0] ![0, 128, 0, 0] ![0, 0, 0, 0] (concatenate S16x2048x2x64 3 [⟨S16x2048x2x32, (concatenate S16x2048x2x32 3 [⟨S16x2048x2x16, (subf (mulf (res_main_v78 V0) (broadcastInDim S16x2048x2x16 ![0, 1, 2, 3] bcast_S1x2048x1x16_S16x2048x2x16_0_1_2_3 (res_main_v81 V0))) (mulf (res_main_v79 V0) (broadcastInDim S16x2048x2x16 ![0, 1, 2, 3] bcast_S1x2048x1x16_S16x2048x2x16_0_1_2_3 (res_main_v83 V0))))⟩, ⟨S16x2048x2x16, (addf (mulf (res_main_v78 V0) (broadcastInDim S16x2048x2x16 ![0, 1, 2, 3] bcast_S1x2048x1x16_S16x2048x2x16_0_1_2_3 (res_main_v83 V0))) (mulf (res_main_v79 V0) (broadcastInDim S16x2048x2x16 ![0, 1, 2, 3] bcast_S1x2048x1x16_S16x2048x2x16_0_1_2_3 (res_main_v81 V0))))⟩] concatenates_S16x2048x2x16_S16x2048x2x16_S16x2048x2x32_d3)⟩, ⟨S16x2048x2x32, (concatenate S16x2048x2x32 3 [⟨S16x2048x2x16, (subf (mulf (res_main_v95 V0) (broadcastInDim S16x2048x2x16 ![0, 1, 2, 3] bcast_S1x2048x1x16_S16x2048x2x16_0_1_2_3 (res_main_v98 V0))) (mulf (res_main_v96 V0) (broadcastInDim S16x2048x2x16 ![0, 1, 2, 3] bcast_S1x2048x1x16_S16x2048x2x16_0_1_2_3 (res_main_v100 V0))))⟩, ⟨S16x2048x2x16, (addf (mulf (res_main_v95 V0) (broadcastInDim S16x2048x2x16 ![0, 1, 2, 3] bcast_S1x2048x1x16_S16x2048x2x16_0_1_2_3 (res_main_v100 V0))) (mulf (res_main_v96 V0) (broadcastInDim S16x2048x2x16 ![0, 1, 2, 3] bcast_S1x2048x1x16_S16x2048x2x16_0_1_2_3 (res_main_v98 V0))))⟩] concatenates_S16x2048x2x16_S16x2048x2x16_S16x2048x2x32_d3)⟩] concatenates_S16x2048x2x32_S16x2048x2x32_S16x2048x2x64_d3) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) :=
  (val2_2_keep V0 main_v129 (by decide)).trans (val2_1_main_v129 V0)
set_option maxRecDepth 8192 in
set_option maxHeartbeats 2000000 in
theorem val2_2_main_v137 (V0 : Valuation τ sig (Elt F)) : val2_2 V0 (no_index (Proc.devRef .tc main_v137)) = Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) := by
  unfold val2_2
  simp only [ops_part2_1]
  after_results_simp
  simp only [val2_1_main_v121, val2_1_main_v134, val2_1_main_v132, val2_1_main_v130] <;> rfl
set_option maxRecDepth 8192 in
set_option maxHeartbeats 2000000 in
theorem val2_2_main_v148 (V0 : Valuation τ sig (Elt F)) : val2_2 V0 (no_index (Proc.devRef .tc main_v148)) = res_main_v148 V0 := by
  unfold val2_2
  simp only [ops_part2_1]
  after_results_simp
  simp only [val2_1_main_v121] <;> rfl
set_option maxRecDepth 8192 in
set_option maxHeartbeats 2000000 in
theorem val2_2_main_v156 (V0 : Valuation τ sig (Elt F)) : val2_2 V0 (no_index (Proc.devRef .tc main_v156)) = cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (res_main_v148 V0))))) (broadcastInDim S16x128x384 ![] bcast_S_S16x128x384 (constantI S_ 32 128#32)) := by
  unfold val2_2
  simp only [ops_part2_1]
  after_results_simp
  simp only [val2_1_main_v121] <;> rfl
set_option maxRecDepth 8192 in
set_option maxHeartbeats 2000000 in
theorem val2_2_main_v160 (V0 : Valuation τ sig (Elt F)) : val2_2 V0 (no_index (Proc.devRef .tc main_v160)) = broadcastInDim S16x128x384 ![0, 1, 2] bcast_S16x1x384_S16x128x384_0_1_2 (cmpi .sge (broadcastInDim S16x1x384 ![0, 2] bcast_S16x384_S16x1x384_0_2 (res_main_v148 V0)) (broadcastInDim S16x1x384 ![] bcast_S_S16x1x384 (constantI S_ 32 0#32))) := by
  unfold val2_2
  simp only [ops_part2_1]
  after_results_simp
  simp only [val2_1_main_v121] <;> rfl

end Cert.ReferenceIdeal.Value

end
-- ==== Proof.Ref5.lean ====
module

public import proofs.«01_k».proof.Proof.Ref4
public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v161, main_v162]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_v9 (V0 : Valuation τ sig (Elt F)) : val3 V0 (no_index (Proc.devRef .tc main_v9)) = shapeCast _ (extractStridedSlice S16x256x256 ![0, 0, 0] (res_main_v1 V0) slices_S16x256x3328_S16x256x256_0_0_0) shapeCasts_S16x256x256_S16x256x4x64 :=
  (val3_keep V0 main_v9 (by decide)).trans (val2_2_main_v9 V0)
theorem val3_main_v11 (V0 : Valuation τ sig (Elt F)) : val3 V0 (no_index (Proc.devRef .tc main_v11)) = res_main_v11 V0 :=
  (val3_keep V0 main_v11 (by decide)).trans (val2_2_main_v11 V0)
theorem val3_main_v13 (V0 : Valuation τ sig (Elt F)) : val3 V0 (no_index (Proc.devRef .tc main_v13)) = res_main_v13 V0 :=
  (val3_keep V0 main_v13 (by decide)).trans (val2_2_main_v13 V0)
theorem val3_main_v75 (V0 : Valuation τ sig (Elt F)) : val3 V0 (no_index (Proc.devRef .tc main_v75)) = concatenate S16x2048x4x64 3 [⟨S16x2048x4x32, (concatenate S16x2048x4x32 3 [⟨S16x2048x4x16, (subf (mulf (res_main_v41 V0) (broadcastInDim S16x2048x4x16 ![0, 1, 2, 3] bcast_S1x2048x1x16_S16x2048x4x16_0_1_2_3 (res_main_v44 V0))) (mulf (res_main_v42 V0) (broadcastInDim S16x2048x4x16 ![0, 1, 2, 3] bcast_S1x2048x1x16_S16x2048x4x16_0_1_2_3 (res_main_v46 V0))))⟩, ⟨S16x2048x4x16, (addf (mulf (res_main_v41 V0) (broadcastInDim S16x2048x4x16 ![0, 1, 2, 3] bcast_S1x2048x1x16_S16x2048x4x16_0_1_2_3 (res_main_v46 V0))) (mulf (res_main_v42 V0) (broadcastInDim S16x2048x4x16 ![0, 1, 2, 3] bcast_S1x2048x1x16_S16x2048x4x16_0_1_2_3 (res_main_v44 V0))))⟩] concatenates_S16x2048x4x16_S16x2048x4x16_S16x2048x4x32_d3)⟩, ⟨S16x2048x4x32, (concatenate S16x2048x4x32 3 [⟨S16x2048x4x16, (subf (mulf (res_main_v58 V0) (broadcastInDim S16x2048x4x16 ![0, 1, 2, 3] bcast_S1x2048x1x16_S16x2048x4x16_0_1_2_3 (res_main_v61 V0))) (mulf (res_main_v59 V0) (broadcastInDim S16x2048x4x16 ![0, 1, 2, 3] bcast_S1x2048x1x16_S16x2048x4x16_0_1_2_3 (res_main_v63 V0))))⟩, ⟨S16x2048x4x16, (addf (mulf (res_main_v58 V0) (broadcastInDim S16x2048x4x16 ![0, 1, 2, 3] bcast_S1x2048x1x16_S16x2048x4x16_0_1_2_3 (res_main_v63 V0))) (mulf (res_main_v59 V0) (broadcastInDim S16x2048x4x16 ![0, 1, 2, 3] bcast_S1x2048x1x16_S16x2048x4x16_0_1_2_3 (res_main_v61 V0))))⟩] concatenates_S16x2048x4x16_S16x2048x4x16_S16x2048x4x32_d3)⟩] concatenates_S16x2048x4x32_S16x2048x4x32_S16x2048x4x64_d3 :=
  (val3_keep V0 main_v75 (by decide)).trans (val2_2_main_v75 V0)
theorem val3_main_v129 (V0 : Valuation τ sig (Elt F)) : val3 V0 (no_index (Proc.devRef .tc main_v129)) = Host.gather gather_S16x2304x2x64_S16x384x1_S16x16x384x2x64_034_1_n_n_1_2_161264 (pad S16x2304x2x64 ![0, 128, 0, 0] ![0, 128, 0, 0] ![0, 0, 0, 0] (concatenate S16x2048x2x64 3 [⟨S16x2048x2x32, (concatenate S16x2048x2x32 3 [⟨S16x2048x2x16, (subf (mulf (res_main_v78 V0) (broadcastInDim S16x2048x2x16 ![0, 1, 2, 3] bcast_S1x2048x1x16_S16x2048x2x16_0_1_2_3 (res_main_v81 V0))) (mulf (res_main_v79 V0) (broadcastInDim S16x2048x2x16 ![0, 1, 2, 3] bcast_S1x2048x1x16_S16x2048x2x16_0_1_2_3 (res_main_v83 V0))))⟩, ⟨S16x2048x2x16, (addf (mulf (res_main_v78 V0) (broadcastInDim S16x2048x2x16 ![0, 1, 2, 3] bcast_S1x2048x1x16_S16x2048x2x16_0_1_2_3 (res_main_v83 V0))) (mulf (res_main_v79 V0) (broadcastInDim S16x2048x2x16 ![0, 1, 2, 3] bcast_S1x2048x1x16_S16x2048x2x16_0_1_2_3 (res_main_v81 V0))))⟩] concatenates_S16x2048x2x16_S16x2048x2x16_S16x2048x2x32_d3)⟩, ⟨S16x2048x2x32, (concatenate S16x2048x2x32 3 [⟨S16x2048x2x16, (subf (mulf (res_main_v95 V0) (broadcastInDim S16x2048x2x16 ![0, 1, 2, 3] bcast_S1x2048x1x16_S16x2048x2x16_0_1_2_3 (res_main_v98 V0))) (mulf (res_main_v96 V0) (broadcastInDim S16x2048x2x16 ![0, 1, 2, 3] bcast_S1x2048x1x16_S16x2048x2x16_0_1_2_3 (res_main_v100 V0))))⟩, ⟨S16x2048x2x16, (addf (mulf (res_main_v95 V0) (broadcastInDim S16x2048x2x16 ![0, 1, 2, 3] bcast_S1x2048x1x16_S16x2048x2x16_0_1_2_3 (res_main_v100 V0))) (mulf (res_main_v96 V0) (broadcastInDim S16x2048x2x16 ![0, 1, 2, 3] bcast_S1x2048x1x16_S16x2048x2x16_0_1_2_3 (res_main_v98 V0))))⟩] concatenates_S16x2048x2x16_S16x2048x2x16_S16x2048x2x32_d3)⟩] concatenates_S16x2048x2x32_S16x2048x2x32_S16x2048x2x64_d3) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) :=
  (val3_keep V0 main_v129 (by decide)).trans (val2_2_main_v129 V0)
theorem val3_main_v137 (V0 : Valuation τ sig (Elt F)) : val3 V0 (no_index (Proc.devRef .tc main_v137)) = Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) :=
  (val3_keep V0 main_v137 (by decide)).trans (val2_2_main_v137 V0)
set_option maxRecDepth 8192 in
theorem val3_main_v161 (V0 : Valuation τ sig (Elt F)) : val3 V0 (no_index (Proc.devRef .tc main_v161)) = andi (cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (res_main_v148 V0))))) (broadcastInDim S16x128x384 ![] bcast_S_S16x128x384 (constantI S_ 32 128#32))) (broadcastInDim S16x128x384 ![0, 1, 2] bcast_S16x1x384_S16x128x384_0_1_2 (cmpi .sge (broadcastInDim S16x1x384 ![0, 2] bcast_S16x384_S16x1x384_0_2 (res_main_v148 V0)) (broadcastInDim S16x1x384 ![] bcast_S_S16x1x384 (constantI S_ 32 0#32)))) := by
  unfold val3
  simp only [ops_part2_2]
  after_results_simp
  simp only [val2_2_main_v160, val2_2_main_v156] <;> rfl
set_option maxRecDepth 8192 in
theorem val3_main_v162 (V0 : Valuation τ sig (Elt F)) : val3 V0 (no_index (Proc.devRef .tc main_v162)) = broadcastInDim S16x1x384 ![0, 2] bcast_S16x384_S16x1x384_0_2 (res_main_v148 V0) := by
  unfold val3
  simp only [ops_part2_2]
  after_results_simp
  simp only [val2_2_main_v148] <;> rfl

/-- The device's buffer contents after @main's first 248 operations. -/
def val3_1 (V0 : Valuation τ sig (Elt F)) : Valuation τ sig (Elt F) := after ops_part3_0 (val3 V0)
/-- The buffers that window `ops_part3_0`'s operations write. -/
abbrev ops_part3_0_W : List (Ref sig .tc) := [main_c_15, main_v163, main_v164, main_v165, main_v166, main_v167, main_v168, main_v169, main_cst_16, main_v170, main_v171, main_v172, main_cst_17, main_call4_v0, main_call4_v1, main_call4_v2, main_v173, main_v174, main_v175, main_cst_18, main_v176, main_v177, main_v178, main_v179, main_v180, main_v181, main_cst_19, main_v182, main_cst_20, main_v183]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_v9 (V0 : Valuation τ sig (Elt F)) : val3_1 V0 (no_index (Proc.devRef .tc main_v9)) = shapeCast _ (extractStridedSlice S16x256x256 ![0, 0, 0] (res_main_v1 V0) slices_S16x256x3328_S16x256x256_0_0_0) shapeCasts_S16x256x256_S16x256x4x64 :=
  (val3_1_keep V0 main_v9 (by decide)).trans (val3_main_v9 V0)
theorem val3_1_main_v11 (V0 : Valuation τ sig (Elt F)) : val3_1 V0 (no_index (Proc.devRef .tc main_v11)) = res_main_v11 V0 :=
  (val3_1_keep V0 main_v11 (by decide)).trans (val3_main_v11 V0)
theorem val3_1_main_v13 (V0 : Valuation τ sig (Elt F)) : val3_1 V0 (no_index (Proc.devRef .tc main_v13)) = res_main_v13 V0 :=
  (val3_1_keep V0 main_v13 (by decide)).trans (val3_main_v13 V0)
theorem val3_1_main_v137 (V0 : Valuation τ sig (Elt F)) : val3_1 V0 (no_index (Proc.devRef .tc main_v137)) = Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0))) :=
  (val3_1_keep V0 main_v137 (by decide)).trans (val3_main_v137 V0)
set_option maxRecDepth 8192 in
set_option maxHeartbeats 2000000 in
theorem val3_1_main_v181 (V0 : Valuation τ sig (Elt F)) : val3_1 V0 (no_index (Proc.devRef .tc main_v181)) = res_main_v181 V0 := by
  unfold val3_1
  simp only [ops_part3_0, TRef.ternary, TRef.unary, TRef.toBuf, TRef.ofBuf, cast_eq]
  after_results_simp
  try dsimp only [Matrix.cons_val]
  try after_results_simp
  simp only [val3_main_arg1, val3_main_v75, val3_main_v11, val3_main_v129, val3_main_v162, val3_main_v161] <;> rfl
set_option maxRecDepth 8192 in
set_option maxHeartbeats 2000000 in
theorem val3_1_main_v182 (V0 : Valuation τ sig (Elt F)) : val3_1 V0 (no_index (Proc.devRef .tc main_v182)) = Host.reduce FloatOps.maximumf (res_main_v181 V0) (constant S_ .f32 0xFF800000#32) reducesTo_S16x16x2x2x128x641_S16x16x2x2x128_d5 h_S_ := by
  unfold val3_1
  simp only [ops_part3_0, TRef.ternary, TRef.unary, TRef.toBuf, TRef.ofBuf, cast_eq]
  after_results_simp
  try dsimp only [Matrix.cons_val]
  try after_results_simp
  simp only [val3_main_arg1, val3_main_v75, val3_main_v11, val3_main_v129, val3_main_v162, val3_main_v161] <;> rfl
set_option maxRecDepth 8192 in
set_option maxHeartbeats 2000000 in
theorem val3_1_main_v183 (V0 : Valuation τ sig (Elt F)) : val3_1 V0 (no_index (Proc.devRef .tc main_v183)) = broadcastInDim S16x16x2x2x128 ![] bcast_S_S16x16x2x2x128 (constant S_ .f32 0xFF800000#32) := by
  unfold val3_1
  simp only [ops_part3_0, TRef.ternary, TRef.unary, TRef.toBuf, TRef.ofBuf, cast_eq]
  after_results_simp
  try dsimp only [Matrix.cons_val]
  try after_results_simp
  all_goals rfl

/-- The device's buffer contents after @main's first 278 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v184, main_v185, main_v186, main_v187, main_v188, main_cst_21, main_v189, main_v190, main_v191, main_v192, main_v193, main_v194, main_v195, main_v196, main_v197, main_v198, main_v199, main_v200, main_v201, main_v202, main_v203, main_cst_22, main_v204, main_v205, main_v206, main_v207, main_v208, main_v209, main_cst_23, main_v210]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_v13 (V0 : Valuation τ sig (Elt F)) : val3_2 V0 (no_index (Proc.devRef .tc main_v13)) = res_main_v13 V0 :=
  (val3_2_keep V0 main_v13 (by decide)).trans (val3_1_main_v13 V0)
set_option maxRecDepth 8192 in
set_option maxHeartbeats 2000000 in
theorem val3_2_main_v200 (V0 : Valuation τ sig (Elt F)) : val3_2 V0 (no_index (Proc.devRef .tc main_v200)) = shapeCast _ (addf (transpose S16x16x128x2x2x64 [0, 1, 5, 2, 4, 3] (Host.dotGeneral dot_S16x16x384x2x64_S16x16x2x2x128x384_S16x16x2x64x2x128_2_5_4_34_013_012 none (Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0)))) (extractStridedSlice S16x16x2x2x128x384 ![0, 0, 0, 0, 0, 0] (res_main_v192 V0) slices_S16x16x2x2x128x641_S16x16x2x2x128x384_0_0_0_0_0_0)) transposes_S16x16x2x64x2x128_S16x16x128x2x2x64_0_1_5_2_4_3) (transpose S16x16x128x2x2x64 [0, 3, 5, 1, 4, 2] (Host.dotGeneral dot_S16x256x2x64_S16x16x2x2x128x256_S16x2x64x16x2x128_1_5_3_134_02_02 none (res_main_v13 V0) (extractStridedSlice S16x16x2x2x128x256 ![0, 0, 0, 0, 0, 384] (res_main_v192 V0) slices_S16x16x2x2x128x641_S16x16x2x2x128x256_0_0_0_0_0_384)) transposes_S16x2x64x16x2x128_S16x16x128x2x2x64_0_3_5_1_4_2)) shapeCasts_S16x16x128x2x2x64_S16x2048x256 := by
  unfold val3_2
  simp only [ops_part3_1]
  after_results_simp
  simp only [val3_1_main_v182, val3_1_main_v183, val3_1_main_v181, val3_1_main_v13, val3_1_main_v137] <;> rfl
set_option maxRecDepth 8192 in
set_option maxHeartbeats 2000000 in
theorem val3_2_main_v209 (V0 : Valuation τ sig (Elt F)) : val3_2 V0 (no_index (Proc.devRef .tc main_v209)) = res_main_v209 V0 := by
  unfold val3_2
  simp only [ops_part3_1]
  after_results_simp
  simp only [val3_1_main_arg1, val3_1_main_v9, val3_1_main_v11] <;> rfl
set_option maxRecDepth 8192 in
set_option maxHeartbeats 2000000 in
theorem val3_2_main_v210 (V0 : Valuation τ sig (Elt F)) : val3_2 V0 (no_index (Proc.devRef .tc main_v210)) = Host.reduce FloatOps.maximumf (res_main_v209 V0) (constant S_ .f32 0xFF800000#32) reducesTo_S16x2x2x256x257_S16x2x2x256_d4 h_S_ := by
  unfold val3_2
  simp only [ops_part3_1]
  after_results_simp
  simp only [val3_1_main_arg1, val3_1_main_v9, val3_1_main_v11] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_cst_24, main_v211, main_v212]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_v13 (V0 : Valuation τ sig (Elt F)) : val4 V0 (no_index (Proc.devRef .tc main_v13)) = res_main_v13 V0 :=
  (val4_keep V0 main_v13 (by decide)).trans (val3_2_main_v13 V0)
theorem val4_main_v200 (V0 : Valuation τ sig (Elt F)) : val4 V0 (no_index (Proc.devRef .tc main_v200)) = shapeCast _ (addf (transpose S16x16x128x2x2x64 [0, 1, 5, 2, 4, 3] (Host.dotGeneral dot_S16x16x384x2x64_S16x16x2x2x128x384_S16x16x2x64x2x128_2_5_4_34_013_012 none (Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0)))) (extractStridedSlice S16x16x2x2x128x384 ![0, 0, 0, 0, 0, 0] (res_main_v192 V0) slices_S16x16x2x2x128x641_S16x16x2x2x128x384_0_0_0_0_0_0)) transposes_S16x16x2x64x2x128_S16x16x128x2x2x64_0_1_5_2_4_3) (transpose S16x16x128x2x2x64 [0, 3, 5, 1, 4, 2] (Host.dotGeneral dot_S16x256x2x64_S16x16x2x2x128x256_S16x2x64x16x2x128_1_5_3_134_02_02 none (res_main_v13 V0) (extractStridedSlice S16x16x2x2x128x256 ![0, 0, 0, 0, 0, 384] (res_main_v192 V0) slices_S16x16x2x2x128x641_S16x16x2x2x128x256_0_0_0_0_0_384)) transposes_S16x2x64x16x2x128_S16x16x128x2x2x64_0_3_5_1_4_2)) shapeCasts_S16x16x128x2x2x64_S16x2048x256 :=
  (val4_keep V0 main_v200 (by decide)).trans (val3_2_main_v200 V0)
theorem val4_main_v209 (V0 : Valuation τ sig (Elt F)) : val4 V0 (no_index (Proc.devRef .tc main_v209)) = res_main_v209 V0 :=
  (val4_keep V0 main_v209 (by decide)).trans (val3_2_main_v209 V0)
set_option maxRecDepth 8192 in
theorem val4_main_v212 (V0 : Valuation τ sig (Elt F)) : val4 V0 (no_index (Proc.devRef .tc main_v212)) = maximumf (broadcastInDim S16x2x2x256 ![] bcast_S_S16x2x2x256 (constant S_ .f32 0xFF800000#32)) (Host.reduce FloatOps.maximumf (res_main_v209 V0) (constant S_ .f32 0xFF800000#32) reducesTo_S16x2x2x256x257_S16x2x2x256_d4 h_S_) := by
  unfold val4
  simp only [ops_part3_2]
  after_results_simp
  simp only [val3_2_main_v210] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v213, main_v214, main_v215, main_v216, main_cst_25, main_v217, main_v218, main_v219, main_v220, main_v221, main_v222, main_v223, main_v224, main_v225]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
set_option maxRecDepth 8192 in
set_option maxHeartbeats 1400000 in
theorem val5_main_v225 (V0 : Valuation τ sig (Elt F)) : val5 V0 (no_index (Proc.devRef .tc main_v225)) = concatenate S16x2304x256 1 [⟨S16x256x256, (shapeCast _ (transpose S16x256x2x2x64 [0, 4, 1, 3, 2] (Host.dotGeneral dot_S16x256x2x64_S16x2x2x256x256_S16x2x64x2x256_1_4_3_23_02_01 none (res_main_v13 V0) (extractStridedSlice S16x2x2x256x256 ![0, 0, 0, 0, 0] (Host.divf (res_main_v216 V0) (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (Host.reduceAdd (res_main_v216 V0) (constant S_ .f32 0x00000000#32) reducesTo_S16x2x2x256x257_S16x2x2x256_d4 h_S_)))) slices_S16x2x2x256x257_S16x2x2x256x256_0_0_0_0_0)) transposes_S16x2x64x2x256_S16x256x2x2x64_0_4_1_3_2) shapeCasts_S16x256x2x2x64_S16x256x256)⟩, ⟨S16x2048x256, (shapeCast _ (addf (transpose S16x16x128x2x2x64 [0, 1, 5, 2, 4, 3] (Host.dotGeneral dot_S16x16x384x2x64_S16x16x2x2x128x384_S16x16x2x64x2x128_2_5_4_34_013_012 none (Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 V0) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 V0) (broadcastInDim S16x384 ![] bcast_S_S16x384 (constantI S_ 32 0#32))) (addi (res_main_v121 V0) (broadcastInDim S16x384 ![] bcast_S_S16x384 (constantI S_ 32 2304#32))) (res_main_v121 V0)))) (extractStridedSlice S16x16x2x2x128x384 ![0, 0, 0, 0, 0, 0] (res_main_v192 V0) slices_S16x16x2x2x128x641_S16x16x2x2x128x384_0_0_0_0_0_0)) transposes_S16x16x2x64x2x128_S16x16x128x2x2x64_0_1_5_2_4_3) (transpose S16x16x128x2x2x64 [0, 3, 5, 1, 4, 2] (Host.dotGeneral dot_S16x256x2x64_S16x16x2x2x128x256_S16x2x64x16x2x128_1_5_3_134_02_02 none (res_main_v13 V0) (extractStridedSlice S16x16x2x2x128x256 ![0, 0, 0, 0, 0, 384] (res_main_v192 V0) slices_S16x16x2x2x128x641_S16x16x2x2x128x256_0_0_0_0_0_384)) transposes_S16x2x64x16x2x128_S16x16x128x2x2x64_0_3_5_1_4_2)) shapeCasts_S16x16x128x2x2x64_S16x2048x256)⟩] concatenates_S16x256x256_S16x2048x256_S16x2304x256_d1 := by
  unfold val5
  simp only [ops_part4]
  after_results_simp
  simp only [val4_main_v200, val4_main_v212, val4_main_v209, val4_main_v13] <;> rfl

theorem after_ops (V0 : Valuation τ sig (Elt F)) : after ops V0 = val5 V0 := by
  simp only [ops, ops_part0, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v225) = concatenate S16x2304x256 1 [⟨S16x256x256, (shapeCast _ (transpose S16x256x2x2x64 [0, 4, 1, 3, 2] (Host.dotGeneral dot_S16x256x2x64_S16x2x2x256x256_S16x2x64x2x256_1_4_3_23_02_01 none (res_main_v13 (launchContents m c)) (extractStridedSlice S16x2x2x256x256 ![0, 0, 0, 0, 0] (Host.divf (res_main_v216 (launchContents m c)) (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (Host.reduceAdd (res_main_v216 (launchContents m c)) (constant S_ .f32 0x00000000#32) reducesTo_S16x2x2x256x257_S16x2x2x256_d4 h_S_)))) slices_S16x2x2x256x257_S16x2x2x256x256_0_0_0_0_0)) transposes_S16x2x64x2x256_S16x256x2x2x64_0_4_1_3_2) shapeCasts_S16x256x2x2x64_S16x256x256)⟩, ⟨S16x2048x256, (shapeCast _ (addf (transpose S16x16x128x2x2x64 [0, 1, 5, 2, 4, 3] (Host.dotGeneral dot_S16x16x384x2x64_S16x16x2x2x128x384_S16x16x2x64x2x128_2_5_4_34_013_012 none (Host.gather gather_S16x2304x2x64_S16x384x1_S16x16x384x2x64_034_1_n_n_1_2_161264 (pad S16x2304x2x64 ![0, 128, 0, 0] ![0, 128, 0, 0] ![0, 0, 0, 0] (shapeCast _ (extractStridedSlice S16x2048x128 ![0, 0, 384] (res_main_v0 (launchContents m c)) slices_S16x2048x3328_S16x2048x128_0_0_384) shapeCasts_S16x2048x128_S16x2048x2x64) (sitofp .f32 (constantI S_ 32 0#32)) pads_S16x2048x2x64_S16x2304x2x64_000_1281280_000_000 h_S_) (broadcastInDim S16x384x1 ![0, 1] bcast_S16x384_S16x384x1_0_1 (select (cmpi .slt (res_main_v121 (launchContents m c)) (broadcastInDim S16x384 ![] bcast_S_S16x384 (constantI S_ 32 0#32))) (addi (res_main_v121 (launchContents m c)) (broadcastInDim S16x384 ![] bcast_S_S16x384 (constantI S_ 32 2304#32))) (res_main_v121 (launchContents m c))))) (extractStridedSlice S16x16x2x2x128x384 ![0, 0, 0, 0, 0, 0] (res_main_v192 (launchContents m c)) slices_S16x16x2x2x128x641_S16x16x2x2x128x384_0_0_0_0_0_0)) transposes_S16x16x2x64x2x128_S16x16x128x2x2x64_0_1_5_2_4_3) (transpose S16x16x128x2x2x64 [0, 3, 5, 1, 4, 2] (Host.dotGeneral dot_S16x256x2x64_S16x16x2x2x128x256_S16x2x64x16x2x128_1_5_3_134_02_02 none (res_main_v13 (launchContents m c)) (extractStridedSlice S16x16x2x2x128x256 ![0, 0, 0, 0, 0, 384] (res_main_v192 (launchContents m c)) slices_S16x16x2x2x128x641_S16x16x2x2x128x256_0_0_0_0_0_384)) transposes_S16x2x64x16x2x128_S16x16x128x2x2x64_0_3_5_1_4_2)) shapeCasts_S16x16x128x2x2x64_S16x2048x256)⟩] concatenates_S16x256x256_S16x2048x256_S16x2304x256_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v225).trans ((congrFun (after_ops (launchContents m c)) (Proc.devRef .tc main_v225)).trans (val5_main_v225 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c)))⟩)
    (run_seq scopedRefs_eq scopedSems_eq defs main (fun _ => ops) main_eq (fun _ => ops_sub) m ρ fun _ => ops_fresh)

end Cert.ReferenceIdeal.Value

end
-- ==== Proof.Soft.lean ====
/- Extended reals: sums, suprema and quotients as a softmax takes them. Nothing here is about a program. -/
module

public import Idealize.ShloMosaic.Lib.Pointwise
public import Mathlib.Data.EReal.Inv

@[expose] public section

noncomputable section

namespace Cert.Soft

open Idealize.ShloMosaic

/-- A number that is neither infinity. -/
def Fin1 (x : EReal) : Prop := x ≠ ⊥ ∧ x ≠ ⊤

theorem fin1_coe (r : ℝ) : Fin1 (r : EReal) := ⟨EReal.coe_ne_bot r, EReal.coe_ne_top r⟩

theorem Fin1.eq_coe {x : EReal} (h : Fin1 x) : ∃ r : ℝ, x = (r : EReal) :=
  ⟨x.toReal, (EReal.coe_toReal h.2 h.1).symm⟩

theorem Fin1.add {x y : EReal} (hx : Fin1 x) (hy : Fin1 y) : Fin1 (x + y) := by
  obtain ⟨a, rfl⟩ := hx.eq_coe; obtain ⟨b, rfl⟩ := hy.eq_coe
  rw [← EReal.coe_add]; exact fin1_coe _

theorem Fin1.mul {x y : EReal} (hx : Fin1 x) (hy : Fin1 y) : Fin1 (x * y) := by
  obtain ⟨a, rfl⟩ := hx.eq_coe; obtain ⟨b, rfl⟩ := hy.eq_coe
  rw [← EReal.coe_mul]; exact fin1_coe _

theorem Fin1.neg {x : EReal} (hx : Fin1 x) : Fin1 (-x) := by
  obtain ⟨a, rfl⟩ := hx.eq_coe
  rw [← EReal.coe_neg]; exact fin1_coe _

theorem Fin1.sub {x y : EReal} (hx : Fin1 x) (hy : Fin1 y) : Fin1 (x - y) := by
  rw [sub_eq_add_neg]; exact hx.add hy.neg

theorem fin1_zero : Fin1 0 := fin1_coe 0

theorem fin1_sum {ι : Type*} (s : Finset ι) (f : ι → EReal) (h : ∀ i, Fin1 (f i)) : Fin1 (∑ i ∈ s, f i) := by
  classical
  induction s using Finset.induction_on with
  | empty => simpa using fin1_zero
  | insert a s ha ih => rw [Finset.sum_insert ha]; exact (h a).add ih

theorem exp_nonneg (x : EReal) : 0 ≤ Ideal.exp x := by
  induction x using EReal.rec with
  | bot => exact le_refl _
  | coe r => exact EReal.coe_nonneg.mpr (Real.exp_pos r).le
  | top => exact le_top

theorem exp_bot_sub (m : EReal) : Ideal.exp (⊥ - m) = 0 := by
  rw [sub_eq_add_neg, EReal.bot_add]; rfl

theorem exp_pos {x : EReal} (h : Fin1 x) : 0 < Ideal.exp x := by
  obtain ⟨a, rfl⟩ := h.eq_coe
  exact EReal.coe_pos.mpr (Real.exp_pos a)

theorem sum_mul_right {ι : Type*} (s : Finset ι) (f : ι → EReal) (c : EReal) (h0 : 0 ≤ c) (h1 : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 h1]

theorem inv_nonneg {d : EReal} (h : 0 ≤ d) : 0 ≤ d⁻¹ := EReal.inv_nonneg_of_nonneg h

theorem inv_ne_top {d : EReal} (h : 0 < d) : d⁻¹ ≠ ⊤ := by
  induction d using EReal.rec with
  | bot => simp
  | coe r => rw [← EReal.coe_inv]; exact EReal.coe_ne_top _
  | top => simp

theorem div_eq {x d : EReal} (h : 0 < d) : Ideal.div x d = x * d⁻¹ := by
  unfold Ideal.div; rw [if_neg h.ne']

/-- Weights normalized before the weighted sum, or after it. -/
theorem sum_div {ι : Type*} (s : Finset ι) (p v : ι → EReal) {d : EReal} (h : 0 < d) :
    ∑ i ∈ s, Ideal.div (p i) d * v i = (∑ i ∈ s, p i * v i) * d⁻¹ := by
  rw [← sum_mul_right _ _ _ (inv_nonneg h.le) (inv_ne_top h)]
  refine Finset.sum_congr rfl fun i _ => ?_
  rw [div_eq h, mul_assoc, mul_comm d⁻¹, ← mul_assoc]

/-- Two families of normalized weights. -/
theorem sum_div₂ {ι κ : Type*} [Fintype ι] [Fintype κ] (p v : ι → EReal) (q w : κ → EReal) {d : EReal} (h : 0 < d) :
    (∑ i, Ideal.div (p i) d * v i) + (∑ i, Ideal.div (q i) d * w i)
      = Ideal.div ((∑ i, p i * v i) + (∑ i, q i * w i)) d := by
  rw [sum_div _ _ _ h, sum_div _ _ _ h, div_eq h,
    EReal.right_distrib_of_nonneg_of_ne_top (inv_nonneg h.le) (inv_ne_top h)]

theorem sum_div₁ {ι : Type*} [Fintype ι] (p v : ι → EReal) {d : EReal} (h : 0 < d) :
    (∑ i, Ideal.div (p i) d * v i) = Ideal.div (∑ i, p i * v i) d := by
  rw [sum_div _ _ _ h, div_eq h]

/-- The scale of a score, taken on the query or on the product. -/
theorem dot_scale {ι : Type*} [Fintype ι] (q k : ι → EReal) (c : EReal) (h0 : 0 ≤ c) (h1 : c ≠ ⊤) :
    ∑ d, q d * c * k d = (∑ d, k d * q d) * c := by
  rw [← sum_mul_right _ _ _ h0 h1]
  refine Finset.sum_congr rfl fun d _ => ?_
  rw [mul_assoc, mul_comm c, ← mul_assoc, mul_comm (q d)]

/-- Two windows of one family that both hold every place where it is not the bottom have one supremum. -/
theorem sup_shift (S : ℕ → EReal) (n a b : ℕ) (hb : ∀ P, S P ≠ ⊥ → b ≤ P ∧ P < b + n) :
    Finset.univ.sup (fun j : Fin n => S (a + j.val)) ≤ Finset.univ.sup (fun j : Fin n => S (b + j.val)) := by
  refine Finset.sup_le fun j _ => ?_
  by_cases h : S (a + j.val) = ⊥
  · rw [h]; exact bot_le
  · obtain ⟨h1, h2⟩ := hb _ h
    have : S (a + j.val) = (fun j : Fin n => S (b + j.val)) ⟨a + j.val - b, by omega⟩ := by
      show _ = S (b + (a + j.val - b)); congr 1; omega
    rw [this]
    exact Finset.le_sup (f := fun j : Fin n => S (b + j.val)) (Finset.mem_univ _)

theorem sup_window (S : ℕ → EReal) (n a b : ℕ) (ha : ∀ P, S P ≠ ⊥ → a ≤ P ∧ P < a + n)
    (hb : ∀ P, S P ≠ ⊥ → b ≤ P ∧ P < b + n) :
    Finset.univ.sup (fun j : Fin n => S (a + j.val)) = Finset.univ.sup (fun j : Fin n => S (b + j.val)) :=
  le_antisymm (sup_shift S n a b hb) (sup_shift S n b a ha)

/-- A window that holds every place where the family is not zero has the family's sum. -/
theorem sum_window_range (H : ℕ → EReal) (n a N : ℕ) (hN : a + n ≤ N) (ha : ∀ P, H P ≠ 0 → a ≤ P ∧ P < a + n) :
    ∑ j : Fin n, H (a + j.val) = ∑ P ∈ Finset.range N, H P := by
  rw [← Finset.sum_range (fun j => H (a + j))]
  have : ∑ j ∈ Finset.range n, H (a + j) = ∑ P ∈ Finset.Ico a (a + n), H P := by
    rw [Finset.sum_Ico_eq_sum_range]; congr 2; omega
  rw [this]
  refine Finset.sum_subset (fun P hP => ?_) (fun P _ hP => ?_)
  · rw [Finset.mem_Ico] at hP; rw [Finset.mem_range]; omega
  · by_contra h
    exact hP (Finset.mem_Ico.mpr (ha P h))

theorem sum_window (H : ℕ → EReal) (n a b : ℕ) (ha : ∀ P, H P ≠ 0 → a ≤ P ∧ P < a + n)
    (hb : ∀ P, H P ≠ 0 → b ≤ P ∧ P < b + n) :
    ∑ j : Fin n, H (a + j.val) = ∑ j : Fin n, H (b + j.val) := by
  rw [sum_window_range H n a (a + b + n) (by omega) ha, sum_window_range H n b (a + b + n) (by omega) hb]

/-- A supremum over an axis cut in two. -/
theorem sup_split {N : ℕ} (m n : ℕ) (h : m + n = N) (f : Fin N → EReal) :
    Finset.univ.sup f = max (Finset.univ.sup fun i : Fin m => f ⟨i.val, by omega⟩)
      (Finset.univ.sup fun i : Fin n => f ⟨m + i.val, by omega⟩) := by
  refine le_antisymm (Finset.sup_le fun i _ => ?_) (max_le (Finset.sup_le fun i _ => ?_) (Finset.sup_le fun i _ => ?_))
  · by_cases hi : i.val < m
    · exact le_max_of_le_left (Finset.le_sup (f := fun i : Fin m => f ⟨i.val, by omega⟩) (Finset.mem_univ ⟨i.val, hi⟩))
    · refine le_max_of_le_right ?_
      have : f i = (fun i : Fin n => f ⟨m + i.val, by omega⟩) ⟨i.val - m, by omega⟩ := by
        show _ = f _; congr 1; apply Fin.ext; show _ = m + (i.val - m); omega
      rw [this]
      exact Finset.le_sup (f := fun i : Fin n => f ⟨m + i.val, by omega⟩) (Finset.mem_univ _)
  · exact Finset.le_sup (Finset.mem_univ _)
  · exact Finset.le_sup (Finset.mem_univ _)

theorem sup_lt_top {ι : Type*} [Fintype ι] (f : ι → EReal) (h : ∀ i, f i ≠ ⊤) : Finset.univ.sup f < ⊤ := by
  rw [Finset.sup_lt_iff bot_lt_top]
  exact fun i _ => lt_top_iff_ne_top.mpr (h i)

/-- The attention of one query: scores `s` (the bottom where the window does not reach) and values `v` of the window,
    scores `t` and values `u` of the context, one sink. -/
def att {n k : ℕ} (s v : Fin n → EReal) (t u : Fin k → EReal) (z : EReal) : EReal :=
  let m := max (max (Finset.univ.sup s) (Finset.univ.sup t)) z
  Ideal.div ((∑ j, Ideal.exp (s j - m) * v j) + ∑ j, Ideal.exp (t j - m) * u j)
    ((∑ j, Ideal.exp (s j - m)) + (∑ j, Ideal.exp (t j - m)) + Ideal.exp (z - m))

/-- The same, its weights normalized before they are used. -/
def attN {n k : ℕ} (s v : Fin n → EReal) (t u : Fin k → EReal) (z : EReal) : EReal :=
  let m := max (max (Finset.univ.sup s) (Finset.univ.sup t)) z
  let d := (∑ j, Ideal.exp (s j - m)) + (∑ j, Ideal.exp (t j - m)) + Ideal.exp (z - m)
  (∑ j, Ideal.div (Ideal.exp (s j - m)) d * v j) + ∑ j, Ideal.div (Ideal.exp (t j - m)) d * u j

theorem sum_exp_nonneg {ι : Type*} [Fintype ι] (f : ι → EReal) : 0 ≤ ∑ j, Ideal.exp (f j) :=
  Finset.sum_nonneg fun _ _ => exp_nonneg _

theorem attN_eq {n k : ℕ} (s v : Fin n → EReal) (t u : Fin k → EReal) (z : EReal) (hs : ∀ j, s j ≠ ⊤)
    (ht : ∀ j, t j ≠ ⊤) (hz : Fin1 z) : attN s v t u z = att s v t u z := by
  unfold attN att
  have hm : Fin1 (max (max (Finset.univ.sup s) (Finset.univ.sup t)) z) := by
    constructor
    · exact (lt_of_lt_of_le (bot_lt_iff_ne_bot.mpr hz.1) (le_max_right _ _)).ne'
    · exact (max_lt (max_lt (sup_lt_top s hs) (sup_lt_top t ht)) (lt_top_iff_ne_top.mpr hz.2)).ne
  refine sum_div₂ _ _ _ _ ?_
  refine lt_of_lt_of_le (exp_pos (hz.sub hm)) ?_
  exact le_add_of_nonneg_left (add_nonneg (sum_exp_nonneg _) (sum_exp_nonneg _))

/-- The attention of one query of the context: no window. -/
def attC {k : ℕ} (t u : Fin k → EReal) (z : EReal) : EReal :=
  let m := max (Finset.univ.sup t) z
  Ideal.div (∑ j, Ideal.exp (t j - m) * u j) ((∑ j, Ideal.exp (t j - m)) + Ideal.exp (z - m))

def attCN {k : ℕ} (t u : Fin k → EReal) (z : EReal) : EReal :=
  let m := max (Finset.univ.sup t) z
  let d := (∑ j, Ideal.exp (t j - m)) + Ideal.exp (z - m)
  ∑ j, Ideal.div (Ideal.exp (t j - m)) d * u j

theorem attCN_eq {k : ℕ} (t u : Fin k → EReal) (z : EReal) (ht : ∀ j, t j ≠ ⊤) (hz : Fin1 z) :
    attCN t u z = attC t u z := by
  unfold attCN attC
  have hm : Fin1 (max (Finset.univ.sup t) z) := by
    constructor
    · exact (lt_of_lt_of_le (bot_lt_iff_ne_bot.mpr hz.1) (le_max_right _ _)).ne'
    · exact (max_lt (sup_lt_top t ht) (lt_top_iff_ne_top.mpr hz.2)).ne
  refine sum_div₁ _ _ ?_
  exact lt_of_lt_of_le (exp_pos (hz.sub hm)) (le_add_of_nonneg_left (sum_exp_nonneg _))

/-- The window may be laid anywhere over the keys, so long as it holds every key that the query reaches. -/
theorem att_window {k : ℕ} (n a b : ℕ) (S V W : ℕ → EReal) (t u : Fin k → EReal) (z : EReal)
    (ha : ∀ P, S P ≠ ⊥ → a ≤ P ∧ P < a + n) (hb : ∀ P, S P ≠ ⊥ → b ≤ P ∧ P < b + n)
    (hV : ∀ P, S P ≠ ⊥ → V P = W P) :
    att (fun j : Fin n => S (a + j.val)) (fun j : Fin n => V (a + j.val)) t u z
      = att (fun j : Fin n => S (b + j.val)) (fun j : Fin n => W (b + j.val)) t u z := by
  have e0 : ∀ (m : EReal) P, S P = ⊥ → Ideal.exp (S P - m) = 0 := fun m P h => by rw [h, exp_bot_sub]
  have key : ∀ (m : EReal) (f : ℕ → EReal) P, Ideal.exp (S P - m) * f P ≠ 0 → S P ≠ ⊥ := fun m f P h hc => by
    rw [e0 m P hc, zero_mul] at h; exact h rfl
  have key' : ∀ (m : EReal) P, Ideal.exp (S P - m) ≠ 0 → S P ≠ ⊥ := fun m P h hc => h (e0 m P hc)
  unfold att
  rw [sup_window S n a b ha hb]
  generalize max (max (Finset.univ.sup fun j : Fin n => S (b + j.val)) (Finset.univ.sup t)) z = m
  have h1 := sum_window (fun P => Ideal.exp (S P - m)) n a b (fun P h => ha P (key' m P h)) (fun P h => hb P (key' m P h))
  have h2 := sum_window (fun P => Ideal.exp (S P - m) * V P) n a b (fun P h => ha P (key m V P h)) (fun P h => hb P (key m V P h))
  have h3 : ∀ P, Ideal.exp (S P - m) * V P = Ideal.exp (S P - m) * W P := fun P => by
    by_cases h : S P = ⊥
    · rw [e0 m P h, zero_mul, zero_mul]
    · rw [hV P h]
  simp only [h3] at h2
  simp only [h1, h2, h3]

end Cert.Soft

end
-- ==== Proof.KPay.lean ====
module

public import proofs.«01_k».proof.Proof.Gen.KernelIdeal.Skeleton
public import proofs.«01_k».proof.Proof.Soft
public import Idealize.ShloMosaic.Lib.Pointwise
public import Idealize.ShloMosaic.Lib.Tactic.WordOmega
public import Idealize.ShloMosaic.Lib.Pipeline.ValueKit

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

theorem sel_of {c : BitVec 1} {p : Prop} [Decidable p] (h : c = 1#1 ↔ p) (a b : EReal) :
    Scalar.select c a b = if p then a else b := by
  unfold Scalar.select
  exact if_congr h rfl rfl

theorem sel_sink (R : ℕ) (hR : R < 256) (a b : EReal) :
    Scalar.select (IntOp.cmpi .sge (BitVec.ofNat 32 R) 128#32) a b = if 128 ≤ R then a else b := by
  refine sel_of ?_ a b
  word_omega

/-- A distance of two words that are small naturals, compared. -/
theorem abs_le_iff (p q : ℕ) (hp : p < 65536) (hq : q < 65536) :
    IntOp.cmpi .sle (IntOp.absi (IntOp.subi (BitVec.ofNat 32 p) (BitVec.ofNat 32 q))) 128#32 = 1#1
      ↔ (p ≤ q + 128 ∧ q ≤ p + 128) := by
  have key : ∀ n : ℕ, n < 65536 → (IntOp.cmpi .sle (BitVec.ofNat 32 n) 128#32 = 1#1 ↔ n ≤ 128) := fun n hn => by
    word_omega
  by_cases h : q ≤ p
  · have e : IntOp.absi (IntOp.subi (BitVec.ofNat 32 p) (BitVec.ofNat 32 q)) = BitVec.ofNat 32 (p - q) := by
      have e1 : IntOp.subi (BitVec.ofNat 32 p) (BitVec.ofNat 32 q) = BitVec.ofNat 32 (p - q) := by
        apply BitVec.eq_of_toNat_eq
        simp only [IntOp.subi, BitVec.toNat_sub, BitVec.toNat_ofNat]
        omega
      rw [e1]; unfold IntOp.absi
      rw [if_neg]
      rw [BitVec.msb_eq_decide, BitVec.toNat_ofNat]
      simp only [decide_eq_true_eq, not_le]
      omega
    rw [e, key _ (by omega)]
    omega
  · have e : IntOp.absi (IntOp.subi (BitVec.ofNat 32 p) (BitVec.ofNat 32 q)) = BitVec.ofNat 32 (q - p) := by
      unfold IntOp.absi
      rw [if_pos]
      · apply BitVec.eq_of_toNat_eq
        simp only [IntOp.subi, BitVec.toNat_sub, BitVec.toNat_neg, BitVec.toNat_ofNat]
        omega
      · rw [BitVec.msb_eq_decide]
        simp only [IntOp.subi, BitVec.toNat_sub, BitVec.toNat_ofNat, decide_eq_true_eq]
        omega
    rw [e, key _ (by omega)]
    omega

theorem addi_ofNat (a b : ℕ) : IntOp.addi (BitVec.ofNat 32 a) (BitVec.ofNat 32 b) = BitVec.ofNat 32 (a + b) := by
  rw [IntOp.addi, ← BitVec.ofNat_add]

abbrev lane (w : BitVec 32) : BitVec 1 :=
  IntOp.cmpi CmpIPredicate.slt
              (Scalar.select
                (IntOp.andi
                  (IntOp.xori
                    (IntOp.cmpi CmpIPredicate.slt
                      (IntOp.remsi ArithUnit.vector w
                        (Scalar.select (Scalar.cmpi CmpIPredicate.eq 32#32 0#32) 1#32 32#32))
                      0#32)
                    (Scalar.cmpi CmpIPredicate.slt (Scalar.select (Scalar.cmpi CmpIPredicate.eq 32#32 0#32) 1#32 32#32)
                      0#32))
                  (IntOp.cmpi CmpIPredicate.ne
                    (IntOp.remsi ArithUnit.vector w
                      (Scalar.select (Scalar.cmpi CmpIPredicate.eq 32#32 0#32) 1#32 32#32))
                    0#32))
                (IntOp.addi
                  (IntOp.remsi ArithUnit.vector w
                    (Scalar.select (Scalar.cmpi CmpIPredicate.eq 32#32 0#32) 1#32 32#32))
                  (Scalar.select (Scalar.cmpi CmpIPredicate.eq 32#32 0#32) 1#32 32#32))
                (IntOp.remsi ArithUnit.vector w
                  (Scalar.select (Scalar.cmpi CmpIPredicate.eq 32#32 0#32) 1#32 32#32)))
              16#32

theorem lane_iff : ∀ l : Fin 256, lane (BitVec.ofNat 32 l.val) = 1#1 ↔ l.val % 32 < 16 := by
  decide +kernel

theorem sel_lane (l : ℕ) (hl : l < 256) (a b : EReal) :
    Scalar.select (lane (BitVec.ofNat 32 l)) a b = if l % 32 < 16 then a else b :=
  sel_of (lane_iff ⟨l, hl⟩) a b

abbrev rowIn (w : BitVec 32) : BitVec 32 :=
              (Scalar.select
                (IntOp.andi
                  (IntOp.xori
                    (IntOp.cmpi CmpIPredicate.slt
                      (IntOp.remsi ArithUnit.vector w
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector w
                      (Scalar.select (Scalar.cmpi CmpIPredicate.eq 128#32 0#32) 1#32 128#32))
                    0#32))
                (IntOp.addi
                  (IntOp.remsi ArithUnit.vector w
                    (Scalar.select (Scalar.cmpi CmpIPredicate.eq 128#32 0#32) 1#32 128#32))
                  (Scalar.select (Scalar.cmpi CmpIPredicate.eq 128#32 0#32) 1#32 128#32))
                (IntOp.remsi ArithUnit.vector w
                  (Scalar.select (Scalar.cmpi CmpIPredicate.eq 128#32 0#32) 1#32 128#32)))

theorem rowIn_eq : ∀ R : Fin 256, rowIn (BitVec.ofNat 32 R.val) = BitVec.ofNat 32 (R.val % 128) := by
  decide +kernel

abbrev winStart (i : BitVec 32) : BitVec 32 :=
  Scalar.minsi (1664#32) (Scalar.maxsi (0#32) (Scalar.subi (Scalar.muli (Scalar.subi i 2#32) 128#32) 128#32))

abbrev reach (i r d : BitVec 32) : BitVec 1 :=
      (IntOp.cmpi CmpIPredicate.sle
        (IntOp.absi
          (IntOp.subi
            (IntOp.addi (Scalar.muli (Scalar.subi i 2#32) 128#32) r)
            (IntOp.addi (winStart i) d)))
        128#32)

/-- Where the window of block `n` starts. -/
def ws (n : ℕ) : ℕ := min 1664 (n * 128 - 128)

theorem winStart_eq : ∀ n : Fin 16, winStart (BitVec.ofNat 32 (n.val + 2)) = BitVec.ofNat 32 (ws n.val) := by
  decide +kernel

theorem mulsub_eq : ∀ n : Fin 16, Scalar.muli (Scalar.subi (BitVec.ofNat 32 (n.val + 2)) 2#32) 128#32 = BitVec.ofNat 32 (n.val * 128) := by
  decide +kernel

theorem reach_iff (n : Fin 16) (r d : ℕ) (hr : r < 128) (hd : d < 384) :
    reach (BitVec.ofNat 32 (n.val + 2)) (BitVec.ofNat 32 r) (BitVec.ofNat 32 d) = 1#1
      ↔ (n.val * 128 + r ≤ ws n.val + d + 128 ∧ ws n.val + d ≤ n.val * 128 + r + 128) := by
  unfold reach
  rw [winStart_eq n, mulsub_eq n]
  have hn := n.isLt
  have hw : ws n.val ≤ 1664 := by unfold ws; omega
  rw [addi_ofNat, addi_ofNat, abs_le_iff _ _ (by omega) (by omega)]

theorem sel_reach (n : Fin 16) (R r d : ℕ) (hR : R < 256) (hr : r < 128) (hRr : R % 128 = r) (hd : d < 384) (a b : EReal) :
    Scalar.select (reach (BitVec.ofNat 32 (n.val + 2)) (rowIn (BitVec.ofNat 32 R)) (BitVec.ofNat 32 d)) a b
      = if n.val * 128 + r ≤ ws n.val + d + 128 ∧ ws n.val + d ≤ n.val * 128 + r + 128 then a else b := by
  rw [rowIn_eq ⟨R, hR⟩]
  subst hRr
  exact sel_of (reach_iff n _ d hr hd) a b

theorem bot_bits : Ideal.ofBits .f32 4286578688#32 = ⊥ := by simp [Ideal.ofBits, Ideal.ieee]

theorem mask_bot : (Named.named κ "mask" (4048155338#32 : BitVec (FTy.bits .f32)) : Ideal .f32) = (⊥ : EReal) := rfl

/-- A score of the context. -/
def scC (Q : FVec Ideal S128x256 .f32) (kk : Vec Ideal S1x256x64 .bf16) (g : Fin 4) (r : Fin 128) (j : Fin 256) : EReal :=
  ∑ e : Fin 64, Q (ix2 r ⟨64 * g.val + e.val, by omega⟩) * kk (ix3 0 j e)

/-- A score of the window. -/
def scW (n : Fin 16) (Q : FVec Ideal S128x256 .f32) (kk : Vec Ideal S1x384x64 .bf16) (g : Fin 4) (r : Fin 128) (j : Fin 384) : EReal :=
  if n.val * 128 + r.val ≤ ws n.val + j.val + 128 ∧ ws n.val + j.val ≤ n.val * 128 + r.val + 128 then
    ∑ e : Fin 64, Q (ix2 r ⟨64 * g.val + e.val, by omega⟩) * kk (ix3 0 j e) else ⊥

theorem pay6_lo (Q : FVec Ideal S128x256 .f32) (kk vv : Vec Ideal S1x256x64 .bf16) (s0 s1 : Elt Ideal .f32) (r : Fin 128) (d : Fin 64) :
    k0_pay6 Q (iota Kind.tc S256x1 32 [0] iota_S256x1_d0_w32) kk s0 s1 vv (ix2 ⟨r.val, by omega⟩ d)
      = attC (scC Q kk 0 r) (fun j => vv (ix3 0 j d)) s0 := by
  pointwise [k0_pay6, scC, attC]
  rw [sel_sink (r.val) (by omega), if_neg (by omega), bot_bits]
  rfl

theorem pay6_hi (Q : FVec Ideal S128x256 .f32) (kk vv : Vec Ideal S1x256x64 .bf16) (s0 s1 : Elt Ideal .f32) (r : Fin 128) (d : Fin 64) :
    k0_pay6 Q (iota Kind.tc S256x1 32 [0] iota_S256x1_d0_w32) kk s0 s1 vv (ix2 ⟨128 + r.val, by omega⟩ d)
      = attC (scC Q kk 1 r) (fun j => vv (ix3 0 j d)) s1 := by
  pointwise [k0_pay6, scC, attC]
  rw [sel_sink (128 + r.val) (by omega), if_pos (by omega), bot_bits]
  rfl

end Cert.KernelIdeal.KVal

end
-- ==== Proof.KCtx.lean ====
module

public import proofs.«01_k».proof.Proof.Gen.KernelIdeal.Skeleton
public import proofs.«01_k».proof.Proof.KPay
public import Idealize.ShloMosaic.Lib.Pointwise
public import Idealize.ShloMosaic.Lib.Tactic.WordOmega
public import Idealize.ShloMosaic.Lib.Pipeline.ValueKit

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

theorem ctx_0 (Q : FVec Ideal S128x256 .f32) (kk0 kk1 vv0 vv1 : Vec Ideal S1x256x64 .bf16) (s0 s1 s2 s3 : Elt Ideal .f32)
    (r : Fin 128) (e : Fin 64) :
    k0_pay1 (iota Kind.tc S256x1 32 [0] iota_S256x1_d0_w32) (k0_pay6 Q (iota Kind.tc S256x1 32 [0] iota_S256x1_d0_w32) kk0 s0 s1 vv0) (k0_pay7 Q kk1) (k0_pay8 s2) k0_pay9 s3 vv1 (ix3 0 r ⟨e.val, by omega⟩)
      = attC (scC Q kk0 0 r) (fun j => vv0 (ix3 0 j e)) s0 := by
  refine Eq.trans ?_ (pay6_lo Q kk0 vv0 s0 s1 r e)
  pointwise [k0_pay1]

theorem ctx_1 (Q : FVec Ideal S128x256 .f32) (kk0 kk1 vv0 vv1 : Vec Ideal S1x256x64 .bf16) (s0 s1 s2 s3 : Elt Ideal .f32)
    (r : Fin 128) (e : Fin 64) :
    k0_pay1 (iota Kind.tc S256x1 32 [0] iota_S256x1_d0_w32) (k0_pay6 Q (iota Kind.tc S256x1 32 [0] iota_S256x1_d0_w32) kk0 s0 s1 vv0) (k0_pay7 Q kk1) (k0_pay8 s2) k0_pay9 s3 vv1 (ix3 0 r ⟨64 + e.val, by omega⟩)
      = attC (scC Q kk0 1 r) (fun j => vv0 (ix3 0 j e)) s1 := by
  refine Eq.trans ?_ (pay6_hi Q kk0 vv0 s0 s1 r e)
  pointwise [k0_pay1]

set_option maxHeartbeats 2000000 in
theorem ctx_2 (Q : FVec Ideal S128x256 .f32) (kk0 kk1 vv0 vv1 : Vec Ideal S1x256x64 .bf16) (s0 s1 s2 s3 : Elt Ideal .f32)
    (r : Fin 128) (e : Fin 64) :
    k0_pay1 (iota Kind.tc S256x1 32 [0] iota_S256x1_d0_w32) (k0_pay6 Q (iota Kind.tc S256x1 32 [0] iota_S256x1_d0_w32) kk0 s0 s1 vv0) (k0_pay7 Q kk1) (k0_pay8 s2) k0_pay9 s3 vv1 (ix3 0 r ⟨128 + e.val, by omega⟩)
      = attC (scC Q kk1 2 r) (fun j => vv1 (ix3 0 j e)) s2 := by
  pointwise [k0_pay1, k0_pay7, k0_pay8, k0_pay9, scC, attC]
  rw [dif_neg (by omega)]
  rw [dif_neg (by omega)]
  rw [dif_pos (by omega)]
  have he : (⟨128 + e.val - 64 - 64, by omega⟩ : Fin 64) = e := Fin.ext (by show 128 + e.val - 64 - 64 = e.val; omega)
  rw [he]
  rw [sel_sink (r.val) (by omega), if_neg (by omega), bot_bits]
  rfl

set_option maxHeartbeats 2000000 in
theorem ctx_3 (Q : FVec Ideal S128x256 .f32) (kk0 kk1 vv0 vv1 : Vec Ideal S1x256x64 .bf16) (s0 s1 s2 s3 : Elt Ideal .f32)
    (r : Fin 128) (e : Fin 64) :
    k0_pay1 (iota Kind.tc S256x1 32 [0] iota_S256x1_d0_w32) (k0_pay6 Q (iota Kind.tc S256x1 32 [0] iota_S256x1_d0_w32) kk0 s0 s1 vv0) (k0_pay7 Q kk1) (k0_pay8 s2) k0_pay9 s3 vv1 (ix3 0 r ⟨192 + e.val, by omega⟩)
      = attC (scC Q kk1 3 r) (fun j => vv1 (ix3 0 j e)) s3 := by
  pointwise [k0_pay1, k0_pay7, k0_pay8, k0_pay9, scC, attC]
  rw [dif_neg (by omega)]
  rw [dif_neg (by omega)]
  rw [dif_neg (by omega)]
  have he : (⟨192 + e.val - 64 - 64 - 64, by omega⟩ : Fin 64) = e := Fin.ext (by show 192 + e.val - 64 - 64 - 64 = e.val; omega)
  rw [he]
  rw [sel_sink (128 + r.val) (by omega), if_pos (by omega), bot_bits]
  rfl

end Cert.KernelIdeal.KVal

end
-- ==== Proof.KLat.lean ====
module

public import proofs.«01_k».proof.Proof.Gen.KernelIdeal.Skeleton
public import proofs.«01_k».proof.Proof.KPay
public import Idealize.ShloMosaic.Lib.Pointwise
public import Idealize.ShloMosaic.Lib.Tactic.WordOmega
public import Idealize.ShloMosaic.Lib.Pipeline.ValueKit

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

theorem sc_0 (n : Fin 16) (Q : FVec Ideal S128x256 .f32) (kk : Vec Ideal S1x384x64 .bf16) (r : Fin 128) (j : Fin 384) :
    k0_pay14 (k0_pay10 (BitVec.ofNat 32 (n.val + 2)) (iota Kind.tc S256x1 32 [0] iota_S256x1_d0_w32)) (k0_pay12 Q kk) (k0_pay13 (F := Ideal)) (ix2 ⟨r.val, by omega⟩ j) = scW n Q kk 0 r j := by
  pointwise [k0_pay14, k0_pay10, k0_pay12, k0_pay13, k0_pay11, scW]
  rw [sel_reach n (r.val) r.val j.val (by omega) (by omega) (by omega) (by omega), mask_bot]

theorem sc_1 (n : Fin 16) (Q : FVec Ideal S128x256 .f32) (kk : Vec Ideal S1x384x64 .bf16) (r : Fin 128) (j : Fin 384) :
    k0_pay14 (k0_pay10 (BitVec.ofNat 32 (n.val + 2)) (iota Kind.tc S256x1 32 [0] iota_S256x1_d0_w32)) (k0_pay12 Q kk) (k0_pay13 (F := Ideal)) (ix2 ⟨128 + r.val, by omega⟩ j) = scW n Q kk 1 r j := by
  pointwise [k0_pay14, k0_pay10, k0_pay12, k0_pay13, k0_pay11, scW]
  rw [sel_reach n (128 + r.val) r.val j.val (by omega) (by omega) (by omega) (by omega), mask_bot]

theorem sc_2 (n : Fin 16) (Q : FVec Ideal S128x256 .f32) (kk : Vec Ideal S1x384x64 .bf16) (r : Fin 128) (j : Fin 384) :
    k0_pay24 Q (k0_pay10 (BitVec.ofNat 32 (n.val + 2)) (iota Kind.tc S256x1 32 [0] iota_S256x1_d0_w32)) kk (ix2 ⟨r.val, by omega⟩ j) = scW n Q kk 2 r j := by
  pointwise [k0_pay24, k0_pay10, k0_pay23, scW]
  rw [sel_reach n (r.val) r.val j.val (by omega) (by omega) (by omega) (by omega), mask_bot]

theorem sc_3 (n : Fin 16) (Q : FVec Ideal S128x256 .f32) (kk : Vec Ideal S1x384x64 .bf16) (r : Fin 128) (j : Fin 384) :
    k0_pay24 Q (k0_pay10 (BitVec.ofNat 32 (n.val + 2)) (iota Kind.tc S256x1 32 [0] iota_S256x1_d0_w32)) kk (ix2 ⟨128 + r.val, by omega⟩ j) = scW n Q kk 3 r j := by
  pointwise [k0_pay24, k0_pay10, k0_pay23, scW]
  rw [sel_reach n (128 + r.val) r.val j.val (by omega) (by omega) (by omega) (by omega), mask_bot]

end Cert.KernelIdeal.KVal

end
-- ==== Proof.KLatC.lean ====
module

public import proofs.«01_k».proof.Proof.Gen.KernelIdeal.Skeleton
public import proofs.«01_k».proof.Proof.KLat

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

abbrev io : IVec S256x1 32 := iota Kind.tc S256x1 32 [0] iota_S256x1_d0_w32

/-- What the kernel stores for a block of queries of the sequence. -/
abbrev latPay (b : BitVec 32) (Q : FVec Ideal S128x256 .f32) (kW0 kW1 vW0 vW1 : Vec Ideal S1x384x64 .bf16)
    (kC0 kC1 vC0 vC1 : Vec Ideal S1x256x64 .bf16) (s0 s1 s2 s3 : Elt Ideal .f32) : FVec Ideal S1x128x256 .f32 :=
  k0_pay2
    (k0_pay22 (k0_pay20 io (k0_pay10 b io) (k0_pay11 Q) (k0_pay12 Q kW0) k0_pay13 kC0 s0 s1 vW0 vC0)
      (k0_pay21 io (k0_pay10 b io) (k0_pay11 Q) (k0_pay12 Q kW0) k0_pay13 kC0 s0 s1))
    (k0_pay29 Q io (k0_pay10 b io) kW1 kC1 s2 s3) (k0_pay30 Q io (k0_pay10 b io) kW1 kC1 s2 s3)
    (k0_pay31 Q io (k0_pay10 b io) kW1 kC1 s2 s3) vW1 vC1

end Cert.KernelIdeal.KVal

end
-- ==== Proof.KLat0.lean ====
module

public import proofs.«01_k».proof.Proof.Gen.KernelIdeal.Skeleton
public import proofs.«01_k».proof.Proof.KLatC

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

set_option maxHeartbeats 4000000 in
theorem lat_0 (n : Fin 16) (Q : FVec Ideal S128x256 .f32) (kW0 kW1 vW0 vW1 : Vec Ideal S1x384x64 .bf16)
    (kC0 kC1 vC0 vC1 : Vec Ideal S1x256x64 .bf16) (s0 s1 s2 s3 : Elt Ideal .f32) (r : Fin 128) (e : Fin 64) :
    latPay (BitVec.ofNat 32 (n.val + 2)) Q kW0 kW1 vW0 vW1 kC0 kC1 vC0 vC1 s0 s1 s2 s3 (ix3 0 r ⟨e.val, by omega⟩)
      = att (scW n Q kW0 0 r) (fun j => vW0 (ix3 0 j e)) (scC Q kC0 0 r) (fun j => vC0 (ix3 0 j e)) s0 := by
  pointwise [k0_pay2, k0_pay22, k0_pay20, k0_pay21, k0_pay15, k0_pay16, k0_pay17, k0_pay18, k0_pay19, k0_pay11, scC, att]
  simp only [sc_0]
  rw [sel_sink (r.val) (by omega), if_neg (by omega), bot_bits]
  rfl

end Cert.KernelIdeal.KVal

end
-- ==== Proof.KLat1.lean ====
module

public import proofs.«01_k».proof.Proof.Gen.KernelIdeal.Skeleton
public import proofs.«01_k».proof.Proof.KLatC

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

set_option maxHeartbeats 4000000 in
theorem lat_1 (n : Fin 16) (Q : FVec Ideal S128x256 .f32) (kW0 kW1 vW0 vW1 : Vec Ideal S1x384x64 .bf16)
    (kC0 kC1 vC0 vC1 : Vec Ideal S1x256x64 .bf16) (s0 s1 s2 s3 : Elt Ideal .f32) (r : Fin 128) (e : Fin 64) :
    latPay (BitVec.ofNat 32 (n.val + 2)) Q kW0 kW1 vW0 vW1 kC0 kC1 vC0 vC1 s0 s1 s2 s3 (ix3 0 r ⟨64 + e.val, by omega⟩)
      = att (scW n Q kW0 1 r) (fun j => vW0 (ix3 0 j e)) (scC Q kC0 1 r) (fun j => vC0 (ix3 0 j e)) s1 := by
  pointwise [k0_pay2, k0_pay22, k0_pay20, k0_pay21, k0_pay15, k0_pay16, k0_pay17, k0_pay18, k0_pay19, k0_pay11, scC, att]
  simp only [sc_1]
  rw [sel_sink (128 + r.val) (by omega), if_pos (by omega), bot_bits]
  rfl

end Cert.KernelIdeal.KVal

end
-- ==== Proof.KLat2.lean ====
module

public import proofs.«01_k».proof.Proof.Gen.KernelIdeal.Skeleton
public import proofs.«01_k».proof.Proof.KLatC

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

set_option maxHeartbeats 4000000 in
theorem lat_2 (n : Fin 16) (Q : FVec Ideal S128x256 .f32) (kW0 kW1 vW0 vW1 : Vec Ideal S1x384x64 .bf16)
    (kC0 kC1 vC0 vC1 : Vec Ideal S1x256x64 .bf16) (s0 s1 s2 s3 : Elt Ideal .f32) (r : Fin 128) (e : Fin 64) :
    latPay (BitVec.ofNat 32 (n.val + 2)) Q kW0 kW1 vW0 vW1 kC0 kC1 vC0 vC1 s0 s1 s2 s3 (ix3 0 r ⟨128 + e.val, by omega⟩)
      = att (scW n Q kW1 2 r) (fun j => vW1 (ix3 0 j e)) (scC Q kC1 2 r) (fun j => vC1 (ix3 0 j e)) s2 := by
  pointwise [k0_pay2, k0_pay29, k0_pay30, k0_pay31, k0_pay28, k0_pay27, k0_pay26, k0_pay25, k0_pay23, scC, att]
  rw [dif_neg (by omega)]
  rw [dif_neg (by omega)]
  rw [dif_pos (by omega)]
  have he : (⟨128 + e.val - 64 - 64, by omega⟩ : Fin 64) = e := Fin.ext (by show 128 + e.val - 64 - 64 = e.val; omega)
  rw [he]
  simp only [sc_2]
  rw [sel_sink (r.val) (by omega), if_neg (by omega), bot_bits]
  rfl

end Cert.KernelIdeal.KVal

end
-- ==== Proof.KLat3.lean ====
module

public import proofs.«01_k».proof.Proof.Gen.KernelIdeal.Skeleton
public import proofs.«01_k».proof.Proof.KLatC

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

set_option maxHeartbeats 4000000 in
theorem lat_3 (n : Fin 16) (Q : FVec Ideal S128x256 .f32) (kW0 kW1 vW0 vW1 : Vec Ideal S1x384x64 .bf16)
    (kC0 kC1 vC0 vC1 : Vec Ideal S1x256x64 .bf16) (s0 s1 s2 s3 : Elt Ideal .f32) (r : Fin 128) (e : Fin 64) :
    latPay (BitVec.ofNat 32 (n.val + 2)) Q kW0 kW1 vW0 vW1 kC0 kC1 vC0 vC1 s0 s1 s2 s3 (ix3 0 r ⟨192 + e.val, by omega⟩)
      = att (scW n Q kW1 3 r) (fun j => vW1 (ix3 0 j e)) (scC Q kC1 3 r) (fun j => vC1 (ix3 0 j e)) s3 := by
  pointwise [k0_pay2, k0_pay29, k0_pay30, k0_pay31, k0_pay28, k0_pay27, k0_pay26, k0_pay25, k0_pay23, scC, att]
  rw [dif_neg (by omega)]
  rw [dif_neg (by omega)]
  rw [dif_neg (by omega)]
  have he : (⟨192 + e.val - 64 - 64 - 64, by omega⟩ : Fin 64) = e := Fin.ext (by show 192 + e.val - 64 - 64 - 64 = e.val; omega)
  rw [he]
  simp only [sc_3]
  rw [sel_sink (128 + r.val) (by omega), if_pos (by omega), bot_bits]
  rfl

end Cert.KernelIdeal.KVal

end
-- ==== Proof.KTab.lean ====
module

public import proofs.«01_k».proof.Proof.Gen.KernelIdeal.Frame
public import Idealize.ShloMosaic.Lib.Pointwise
public import Idealize.ShloMosaic.Lib.StableHlo.ReadAt
public import Idealize.ShloMosaic.Lib.Claim
public import Idealize.ShloMosaic.Lib.Pipeline.ValueKit
public import proofs.«01_k».proof.Proof.Soft

@[expose] public section

set_option maxRecDepth 16384

noncomputable section

namespace Cert.Soft

open Idealize.ShloMosaic

/-- The row of the grid a token lies in, by the host's floor division. -/
def rowW (i : ℕ) : BitVec 32 :=
  Scalar.select
    (IntOp.andi
      (IntOp.cmpi CmpIPredicate.ne
        (if BitVec.ofNat 32 i = 0 then (0 : BitVec 32) else if (BitVec.ofNat 32 i).msb = true then -1 else 1)
        (if 64#32 = 0 then (0 : BitVec 32) else if BitVec.msb (64#32) = true then -1 else 1))
      (IntOp.cmpi CmpIPredicate.ne (IntOp.remsi ArithUnit.host (BitVec.ofNat 32 i) 64#32) 0#32))
    (IntOp.subi (IntOp.divsi ArithUnit.host (BitVec.ofNat 32 i) 64#32) 1#32)
    (IntOp.divsi ArithUnit.host (BitVec.ofNat 32 i) 64#32)

/-- The remainder's divisor: the host guards it against zero. -/
def divW : BitVec 32 := Scalar.select (IntOp.cmpi CmpIPredicate.eq 64#32 0#32) (1#32) 64#32

/-- The column of the grid a token lies in, by the host's floor remainder. -/
def colW (i : ℕ) : BitVec 32 :=
  Scalar.select
    (IntOp.andi
      (IntOp.cmpi CmpIPredicate.ne
        (IntOp.cmpi CmpIPredicate.slt (IntOp.remsi ArithUnit.host (BitVec.ofNat 32 i) divW) 0#32)
        (IntOp.cmpi CmpIPredicate.slt divW 0#32))
      (IntOp.cmpi CmpIPredicate.ne (IntOp.remsi ArithUnit.host (BitVec.ofNat 32 i) divW) 0#32))
    (IntOp.addi (IntOp.remsi ArithUnit.host (BitVec.ofNat 32 i) divW) divW)
    (IntOp.remsi ArithUnit.host (BitVec.ofNat 32 i) divW)

/-- The inverse frequency of a lane. -/
def freq (e : ℕ) : EReal :=
  Ideal.pow (Ideal.ofBits FTy.f32 1176256512#32)
    (Ideal.div (-(Ideal.ofBits FTy.f32 1073741824#32 * FloatOps.sitofp (F := Ideal) FTy.f32 (BitVec.ofNat 32 e)))
      (Ideal.ofBits FTy.f32 1107296256#32))

def rowA (i e : ℕ) : EReal := FloatOps.sitofp (F := Ideal) FTy.f32 (rowW i) * freq e
def colA (i e : ℕ) : EReal := FloatOps.sitofp (F := Ideal) FTy.f32 (colW i) * freq e

/-- The angle of lane `l` of a head at token `i` of the sequence. -/
def ang (i l : ℕ) : EReal := if l < 32 then rowA i (l % 16) else colA i (l % 16)

/-- The cosine table: rows 0 to 255 belong to the context and turn by nothing. -/
def cosT (i l : ℕ) : EReal := if i < 256 then 1 else Ideal.cos (ang (i - 256) l)

/-- The sine table, with the sign of the half it is added to. -/
def sinT (i l : ℕ) : EReal :=
  if i < 256 then 0 else if l % 32 < 16 then -Ideal.sin (ang (i - 256) l) else Ideal.sin (ang (i - 256) l)

end Cert.Soft

namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

def V17 (c : Dev nD) : FVec Ideal ⟨2, ![2048, 16]⟩ .f32 := V m c main_v17
def V24 (c : Dev nD) : FVec Ideal ⟨2, ![2048, 16]⟩ .f32 := V m c main_v24

theorem V17_eq (c : Dev nD) (i : Fin 2048) (e : Fin 16) : V17 m c (ix2 i e) = rowA i.val e.val := by
  unfold V17 V
  after_reads_at
  rfl

theorem V24_eq (c : Dev nD) (i : Fin 2048) (e : Fin 16) : V24 m c (ix2 i e) = colA i.val e.val := by
  unfold V24 V
  after_reads_at
  rfl

def V29 (c : Dev nD) : FVec Ideal ⟨2, ![2048, 64]⟩ .f32 := V m c main_v29
def V36 (c : Dev nD) : FVec Ideal ⟨2, ![2048, 64]⟩ .f32 := V m c main_v36
def V43 (c : Dev nD) : FVec Ideal ⟨2, ![2304, 256]⟩ .f32 := V m c main_v43
def V46 (c : Dev nD) : FVec Ideal ⟨2, ![2304, 256]⟩ .f32 := V m c main_v46

theorem V29_0 (c : Dev nD) (i : Fin 2048) (e : Fin 16) : V29 m c (ix2 i ⟨e.val, by omega⟩) = Ideal.cos (rowA i.val e.val) := by
  unfold V29 V
  after_reads_at
  simp only [StableHlo.unary_result']
  after_reads_at
  rfl

theorem V29_1 (c : Dev nD) (i : Fin 2048) (e : Fin 16) : V29 m c (ix2 i ⟨16 + e.val, by omega⟩) = Ideal.cos (rowA i.val e.val) := by
  unfold V29 V
  after_reads_at
  simp only [StableHlo.unary_result']
  after_reads_at
  rfl

theorem V29_2 (c : Dev nD) (i : Fin 2048) (e : Fin 16) : V29 m c (ix2 i ⟨32 + e.val, by omega⟩) = Ideal.cos (colA i.val e.val) := by
  unfold V29 V
  after_reads_at
  rw [dif_neg (by omega)]
  rw [dif_neg (by omega)]
  rw [dif_pos (by omega)]
  have he : (⟨32 + e.val - 16 - 16, by omega⟩ : Fin 16) = e := Fin.ext (by show 32 + e.val - 16 - 16 = e.val; omega)
  rw [he]
  simp only [StableHlo.unary_result']
  after_reads_at
  rfl

theorem V29_3 (c : Dev nD) (i : Fin 2048) (e : Fin 16) : V29 m c (ix2 i ⟨48 + e.val, by omega⟩) = Ideal.cos (colA i.val e.val) := by
  unfold V29 V
  after_reads_at
  rw [dif_neg (by omega)]
  rw [dif_neg (by omega)]
  rw [dif_neg (by omega)]
  have he : (⟨48 + e.val - 16 - 16 - 16, by omega⟩ : Fin 16) = e := Fin.ext (by show 48 + e.val - 16 - 16 - 16 = e.val; omega)
  rw [he]
  simp only [StableHlo.unary_result']
  after_reads_at
  rfl

theorem V36_0 (c : Dev nD) (i : Fin 2048) (e : Fin 16) : V36 m c (ix2 i ⟨e.val, by omega⟩) = -Ideal.sin (rowA i.val e.val) := by
  unfold V36 V
  after_reads_at
  simp only [StableHlo.unary_result']
  after_reads_at
  rfl

theorem V36_1 (c : Dev nD) (i : Fin 2048) (e : Fin 16) : V36 m c (ix2 i ⟨16 + e.val, by omega⟩) = Ideal.sin (rowA i.val e.val) := by
  unfold V36 V
  after_reads_at
  simp only [StableHlo.unary_result']
  after_reads_at
  rfl

theorem V36_2 (c : Dev nD) (i : Fin 2048) (e : Fin 16) : V36 m c (ix2 i ⟨32 + e.val, by omega⟩) = -Ideal.sin (colA i.val e.val) := by
  unfold V36 V
  after_reads_at
  rw [dif_neg (by omega)]
  rw [dif_neg (by omega)]
  rw [dif_pos (by omega)]
  have he : (⟨32 + e.val - 16 - 16, by omega⟩ : Fin 16) = e := Fin.ext (by show 32 + e.val - 16 - 16 = e.val; omega)
  rw [he]
  simp only [StableHlo.unary_result']
  after_reads_at
  rfl

theorem V36_3 (c : Dev nD) (i : Fin 2048) (e : Fin 16) : V36 m c (ix2 i ⟨48 + e.val, by omega⟩) = Ideal.sin (colA i.val e.val) := by
  unfold V36 V
  after_reads_at
  rw [dif_neg (by omega)]
  rw [dif_neg (by omega)]
  rw [dif_neg (by omega)]
  have he : (⟨48 + e.val - 16 - 16 - 16, by omega⟩ : Fin 16) = e := Fin.ext (by show 48 + e.val - 16 - 16 - 16 = e.val; omega)
  rw [he]
  simp only [StableHlo.unary_result']
  after_reads_at
  rfl

theorem V43_eq (c : Dev nD) (i : Fin 2304) (l : Fin 256) : V43 m c (ix2 i l)
    = if h : i.val < 256 then 1 else V29 m c (ix2 ⟨i.val - 256, by omega⟩ ⟨l.val % 64, by omega⟩) := by
  unfold V43 V
  after_reads_at
  by_cases hi : i.val < 256
  · rw [dif_pos hi, dif_pos hi]
    after_reads_at
  · rw [dif_neg hi, dif_neg hi]
    unfold V29 V
    after_reads_simp

theorem V46_eq (c : Dev nD) (i : Fin 2304) (l : Fin 256) : V46 m c (ix2 i l)
    = if h : i.val < 256 then 0 else V36 m c (ix2 ⟨i.val - 256, by omega⟩ ⟨l.val % 64, by omega⟩) := by
  unfold V46 V
  after_reads_at
  by_cases hi : i.val < 256
  · rw [dif_pos hi, dif_pos hi]
    after_reads_at
  · rw [dif_neg hi, dif_neg hi]
    unfold V36 V
    after_reads_simp

end Cert.KernelIdeal.KVal

end
-- ==== Proof.KBlk.lean ====
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.KVal

open Idealize.ShloMosaic Idealize.ShloMosaic.TcCoe Idealize.SL.Sem Cert.KernelIdeal Cert.KernelIdeal.Gen

theorem idx : ∀ t : Fin cfg0.N, win0_0.index t = ![0] ∧ win0_1.index t = ![t.val / 18, t.val % 18, 0] ∧ win0_2.index t = ![t.val / 18, 0, 2]
    ∧ win0_3.index t = ![t.val / 18, 0, 3] ∧ win0_4.index t = ![t.val % 18, 0] ∧ win0_5.index t = ![t.val % 18, 0]
    ∧ win0_6.index t = ![0, 0] ∧ win0_7.index t = ![0, 0] := by decide +kernel

theorem co1 : ∀ t : Fin cfg0.N, (grid0.coords t 1).val = t.val % 18 := by decide +kernel

theorem off1 : ∀ t : Fin cfg0.N, 2 ≤ t.val % 18 → k0_off1 (grid0.coords t) = ![0, 256 + min 1664 ((t.val % 18 - 2) * 128 - 128), 0] := by decide +kernel
theorem off2 : ∀ t : Fin cfg0.N, 2 ≤ t.val % 18 → k0_off2 (grid0.coords t) = ![1, 256 + min 1664 ((t.val % 18 - 2) * 128 - 128), 0] := by decide +kernel

variable (m : (ℓ : Loc nD τ sig) → Buf (Elt Ideal) ℓ)

theorem div18 (t : Fin cfg0.N) : t.val / 18 < 16 := by
  have h := t.isLt
  have hN : cfg0.N = 288 := rfl
  omega

abbrev PJ (c : Dev nD) : FVec Ideal S16x2304x3328 .f32 := m ((c : Thread nD τ).loc main_arg0)
abbrev SK (c : Dev nD) : FVec Ideal S4 .f32 := m ((c : Thread nD τ).loc main_arg1)

theorem blk1 (c : Dev nD) (t : Fin cfg0.N) (r : Fin 128) (l : Fin 256) :
    iblk m c 1 t (ix3 0 r l) = PJ m c (ix3 ⟨t.val / 18, div18 t⟩ ⟨t.val % 18 * 128 + r.val, by omega⟩ ⟨l.val, by omega⟩) := by
  blk_ext [iblk, V_main_arg0, idx t]

theorem blk2 (c : Dev nD) (t : Fin cfg0.N) (r : Fin 2304) (l : Fin 128) :
    iblk m c 2 t (ix3 0 r l) = PJ m c (ix3 ⟨t.val / 18, div18 t⟩ r ⟨256 + l.val, by omega⟩) := by
  blk_ext [iblk, V_main_arg0, idx t]

theorem blk3 (c : Dev nD) (t : Fin cfg0.N) (r : Fin 2304) (l : Fin 128) :
    iblk m c 3 t (ix3 0 r l) = PJ m c (ix3 ⟨t.val / 18, div18 t⟩ r ⟨384 + l.val, by omega⟩) := by
  blk_ext [iblk, V_main_arg0, idx t]

theorem blk4 (c : Dev nD) (t : Fin cfg0.N) (r : Fin 128) (l : Fin 256) :
    iblk m c 4 t (ix2 r l) = V m c main_v43 (ix2 ⟨t.val % 18 * 128 + r.val, by omega⟩ l) := by
  blk_ext [iblk, idx t]

theorem blk5 (c : Dev nD) (t : Fin cfg0.N) (r : Fin 128) (l : Fin 256) :
    iblk m c 5 t (ix2 r l) = V m c main_v46 (ix2 ⟨t.val % 18 * 128 + r.val, by omega⟩ l) := by
  blk_ext [iblk, idx t]

theorem blk6 (c : Dev nD) (t : Fin cfg0.N) (r : Fin 2304) (l : Fin 128) :
    iblk m c 6 t (ix2 r l) = V m c main_v43 (ix2 r ⟨l.val, by omega⟩) := by
  blk_ext [iblk, idx t]

theorem blk7 (c : Dev nD) (t : Fin cfg0.N) (r : Fin 2304) (l : Fin 128) :
    iblk m c 7 t (ix2 r l) = V m c main_v46 (ix2 r ⟨l.val, by omega⟩) := by
  blk_ext [iblk, idx t]

theorem blk0 (c : Dev nD) (t : Fin cfg0.N) : iblk m c 0 t = SK m c := by
  funext x
  blk_ext [iblk, V_main_arg1, idx t]

theorem sink0 (c : Dev nD) (t : Fin cfg0.N) : View.ld (iblk m c 0 t) (Rect.unit (s := S4) ![0] S1.size inb_S4_S1_0) (Shape.Idx.first (by show 0 < 1; decide)) = SK m c (ix1 0) := by
  rw [blk0]; exact View.ld_unit_apply_of _ _ _ _ _ _ (fun a => by fin_cases a; rfl)
theorem sink1 (c : Dev nD) (t : Fin cfg0.N) : View.ld (iblk m c 0 t) (Rect.unit (s := S4) ![1] S1.size inb_S4_S1_1) (Shape.Idx.first (by show 0 < 1; decide)) = SK m c (ix1 1) := by
  rw [blk0]; exact View.ld_unit_apply_of _ _ _ _ _ _ (fun a => by fin_cases a; rfl)
theorem sink2 (c : Dev nD) (t : Fin cfg0.N) : View.ld (iblk m c 0 t) (Rect.unit (s := S4) ![2] S1.size inb_S4_S1_2) (Shape.Idx.first (by show 0 < 1; decide)) = SK m c (ix1 2) := by
  rw [blk0]; exact View.ld_unit_apply_of _ _ _ _ _ _ (fun a => by fin_cases a; rfl)
theorem sink3 (c : Dev nD) (t : Fin cfg0.N) : View.ld (iblk m c 0 t) (Rect.unit (s := S4) ![3] S1.size inb_S4_S1_3) (Shape.Idx.first (by show 0 < 1; decide)) = SK m c (ix1 3) := by
  rw [blk0]; exact View.ld_unit_apply_of _ _ _ _ _ _ (fun a => by fin_cases a; rfl)

end Cert.KernelIdeal.KVal

end
-- ==== Proof.Spec.lean ====
module

public import proofs.«01_k».proof.Proof.KTab
public import proofs.«01_k».proof.Proof.KBlk
public import proofs.«01_k».proof.Proof.KPay

@[expose] public section

set_option maxRecDepth 16384

noncomputable section

namespace Cert.Soft

open Idealize.ShloMosaic

abbrev PA := FVec Ideal ⟨3, ![16, 2304, 3328]⟩ .f32
abbrev SA := FVec Ideal ⟨1, ![4]⟩ .f32

/-- An element of the projection array, at natural numbers. -/
def pn (P : PA) (b i l : ℕ) : EReal :=
  if h : (b < 16 ∧ i < 2304) ∧ l < 3328 then P (ix3 ⟨b, h.1.1⟩ ⟨i, h.1.2⟩ ⟨l, h.2⟩) else 0

theorem pn_congr (P : PA) (b i : ℕ) {l l' : ℕ} (h : l = l') : pn P b i l = pn P b i l' := by rw [h]

theorem pn_eq (P : PA) (b : Fin 16) (i : Fin 2304) (l : Fin 3328) : P (ix3 b i l) = pn P b.val i.val l.val := by
  unfold pn
  rw [dif_pos ⟨⟨b.isLt, i.isLt⟩, l.isLt⟩]

/-- A sink, at a natural number. -/
def sn (S : SA) (g : ℕ) : EReal := if h : g < 4 then S (ix1 ⟨g, h⟩) else 0

theorem sn_eq (S : SA) (g : Fin 4) : S (ix1 g) = sn S g.val := by
  unfold sn
  rw [dif_pos g.isLt]

/-- The scale 1/8 of the scores. -/
def c0 : EReal := Ideal.ofBits .f32 1040187392#32

/-- One lane of a head's row, turned by the angles of row `i`. -/
def rp (x : ℕ → EReal) (i e : ℕ) : EReal :=
  x e * cosT i e + (if e % 32 < 16 then x (e + 16) else x (e - 16)) * sinT i e

def rq (P : PA) (b g i e : ℕ) : EReal := rp (fun e => pn P b i (64 * g + e)) i e
def rk (P : PA) (b h i e : ℕ) : EReal := rp (fun e => pn P b i (256 + 64 * h + e)) i e
def vv (P : PA) (b h i e : ℕ) : EReal := pn P b i (384 + 64 * h + e)

/-- The score of query row `i` with key row `j` in query head `g`. -/
def sc (P : PA) (b g i j : ℕ) : EReal := ∑ e : Fin 64, (rq P b g i e.val * c0) * rk P b (g / 2) j e.val

/-- The first key of the window that the block `n` of queries reads. -/
def wst (n : ℕ) : ℕ := min 1664 (n * 128 - 128)

/-- Attention of a row of the context. -/
def outC (P : PA) (S : SA) (b g i e : ℕ) : EReal :=
  attC (fun j : Fin 256 => sc P b g i j.val) (fun j : Fin 256 => vv P b (g / 2) j.val e) (sn S g)

/-- Attention of row `r` of block `n` of the sequence. -/
def outL (P : PA) (S : SA) (b g n r e : ℕ) : EReal :=
  att (fun j : Fin 384 => if n * 128 + r ≤ wst n + j.val + 128 ∧ wst n + j.val ≤ n * 128 + r + 128
        then sc P b g (256 + n * 128 + r) (256 + wst n + j.val) else ⊥)
    (fun j : Fin 384 => vv P b (g / 2) (256 + wst n + j.val) e)
    (fun j : Fin 256 => sc P b g (256 + n * 128 + r) j.val) (fun j : Fin 256 => vv P b (g / 2) j.val e) (sn S g)

end Cert.Soft

namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

theorem V29_cos (c : Dev nD) (i : Fin 2048) (l : Fin 64) : V29 m c (ix2 i l) = Ideal.cos (ang i.val l.val) := by
  have h : l.val / 16 = 0 ∨ l.val / 16 = 1 ∨ l.val / 16 = 2 ∨ l.val / 16 = 3 := by omega
  rcases h with h | h | h | h
  · have e := V29_0 m c i ⟨l.val, by omega⟩
    simp only at e
    rw [show l = ⟨l.val, by omega⟩ from rfl, e, ang, if_pos (by show l.val < 32; omega), show l.val % 16 = l.val by omega]
  · have e := V29_1 m c i ⟨l.val - 16, by omega⟩
    have hl : (⟨16 + (l.val - 16), by omega⟩ : Fin 64) = l := Fin.ext (by show 16 + (l.val - 16) = l.val; omega)
    simp only [hl] at e
    rw [e, ang, if_pos (by omega), show l.val % 16 = l.val - 16 by omega]
  · have e := V29_2 m c i ⟨l.val - 32, by omega⟩
    have hl : (⟨32 + (l.val - 32), by omega⟩ : Fin 64) = l := Fin.ext (by show 32 + (l.val - 32) = l.val; omega)
    simp only [hl] at e
    rw [e, ang, if_neg (by omega), show l.val % 16 = l.val - 32 by omega]
  · have e := V29_3 m c i ⟨l.val - 48, by omega⟩
    have hl : (⟨48 + (l.val - 48), by omega⟩ : Fin 64) = l := Fin.ext (by show 48 + (l.val - 48) = l.val; omega)
    simp only [hl] at e
    rw [e, ang, if_neg (by omega), show l.val % 16 = l.val - 48 by omega]

theorem V36_sin (c : Dev nD) (i : Fin 2048) (l : Fin 64) : V36 m c (ix2 i l)
    = if l.val % 32 < 16 then -Ideal.sin (ang i.val l.val) else Ideal.sin (ang i.val l.val) := by
  have h : l.val / 16 = 0 ∨ l.val / 16 = 1 ∨ l.val / 16 = 2 ∨ l.val / 16 = 3 := by omega
  rcases h with h | h | h | h
  · have e := V36_0 m c i ⟨l.val, by omega⟩
    simp only at e
    rw [show l = ⟨l.val, by omega⟩ from rfl, e, ang, if_pos (by show l.val % 32 < 16; omega), if_pos (by show l.val < 32; omega), show l.val % 16 = l.val by omega]
  · have e := V36_1 m c i ⟨l.val - 16, by omega⟩
    have hl : (⟨16 + (l.val - 16), by omega⟩ : Fin 64) = l := Fin.ext (by show 16 + (l.val - 16) = l.val; omega)
    simp only [hl] at e
    rw [e, ang, if_neg (by omega), if_pos (by omega), show l.val % 16 = l.val - 16 by omega]
  · have e := V36_2 m c i ⟨l.val - 32, by omega⟩
    have hl : (⟨32 + (l.val - 32), by omega⟩ : Fin 64) = l := Fin.ext (by show 32 + (l.val - 32) = l.val; omega)
    simp only [hl] at e
    rw [e, ang, if_pos (by omega), if_neg (by omega), show l.val % 16 = l.val - 32 by omega]
  · have e := V36_3 m c i ⟨l.val - 48, by omega⟩
    have hl : (⟨48 + (l.val - 48), by omega⟩ : Fin 64) = l := Fin.ext (by show 48 + (l.val - 48) = l.val; omega)
    simp only [hl] at e
    rw [e, ang, if_neg (by omega), if_neg (by omega), show l.val % 16 = l.val - 48 by omega]

theorem cos_tab (c : Dev nD) (i : Fin 2304) (l : Fin 256) : V43 m c (ix2 i l) = cosT i.val (l.val % 64) := by
  rw [V43_eq, cosT]
  by_cases h : i.val < 256
  · rw [dif_pos h, if_pos h]
  · rw [dif_neg h, if_neg h, V29_cos]

theorem sin_tab (c : Dev nD) (i : Fin 2304) (l : Fin 256) : V46 m c (ix2 i l) = sinT i.val (l.val % 64) := by
  rw [V46_eq, sinT]
  by_cases h : i.val < 256
  · rw [dif_pos h, if_pos h]
  · rw [dif_neg h, if_neg h, V36_sin]

/-- The turned and scaled queries of a block. -/
theorem q_eq (c : Dev nD) (t : Fin cfg0.N) (g : Fin 4) (r : Fin 128) (e : Fin 64) :
    k0_pay35 (iblk m c 1 t) (iblk m c 4 t) (iblk m c 5 t) (ix2 r ⟨64 * g.val + e.val, by omega⟩)
      = rq (PJ m c) (t.val / 18) g.val (t.val % 18 * 128 + r.val) e.val * c0 := by
  have H : ∀ (x : FVec Ideal S1x128x256 .f32) (C D : FVec Ideal S128x256 .f32) (l : Fin 256), k0_pay35 x C D (ix2 r l)
      = (x (ix3 0 r l) * C (ix2 r l) + Scalar.select (lane (BitVec.ofNat 32 l.val)) (x (ix3 0 r ⟨(l.val + 256 - 240) % 256, by omega⟩)) (x (ix3 0 r ⟨(l.val + 256 - 16) % 256, by omega⟩)) * D (ix2 r l)) * c0 := by
    intro x C D l
    pointwise [k0_pay35, c0]
  rw [H, sel_lane _ (by omega), blk1, blk4, blk5]
  have hc := cos_tab m c ⟨t.val % 18 * 128 + r.val, by omega⟩ ⟨64 * g.val + e.val, by omega⟩
  have hs := sin_tab m c ⟨t.val % 18 * 128 + r.val, by omega⟩ ⟨64 * g.val + e.val, by omega⟩
  unfold V43 at hc
  unfold V46 at hs
  rw [hc, hs, blk1, blk1]
  simp only [pn_eq]
  unfold rq rp
  have h1 : (64 * g.val + e.val) % 64 = e.val := by omega
  simp only [h1]
  refine congrArg₂ (· * ·) (congrArg₂ (· + ·) rfl (congrArg₂ (· * ·) ?_ rfl)) rfl
  by_cases h : e.val % 32 < 16
  · rw [if_pos h, if_pos (by omega)]
    exact pn_congr _ _ _ (by omega)
  · rw [if_neg h, if_neg (by omega)]
    exact pn_congr _ _ _ (by omega)

/-- The turned keys, as stored. -/
theorem k_eq (c : Dev nD) (t : Fin cfg0.N) (h : Fin 2) (r : Fin 2304) (e : Fin 64) :
    k0_pay3 (iblk m c 2 t) (iblk m c 6 t) (iblk m c 7 t) (ix2 r ⟨64 * h.val + e.val, by omega⟩)
      = rk (PJ m c) (t.val / 18) h.val r.val e.val := by
  have H : ∀ (x : FVec Ideal S1x2304x128 .f32) (C D : FVec Ideal S2304x128 .f32) (l : Fin 128), k0_pay3 x C D (ix2 r l)
      = (x (ix3 0 r l) * C (ix2 r l) + Scalar.select (lane (BitVec.ofNat 32 l.val)) (x (ix3 0 r ⟨(l.val + 128 - 112) % 128, by omega⟩)) (x (ix3 0 r ⟨(l.val + 128 - 16) % 128, by omega⟩)) * D (ix2 r l)) := by
    intro x C D l
    pointwise [k0_pay3]
  rw [H, sel_lane _ (by omega), blk2, blk6, blk7]
  have hc := cos_tab m c ⟨r.val, by omega⟩ ⟨64 * h.val + e.val, by omega⟩
  have hs := sin_tab m c ⟨r.val, by omega⟩ ⟨64 * h.val + e.val, by omega⟩
  unfold V43 at hc
  unfold V46 at hs
  rw [hc, hs, blk2, blk2]
  simp only [pn_eq]
  unfold rk rp
  have h1 : (64 * h.val + e.val) % 64 = e.val := by omega
  simp only [h1]
  refine congrArg₂ (· + ·) (congrArg₂ (· * ·) (pn_congr _ _ _ (by omega)) rfl) (congrArg₂ (· * ·) ?_ rfl)
  by_cases h : e.val % 32 < 16
  · rw [if_pos h, if_pos (by omega)]
    exact pn_congr _ _ _ (by omega)
  · rw [if_neg h, if_neg (by omega)]
    exact pn_congr _ _ _ (by omega)

end Cert.KernelIdeal.KVal

end
-- ==== Proof.KRow.lean ====
module

public import proofs.«01_k».proof.Proof.KCtx
public import proofs.«01_k».proof.Proof.KLat0
public import proofs.«01_k».proof.Proof.KLat1
public import proofs.«01_k».proof.Proof.KLat2
public import proofs.«01_k».proof.Proof.KLat3
public import proofs.«01_k».proof.Proof.Spec

@[expose] public section

set_option maxRecDepth 16384

noncomputable section

/-! What a step stores, from what its operands hold. -/
namespace Cert.KernelIdeal.KVal

open Idealize.ShloMosaic Idealize.ShloMosaic.TcCoe Idealize.SL.Sem Cert.KernelIdeal Cert.KernelIdeal.Gen Cert.Soft

variable (P : PA) (S : SA) (B : ℕ)

/-- A block of 128 rows of queries, turned and scaled. -/
def HQ (Q : FVec Ideal S128x256 .f32) (i0 : ℕ) : Prop :=
  ∀ (g : Fin 4) (r : Fin 128) (e : Fin 64), Q (ix2 r ⟨64 * g.val + e.val, by omega⟩) = rq P B g.val (i0 + r.val) e.val * c0
/-- Keys and values of one head from row `i0` on. -/
def HK {n : ℕ} (K : Vec Ideal ⟨3, ![1, n, 64]⟩ .bf16) (h i0 : ℕ) : Prop :=
  ∀ (j : Fin n) (e : Fin 64), (K (ix3 0 j e) : EReal) = rk P B h (i0 + j.val) e.val
def HV {n : ℕ} (K : Vec Ideal ⟨3, ![1, n, 64]⟩ .bf16) (h i0 : ℕ) : Prop :=
  ∀ (j : Fin n) (e : Fin 64), (K (ix3 0 j e) : EReal) = vv P B h (i0 + j.val) e.val

variable {P S B}

theorem scC_eq {Q : FVec Ideal S128x256 .f32} {K : Vec Ideal S1x256x64 .bf16} {i0 : ℕ} (hQ : HQ P B Q i0) (g : Fin 4)
    (hK : HK P B (n := 256) K (g.val / 2) 0) (r : Fin 128) : scC Q K g r = fun j : Fin 256 => sc P B g.val (i0 + r.val) j.val := by
  funext j
  unfold scC sc
  refine Finset.sum_congr rfl fun e _ => congrArg₂ (· * ·) (hQ g r e) ((hK j e).trans ?_)
  rw [Nat.zero_add]

theorem scW_eq (n : Fin 16) {Q : FVec Ideal S128x256 .f32} {K : Vec Ideal S1x384x64 .bf16} (hQ : HQ P B Q (256 + n.val * 128)) (g : Fin 4)
    (hK : HK P B (n := 384) K (g.val / 2) (256 + wst n.val)) (r : Fin 128) :
    scW n Q K g r = fun j : Fin 384 => if n.val * 128 + r.val ≤ wst n.val + j.val + 128 ∧ wst n.val + j.val ≤ n.val * 128 + r.val + 128
        then sc P B g.val (256 + n.val * 128 + r.val) (256 + wst n.val + j.val) else ⊥ := by
  funext j
  unfold scW sc wst
  refine if_congr Iff.rfl ?_ rfl
  exact Finset.sum_congr rfl fun e _ => congrArg₂ (· * ·) (hQ g r e) (hK j e)

theorem ctx_eq {Q : FVec Ideal S128x256 .f32} {kk0 kk1 vv0 vv1 : Vec Ideal S1x256x64 .bf16} {s0 s1 s2 s3 : Elt Ideal .f32} {i0 : ℕ}
    (hQ : HQ P B Q i0) (h0 : HK P B (n := 256) kk0 0 0) (h1 : HK P B (n := 256) kk1 1 0) (w0 : HV P B (n := 256) vv0 0 0) (w1 : HV P B (n := 256) vv1 1 0)
    (z0 : s0 = sn S 0) (z1 : s1 = sn S 1) (z2 : s2 = sn S 2) (z3 : s3 = sn S 3) (r : Fin 128) (l : Fin 256) :
    k0_pay1 io (k0_pay6 Q io kk0 s0 s1 vv0) (k0_pay7 Q kk1) (k0_pay8 s2) k0_pay9 s3 vv1 (ix3 0 r l)
      = outC P S B (l.val / 64) (i0 + r.val) (l.val % 64) := by
  have W0 : ∀ e : Fin 64, (fun j : Fin 256 => (vv0 (ix3 0 j e) : EReal)) = fun j : Fin 256 => vv P B 0 j.val e.val :=
    fun e => funext fun j => (w0 j e).trans (by rw [Nat.zero_add])
  have W1 : ∀ e : Fin 64, (fun j : Fin 256 => (vv1 (ix3 0 j e) : EReal)) = fun j : Fin 256 => vv P B 1 j.val e.val :=
    fun e => funext fun j => (w1 j e).trans (by rw [Nat.zero_add])
  have hg : l.val / 64 = 0 ∨ l.val / 64 = 1 ∨ l.val / 64 = 2 ∨ l.val / 64 = 3 := by omega
  unfold outC
  rcases hg with h | h | h | h
  · have H := ctx_0 Q kk0 kk1 vv0 vv1 s0 s1 s2 s3 r ⟨l.val % 64, by omega⟩
    have hl : (⟨l.val % 64, by omega⟩ : Fin 256) = l := Fin.ext (by show l.val % 64 = l.val; omega)
    simp only [hl] at H
    refine H.trans ?_
    rw [scC_eq hQ 0 h0, z0, h]
    exact congrArg (fun u => attC _ u _) (W0 _)
  · have H := ctx_1 Q kk0 kk1 vv0 vv1 s0 s1 s2 s3 r ⟨l.val % 64, by omega⟩
    have hl : (⟨64 + l.val % 64, by omega⟩ : Fin 256) = l := Fin.ext (by show 64 + l.val % 64 = l.val; omega)
    simp only [hl] at H
    refine H.trans ?_
    rw [scC_eq hQ 1 h0, z1, h]
    exact congrArg (fun u => attC _ u _) (W0 _)
  · have H := ctx_2 Q kk0 kk1 vv0 vv1 s0 s1 s2 s3 r ⟨l.val % 64, by omega⟩
    have hl : (⟨128 + l.val % 64, by omega⟩ : Fin 256) = l := Fin.ext (by show 128 + l.val % 64 = l.val; omega)
    simp only [hl] at H
    refine H.trans ?_
    rw [scC_eq hQ 2 h1, z2, h]
    exact congrArg (fun u => attC _ u _) (W1 _)
  · have H := ctx_3 Q kk0 kk1 vv0 vv1 s0 s1 s2 s3 r ⟨l.val % 64, by omega⟩
    have hl : (⟨192 + l.val % 64, by omega⟩ : Fin 256) = l := Fin.ext (by show 192 + l.val % 64 = l.val; omega)
    simp only [hl] at H
    refine H.trans ?_
    rw [scC_eq hQ 3 h1, z3, h]
    exact congrArg (fun u => attC _ u _) (W1 _)

theorem lat_eq (n : Fin 16) {Q : FVec Ideal S128x256 .f32} {kW0 kW1 vW0 vW1 : Vec Ideal S1x384x64 .bf16} {kk0 kk1 vv0 vv1 : Vec Ideal S1x256x64 .bf16}
    {s0 s1 s2 s3 : Elt Ideal .f32} (hQ : HQ P B Q (256 + n.val * 128))
    (k0 : HK P B (n := 384) kW0 0 (256 + wst n.val)) (k1 : HK P B (n := 384) kW1 1 (256 + wst n.val))
    (v0 : HV P B (n := 384) vW0 0 (256 + wst n.val)) (v1 : HV P B (n := 384) vW1 1 (256 + wst n.val))
    (h0 : HK P B (n := 256) kk0 0 0) (h1 : HK P B (n := 256) kk1 1 0) (w0 : HV P B (n := 256) vv0 0 0) (w1 : HV P B (n := 256) vv1 1 0)
    (z0 : s0 = sn S 0) (z1 : s1 = sn S 1) (z2 : s2 = sn S 2) (z3 : s3 = sn S 3) (r : Fin 128) (l : Fin 256) :
    latPay (BitVec.ofNat 32 (n.val + 2)) Q kW0 kW1 vW0 vW1 kk0 kk1 vv0 vv1 s0 s1 s2 s3 (ix3 0 r l)
      = outL P S B (l.val / 64) n.val r.val (l.val % 64) := by
  have W0 : ∀ e : Fin 64, (fun j : Fin 256 => (vv0 (ix3 0 j e) : EReal)) = fun j : Fin 256 => vv P B 0 j.val e.val :=
    fun e => funext fun j => (w0 j e).trans (by rw [Nat.zero_add])
  have W1 : ∀ e : Fin 64, (fun j : Fin 256 => (vv1 (ix3 0 j e) : EReal)) = fun j : Fin 256 => vv P B 1 j.val e.val :=
    fun e => funext fun j => (w1 j e).trans (by rw [Nat.zero_add])
  have X0 : ∀ e : Fin 64, (fun j : Fin 384 => (vW0 (ix3 0 j e) : EReal)) = fun j : Fin 384 => vv P B 0 (256 + wst n.val + j.val) e.val :=
    fun e => funext fun j => v0 j e
  have X1 : ∀ e : Fin 64, (fun j : Fin 384 => (vW1 (ix3 0 j e) : EReal)) = fun j : Fin 384 => vv P B 1 (256 + wst n.val + j.val) e.val :=
    fun e => funext fun j => v1 j e
  have hg : l.val / 64 = 0 ∨ l.val / 64 = 1 ∨ l.val / 64 = 2 ∨ l.val / 64 = 3 := by omega
  unfold outL
  rcases hg with h | h | h | h
  · have H := lat_0 n Q kW0 kW1 vW0 vW1 kk0 kk1 vv0 vv1 s0 s1 s2 s3 r ⟨l.val % 64, by omega⟩
    have hl : (⟨l.val % 64, by omega⟩ : Fin 256) = l := Fin.ext (by show l.val % 64 = l.val; omega)
    simp only [hl] at H
    refine H.trans ?_
    rw [scC_eq hQ 0 h0, scW_eq n hQ 0 k0, z0, h]
    exact congrArg₂ (fun v u => att _ v _ u _) (X0 _) (W0 _)
  · have H := lat_1 n Q kW0 kW1 vW0 vW1 kk0 kk1 vv0 vv1 s0 s1 s2 s3 r ⟨l.val % 64, by omega⟩
    have hl : (⟨64 + l.val % 64, by omega⟩ : Fin 256) = l := Fin.ext (by show 64 + l.val % 64 = l.val; omega)
    simp only [hl] at H
    refine H.trans ?_
    rw [scC_eq hQ 1 h0, scW_eq n hQ 1 k0, z1, h]
    exact congrArg₂ (fun v u => att _ v _ u _) (X0 _) (W0 _)
  · have H := lat_2 n Q kW0 kW1 vW0 vW1 kk0 kk1 vv0 vv1 s0 s1 s2 s3 r ⟨l.val % 64, by omega⟩
    have hl : (⟨128 + l.val % 64, by omega⟩ : Fin 256) = l := Fin.ext (by show 128 + l.val % 64 = l.val; omega)
    simp only [hl] at H
    refine H.trans ?_
    rw [scC_eq hQ 2 h1, scW_eq n hQ 2 k1, z2, h]
    exact congrArg₂ (fun v u => att _ v _ u _) (X1 _) (W1 _)
  · have H := lat_3 n Q kW0 kW1 vW0 vW1 kk0 kk1 vv0 vv1 s0 s1 s2 s3 r ⟨l.val % 64, by omega⟩
    have hl : (⟨192 + l.val % 64, by omega⟩ : Fin 256) = l := Fin.ext (by show 192 + l.val % 64 = l.val; omega)
    simp only [hl] at H
    refine H.trans ?_
    rw [scC_eq hQ 3 h1, scW_eq n hQ 3 k1, z3, h]
    exact congrArg₂ (fun v u => att _ v _ u _) (X1 _) (W1 _)

end Cert.KernelIdeal.KVal

end
-- ==== Proof.KScr.lean ====
module

public import proofs.«01_k».proof.Proof.Spec
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

theorem canon2 (w1 w0 : S1x2304x64.Idx → Elt Ideal .bf16) (h : Fin 2) (i : Fin 2304) (e : Fin 64) (v : Elt Ideal .bf16)
    (h0 : h.val = 0 → w0 (ix3 0 i e) = v) (h1 : h.val = 1 → w1 (ix3 0 i e) = v) :
    View.canon (Val := Elt Ideal) (s := S2x2304x64) (e := .bf16) [⟨Rect.unit ![1, 0, 0] ![1, 2304, 64] inb_S2x2304x64_S1x2304x64_1_0_0, w1⟩,
      ⟨Rect.unit ![0, 0, 0] ![1, 2304, 64] inb_S2x2304x64_S1x2304x64_0_0_0, w0⟩] (ix3 h i e) = v := by
  have key : ∀ (k : ℕ) (hk : k < 2) (w : S1x2304x64.Idx → Elt Ideal .bf16) (hw : h.val = k → w (ix3 0 i e) = v),
      View.TileAt (S := S2x2304x64) (ix3 h i e) ![k, 0, 0] ![1, 2304, 64] w v := by
    intro k hk w hw x hx
    have a0 : h.val = k + (x 0).val := hx 0
    have a1 : i.val = 0 + (x 1).val := hx 1
    have a2 : e.val = 0 + (x 2).val := hx 2
    have b0 : (x 0).val < 1 := (x 0).isLt
    rw [← hw (by omega)]
    congr 1
    funext a
    apply Fin.ext
    fin_cases a
    · show (x 0).val = 0
      omega
    · show (x 1).val = i.val
      omega
    · show (x 2).val = e.val
      omega
  refine View.canon_eq_of_allAt _ _ _ (View.cover_of_tiled_head _ _ _ rfl _) ?_
  exact View.allAt_cons_unit _ _ _ _ _ (key 1 (by omega) w1 h1) (View.allAt_cons_unit _ _ _ _ _ (key 0 (by omega) w0 h0) (View.allAt_nil _ _))

theorem scr1_A (c : Dev nD) (t : Fin cfg0.N) (h0 : t.val % 18 = 0) (h : Fin 2) (i : Fin 2304) (e : Fin 64) :
    (outsAt0 m c t.val t.isLt).2.1 (ix3 h i e) = rk (PJ m c) (t.val / 18) h.val i.val e.val := by
  rw [outsAt0_A m c t h0 (by omega) (by omega)]
  dsimp only
  frame_out
  refine canon2 _ _ h i e _ (fun hh => ?_) (fun hh => ?_)
  · have := k_eq m c t 0 i e
    have hh' : h = 0 := Fin.ext hh
    subst hh'
    refine Eq.trans ?_ this
    show k0_pay5 (iblk m c 2 t) (iblk m c 6 t) (iblk m c 7 t) (ix3 0 i e) = _
    generalize hK : k0_pay3 (iblk m c 2 t) (iblk m c 6 t) (iblk m c 7 t) = K
    unfold k0_pay5
    rw [hK]
    pointwise
  · have := k_eq m c t 1 i e
    have hh' : h = 1 := Fin.ext hh
    subst hh'
    refine Eq.trans ?_ this
    show k0_pay33 (k0_pay3 (iblk m c 2 t) (iblk m c 6 t) (iblk m c 7 t)) (ix3 0 i e) = _
    generalize hK : k0_pay3 (iblk m c 2 t) (iblk m c 6 t) (iblk m c 7 t) = K
    pointwise [k0_pay33]

theorem scr2_A (c : Dev nD) (t : Fin cfg0.N) (h0 : t.val % 18 = 0) (h : Fin 2) (i : Fin 2304) (e : Fin 64) :
    (outsAt0 m c t.val t.isLt).2.2 (ix3 h i e) = vv (PJ m c) (t.val / 18) h.val i.val e.val := by
  rw [outsAt0_A m c t h0 (by omega) (by omega)]
  dsimp only
  frame_out
  have H0 : ∀ (x : FVec Ideal S1x2304x128 .f32), k0_pay32 (F := Ideal) (k0_pay4 (F := Ideal) x) (ix3 0 i e) = (x (ix3 0 i ⟨e.val, by omega⟩) : EReal) := by
    intro x
    pointwise [k0_pay32, k0_pay4]
  have H1 : ∀ (x : FVec Ideal S1x2304x128 .f32), k0_pay34 (F := Ideal) (k0_pay4 (F := Ideal) x) (ix3 0 i e) = (x (ix3 0 i ⟨64 + e.val, by omega⟩) : EReal) := by
    intro x
    pointwise [k0_pay34, k0_pay4]
  refine canon2 _ _ h i e _ (fun hh => ?_) (fun hh => ?_)
  · refine (H0 (iblk m c 3 t)).trans ?_
    rw [blk3]; refine (pn_eq (PJ m c) _ _ _).trans ?_
    unfold vv
    exact pn_congr _ _ _ (by show 384 + e.val = _; omega)
  · refine (H1 (iblk m c 3 t)).trans ?_
    rw [blk3]; refine (pn_eq (PJ m c) _ _ _).trans ?_
    unfold vv
    exact pn_congr _ _ _ (by show 384 + (64 + e.val) = _; omega)

theorem scr1_hold (c : Dev nD) (t : Fin cfg0.N) (h0 : ¬ t.val % 18 = 0) (i : S2x2304x64.Idx) :
    (outsAt0 m c t.val t.isLt).2.1 i = (outsAt0 m c (t.val - 1) (Nat.lt_of_le_of_lt (Nat.sub_le _ _) t.isLt)).2.1 i := by
  by_cases h1 : t.val % 18 = 1
  · rw [outsAt0_B m c t (by omega) (by omega) (by omega)]; rfl
  · rw [outsAt0_C m c t (by omega) (by omega) (by omega)]; rfl

theorem scr2_hold (c : Dev nD) (t : Fin cfg0.N) (h0 : ¬ t.val % 18 = 0) (i : S2x2304x64.Idx) :
    (outsAt0 m c t.val t.isLt).2.2 i = (outsAt0 m c (t.val - 1) (Nat.lt_of_le_of_lt (Nat.sub_le _ _) t.isLt)).2.2 i := by
  by_cases h1 : t.val % 18 = 1
  · rw [outsAt0_B m c t (by omega) (by omega) (by omega)]; rfl
  · rw [outsAt0_C m c t (by omega) (by omega) (by omega)]; rfl

/-- What the keys' scratch holds after any step. -/
theorem scr1 (c : Dev nD) (t : Fin cfg0.N) (h : Fin 2) (i : Fin 2304) (e : Fin 64) :
    (outsAt0 m c t.val t.isLt).2.1 (ix3 h i e) = rk (PJ m c) (t.val / 18) h.val i.val e.val := by
  have H := Pipeline.eq_of_write_hold_apply (N := cfg0.N) (fun n hn => (outsAt0 m c n hn).2.1) 18 (fun t => (outsAt0 m c t.val t.isLt).2.1)
    (fun _ _ _ => rfl) (fun t ht i => scr1_hold m c t ht i) t (ix3 h i e)
  refine H.trans ((scr1_A m c _ (by show 18 * (t.val / 18) % 18 = 0; omega) h i e).trans ?_)
  rw [show 18 * (t.val / 18) / 18 = t.val / 18 by omega]

/-- What the values' scratch holds after any step. -/
theorem scr2 (c : Dev nD) (t : Fin cfg0.N) (h : Fin 2) (i : Fin 2304) (e : Fin 64) :
    (outsAt0 m c t.val t.isLt).2.2 (ix3 h i e) = vv (PJ m c) (t.val / 18) h.val i.val e.val := by
  have H := Pipeline.eq_of_write_hold_apply (N := cfg0.N) (fun n hn => (outsAt0 m c n hn).2.2) 18 (fun t => (outsAt0 m c t.val t.isLt).2.2)
    (fun _ _ _ => rfl) (fun t ht i => scr2_hold m c t ht i) t (ix3 h i e)
  refine H.trans ((scr2_A m c _ (by show 18 * (t.val / 18) % 18 = 0; omega) h i e).trans ?_)
  rw [show 18 * (t.val / 18) / 18 = t.val / 18 by omega]

end Cert.KernelIdeal.KVal

end
-- ==== Proof.KOut.lean ====
module

public import proofs.«01_k».proof.Proof.KRow
public import proofs.«01_k».proof.Proof.KScr

@[expose] public section

set_option maxRecDepth 16384

noncomputable section

/-! What the kernel's output window holds after each step. -/
namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

theorem hq (c : Dev nD) (t : Fin cfg0.N) : HQ (PJ m c) (t.val / 18) (k0_pay35 (iblk m c 1 t) (iblk m c 4 t) (iblk m c 5 t)) (t.val % 18 * 128) :=
  fun g r e => q_eq m c t g r e

theorem z0 (c : Dev nD) (t : Fin cfg0.N) : View.ld (iblk m c 0 t) (Rect.unit (s := S4) ![0] S1.size inb_S4_S1_0) (Shape.Idx.first (by show 0 < 1; decide)) = sn (SK m c) 0 :=
  (sink0 m c t).trans (sn_eq (SK m c) 0)
theorem z1 (c : Dev nD) (t : Fin cfg0.N) : View.ld (iblk m c 0 t) (Rect.unit (s := S4) ![1] S1.size inb_S4_S1_1) (Shape.Idx.first (by show 0 < 1; decide)) = sn (SK m c) 1 :=
  (sink1 m c t).trans (sn_eq (SK m c) 1)
theorem z2 (c : Dev nD) (t : Fin cfg0.N) : View.ld (iblk m c 0 t) (Rect.unit (s := S4) ![2] S1.size inb_S4_S1_2) (Shape.Idx.first (by show 0 < 1; decide)) = sn (SK m c) 2 :=
  (sink2 m c t).trans (sn_eq (SK m c) 2)
theorem z3 (c : Dev nD) (t : Fin cfg0.N) : View.ld (iblk m c 0 t) (Rect.unit (s := S4) ![3] S1.size inb_S4_S1_3) (Shape.Idx.first (by show 0 < 1; decide)) = sn (SK m c) 3 :=
  (sink3 m c t).trans (sn_eq (SK m c) 3)

/-- Reading rows of one head back from a scratch. -/
theorem ldrow (X : S2x2304x64.Idx → Elt Ideal .bf16) (h : Fin 2) (i0 n : ℕ) (hn : i0 + n ≤ 2304) (off : Fin 3 → ℕ) (ho : off = ![h.val, i0, 0]) (inb)
    (j : Fin n) (e : Fin 64) :
    View.ld X (Rect.unit (s := S2x2304x64) off ![1, n, 64] inb) (ix3 0 j e) = X (ix3 h ⟨i0 + j.val, by omega⟩ e) := by
  subst ho
  refine View.ld_unit_apply_of _ _ _ _ _ _ (fun a => ?_)
  fin_cases a
  · rfl
  · rfl
  · show e.val = 0 + e.val
    omega

theorem kld (c : Dev nD) (t : Fin cfg0.N) (h0 : ¬ t.val % 18 = 0) (h : Fin 2) (i0 n : ℕ) (hn : i0 + n ≤ 2304) (off : Fin 3 → ℕ) (ho : off = ![h.val, i0, 0]) (inb) :
    HK (PJ m c) (t.val / 18) (n := n) (View.ld (outsAt0 m c (t.val - 1) (Nat.lt_of_le_of_lt (Nat.sub_le _ _) t.isLt)).2.1 (Rect.unit (s := S2x2304x64) off ![1, n, 64] inb)) h.val i0 :=
  fun j e => (ldrow _ h i0 n hn off ho inb j e).trans ((scr1 m c ⟨t.val - 1, Nat.lt_of_le_of_lt (Nat.sub_le _ _) t.isLt⟩ h _ e).trans
    (by show rk _ ((t.val - 1) / 18) _ _ _ = _; rw [show (t.val - 1) / 18 = t.val / 18 by omega]))

theorem vld (c : Dev nD) (t : Fin cfg0.N) (h0 : ¬ t.val % 18 = 0) (h : Fin 2) (i0 n : ℕ) (hn : i0 + n ≤ 2304) (off : Fin 3 → ℕ) (ho : off = ![h.val, i0, 0]) (inb) :
    HV (PJ m c) (t.val / 18) (n := n) (View.ld (outsAt0 m c (t.val - 1) (Nat.lt_of_le_of_lt (Nat.sub_le _ _) t.isLt)).2.2 (Rect.unit (s := S2x2304x64) off ![1, n, 64] inb)) h.val i0 :=
  fun j e => (ldrow _ h i0 n hn off ho inb j e).trans ((scr2 m c ⟨t.val - 1, Nat.lt_of_le_of_lt (Nat.sub_le _ _) t.isLt⟩ h _ e).trans
    (by show vv _ ((t.val - 1) / 18) _ _ _ = _; rw [show (t.val - 1) / 18 = t.val / 18 by omega]))

theorem out_B (c : Dev nD) (t : Fin cfg0.N) (h0 : t.val % 18 = 1) (r : Fin 128) (l : Fin 256) :
    (outsAt0 m c t.val t.isLt).1 (ix3 0 r l) = outC (PJ m c) (SK m c) (t.val / 18) (l.val / 64) (t.val % 18 * 128 + r.val) (l.val % 64) := by
  rw [outsAt0_B m c t (by omega) (by omega) (by omega)]
  dsimp only
  frame_out
  simp only [read_unread_whole]
  exact ctx_eq (hq m c t) (kld m c t (by omega) 0 0 256 (by omega) _ rfl _) (kld m c t (by omega) 1 0 256 (by omega) _ rfl _)
    (vld m c t (by omega) 0 0 256 (by omega) _ rfl _) (vld m c t (by omega) 1 0 256 (by omega) _ rfl _) (z0 m c t) (z1 m c t) (z2 m c t) (z3 m c t) r l

theorem out_C (c : Dev nD) (t : Fin cfg0.N) (h0 : 2 ≤ t.val % 18) (r : Fin 128) (l : Fin 256) :
    (outsAt0 m c t.val t.isLt).1 (ix3 0 r l) = outL (PJ m c) (SK m c) (t.val / 18) (l.val / 64) (t.val % 18 - 2) r.val (l.val % 64) := by
  rw [outsAt0_C m c t (by omega) (by omega) h0]
  dsimp only
  frame_out
  simp only [read_unread_whole]
  have hn : t.val % 18 - 2 < 16 := by omega
  have hQ := hq m c t
  rw [show t.val % 18 * 128 = 256 + (⟨t.val % 18 - 2, hn⟩ : Fin 16).val * 128 by show _ = 256 + (t.val % 18 - 2) * 128; omega] at hQ
  have hw : 256 + wst (t.val % 18 - 2) + 384 ≤ 2304 := by unfold wst; omega
  have o1 := off1 t h0
  have o2 := off2 t h0
  have hb : BitVec.ofNat 32 ↑(grid0.coords t 1) = BitVec.ofNat 32 ((⟨t.val % 18 - 2, hn⟩ : Fin 16).val + 2) := by
    rw [co1]; congr 1; show _ = t.val % 18 - 2 + 2; omega
  rw [hb]
  exact lat_eq ⟨t.val % 18 - 2, hn⟩ hQ (kld m c t (by omega) 0 _ 384 hw _ o1 _) (kld m c t (by omega) 1 _ 384 hw _ o2 _)
    (vld m c t (by omega) 0 _ 384 hw _ o1 _) (vld m c t (by omega) 1 _ 384 hw _ o2 _)
    (kld m c t (by omega) 0 0 256 (by omega) _ rfl _) (kld m c t (by omega) 1 0 256 (by omega) _ rfl _)
    (vld m c t (by omega) 0 0 256 (by omega) _ rfl _) (vld m c t (by omega) 1 0 256 (by omega) _ rfl _) (z0 m c t) (z1 m c t) (z2 m c t) (z3 m c t) r l

end Cert.KernelIdeal.KVal

end
-- ==== Proof.KOutA.lean ====
module

public import proofs.«01_k».proof.Proof.KOut
public import proofs.«01_k».proof.Proof.KScr

@[expose] public section

set_option maxRecDepth 16384

noncomputable section

/-! What the output window holds after the first step of a batch row, and the kernel's whole result. -/
namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

theorem payK0 (c : Dev nD) (t : Fin cfg0.N) (i : Fin 2304) (e : Fin 64) : (k0_pay5 (iblk m c 2 t) (iblk m c 6 t) (iblk m c 7 t) (ix3 0 i e) : EReal) = rk (PJ m c) (t.val / 18) 0 i.val e.val := by
  refine Eq.trans ?_ (k_eq m c t 0 i e)
  generalize hK : k0_pay3 (iblk m c 2 t) (iblk m c 6 t) (iblk m c 7 t) = K
  unfold k0_pay5
  rw [hK]
  pointwise
theorem payK1 (c : Dev nD) (t : Fin cfg0.N) (i : Fin 2304) (e : Fin 64) : (k0_pay33 (k0_pay3 (iblk m c 2 t) (iblk m c 6 t) (iblk m c 7 t)) (ix3 0 i e) : EReal) = rk (PJ m c) (t.val / 18) 1 i.val e.val := by
  refine Eq.trans ?_ (k_eq m c t 1 i e)
  generalize hK : k0_pay3 (iblk m c 2 t) (iblk m c 6 t) (iblk m c 7 t) = K
  pointwise [k0_pay33]
theorem payV0 (c : Dev nD) (t : Fin cfg0.N) (i : Fin 2304) (e : Fin 64) : (k0_pay32 (F := Ideal) (k0_pay4 (F := Ideal) (iblk m c 3 t)) (ix3 0 i e) : EReal) = vv (PJ m c) (t.val / 18) 0 i.val e.val := by
  have H0 : ∀ (x : FVec Ideal S1x2304x128 .f32), k0_pay32 (F := Ideal) (k0_pay4 (F := Ideal) x) (ix3 0 i e) = (x (ix3 0 i ⟨e.val, by omega⟩) : EReal) := by
    intro x
    pointwise [k0_pay32, k0_pay4]
  refine (H0 (iblk m c 3 t)).trans ?_
  rw [blk3]; refine (pn_eq (PJ m c) _ _ _).trans ?_
  unfold vv
  exact pn_congr _ _ _ (by show 384 + e.val = _; omega)
theorem payV1 (c : Dev nD) (t : Fin cfg0.N) (i : Fin 2304) (e : Fin 64) : (k0_pay34 (F := Ideal) (k0_pay4 (F := Ideal) (iblk m c 3 t)) (ix3 0 i e) : EReal) = vv (PJ m c) (t.val / 18) 1 i.val e.val := by
  have H0 : ∀ (x : FVec Ideal S1x2304x128 .f32), k0_pay34 (F := Ideal) (k0_pay4 (F := Ideal) x) (ix3 0 i e) = (x (ix3 0 i ⟨64 + e.val, by omega⟩) : EReal) := by
    intro x
    pointwise [k0_pay34, k0_pay4]
  refine (H0 (iblk m c 3 t)).trans ?_
  rw [blk3]; refine (pn_eq (PJ m c) _ _ _).trans ?_
  unfold vv
  exact pn_congr _ _ _ (by show 384 + (64 + e.val) = _; omega)

/-- Reading the first 256 rows of one head back from what the first step has just stored. -/
theorem rcv (v : View sig .tc .vmem S2x2304x64 .bf16) (w1 w0 : S1x2304x64.Idx → Elt Ideal .bf16) (h : Fin 2)
    (inb : ∀ a : Fin S2x2304x64.rank, (![h.val, 0, 0] : Fin S2x2304x64.rank → ℕ) a + (![1, 256, 64] : Fin S2x2304x64.rank → ℕ) a ≤ S2x2304x64.size a)
    (j : Fin 256) (e : Fin 64) (x : Elt Ideal .bf16)
    (h0 : h.val = 0 → w0 (ix3 0 ⟨0 + j.val, by omega⟩ e) = x) (h1 : h.val = 1 → w1 (ix3 0 ⟨0 + j.val, by omega⟩ e) = x) :
    v.readCov (Val := Elt Ideal) [⟨Rect.unit ![1, 0, 0] ![1, 2304, 64] inb_S2x2304x64_S1x2304x64_1_0_0, w1⟩,
      ⟨Rect.unit ![0, 0, 0] ![1, 2304, 64] inb_S2x2304x64_S1x2304x64_0_0_0, w0⟩]
      (Rect.unit (s := S2x2304x64) ![h.val, 0, 0] ![1, 256, 64] inb).toLoadRect (ix3 (n0 := 1) (n1 := 256) (n2 := 64) 0 j e) = x := by
  refine (congrFun (View.readCov_eq_canon_ld v _ (Rect.unit (s := S2x2304x64) ![h.val, 0, 0] ![1, 256, 64] inb) (View.cover_of_tiled_head _ _ _ rfl)) _).trans ?_
  exact (ldrow _ h 0 256 (by omega) _ rfl inb j e).trans (canon2 w1 w0 h _ e x h0 h1)

end Cert.KernelIdeal.KVal

end
-- ==== Proof.KOutZ.lean ====
module

public import proofs.«01_k».proof.Proof.KOutA
public import proofs.«01_k».proof.Proof.KScr

@[expose] public section

set_option maxRecDepth 16384

noncomputable section

/-! What the output window holds after the first step of a batch row. -/
namespace Cert.KernelIdeal.KVal

open Idealize.ShloMosaic Idealize.ShloMosaic.TcCoe Idealize.SL.Sem Cert.KernelIdeal Cert.KernelIdeal.Gen Cert.Soft

variable (m : (ℓ : Loc nD τ sig) → Buf (Elt Ideal) ℓ)

theorem out_A (c : Dev nD) (t : Fin cfg0.N) (h0 : t.val % 18 = 0) (r : Fin 128) (l : Fin 256) :
    (outsAt0 m c t.val t.isLt).1 (ix3 0 r l) = outC (PJ m c) (SK m c) (t.val / 18) (l.val / 64) (t.val % 18 * 128 + r.val) (l.val % 64) := by
  rw [outsAt0_A m c t h0 (by omega) (by omega)]
  dsimp only
  frame_out
  refine ctx_eq (hq m c t) ?_ ?_ ?_ ?_ (z0 m c t) (z1 m c t) (z2 m c t) (z3 m c t) r l
  · intro j e
    refine (rcv _ _ _ 0 _ j e _ ?_ ?_)
    · intro _
      exact payK0 m c t _ e
    · exact fun hh => absurd hh (by decide)
  · intro j e
    refine (rcv _ _ _ 1 _ j e _ ?_ ?_)
    · exact fun hh => absurd hh (by decide)
    · intro _
      exact payK1 m c t _ e
  · intro j e
    refine (rcv _ _ _ 0 _ j e _ ?_ ?_)
    · exact fun _ => payV0 m c t _ e
    · exact fun hh => absurd hh (by decide)
  · intro j e
    refine (rcv _ _ _ 1 _ j e _ ?_ ?_)
    · exact fun hh => absurd hh (by decide)
    · exact fun _ => payV1 m c t _ e

end Cert.KernelIdeal.KVal

end
-- ==== Proof.KG8.lean ====
module

public import proofs.«01_k».proof.Proof.KOutZ
public import proofs.«01_k».proof.Proof.Gen.KernelIdeal.Value
public import proofs.«01_k».proof.Proof.KScr

@[expose] public section

set_option maxRecDepth 16384

noncomputable section

/-! The kernel's whole result. -/
namespace Cert.KernelIdeal.KVal

open Idealize.ShloMosaic Idealize.ShloMosaic.TcCoe Idealize.SL.Sem Cert.KernelIdeal Cert.KernelIdeal.Gen Cert.Soft Cert.KernelIdeal.Value

variable (m : (ℓ : Loc nD τ sig) → Buf (Elt Ideal) ℓ)

/-- The kernel's whole result. -/
theorem G8_eq (c : Dev nD) (b : Fin 16) (i : Fin 2304) (l : Fin 256) :
    G8 m c (ix3 b i l) = if i.val < 256 then outC (PJ m c) (SK m c) b.val (l.val / 64) i.val (l.val % 64)
      else outL (PJ m c) (SK m c) b.val (l.val / 64) ((i.val - 256) / 128) ((i.val - 256) % 128) (l.val % 64) := by
  have hp : pt8Of (ix3 b i l) = 18 * b.val + i.val / 128 := by
    show 18 * (b.val / 1 - 0) + 1 * (i.val / 128 - 0) + 1 * (l.val / 256 - 0) = _
    omega
  have hl : loc8Of (ix3 b i l) = ix3 0 ⟨i.val % 128, by omega⟩ l := by
    funext a
    apply Fin.ext
    fin_cases a
    · show b.val % 1 = 0
      omega
    · rfl
    · show l.val % 256 = l.val
      omega
  have hN : 18 * b.val + i.val / 128 < cfg0.N := by show _ < 288; omega
  unfold G8
  have hN' : pt8Of (ix3 b i l) < cfg0.N := by rw [hp]; exact hN
  rw [dif_pos hN', ← outsAt0_sweep m c _ hN', hl]
  have gen : ∀ (n : ℕ) (h : n < cfg0.N), n = 18 * b.val + i.val / 128 → (outsAt0 m c n h).1 (ix3 0 ⟨i.val % 128, by omega⟩ l)
      = if i.val < 256 then outC (PJ m c) (SK m c) b.val (l.val / 64) i.val (l.val % 64)
      else outL (PJ m c) (SK m c) b.val (l.val / 64) ((i.val - 256) / 128) ((i.val - 256) % 128) (l.val % 64) := by
    intro n h hn
    have d : n / 18 = b.val := by omega
    have e : n % 18 = i.val / 128 := by omega
    have f : i.val / 128 * 128 + i.val % 128 = i.val := by omega
    split
    · rcases (by omega : n % 18 = 0 ∨ n % 18 = 1) with k | k
      · refine (out_A m c ⟨n, h⟩ k _ l).trans ?_
        show outC _ _ (n / 18) _ (n % 18 * 128 + i.val % 128) _ = _
        rw [d, e, f]
      · refine (out_B m c ⟨n, h⟩ k _ l).trans ?_
        show outC _ _ (n / 18) _ (n % 18 * 128 + i.val % 128) _ = _
        rw [d, e, f]
    · refine (out_C m c ⟨n, h⟩ (by show 2 ≤ n % 18; omega) _ l).trans ?_
      show outL _ _ (n / 18) _ (n % 18 - 2) (i.val % 128) _ = _
      rw [d, show n % 18 - 2 = (i.val - 256) / 128 by omega, show i.val % 128 = (i.val - 256) % 128 by omega]
  exact gen _ _ hp

end Cert.KernelIdeal.KVal

end
-- ==== Proof.RRope.lean ====
module

public import proofs.«01_k».proof.Proof.Ref2
public import Idealize.ShloMosaic.Lib.Pointwise
public import Idealize.ShloMosaic.Lib.Claim

@[expose] public section

set_option maxRecDepth 16384

noncomputable section

/-! The turned queries and keys of the reference, sixteen lanes at a time. -/
namespace Cert.ReferenceIdeal.RVal
open Idealize.ShloMosaic Idealize.ShloMosaic.TcCoe Idealize.SL.Sem Cert.ReferenceIdeal Cert.ReferenceIdeal.Gen Cert.ReferenceIdeal.Value

/-- The q array `Y` turned by the angles `A` (rows) and `B` (columns). -/
def ropeQ (Y : FVec Ideal S16x2048x4x64 .f32) (A B : FVec Ideal S2048x16 .f32) : FVec Ideal S16x2048x4x64 .f32 :=
  let half (Z : FVec Ideal S16x2048x4x32 .f32) (T : FVec Ideal S2048x16 .f32) : FVec Ideal S16x2048x4x32 .f32 :=
    let z1 : FVec Ideal S16x2048x4x16 .f32 := extractStridedSlice S16x2048x4x16 ![0, 0, 0, 0] Z slices_S16x2048x4x32_S16x2048x4x16_0_0_0_0
    let z2 : FVec Ideal S16x2048x4x16 .f32 := extractStridedSlice S16x2048x4x16 ![0, 0, 0, 16] Z slices_S16x2048x4x32_S16x2048x4x16_0_0_0_16
    let c : FVec Ideal S16x2048x4x16 .f32 := broadcastInDim S16x2048x4x16 ![0, 1, 2, 3] bcast_S1x2048x1x16_S16x2048x4x16_0_1_2_3 (broadcastInDim S1x2048x1x16 ![1, 3] bcast_S2048x16_S1x2048x1x16_1_3 (Host.cos T))
    let s : FVec Ideal S16x2048x4x16 .f32 := broadcastInDim S16x2048x4x16 ![0, 1, 2, 3] bcast_S1x2048x1x16_S16x2048x4x16_0_1_2_3 (broadcastInDim S1x2048x1x16 ![1, 3] bcast_S2048x16_S1x2048x1x16_1_3 (Host.sin T))
    concatenate S16x2048x4x32 3 [⟨S16x2048x4x16, subf (mulf z1 c) (mulf z2 s)⟩, ⟨S16x2048x4x16, addf (mulf z1 s) (mulf z2 c)⟩] concatenates_S16x2048x4x16_S16x2048x4x16_S16x2048x4x32_d3
  concatenate S16x2048x4x64 3 [⟨S16x2048x4x32, half (extractStridedSlice S16x2048x4x32 ![0, 0, 0, 0] Y slices_S16x2048x4x64_S16x2048x4x32_0_0_0_0) A⟩,
    ⟨S16x2048x4x32, half (extractStridedSlice S16x2048x4x32 ![0, 0, 0, 32] Y slices_S16x2048x4x64_S16x2048x4x32_0_0_0_32) B⟩] concatenates_S16x2048x4x32_S16x2048x4x32_S16x2048x4x64_d3

theorem ropeQ_0 (Y : FVec Ideal S16x2048x4x64 .f32) (A B : FVec Ideal S2048x16 .f32) (b : Fin 16) (i : Fin 2048) (g : Fin 4) (e : Fin 16) :
    ropeQ Y A B (ix4 b i g ⟨e.val, by omega⟩) = (Y (ix4 b i g ⟨e.val, by omega⟩) * Ideal.cos (A (ix2 i e)) - Y (ix4 b i g ⟨16 + e.val, by omega⟩) * Ideal.sin (A (ix2 i e)) : EReal) := by
  pointwise [ropeQ]
  rw [dif_pos (by omega)]

theorem ropeQ_1 (Y : FVec Ideal S16x2048x4x64 .f32) (A B : FVec Ideal S2048x16 .f32) (b : Fin 16) (i : Fin 2048) (g : Fin 4) (e : Fin 16) :
    ropeQ Y A B (ix4 b i g ⟨16 + e.val, by omega⟩) = (Y (ix4 b i g ⟨e.val, by omega⟩) * Ideal.sin (A (ix2 i e)) + Y (ix4 b i g ⟨16 + e.val, by omega⟩) * Ideal.cos (A (ix2 i e)) : EReal) := by
  pointwise [ropeQ]
  rw [dif_pos (by omega)]

theorem ropeQ_2 (Y : FVec Ideal S16x2048x4x64 .f32) (A B : FVec Ideal S2048x16 .f32) (b : Fin 16) (i : Fin 2048) (g : Fin 4) (e : Fin 16) :
    ropeQ Y A B (ix4 b i g ⟨32 + e.val, by omega⟩) = (Y (ix4 b i g ⟨32 + e.val, by omega⟩) * Ideal.cos (B (ix2 i e)) - Y (ix4 b i g ⟨32 + (16 + e.val), by omega⟩) * Ideal.sin (B (ix2 i e)) : EReal) := by
  pointwise [ropeQ]

theorem ropeQ_3 (Y : FVec Ideal S16x2048x4x64 .f32) (A B : FVec Ideal S2048x16 .f32) (b : Fin 16) (i : Fin 2048) (g : Fin 4) (e : Fin 16) :
    ropeQ Y A B (ix4 b i g ⟨32 + (16 + e.val), by omega⟩) = (Y (ix4 b i g ⟨32 + e.val, by omega⟩) * Ideal.sin (B (ix2 i e)) + Y (ix4 b i g ⟨32 + (16 + e.val), by omega⟩) * Ideal.cos (B (ix2 i e)) : EReal) := by
  pointwise [ropeQ]

/-- The k array `Y` turned by the angles `A` (rows) and `B` (columns). -/
def ropeK (Y : FVec Ideal S16x2048x2x64 .f32) (A B : FVec Ideal S2048x16 .f32) : FVec Ideal S16x2048x2x64 .f32 :=
  let half (Z : FVec Ideal S16x2048x2x32 .f32) (T : FVec Ideal S2048x16 .f32) : FVec Ideal S16x2048x2x32 .f32 :=
    let z1 : FVec Ideal S16x2048x2x16 .f32 := extractStridedSlice S16x2048x2x16 ![0, 0, 0, 0] Z slices_S16x2048x2x32_S16x2048x2x16_0_0_0_0
    let z2 : FVec Ideal S16x2048x2x16 .f32 := extractStridedSlice S16x2048x2x16 ![0, 0, 0, 16] Z slices_S16x2048x2x32_S16x2048x2x16_0_0_0_16
    let c : FVec Ideal S16x2048x2x16 .f32 := broadcastInDim S16x2048x2x16 ![0, 1, 2, 3] bcast_S1x2048x1x16_S16x2048x2x16_0_1_2_3 (broadcastInDim S1x2048x1x16 ![1, 3] bcast_S2048x16_S1x2048x1x16_1_3 (Host.cos T))
    let s : FVec Ideal S16x2048x2x16 .f32 := broadcastInDim S16x2048x2x16 ![0, 1, 2, 3] bcast_S1x2048x1x16_S16x2048x2x16_0_1_2_3 (broadcastInDim S1x2048x1x16 ![1, 3] bcast_S2048x16_S1x2048x1x16_1_3 (Host.sin T))
    concatenate S16x2048x2x32 3 [⟨S16x2048x2x16, subf (mulf z1 c) (mulf z2 s)⟩, ⟨S16x2048x2x16, addf (mulf z1 s) (mulf z2 c)⟩] concatenates_S16x2048x2x16_S16x2048x2x16_S16x2048x2x32_d3
  concatenate S16x2048x2x64 3 [⟨S16x2048x2x32, half (extractStridedSlice S16x2048x2x32 ![0, 0, 0, 0] Y slices_S16x2048x2x64_S16x2048x2x32_0_0_0_0) A⟩,
    ⟨S16x2048x2x32, half (extractStridedSlice S16x2048x2x32 ![0, 0, 0, 32] Y slices_S16x2048x2x64_S16x2048x2x32_0_0_0_32) B⟩] concatenates_S16x2048x2x32_S16x2048x2x32_S16x2048x2x64_d3

theorem ropeK_0 (Y : FVec Ideal S16x2048x2x64 .f32) (A B : FVec Ideal S2048x16 .f32) (b : Fin 16) (i : Fin 2048) (g : Fin 2) (e : Fin 16) :
    ropeK Y A B (ix4 b i g ⟨e.val, by omega⟩) = (Y (ix4 b i g ⟨e.val, by omega⟩) * Ideal.cos (A (ix2 i e)) - Y (ix4 b i g ⟨16 + e.val, by omega⟩) * Ideal.sin (A (ix2 i e)) : EReal) := by
  pointwise [ropeK]
  rw [dif_pos (by omega)]

theorem ropeK_1 (Y : FVec Ideal S16x2048x2x64 .f32) (A B : FVec Ideal S2048x16 .f32) (b : Fin 16) (i : Fin 2048) (g : Fin 2) (e : Fin 16) :
    ropeK Y A B (ix4 b i g ⟨16 + e.val, by omega⟩) = (Y (ix4 b i g ⟨e.val, by omega⟩) * Ideal.sin (A (ix2 i e)) + Y (ix4 b i g ⟨16 + e.val, by omega⟩) * Ideal.cos (A (ix2 i e)) : EReal) := by
  pointwise [ropeK]
  rw [dif_pos (by omega)]

theorem ropeK_2 (Y : FVec Ideal S16x2048x2x64 .f32) (A B : FVec Ideal S2048x16 .f32) (b : Fin 16) (i : Fin 2048) (g : Fin 2) (e : Fin 16) :
    ropeK Y A B (ix4 b i g ⟨32 + e.val, by omega⟩) = (Y (ix4 b i g ⟨32 + e.val, by omega⟩) * Ideal.cos (B (ix2 i e)) - Y (ix4 b i g ⟨32 + (16 + e.val), by omega⟩) * Ideal.sin (B (ix2 i e)) : EReal) := by
  pointwise [ropeK]

theorem ropeK_3 (Y : FVec Ideal S16x2048x2x64 .f32) (A B : FVec Ideal S2048x16 .f32) (b : Fin 16) (i : Fin 2048) (g : Fin 2) (e : Fin 16) :
    ropeK Y A B (ix4 b i g ⟨32 + (16 + e.val), by omega⟩) = (Y (ix4 b i g ⟨32 + e.val, by omega⟩) * Ideal.sin (B (ix2 i e)) + Y (ix4 b i g ⟨32 + (16 + e.val), by omega⟩) * Ideal.cos (B (ix2 i e)) : EReal) := by
  pointwise [ropeK]

end Cert.ReferenceIdeal.RVal

end
-- ==== Proof.RAng.lean ====
module

public import proofs.«01_k».proof.Proof.Ref2
public import proofs.«01_k».proof.Proof.KTab
public import Idealize.ShloMosaic.Lib.Pointwise
public import Idealize.ShloMosaic.Lib.Claim

@[expose] public section

set_option maxRecDepth 16384

noncomputable section

/-! The reference's angles are the ones of the kernel's tables. -/
namespace Cert.ReferenceIdeal.RVal
open Idealize.ShloMosaic Idealize.ShloMosaic.TcCoe Idealize.SL.Sem Cert.ReferenceIdeal Cert.ReferenceIdeal.Gen Cert.ReferenceIdeal.Value Cert.Soft
variable (V : Valuation τ sig (Elt Ideal))

theorem row_eq (i : Fin 2048) (e : Fin 16) : (res_main_v31 V (ix2 i e) : EReal) = rowA i.val e.val := by
  pointwise [res_main_v31, res_main_v24, res_main_v14, res_main_call0_v0, res_main_call0_v2, rowA, rowW, freq]
  rfl

theorem col_eq (i : Fin 2048) (e : Fin 16) : (res_main_v38 V (ix2 i e) : EReal) = colA i.val e.val := by
  pointwise [res_main_v38, res_main_v24, res_main_v14, res_main_call1_v0, res_main_call1_v2, res_main_call1_v4, colA, colW, divW, freq]
  rfl

end Cert.ReferenceIdeal.RVal

end
-- ==== Proof.RRot.lean ====
module

public import proofs.«01_k».proof.Proof.RRope
public import proofs.«01_k».proof.Proof.RAng
public import proofs.«01_k».proof.Proof.Spec

@[expose] public section

set_option maxRecDepth 16384

noncomputable section

/-! The reference's queries, keys and values as elements of the projection array. -/
namespace Cert.ReferenceIdeal.RVal
open Idealize.ShloMosaic Idealize.ShloMosaic.TcCoe Idealize.SL.Sem Cert.ReferenceIdeal Cert.ReferenceIdeal.Gen Cert.ReferenceIdeal.Value Cert.Soft
variable (V : Valuation τ sig (Elt Ideal))

/-- The projection array and the sinks. -/
def PR : PA := V (Proc.devRef .tc main_arg0)
def SR : SA := V (Proc.devRef .tc main_arg1)

theorem pr (b : Fin 16) (i : Fin 2304) (l : Fin 3328) : (V (Proc.devRef .tc main_arg0) (ix3 b i l) : EReal) = pn (PR V) b.val i.val l.val :=
  pn_eq (PR V) b i l

theorem sr (g : Fin 4) : (V (Proc.devRef .tc main_arg1) (ix1 g) : EReal) = sn (SR V) g.val := sn_eq (SR V) g

theorem v3_eq (b : Fin 16) (i : Fin 2048) (g : Fin 4) (e : Fin 64) :
    (res_main_v3 V (ix4 b i g e) : EReal) = pn (PR V) b.val (256 + i.val) (64 * g.val + e.val) := by
  have H : (res_main_v3 V (ix4 b i g e) : EReal) = V (Proc.devRef .tc main_arg0) (ix3 b ⟨256 + i.val, by omega⟩ ⟨g.val * 64 + e.val, by omega⟩) := by
    pointwise [res_main_v3, res_main_v0]
  rw [H]; refine (pr V _ _ _).trans ?_
  exact pn_congr _ _ _ (by show g.val * 64 + e.val = _; omega)

theorem v5_eq (b : Fin 16) (i : Fin 2048) (g : Fin 2) (e : Fin 64) :
    (res_main_v5 V (ix4 b i g e) : EReal) = pn (PR V) b.val (256 + i.val) (256 + 64 * g.val + e.val) := by
  have H : (res_main_v5 V (ix4 b i g e) : EReal) = V (Proc.devRef .tc main_arg0) (ix3 b ⟨256 + i.val, by omega⟩ ⟨256 + (g.val * 64 + e.val), by omega⟩) := by
    pointwise [res_main_v5, res_main_v0]
  rw [H]; refine (pr V _ _ _).trans ?_
  exact pn_congr _ _ _ (by show 256 + (g.val * 64 + e.val) = _; omega)

theorem cosT_ge (i l : ℕ) : cosT (256 + i) l = Ideal.cos (ang i l) := by
  rw [cosT, if_neg (by omega), Nat.add_sub_cancel_left]

theorem sinT_ge (i l : ℕ) : sinT (256 + i) l = if l % 32 < 16 then -Ideal.sin (ang i l) else Ideal.sin (ang i l) := by
  rw [sinT, if_neg (by omega), Nat.add_sub_cancel_left]

theorem sub_eq' (a b c d : EReal) : a * b - c * d = a * b + c * -d := by
  rw [sub_eq_add_neg, mul_neg]

theorem rq_eq (b : Fin 16) (i : Fin 2048) (g : Fin 4) (e : Fin 64) :
    (ropeQ (res_main_v3 V) (res_main_v31 V) (res_main_v38 V) (ix4 b i g e) : EReal) = rq (PR V) b.val g.val (256 + i.val) e.val := by
  unfold rq rp
  rw [cosT_ge, sinT_ge]
  unfold ang
  have hk : e.val / 16 = 0 ∨ e.val / 16 = 1 ∨ e.val / 16 = 2 ∨ e.val / 16 = 3 := by omega
  rcases hk with h | h | h | h
  · have H := ropeQ_0 (res_main_v3 V) (res_main_v31 V) (res_main_v38 V) b i g ⟨e.val, by omega⟩
    have he : (⟨e.val, by omega⟩ : Fin 64) = e := Fin.ext (by show e.val = e.val; omega)
    simp only [he, v3_eq, row_eq] at H
    rw [H, if_pos (show e.val % 32 < 16 by omega), if_pos (show e.val % 32 < 16 by omega), if_pos (show e.val < 32 by omega), show e.val % 16 = e.val by omega]
    rw [sub_eq']
    exact congrArg₂ (· + ·) rfl (congrArg₂ (· * ·) (pn_congr _ _ _ (by omega)) rfl)
  · have H := ropeQ_1 (res_main_v3 V) (res_main_v31 V) (res_main_v38 V) b i g ⟨e.val - 16, by omega⟩
    have he : (⟨16 + (e.val - 16), by omega⟩ : Fin 64) = e := Fin.ext (by show 16 + (e.val - 16) = e.val; omega)
    simp only [he, v3_eq, row_eq] at H
    rw [H, if_neg (show ¬ e.val % 32 < 16 by omega), if_neg (show ¬ e.val % 32 < 16 by omega), if_pos (show e.val < 32 by omega), show e.val % 16 = e.val - 16 by omega]
    refine (add_comm _ _).trans ?_
    exact congrArg₂ (· + ·) rfl (congrArg₂ (· * ·) (pn_congr _ _ _ (by omega)) rfl)
  · have H := ropeQ_2 (res_main_v3 V) (res_main_v31 V) (res_main_v38 V) b i g ⟨e.val - 32, by omega⟩
    have he : (⟨32 + (e.val - 32), by omega⟩ : Fin 64) = e := Fin.ext (by show 32 + (e.val - 32) = e.val; omega)
    simp only [he, v3_eq, col_eq] at H
    rw [H, if_pos (show e.val % 32 < 16 by omega), if_pos (show e.val % 32 < 16 by omega), if_neg (show ¬ e.val < 32 by omega), show e.val % 16 = e.val - 32 by omega]
    rw [sub_eq']
    exact congrArg₂ (· + ·) rfl (congrArg₂ (· * ·) (pn_congr _ _ _ (by omega)) rfl)
  · have H := ropeQ_3 (res_main_v3 V) (res_main_v31 V) (res_main_v38 V) b i g ⟨e.val - 48, by omega⟩
    have he : (⟨32 + (16 + (e.val - 48)), by omega⟩ : Fin 64) = e := Fin.ext (by show 32 + (16 + (e.val - 48)) = e.val; omega)
    simp only [he, v3_eq, col_eq] at H
    rw [H, if_neg (show ¬ e.val % 32 < 16 by omega), if_neg (show ¬ e.val % 32 < 16 by omega), if_neg (show ¬ e.val < 32 by omega), show e.val % 16 = e.val - 48 by omega]
    refine (add_comm _ _).trans ?_
    exact congrArg₂ (· + ·) rfl (congrArg₂ (· * ·) (pn_congr _ _ _ (by omega)) rfl)

theorem rk_eq (b : Fin 16) (i : Fin 2048) (g : Fin 2) (e : Fin 64) :
    (ropeK (res_main_v5 V) (res_main_v31 V) (res_main_v38 V) (ix4 b i g e) : EReal) = rk (PR V) b.val g.val (256 + i.val) e.val := by
  unfold rk rp
  rw [cosT_ge, sinT_ge]
  unfold ang
  have hk : e.val / 16 = 0 ∨ e.val / 16 = 1 ∨ e.val / 16 = 2 ∨ e.val / 16 = 3 := by omega
  rcases hk with h | h | h | h
  · have H := ropeK_0 (res_main_v5 V) (res_main_v31 V) (res_main_v38 V) b i g ⟨e.val, by omega⟩
    have he : (⟨e.val, by omega⟩ : Fin 64) = e := Fin.ext (by show e.val = e.val; omega)
    simp only [he, v5_eq, row_eq] at H
    rw [H, if_pos (show e.val % 32 < 16 by omega), if_pos (show e.val % 32 < 16 by omega), if_pos (show e.val < 32 by omega), show e.val % 16 = e.val by omega]
    rw [sub_eq']
    exact congrArg₂ (· + ·) rfl (congrArg₂ (· * ·) (pn_congr _ _ _ (by omega)) rfl)
  · have H := ropeK_1 (res_main_v5 V) (res_main_v31 V) (res_main_v38 V) b i g ⟨e.val - 16, by omega⟩
    have he : (⟨16 + (e.val - 16), by omega⟩ : Fin 64) = e := Fin.ext (by show 16 + (e.val - 16) = e.val; omega)
    simp only [he, v5_eq, row_eq] at H
    rw [H, if_neg (show ¬ e.val % 32 < 16 by omega), if_neg (show ¬ e.val % 32 < 16 by omega), if_pos (show e.val < 32 by omega), show e.val % 16 = e.val - 16 by omega]
    refine (add_comm _ _).trans ?_
    exact congrArg₂ (· + ·) rfl (congrArg₂ (· * ·) (pn_congr _ _ _ (by omega)) rfl)
  · have H := ropeK_2 (res_main_v5 V) (res_main_v31 V) (res_main_v38 V) b i g ⟨e.val - 32, by omega⟩
    have he : (⟨32 + (e.val - 32), by omega⟩ : Fin 64) = e := Fin.ext (by show 32 + (e.val - 32) = e.val; omega)
    simp only [he, v5_eq, col_eq] at H
    rw [H, if_pos (show e.val % 32 < 16 by omega), if_pos (show e.val % 32 < 16 by omega), if_neg (show ¬ e.val < 32 by omega), show e.val % 16 = e.val - 32 by omega]
    rw [sub_eq']
    exact congrArg₂ (· + ·) rfl (congrArg₂ (· * ·) (pn_congr _ _ _ (by omega)) rfl)
  · have H := ropeK_3 (res_main_v5 V) (res_main_v31 V) (res_main_v38 V) b i g ⟨e.val - 48, by omega⟩
    have he : (⟨32 + (16 + (e.val - 48)), by omega⟩ : Fin 64) = e := Fin.ext (by show 32 + (16 + (e.val - 48)) = e.val; omega)
    simp only [he, v5_eq, col_eq] at H
    rw [H, if_neg (show ¬ e.val % 32 < 16 by omega), if_neg (show ¬ e.val % 32 < 16 by omega), if_neg (show ¬ e.val < 32 by omega), show e.val % 16 = e.val - 48 by omega]
    refine (add_comm _ _).trans ?_
    exact congrArg₂ (· + ·) rfl (congrArg₂ (· * ·) (pn_congr _ _ _ (by omega)) rfl)

theorem rp_ctx (x : ℕ → EReal) (i e : ℕ) (h : i < 256) : rp x i e = x e := by
  unfold rp
  rw [cosT, sinT, if_pos h, if_pos h, mul_one, mul_zero, add_zero]

theorem v11_eq (b : Fin 16) (j : Fin 256) (g : Fin 2) (e : Fin 64) :
    (res_main_v11 V (ix4 b j g e) : EReal) = rk (PR V) b.val g.val j.val e.val := by
  have H : (res_main_v11 V (ix4 b j g e) : EReal) = V (Proc.devRef .tc main_arg0) (ix3 b ⟨j.val, by omega⟩ ⟨256 + (g.val * 64 + e.val), by omega⟩) := by
    pointwise [res_main_v11, res_main_v1]
  rw [H]; refine (pr V _ _ _).trans ?_; rw [rk, rp_ctx _ _ _ j.isLt]
  exact pn_congr _ _ _ (by show 256 + (g.val * 64 + e.val) = _; omega)

theorem v13_eq (b : Fin 16) (j : Fin 256) (g : Fin 2) (e : Fin 64) :
    (res_main_v13 V (ix4 b j g e) : EReal) = vv (PR V) b.val g.val j.val e.val := by
  have H : (res_main_v13 V (ix4 b j g e) : EReal) = V (Proc.devRef .tc main_arg0) (ix3 b ⟨j.val, by omega⟩ ⟨384 + (g.val * 64 + e.val), by omega⟩) := by
    pointwise [res_main_v13, res_main_v1]
  rw [H]; refine (pr V _ _ _).trans ?_; rw [vv]
  exact pn_congr _ _ _ (by show 384 + (g.val * 64 + e.val) = _; omega)

theorem v1q_eq (b : Fin 16) (i : Fin 256) (g h : Fin 2) (e : Fin 64) :
    (shapeCast S16x256x2x2x64 (shapeCast S16x256x4x64 (extractStridedSlice S16x256x256 ![0, 0, 0] (res_main_v1 V) slices_S16x256x3328_S16x256x256_0_0_0) shapeCasts_S16x256x256_S16x256x4x64) shapeCasts_S16x256x4x64_S16x256x2x2x64 (ix5 b i g h e) : EReal) = rq (PR V) b.val (2 * g.val + h.val) i.val e.val := by
  have H : (shapeCast S16x256x2x2x64 (shapeCast S16x256x4x64 (extractStridedSlice S16x256x256 ![0, 0, 0] (res_main_v1 V) slices_S16x256x3328_S16x256x256_0_0_0) shapeCasts_S16x256x256_S16x256x4x64) shapeCasts_S16x256x4x64_S16x256x2x2x64 (ix5 b i g h e) : EReal) = V (Proc.devRef .tc main_arg0) (ix3 b ⟨i.val, by omega⟩ ⟨g.val * 128 + h.val * 64 + e.val, by omega⟩) := by
    pointwise [res_main_v1]
  rw [H]; refine (pr V _ _ _).trans ?_; rw [rq, rp_ctx _ _ _ i.isLt]
  exact pn_congr _ _ _ (by show g.val * 128 + h.val * 64 + e.val = _; omega)

/-- The turned queries, five ways apart. -/
theorem v167_eq (b n : Fin 16) (r : Fin 128) (g h : Fin 2) (e : Fin 64) :
    (res_main_v167 V (ix6 b n r g h e) : EReal) = rq (PR V) b.val (2 * g.val + h.val) (256 + (n.val * 128 + r.val)) e.val := by
  have H : ∀ Y : FVec Ideal S16x2048x4x64 .f32, (shapeCast S16x16x128x2x2x64 Y shapeCasts_S16x2048x4x64_S16x16x128x2x2x64 (ix6 b n r g h e) : EReal)
      = Y (ix4 b ⟨n.val * 128 + r.val, by omega⟩ ⟨g.val * 2 + h.val, by omega⟩ e) := by
    intro Y
    pointwise
  refine (H (ropeQ (res_main_v3 V) (res_main_v31 V) (res_main_v38 V))).trans ((rq_eq V b _ _ e).trans ?_)
  show rq (PR V) b.val (g.val * 2 + h.val) _ _ = _
  rw [Nat.mul_comm g.val 2]

end Cert.ReferenceIdeal.RVal

end
-- ==== Proof.RGat.lean ====
module

public import proofs.«01_k».proof.Proof.Ref2
public import Idealize.ShloMosaic.Lib.Pointwise
public import Idealize.ShloMosaic.Lib.Claim

@[expose] public section

set_option maxRecDepth 16384

noncomputable section

/-! The windows the reference gathers, read at an index. -/
namespace Cert.ReferenceIdeal.RVal
open Idealize.ShloMosaic Idealize.ShloMosaic.TcCoe Idealize.SL.Sem Cert.ReferenceIdeal Cert.ReferenceIdeal.Gen Cert.ReferenceIdeal.Value

abbrev gd : GatherDims S16x2304x2x64 S16x384x1 S16x16x384x2x64 := gather_S16x2304x2x64_S16x384x1_S16x16x384x2x64_034_1_n_n_1_2_161264

theorem gather_eq (x : FVec Ideal S16x2304x2x64 .f32) (idx : IVec S16x384x1 32) (b n : Fin 16) (j : Fin 384) (g : Fin 2) (e : Fin 64)
    (p : Fin 2304) (hp : min (idx (ix3 n j 0)).toInt.toNat 2303 = p.val) :
    Host.gather gd x idx (ix5 b n j g e) = x (ix4 b p g e) := by
  unfold Host.gather
  congr 1
  funext a
  refine Fin.ext ?_
  show gd.start _ idx a + gd.batchCoord _ a + gd.offCoord _ a = _
  rw [GatherDims.batchCoord_eq_zero _ _ _ (fun h => by simp [gd, gather_S16x2304x2x64_S16x384x1_S16x16x384x2x64_034_1_n_n_1_2_161264] at h)]
  have hcol : ∀ (y : S16x16x384x2x64.Idx), gd.offCoord y 1 = 0 := fun y =>
    GatherDims.offCoord_eq_zero _ _ _ (fun h => ((GatherDims.mem_sKept _ _).mp h).1 (List.mem_singleton.mpr rfl))
  have hst : ∀ (y : S16x16x384x2x64.Idx) (a : Fin 4), a ≠ 1 → gd.start y idx a = 0 := fun y a ha => by
    unfold GatherDims.start
    rw [dif_neg (show ¬ a ∈ gd.startIndexMap from fun h => ha (List.mem_singleton.mp h))]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · rw [hst _ _ (by decide)]; simp only [Nat.zero_add]; rfl
  · rw [hcol]
    simp only [Nat.add_zero]
    refine Eq.trans ?_ hp
    unfold GatherDims.start
    rw [dif_pos (show (1 : Fin 4) ∈ gd.startIndexMap from List.mem_singleton.mpr rfl)]
    have hsi : gd.siIdx (ix5 b n j g e) ⟨List.idxOf (1 : Fin 4) gd.startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  · rw [hst _ _ (by decide)]; simp only [Nat.zero_add]; rfl
  · rw [hst _ _ (by decide)]; simp only [Nat.zero_add]; rfl

/-- The rows of a window: the padded rows from `128 n` on. -/
abbrev gidx (V : Valuation τ sig (Elt Ideal)) : IVec S16x384x1 32 :=
  broadcastInDim S16x384x1 ![0, 1] bcast_S16x384_S16x384x1_0_1 (select (cmpi .slt (res_main_v121 V) (broadcastInDim S16x384 ![] bcast_S_S16x384 (constantI S_ 32 0#32))) (addi (res_main_v121 V) (broadcastInDim S16x384 ![] bcast_S_S16x384 (constantI S_ 32 2304#32))) (res_main_v121 V))

theorem v121_eq (V : Valuation τ sig (Elt Ideal)) (n : Fin 16) (j : Fin 384) :
    (res_main_v121 V (ix2 n j) : BitVec 32) = BitVec.ofNat 32 (n.val * 128 + j.val) := by
  have H : (res_main_v121 V (ix2 n j) : BitVec 32) = IntOp.addi (IntOp.muli (BitVec.ofNat 32 n.val) 128#32) (BitVec.ofNat 32 j.val) := by
    pointwise [res_main_v121]
  rw [H]
  unfold IntOp.addi IntOp.muli
  apply BitVec.eq_of_toNat_eq
  simp only [BitVec.toNat_add, BitVec.toNat_mul, BitVec.toNat_ofNat]
  omega

theorem gidx_eq (V : Valuation τ sig (Elt Ideal)) (n : Fin 16) (j : Fin 384) :
    min (gidx V (ix3 n j 0)).toInt.toNat 2303 = n.val * 128 + j.val := by
  have H : gidx V (ix3 n j 0) = Scalar.select (IntOp.cmpi .slt (res_main_v121 V (ix2 n j) : BitVec 32) 0#32) (IntOp.addi (res_main_v121 V (ix2 n j) : BitVec 32) 2304#32) (res_main_v121 V (ix2 n j) : BitVec 32) := by
    pointwise
  rw [H, v121_eq]
  have h0 : (BitVec.ofNat 32 (n.val * 128 + j.val)).toInt = ((n.val * 128 + j.val : ℕ) : ℤ) := by
    rw [BitVec.toInt_eq_toNat_of_lt (by rw [BitVec.toNat_ofNat]; omega), BitVec.toNat_ofNat]
    rw [Nat.mod_eq_of_lt (by omega)]
  have h1 : IntOp.cmpi .slt (BitVec.ofNat 32 (n.val * 128 + j.val)) 0#32 = 0#1 := by
    unfold IntOp.cmpi
    simp only [BitVec.slt, h0]
    rw [decide_eq_false (by simp; omega)]
    rfl
  rw [h1]
  show min (BitVec.ofNat 32 (n.val * 128 + j.val)).toInt.toNat 2303 = _
  rw [h0]
  omega

/-- A gathered window of a padded array: zero outside the sequence. -/
theorem win_eq (V : Valuation τ sig (Elt Ideal)) (X : FVec Ideal S16x2048x2x64 .f32) (b n : Fin 16) (j : Fin 384) (g : Fin 2) (e : Fin 64) :
    Host.gather gd (pad S16x2304x2x64 ![0, 128, 0, 0] ![0, 128, 0, 0] ![0, 0, 0, 0] X (sitofp .f32 (constantI S_ 32 0#32) : FVec Ideal S_ .f32) pads_S16x2048x2x64_S16x2304x2x64_000_1281280_000_000 h_S_)
      (gidx V) (ix5 b n j g e)
      = if h : 128 ≤ n.val * 128 + j.val ∧ n.val * 128 + j.val < 2176 then X (ix4 b ⟨n.val * 128 + j.val - 128, by omega⟩ g e)
        else (FloatOps.sitofp .f32 (0#32 : BitVec 32) : Ideal .f32) := by
  rw [gather_eq _ _ b n j g e ⟨n.val * 128 + j.val, by omega⟩ (gidx_eq V n j)]
  pointwise
  by_cases h : 128 ≤ n.val * 128 + j.val ∧ n.val * 128 + j.val < 2176
  · rw [dif_pos h, dif_pos (by omega)]
  · rw [dif_neg h, dif_neg (by omega)]

end Cert.ReferenceIdeal.RVal

end
-- ==== Proof.RScr.lean ====
module

public import proofs.«01_k».proof.Proof.RRot
public import proofs.«01_k».proof.Proof.RGat

@[expose] public section

set_option maxRecDepth 16384

noncomputable section

/-! The reference's rows of scores: window, context, sink. -/
namespace Cert.ReferenceIdeal.RVal
open Idealize.ShloMosaic Idealize.ShloMosaic.TcCoe Idealize.SL.Sem Cert.ReferenceIdeal Cert.ReferenceIdeal.Gen Cert.ReferenceIdeal.Value Cert.Soft
variable (V : Valuation τ sig (Elt Ideal))

theorem c0_coe : ∃ r : ℝ, 0 ≤ r ∧ c0 = (r : EReal) := by
  unfold c0
  refine ⟨8388608 * 2 ^ ((124 : ℤ) - 127 - 23), by positivity, ?_⟩
  simp (decide := true) [Ideal.ofBits, Ideal.ieee]

theorem c0_nonneg : 0 ≤ c0 := by
  obtain ⟨r, h, e⟩ := c0_coe
  rw [e]
  exact EReal.coe_nonneg.mpr h

theorem c0_ne_top : c0 ≠ ⊤ := by
  obtain ⟨r, h, e⟩ := c0_coe
  rw [e]
  exact EReal.coe_ne_top r

theorem toInt_lit (k : ℕ) (h : k < 2147483648) : (BitVec.ofNat 32 k).toInt = k := by
  rw [BitVec.toInt_eq_toNat_of_lt (by rw [BitVec.toNat_ofNat]; omega), BitVec.toNat_ofNat, Nat.mod_eq_of_lt (by omega)]

theorem sc_of (P : PA) (b i j : ℕ) (g h : Fin 2) :
    (∑ e : Fin 64, rk P b g.val j e.val * rq P b (2 * g.val + h.val) i e.val) * c0 = sc P b (2 * g.val + h.val) i j := by
  unfold sc
  rw [show (2 * g.val + h.val) / 2 = g.val by omega]
  exact (dot_scale _ _ _ c0_nonneg c0_ne_top).symm

/-- The scores of the rows of the context. -/
def scoreC (K : FVec Ideal S16x256x2x64 .f32) (Q : FVec Ideal S16x256x2x2x64 .f32) (S : FVec Ideal S4 .f32) : FVec Ideal S16x2x2x256x257 .f32 :=
  concatenate S16x2x2x256x257 4 [⟨S16x2x2x256x256, (mulf (transpose S16x2x2x256x256 [0, 1, 4, 3, 2] (Host.dotGeneral dot_S16x256x2x64_S16x256x2x2x64_S16x2x256x256x2_3_4_1_13_02_02 none K Q) transposes_S16x2x256x256x2_S16x2x2x256x256_0_1_4_3_2) (broadcastInDim S16x2x2x256x256 ![] bcast_S_S16x2x2x256x256 (constant S_ .f32 0x3E000000#32)))⟩, ⟨S16x2x2x256x1, (broadcastInDim S16x2x2x256x1 ![0, 1, 2, 3, 4] bcast_S1x2x2x1x1_S16x2x2x256x1_0_1_2_3_4 (broadcastInDim S1x2x2x1x1 ![1, 2] bcast_S2x2_S1x2x2x1x1_1_2 (shapeCast S2x2 S shapeCasts_S4_S2x2)))⟩] concatenates_S16x2x2x256x256_S16x2x2x256x1_S16x2x2x256x257_d4

theorem scoreC_s (K : FVec Ideal S16x256x2x64 .f32) (Q : FVec Ideal S16x256x2x2x64 .f32) (S : FVec Ideal S4 .f32) (b : Fin 16) (g h : Fin 2) (i : Fin 256) (j : Fin 256) :
    (scoreC K Q S (ix5 b g h i ⟨j.val, by omega⟩) : EReal) = (∑ x, K (ix4 b j g x) * Q (ix5 b i g h x) : EReal) * c0 := by
  pointwise [scoreC, c0]

theorem scoreC_z (K : FVec Ideal S16x256x2x64 .f32) (Q : FVec Ideal S16x256x2x2x64 .f32) (S : FVec Ideal S4 .f32) (b : Fin 16) (g h : Fin 2) (i : Fin 256) :
    (scoreC K Q S (ix5 b g h i ⟨256, by omega⟩) : EReal) = S (ix1 ⟨g.val * 2 + h.val, by omega⟩) := by
  pointwise [scoreC]

theorem v209_s (b : Fin 16) (g h : Fin 2) (i : Fin 256) (j : Fin 256) :
    (res_main_v209 V (ix5 b g h i ⟨j.val, by omega⟩) : EReal) = sc (PR V) b.val (2 * g.val + h.val) i.val j.val := by
  refine (scoreC_s (res_main_v11 V) _ (V (Proc.devRef .tc main_arg1)) b g h i j).trans ?_
  rw [← sc_of]
  refine congrArg (· * c0) (Finset.sum_congr rfl fun x _ => ?_)
  exact congrArg₂ (· * ·) (v11_eq V b j g x) (v1q_eq V b i g h x)

theorem v209_z (b : Fin 16) (g h : Fin 2) (i : Fin 256) :
    (res_main_v209 V (ix5 b g h i ⟨256, by omega⟩) : EReal) = sn (SR V) (2 * g.val + h.val) := by
  refine (scoreC_z (res_main_v11 V) _ (V (Proc.devRef .tc main_arg1)) b g h i).trans ((sr V _).trans ?_)
  show sn (SR V) (g.val * 2 + h.val) = _
  rw [Nat.mul_comm]

theorem mask_sel (n i j : ℕ) (hn : n < 16) (hi : i < 128) (hj : j < 384) (x y : EReal) :
    Scalar.select (IntOp.andi (IntOp.andi
        (IntOp.cmpi .sle (IntOp.absi (IntOp.subi (IntOp.addi (IntOp.muli (BitVec.ofNat 32 n) 128#32) (BitVec.ofNat 32 i)) (IntOp.subi (BitVec.ofNat 32 (n * 128 + j)) 128#32))) 128#32)
        (IntOp.cmpi .sge (IntOp.subi (BitVec.ofNat 32 (n * 128 + j)) 128#32) 0#32))
        (IntOp.cmpi .slt (IntOp.subi (BitVec.ofNat 32 (n * 128 + j)) 128#32) 2048#32)) x y
      = if (128 ≤ n * 128 + j ∧ n * 128 + j < 2176) ∧ i ≤ j ∧ j ≤ i + 256 then x else y := by
  have e1 : (IntOp.subi (BitVec.ofNat 32 (n * 128 + j)) 128#32).toInt = (n : ℤ) * 128 + j - 128 := by
    unfold IntOp.subi
    rw [BitVec.toInt_sub, toInt_lit _ (by omega), toInt_lit 128 (by omega)]
    simp only [Int.bmod_def]
    push_cast
    omega
  have e2 : (IntOp.subi (IntOp.addi (IntOp.muli (BitVec.ofNat 32 n) 128#32) (BitVec.ofNat 32 i)) (IntOp.subi (BitVec.ofNat 32 (n * 128 + j)) 128#32)).toInt
      = (i : ℤ) + 128 - j := by
    rw [IntOp.subi, BitVec.toInt_sub, e1, IntOp.addi, BitVec.toInt_add, IntOp.muli, BitVec.toInt_mul, toInt_lit n (by omega), toInt_lit i (by omega), toInt_lit 128 (by omega)]
    simp only [Int.bmod_def]
    omega
  have e3 : (IntOp.absi (IntOp.subi (IntOp.addi (IntOp.muli (BitVec.ofNat 32 n) 128#32) (BitVec.ofNat 32 i)) (IntOp.subi (BitVec.ofNat 32 (n * 128 + j)) 128#32))).toInt
      = if (i : ℤ) + 128 < j then (j : ℤ) - i - 128 else (i : ℤ) + 128 - j := by
    generalize (IntOp.subi (IntOp.addi (IntOp.muli (BitVec.ofNat 32 n) 128#32) (BitVec.ofNat 32 i)) (IntOp.subi (BitVec.ofNat 32 (n * 128 + j)) 128#32)) = d at e2
    unfold IntOp.absi
    rw [BitVec.msb_eq_toInt, e2]
    by_cases h : (i : ℤ) + 128 < j
    · rw [if_pos h, if_pos (by simpa using by omega), BitVec.toInt_neg, e2]
      simp only [Int.bmod_def]
      omega
    · rw [if_neg h, if_neg (by simpa using by omega), e2]
  unfold Scalar.select IntOp.andi IntOp.cmpi
  have z0 : (0#32).toInt = 0 := rfl
  have z1 : (128#32).toInt = 128 := rfl
  have z2 : (2048#32).toInt = 2048 := rfl
  simp only [BitVec.sle, BitVec.slt, e1, e3, z0, z1, z2]
  have hb : ∀ p q r : Bool, (BitVec.ofBool p &&& BitVec.ofBool q &&& BitVec.ofBool r = 1) ↔ (p = true ∧ q = true ∧ r = true) := by decide
  refine if_congr ?_ rfl rfl
  rw [hb]
  simp only [decide_eq_true_eq]
  by_cases h : (i : ℤ) + 128 < j
  · rw [if_pos h]; omega
  · rw [if_neg h]; omega

/-- The scores of the rows of the sequence. -/
def scoreL (M : IVec S16x128x384 1) (KW : FVec Ideal S16x16x384x2x64 .f32) (Q : FVec Ideal S16x16x128x2x2x64 .f32) (K : FVec Ideal S16x256x2x64 .f32) (S : FVec Ideal S4 .f32) : FVec Ideal S16x16x2x2x128x641 .f32 :=
  concatenate S16x16x2x2x128x641 5 [⟨S16x16x2x2x128x384, ((select (broadcastInDim S16x16x2x2x128x384 ![0, 1, 2, 3, 4, 5] bcast_S1x16x1x1x128x384_S16x16x2x2x128x384_0_1_2_3_4_5 (broadcastInDim S1x16x1x1x128x384 ![1, 4, 5] bcast_S16x128x384_S1x16x1x1x128x384_1_4_5 M)) (mulf (transpose S16x16x2x2x128x384 [0, 1, 2, 5, 4, 3] (Host.dotGeneral dot_S16x16x384x2x64_S16x16x128x2x2x64_S16x16x2x384x128x2_4_5_2_24_013_013 none KW Q) transposes_S16x16x2x384x128x2_S16x16x2x2x128x384_0_1_2_5_4_3) (broadcastInDim S16x16x2x2x128x384 ![] bcast_S_S16x16x2x2x128x384 (constant S_ .f32 0x3E000000#32))) (broadcastInDim S16x16x2x2x128x384 ![] bcast_S_S16x16x2x2x128x384 (id (constant S_ .f32 0xFF800000#32)))) : FVec Ideal S16x16x2x2x128x384 .f32)⟩, ⟨S16x16x2x2x128x256, ((mulf (transpose S16x16x2x2x128x256 [0, 3, 1, 5, 4, 2] (Host.dotGeneral dot_S16x256x2x64_S16x16x128x2x2x64_S16x2x256x16x128x2_3_5_1_124_02_03 none K Q) transposes_S16x2x256x16x128x2_S16x16x2x2x128x256_0_3_1_5_4_2) (broadcastInDim S16x16x2x2x128x256 ![] bcast_S_S16x16x2x2x128x256 (constant S_ .f32 0x3E000000#32))) : FVec Ideal S16x16x2x2x128x256 .f32)⟩, ⟨S16x16x2x2x128x1, ((broadcastInDim S16x16x2x2x128x1 ![0, 1, 2, 3, 4, 5] bcast_S1x1x2x2x1x1_S16x16x2x2x128x1_0_1_2_3_4_5 (broadcastInDim S1x1x2x2x1x1 ![2, 3] bcast_S2x2_S1x1x2x2x1x1_2_3 (shapeCast S2x2 S shapeCasts_S4_S2x2))) : FVec Ideal S16x16x2x2x128x1 .f32)⟩] concatenates_S16x16x2x2x128x384_S16x16x2x2x128x256_S16x16x2x2x128x1_S16x16x2x2x128x641_d5

theorem scoreL_w (M : IVec S16x128x384 1) (KW : FVec Ideal S16x16x384x2x64 .f32) (Q : FVec Ideal S16x16x128x2x2x64 .f32) (K : FVec Ideal S16x256x2x64 .f32) (S : FVec Ideal S4 .f32)
    (b n : Fin 16) (g h : Fin 2) (i : Fin 128) (j : Fin 384) :
    (scoreL M KW Q K S (ix6 b n g h i ⟨j.val, by omega⟩) : EReal)
      = Scalar.select (M (ix3 n i j)) ((∑ x, KW (ix5 b n j g x) * Q (ix6 b n i g h x) : EReal) * c0) (Ideal.ofBits .f32 0xFF800000#32) := by
  pointwise [scoreL, c0]
  rfl

theorem scoreL_s (M : IVec S16x128x384 1) (KW : FVec Ideal S16x16x384x2x64 .f32) (Q : FVec Ideal S16x16x128x2x2x64 .f32) (K : FVec Ideal S16x256x2x64 .f32) (S : FVec Ideal S4 .f32)
    (b n : Fin 16) (g h : Fin 2) (i : Fin 128) (j : Fin 256) :
    (scoreL M KW Q K S (ix6 b n g h i ⟨384 + j.val, by omega⟩) : EReal)
      = (∑ x, K (ix4 b j g x) * Q (ix6 b n i g h x) : EReal) * c0 := by
  pointwise [scoreL, c0]

theorem scoreL_z (M : IVec S16x128x384 1) (KW : FVec Ideal S16x16x384x2x64 .f32) (Q : FVec Ideal S16x16x128x2x2x64 .f32) (K : FVec Ideal S16x256x2x64 .f32) (S : FVec Ideal S4 .f32)
    (b n : Fin 16) (g h : Fin 2) (i : Fin 128) :
    (scoreL M KW Q K S (ix6 b n g h i ⟨640, by omega⟩) : EReal) = S (ix1 ⟨g.val * 2 + h.val, by omega⟩) := by
  pointwise [scoreL]

end Cert.ReferenceIdeal.RVal

end
-- ==== Proof.Fold.lean ====
module

public import Idealize.ShloMosaic.Lib.Pointwise
public import Idealize.ShloMosaic.Lib.Claim

@[expose] public section

noncomputable section

/-! A row's maximum and a row's sum along the last axis, at any extents. -/
namespace Cert.Fold
open Idealize.ShloMosaic Idealize.ShloMosaic.TcCoe
variable {n0 n1 n2 n3 n4 n5 : ℕ} {u : Shape}

theorem max5 (X : FVec Ideal ⟨5, ![n0, n1, n2, n3, n4]⟩ .f32) (init : FVec Ideal u .f32)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < u.numel)
    (a : Fin n0) (b : Fin n1) (c : Fin n2) (d : Fin n3) :
    Host.reduce FloatOps.maximumf X init h' hu (ix4 a b c d)
      = Finset.univ.fold max (init (Shape.Idx.first hu) : EReal) (fun x : Fin n4 => (X (ix5 a b c d x) : EReal)) := by
  refine (Host.reduce_eq_fold_single _ X init h' h hu _).trans ?_
  refine congrArg (Finset.univ.fold max (init (Shape.Idx.first hu) : EReal)) (funext fun x => congrArg X ?_)
  funext k
  fin_cases k <;> rfl

theorem max6 (X : FVec Ideal ⟨6, ![n0, n1, n2, n3, n4, n5]⟩ .f32) (init : FVec Ideal u .f32)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < u.numel)
    (a : Fin n0) (b : Fin n1) (c : Fin n2) (d : Fin n3) (e : Fin n4) :
    Host.reduce FloatOps.maximumf X init h' hu (ix5 a b c d e)
      = Finset.univ.fold max (init (Shape.Idx.first hu) : EReal) (fun x : Fin n5 => (X (ix6 a b c d e x) : EReal)) := by
  refine (Host.reduce_eq_fold_single _ X init h' h hu _).trans ?_
  refine congrArg (Finset.univ.fold max (init (Shape.Idx.first hu) : EReal)) (funext fun x => congrArg X ?_)
  funext k
  fin_cases k <;> rfl

theorem sum5 (X : FVec Ideal ⟨5, ![n0, n1, n2, n3, n4]⟩ .f32) (init : FVec Ideal u .f32)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < u.numel)
    (a : Fin n0) (b : Fin n1) (c : Fin n2) (d : Fin n3) :
    Host.reduceAdd X init h' hu (ix4 a b c d)
      = (init (Shape.Idx.first hu) : EReal) + ∑ x : Fin n4, (X (ix5 a b c d x) : EReal) := by
  refine (Ideal.hostReduceAdd_single h' h X (init (Shape.Idx.first hu)) (ix4 a b c d)).trans ?_
  refine congrArg ((init (Shape.Idx.first hu) : EReal) + ·) (Finset.sum_congr rfl fun x _ => congrArg X ?_)
  funext k
  fin_cases k <;> rfl

theorem sum6 (X : FVec Ideal ⟨6, ![n0, n1, n2, n3, n4, n5]⟩ .f32) (init : FVec Ideal u .f32)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < u.numel)
    (a : Fin n0) (b : Fin n1) (c : Fin n2) (d : Fin n3) (e : Fin n4) :
    Host.reduceAdd X init h' hu (ix5 a b c d e)
      = (init (Shape.Idx.first hu) : EReal) + ∑ x : Fin n5, (X (ix6 a b c d e x) : EReal) := by
  refine (Ideal.hostReduceAdd_single h' h X (init (Shape.Idx.first hu)) (ix5 a b c d e)).trans ?_
  refine congrArg ((init (Shape.Idx.first hu) : EReal) + ·) (Finset.sum_congr rfl fun x _ => congrArg X ?_)
  funext k
  fin_cases k <;> rfl

end Cert.Fold
end
-- ==== Proof.RSoft.lean ====
module

public import proofs.«01_k».proof.Proof.Ref2
public import proofs.«01_k».proof.Proof.Fold
public import proofs.«01_k».proof.Proof.Soft
public import proofs.«01_k».proof.Proof.KPay

@[expose] public section

set_option maxRecDepth 16384

noncomputable section

/-! The normalized weights of a row, at any scores. -/
namespace Cert.ReferenceIdeal.RVal
open Idealize.ShloMosaic Idealize.ShloMosaic.TcCoe Idealize.SL.Sem Cert.ReferenceIdeal Cert.ReferenceIdeal.Gen Cert.ReferenceIdeal.Value Cert.Soft

theorem bot_word : Ideal.ofBits .f32 0xFF800000#32 = ⊥ := by
  simp [Ideal.ofBits, Ideal.ieee]

theorem zero_word : Ideal.ofBits .f32 0x00000000#32 = 0 := Ideal.ofBits_zero_f32

abbrev mx5 (X : FVec Ideal S16x2x2x256x257 .f32) : FVec Ideal S16x2x2x256 .f32 :=
  Host.reduce FloatOps.maximumf X (constant S_ .f32 0xFF800000#32) reducesTo_S16x2x2x256x257_S16x2x2x256_d4 h_S_
abbrev ex5 (X : FVec Ideal S16x2x2x256x257 .f32) (R : FVec Ideal S16x2x2x256 .f32) : FVec Ideal S16x2x2x256x257 .f32 :=
  Host.exp (subf X (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (maximumf (broadcastInDim S16x2x2x256 ![] bcast_S_S16x2x2x256 (constant S_ .f32 0xFF800000#32)) R))))
abbrev sm5 (E : FVec Ideal S16x2x2x256x257 .f32) : FVec Ideal S16x2x2x256 .f32 :=
  Host.reduceAdd E (constant S_ .f32 0x00000000#32) reducesTo_S16x2x2x256x257_S16x2x2x256_d4 h_S_
abbrev dv5 (E : FVec Ideal S16x2x2x256x257 .f32) (R : FVec Ideal S16x2x2x256 .f32) : FVec Ideal S16x2x2x256x257 .f32 :=
  Host.divf E (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 R))

theorem ex5_eq (X : FVec Ideal S16x2x2x256x257 .f32) (R : FVec Ideal S16x2x2x256 .f32) (b : Fin 16) (g h : Fin 2) (i : Fin 256) (j : Fin 257) :
    ex5 X R (ix5 b g h i j) = Ideal.exp (X (ix5 b g h i j) - max (Ideal.ofBits .f32 0xFF800000#32) (R (ix4 b g h i))) := by
  pointwise

theorem dv5_eq (E : FVec Ideal S16x2x2x256x257 .f32) (R : FVec Ideal S16x2x2x256 .f32) (b : Fin 16) (g h : Fin 2) (i : Fin 256) (j : Fin 257) :
    dv5 E R (ix5 b g h i j) = Ideal.div (E (ix5 b g h i j)) (R (ix4 b g h i)) := by
  pointwise

/-- The weights of a row of the context. -/
theorem soft5 (X : FVec Ideal S16x2x2x256x257 .f32) (b : Fin 16) (g h : Fin 2) (i : Fin 256) (j : Fin 257) :
    dv5 (ex5 X (mx5 X)) (sm5 (ex5 X (mx5 X))) (ix5 b g h i j)
      = Ideal.div (Ideal.exp (X (ix5 b g h i j) - Finset.univ.sup fun x => (X (ix5 b g h i x) : EReal)))
          (∑ x, Ideal.exp (X (ix5 b g h i x) - Finset.univ.sup fun x => (X (ix5 b g h i x) : EReal))) := by
  have hm : max (Ideal.ofBits .f32 0xFF800000#32) (mx5 X (ix4 b g h i) : EReal) = Finset.univ.sup fun x => (X (ix5 b g h i x) : EReal) := by
    rw [bot_word, bot_sup_eq]
    refine (Cert.Fold.max5 X (constant S_ .f32 0xFF800000#32) reducesTo_S16x2x2x256x257_S16x2x2x256_d4 (by decide) h_S_ b g h i).trans ?_
    show Finset.univ.fold max (Ideal.ofBits .f32 0xFF800000#32) _ = _
    rw [bot_word]
    rfl
  rw [dv5_eq, ex5_eq, hm]
  refine congrArg _ ?_
  refine (Cert.Fold.sum5 (ex5 X (mx5 X)) (constant S_ .f32 0x00000000#32) reducesTo_S16x2x2x256x257_S16x2x2x256_d4 (by decide) h_S_ b g h i).trans ?_
  show Ideal.ofBits .f32 0x00000000#32 + _ = _
  rw [zero_word, zero_add]
  refine Finset.sum_congr rfl fun x _ => ?_
  rw [ex5_eq, hm]

abbrev mx6 (X : FVec Ideal S16x16x2x2x128x641 .f32) : FVec Ideal S16x16x2x2x128 .f32 :=
  Host.reduce FloatOps.maximumf X (constant S_ .f32 0xFF800000#32) reducesTo_S16x16x2x2x128x641_S16x16x2x2x128_d5 h_S_
abbrev ex6 (X : FVec Ideal S16x16x2x2x128x641 .f32) (R : FVec Ideal S16x16x2x2x128 .f32) : FVec Ideal S16x16x2x2x128x641 .f32 :=
  Host.exp (subf X (broadcastInDim S16x16x2x2x128x641 ![0, 1, 2, 3, 4, 5] bcast_S16x16x2x2x128x1_S16x16x2x2x128x641_0_1_2_3_4_5 (broadcastInDim S16x16x2x2x128x1 ![0, 1, 2, 3, 4] bcast_S16x16x2x2x128_S16x16x2x2x128x1_0_1_2_3_4 (maximumf (broadcastInDim S16x16x2x2x128 ![] bcast_S_S16x16x2x2x128 (constant S_ .f32 0xFF800000#32)) R))))
abbrev sm6 (E : FVec Ideal S16x16x2x2x128x641 .f32) : FVec Ideal S16x16x2x2x128 .f32 :=
  Host.reduceAdd E (constant S_ .f32 0x00000000#32) reducesTo_S16x16x2x2x128x641_S16x16x2x2x128_d5 h_S_
abbrev dv6 (E : FVec Ideal S16x16x2x2x128x641 .f32) (R : FVec Ideal S16x16x2x2x128 .f32) : FVec Ideal S16x16x2x2x128x641 .f32 :=
  Host.divf E (broadcastInDim S16x16x2x2x128x641 ![0, 1, 2, 3, 4, 5] bcast_S16x16x2x2x128x1_S16x16x2x2x128x641_0_1_2_3_4_5 (broadcastInDim S16x16x2x2x128x1 ![0, 1, 2, 3, 4] bcast_S16x16x2x2x128_S16x16x2x2x128x1_0_1_2_3_4 R))

theorem ex6_eq (X : FVec Ideal S16x16x2x2x128x641 .f32) (R : FVec Ideal S16x16x2x2x128 .f32) (b n : Fin 16) (g h : Fin 2) (i : Fin 128) (j : Fin 641) :
    ex6 X R (ix6 b n g h i j) = Ideal.exp (X (ix6 b n g h i j) - max (Ideal.ofBits .f32 0xFF800000#32) (R (ix5 b n g h i))) := by
  pointwise

theorem dv6_eq (E : FVec Ideal S16x16x2x2x128x641 .f32) (R : FVec Ideal S16x16x2x2x128 .f32) (b n : Fin 16) (g h : Fin 2) (i : Fin 128) (j : Fin 641) :
    dv6 E R (ix6 b n g h i j) = Ideal.div (E (ix6 b n g h i j)) (R (ix5 b n g h i)) := by
  pointwise

/-- The weights of a row of the sequence. -/
theorem soft6 (X : FVec Ideal S16x16x2x2x128x641 .f32) (b n : Fin 16) (g h : Fin 2) (i : Fin 128) (j : Fin 641) :
    dv6 (ex6 X (mx6 X)) (sm6 (ex6 X (mx6 X))) (ix6 b n g h i j)
      = Ideal.div (Ideal.exp (X (ix6 b n g h i j) - Finset.univ.sup fun x => (X (ix6 b n g h i x) : EReal)))
          (∑ x, Ideal.exp (X (ix6 b n g h i x) - Finset.univ.sup fun x => (X (ix6 b n g h i x) : EReal))) := by
  have hm : max (Ideal.ofBits .f32 0xFF800000#32) (mx6 X (ix5 b n g h i) : EReal) = Finset.univ.sup fun x => (X (ix6 b n g h i x) : EReal) := by
    rw [bot_word, bot_sup_eq]
    refine (Cert.Fold.max6 X (constant S_ .f32 0xFF800000#32) reducesTo_S16x16x2x2x128x641_S16x16x2x2x128_d5 (by decide) h_S_ b n g h i).trans ?_
    show Finset.univ.fold max (Ideal.ofBits .f32 0xFF800000#32) _ = _
    rw [bot_word]
    rfl
  rw [dv6_eq, ex6_eq, hm]
  refine congrArg _ ?_
  refine (Cert.Fold.sum6 (ex6 X (mx6 X)) (constant S_ .f32 0x00000000#32) reducesTo_S16x16x2x2x128x641_S16x16x2x2x128_d5 (by decide) h_S_ b n g h i).trans ?_
  show Ideal.ofBits .f32 0x00000000#32 + _ = _
  rw [zero_word, zero_add]
  refine Finset.sum_congr rfl fun x _ => ?_
  rw [ex6_eq, hm]

end Cert.ReferenceIdeal.RVal

end
-- ==== Proof.Soft2.lean ====
module

public import proofs.«01_k».proof.Proof.Soft

@[expose] public section

noncomputable section

/-! A row of scores laid one after another (window, context, sink), normalized over the whole row. -/
namespace Cert.Soft
open Idealize.ShloMosaic

theorem sum_split {N : ℕ} (m n : ℕ) (h : m + n = N) (f : Fin N → EReal) :
    ∑ i, f i = (∑ i : Fin m, f ⟨i.val, by omega⟩) + ∑ j : Fin n, f ⟨m + j.val, by omega⟩ := by
  subst h
  rw [Fin.sum_univ_add]
  rfl

theorem sup_one (f : Fin 1 → EReal) : Finset.univ.sup f = f 0 := by
  rw [show (Finset.univ : Finset (Fin 1)) = {0} from rfl, Finset.sup_singleton]

theorem attN_of {N : ℕ} (n k : ℕ) (h : n + k + 1 = N) (f : Fin N → EReal) (v : Fin n → EReal) (u : Fin k → EReal) :
    (∑ j : Fin n, Ideal.div (Ideal.exp (f ⟨j.val, by omega⟩ - Finset.univ.sup f)) (∑ x, Ideal.exp (f x - Finset.univ.sup f)) * v j)
      + (∑ j : Fin k, Ideal.div (Ideal.exp (f ⟨n + j.val, by omega⟩ - Finset.univ.sup f)) (∑ x, Ideal.exp (f x - Finset.univ.sup f)) * u j)
      = attN (fun j : Fin n => f ⟨j.val, by omega⟩) v (fun j : Fin k => f ⟨n + j.val, by omega⟩) u (f ⟨n + k, by omega⟩) := by
  unfold attN
  have hm : Finset.univ.sup f = max (max (Finset.univ.sup fun j : Fin n => f ⟨j.val, by omega⟩)
      (Finset.univ.sup fun j : Fin k => f ⟨n + j.val, by omega⟩)) (f ⟨n + k, by omega⟩) := by
    rw [sup_split (n + k) 1 h f, sup_one, sup_split n k rfl]
    rfl
  rw [← hm]
  generalize Finset.univ.sup f = m
  have hd : (∑ x, Ideal.exp (f x - m)) = (∑ j : Fin n, Ideal.exp (f ⟨j.val, by omega⟩ - m))
      + (∑ j : Fin k, Ideal.exp (f ⟨n + j.val, by omega⟩ - m)) + Ideal.exp (f ⟨n + k, by omega⟩ - m) := by
    rw [sum_split (n + k) 1 h (fun x => Ideal.exp (f x - m)), sum_split n k rfl, Fin.sum_univ_one]
    rfl
  rw [hd]

theorem attCN_of {N : ℕ} (k : ℕ) (h : k + 1 = N) (f : Fin N → EReal) (u : Fin k → EReal) :
    (∑ j : Fin k, Ideal.div (Ideal.exp (f ⟨j.val, by omega⟩ - Finset.univ.sup f)) (∑ x, Ideal.exp (f x - Finset.univ.sup f)) * u j)
      = attCN (fun j : Fin k => f ⟨j.val, by omega⟩) u (f ⟨k, by omega⟩) := by
  unfold attCN
  have hm : Finset.univ.sup f = max (Finset.univ.sup fun j : Fin k => f ⟨j.val, by omega⟩) (f ⟨k, by omega⟩) := by
    rw [sup_split k 1 h f, sup_one]
    rfl
  rw [← hm]
  generalize Finset.univ.sup f = m
  have hd : (∑ x, Ideal.exp (f x - m)) = (∑ j : Fin k, Ideal.exp (f ⟨j.val, by omega⟩ - m)) + Ideal.exp (f ⟨k, by omega⟩ - m) := by
    rw [sum_split k 1 h (fun x => Ideal.exp (f x - m)), Fin.sum_univ_one]
    rfl
  rw [hd]

end Cert.Soft

end
-- ==== Proof.ROut.lean ====
module

public import proofs.«01_k».proof.Proof.RScr
public import proofs.«01_k».proof.Proof.RSoft
public import proofs.«01_k».proof.Proof.Soft2

@[expose] public section

set_option maxRecDepth 16384

noncomputable section

/-! The weighted values, at any weights. -/
namespace Cert.ReferenceIdeal.RVal
open Idealize.ShloMosaic Idealize.ShloMosaic.TcCoe Idealize.SL.Sem Cert.ReferenceIdeal Cert.ReferenceIdeal.Gen Cert.ReferenceIdeal.Value Cert.Soft
variable (V : Valuation τ sig (Elt Ideal))

def oC (X : FVec Ideal S16x256x2x64 .f32) (W : FVec Ideal S16x2x2x256x257 .f32) : FVec Ideal S16x256x2x2x64 .f32 :=
  transpose S16x256x2x2x64 [0, 4, 1, 3, 2] (Host.dotGeneral dot_S16x256x2x64_S16x2x2x256x256_S16x2x64x2x256_1_4_3_23_02_01 none X (extractStridedSlice S16x2x2x256x256 ![0, 0, 0, 0, 0] W slices_S16x2x2x256x257_S16x2x2x256x256_0_0_0_0_0)) transposes_S16x2x64x2x256_S16x256x2x2x64_0_4_1_3_2

theorem oC_eq (X : FVec Ideal S16x256x2x64 .f32) (W : FVec Ideal S16x2x2x256x257 .f32) (b : Fin 16) (i : Fin 256) (g h : Fin 2) (e : Fin 64) :
    (oC X W (ix5 b i g h e) : EReal) = (∑ j : Fin 256, X (ix4 b j g e) * W (ix5 b g h i ⟨j.val, by omega⟩) : EReal) := by
  pointwise [oC]

def oL (XW : FVec Ideal S16x16x384x2x64 .f32) (X : FVec Ideal S16x256x2x64 .f32) (W : FVec Ideal S16x16x2x2x128x641 .f32) : FVec Ideal S16x16x128x2x2x64 .f32 :=
  addf (transpose S16x16x128x2x2x64 [0, 1, 5, 2, 4, 3] (Host.dotGeneral dot_S16x16x384x2x64_S16x16x2x2x128x384_S16x16x2x64x2x128_2_5_4_34_013_012 none XW (extractStridedSlice S16x16x2x2x128x384 ![0, 0, 0, 0, 0, 0] W slices_S16x16x2x2x128x641_S16x16x2x2x128x384_0_0_0_0_0_0)) transposes_S16x16x2x64x2x128_S16x16x128x2x2x64_0_1_5_2_4_3) (transpose S16x16x128x2x2x64 [0, 3, 5, 1, 4, 2] (Host.dotGeneral dot_S16x256x2x64_S16x16x2x2x128x256_S16x2x64x16x2x128_1_5_3_134_02_02 none X (extractStridedSlice S16x16x2x2x128x256 ![0, 0, 0, 0, 0, 384] W slices_S16x16x2x2x128x641_S16x16x2x2x128x256_0_0_0_0_0_384)) transposes_S16x2x64x16x2x128_S16x16x128x2x2x64_0_3_5_1_4_2)

theorem oL_eq (XW : FVec Ideal S16x16x384x2x64 .f32) (X : FVec Ideal S16x256x2x64 .f32) (W : FVec Ideal S16x16x2x2x128x641 .f32)
    (b n : Fin 16) (i : Fin 128) (g h : Fin 2) (e : Fin 64) :
    (oL XW X W (ix6 b n i g h e) : EReal) = (∑ j : Fin 384, XW (ix5 b n j g e) * W (ix6 b n g h i ⟨j.val, by omega⟩) : EReal)
      + (∑ j : Fin 256, X (ix4 b j g e) * W (ix6 b n g h i ⟨384 + j.val, by omega⟩) : EReal) := by
  pointwise [oL]

theorem cast5 (Z : FVec Ideal S16x256x2x2x64 .f32) (b : Fin 16) (i l : Fin 256) :
    (shapeCast S16x256x256 Z shapeCasts_S16x256x2x2x64_S16x256x256 (ix3 b i l) : EReal)
      = Z (ix5 b i ⟨l.val / 128, by omega⟩ ⟨l.val / 64 % 2, by omega⟩ ⟨l.val % 64, by omega⟩) := by
  pointwise

theorem cast6 (Z : FVec Ideal S16x16x128x2x2x64 .f32) (b : Fin 16) (i : Fin 2048) (l : Fin 256) :
    (shapeCast S16x2048x256 Z shapeCasts_S16x16x128x2x2x64_S16x2048x256 (ix3 b i l) : EReal)
      = Z (ix6 b ⟨i.val / 128, by omega⟩ ⟨i.val % 128, by omega⟩ ⟨l.val / 128, by omega⟩ ⟨l.val / 64 % 2, by omega⟩ ⟨l.val % 64, by omega⟩) := by
  pointwise

theorem conc (A : FVec Ideal S16x256x256 .f32) (B : FVec Ideal S16x2048x256 .f32) (b : Fin 16) (i : Fin 2304) (l : Fin 256) :
    (concatenate S16x2304x256 1 [⟨S16x256x256, A⟩, ⟨S16x2048x256, B⟩] concatenates_S16x256x256_S16x2048x256_S16x2304x256_d1 (ix3 b i l) : EReal)
      = if h : i.val < 256 then A (ix3 b ⟨i.val, h⟩ l) else B (ix3 b ⟨i.val - 256, by omega⟩ l) := by
  pointwise

/-- The words of the window's mask. -/
abbrev maskR : IVec S16x128x384 1 :=
  andi (andi (cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (res_main_v148 V))))) (broadcastInDim S16x128x384 ![] bcast_S_S16x128x384 (constantI S_ 32 128#32))) (broadcastInDim S16x128x384 ![0, 1, 2] bcast_S16x1x384_S16x128x384_0_1_2 (cmpi .sge (broadcastInDim S16x1x384 ![0, 2] bcast_S16x384_S16x1x384_0_2 (res_main_v148 V)) (broadcastInDim S16x1x384 ![] bcast_S_S16x1x384 (constantI S_ 32 0#32))))) (broadcastInDim S16x128x384 ![0, 1, 2] bcast_S16x1x384_S16x128x384_0_1_2 (cmpi .slt (broadcastInDim S16x1x384 ![0, 2] bcast_S16x384_S16x1x384_0_2 (res_main_v148 V)) (broadcastInDim S16x1x384 ![] bcast_S_S16x1x384 (constantI S_ 32 2048#32))))

theorem maskR_eq (n : Fin 16) (i : Fin 128) (j : Fin 384) (x y : EReal) :
    Scalar.select (maskR V (ix3 n i j)) x y
      = if (128 ≤ n.val * 128 + j.val ∧ n.val * 128 + j.val < 2176) ∧ i.val ≤ j.val ∧ j.val ≤ i.val + 256 then x else y := by
  have H : maskR V (ix3 n i j) = IntOp.andi (IntOp.andi
        (IntOp.cmpi .sle (IntOp.absi (IntOp.subi (IntOp.addi (IntOp.muli (BitVec.ofNat 32 n.val) 128#32) (BitVec.ofNat 32 i.val)) (IntOp.subi (res_main_v121 V (ix2 n j) : BitVec 32) 128#32))) 128#32)
        (IntOp.cmpi .sge (IntOp.subi (res_main_v121 V (ix2 n j) : BitVec 32) 128#32) 0#32))
        (IntOp.cmpi .slt (IntOp.subi (res_main_v121 V (ix2 n j) : BitVec 32) 128#32) 2048#32) := by
    pointwise [res_main_v148]
  rw [H, v121_eq]
  exact mask_sel _ _ _ n.isLt i.isLt j.isLt x y

end Cert.ReferenceIdeal.RVal

end
-- ==== Proof.RFin.lean ====
module

public import proofs.«01_k».proof.Proof.Spec

@[expose] public section

noncomputable section

/-! A score of finite entries is finite. -/
namespace Cert.Soft
open Idealize.ShloMosaic

theorem fin_word (w : BitVec 32) : Fin1 (FloatOps.sitofp (F := Ideal) FTy.f32 w : EReal) := fin1_coe _

theorem two_coe : ∃ r : ℝ, Ideal.ofBits FTy.f32 1073741824#32 = (r : EReal) :=
  ⟨8388608 * 2 ^ ((128 : ℤ) - 127 - 23), by simp (decide := true) [Ideal.ofBits, Ideal.ieee]⟩

theorem base_coe : ∃ r : ℝ, Ideal.ofBits FTy.f32 1176256512#32 = (r : EReal) :=
  ⟨10240000 * 2 ^ ((140 : ℤ) - 127 - 23), by simp (decide := true) [Ideal.ofBits, Ideal.ieee]⟩

theorem dim_coe : ∃ r : ℝ, r ≠ 0 ∧ Ideal.ofBits FTy.f32 1107296256#32 = (r : EReal) :=
  ⟨8388608 * 2 ^ ((132 : ℤ) - 127 - 23), by positivity, by simp (decide := true) [Ideal.ofBits, Ideal.ieee]⟩

theorem fin_freq (e : ℕ) : Fin1 (freq e) := by
  unfold freq
  obtain ⟨r, hr⟩ := base_coe
  obtain ⟨s, hs⟩ := two_coe
  obtain ⟨d, hd, hde⟩ := dim_coe
  have h : Fin1 (Ideal.div (-(Ideal.ofBits FTy.f32 1073741824#32 * (FloatOps.sitofp (F := Ideal) FTy.f32 (BitVec.ofNat 32 e) : EReal))) (Ideal.ofBits FTy.f32 1107296256#32)) := by
    rw [hs, hde, Ideal.div_coe hd]
    exact (((fin1_coe s).mul (fin_word _)).neg).mul (fin1_coe _)
  obtain ⟨y, hy⟩ := h.eq_coe
  rw [hr]
  refine (congrArg Fin1 (congrArg (Ideal.pow (r : EReal)) hy)).mpr ?_
  exact fin1_coe _

theorem fin_ang (i l : ℕ) : Fin1 (ang i l) := by
  unfold ang rowA colA
  split
  · exact (fin_word _).mul (fin_freq _)
  · exact (fin_word _).mul (fin_freq _)

theorem fin_cos {x : EReal} (h : Fin1 x) : Fin1 (Ideal.cos x) := by
  obtain ⟨r, rfl⟩ := h.eq_coe
  exact fin1_coe _

theorem fin_sin {x : EReal} (h : Fin1 x) : Fin1 (Ideal.sin x) := by
  obtain ⟨r, rfl⟩ := h.eq_coe
  exact fin1_coe _

theorem fin_cosT (i l : ℕ) : Fin1 (cosT i l) := by
  unfold cosT
  split
  · exact fin1_coe 1
  · exact fin_cos (fin_ang _ _)

theorem fin_sinT (i l : ℕ) : Fin1 (sinT i l) := by
  unfold sinT
  split
  · exact fin1_zero
  · split
    · exact (fin_sin (fin_ang _ _)).neg
    · exact fin_sin (fin_ang _ _)

/-- The entries that make the scores are finite. -/
def FinP (P : PA) : Prop := ∀ b i l : ℕ, l < 384 → Fin1 (pn P b i l)

theorem fin_rp (x : ℕ → EReal) (i e : ℕ) (he : e < 64) (h : ∀ k < 64, Fin1 (x k)) : Fin1 (rp x i e) := by
  unfold rp
  refine ((h e he).mul (fin_cosT _ _)).add (Fin1.mul ?_ (fin_sinT _ _))
  split
  · exact h _ (by omega)
  · exact h _ (by omega)

theorem fin_sc {P : PA} (hP : FinP P) (b g i j : ℕ) (hg : g < 4) (hc : Fin1 c0) : Fin1 (sc P b g i j) := by
  unfold sc
  refine fin1_sum _ _ fun e => Fin1.mul (Fin1.mul ?_ hc) ?_
  · exact fin_rp _ _ _ e.isLt fun k hk => hP _ _ _ (by omega)
  · exact fin_rp _ _ _ e.isLt fun k hk => hP _ _ _ (by omega)

end Cert.Soft

end
-- ==== Proof.RRes.lean ====
module

public import proofs.«01_k».proof.Proof.ROut
public import proofs.«01_k».proof.Proof.RFin

@[expose] public section

set_option maxRecDepth 16384

noncomputable section

/-! The reference's result, element by element. -/
namespace Cert.ReferenceIdeal.RVal
open Idealize.ShloMosaic Idealize.ShloMosaic.TcCoe Idealize.SL.Sem Cert.ReferenceIdeal Cert.ReferenceIdeal.Gen Cert.ReferenceIdeal.Value Cert.Soft
variable (V : Valuation τ sig (Elt Ideal))

theorem fin_c0 : Fin1 c0 := by
  obtain ⟨r, _, e⟩ := c0_coe
  rw [e]
  exact fin1_coe r

/-- The scores and values of the padded rows: row `p` holds token `p - 128`. -/
def sw (P : PA) (b g n r p : ℕ) : EReal :=
  if (128 ≤ p ∧ p < 2176) ∧ n * 128 + r ≤ p ∧ p ≤ n * 128 + r + 256 then sc P b g (256 + (n * 128 + r)) (256 + (p - 128)) else ⊥
def vw (P : PA) (b h e p : ℕ) : EReal :=
  if 128 ≤ p ∧ p < 2176 then vv P b h (256 + (p - 128)) e else (FloatOps.sitofp (F := Ideal) .f32 (0#32 : BitVec 32) : EReal)

/-- Attention over the padded window is attention over the kernel's window. -/
theorem att_pad (P : PA) (S : SA) (b g n r e : ℕ) (hn : n < 16) (hr : r < 128) :
    att (fun j : Fin 384 => sw P b g n r (n * 128 + j.val)) (fun j : Fin 384 => vw P b (g / 2) e (n * 128 + j.val))
      (fun j : Fin 256 => sc P b g (256 + (n * 128 + r)) j.val) (fun j : Fin 256 => vv P b (g / 2) j.val e) (sn S g)
      = outL P S b g n r e := by
  have key : ∀ p, sw P b g n r p ≠ ⊥ → (128 ≤ p ∧ p < 2176) ∧ n * 128 + r ≤ p ∧ p ≤ n * 128 + r + 256 := fun p h => by
    by_contra hc
    exact h (if_neg hc)
  refine (att_window 384 (n * 128) (wst n + 128) (sw P b g n r) (vw P b (g / 2) e) (vw P b (g / 2) e) _ _ _
    (fun p h => ?_) (fun p h => ?_) (fun p _ => rfl)).trans ?_
  · have := key p h; omega
  · have := key p h; unfold wst; omega
  unfold outL
  have hw : wst n ≤ 1664 := by unfold wst; omega
  have e1 : (fun j : Fin 384 => sw P b g n r (wst n + 128 + j.val)) = fun j : Fin 384 => if n * 128 + r ≤ wst n + j.val + 128 ∧ wst n + j.val ≤ n * 128 + r + 128
        then sc P b g (256 + n * 128 + r) (256 + wst n + j.val) else ⊥ := by
    funext j
    unfold sw
    have e : 256 + (wst n + 128 + j.val - 128) = 256 + wst n + j.val := by omega
    rw [e, Nat.add_assoc 256 (n * 128) r]
    exact if_congr (by omega) rfl rfl
  have e2 : (fun j : Fin 384 => vw P b (g / 2) e (wst n + 128 + j.val)) = fun j : Fin 384 => vv P b (g / 2) (256 + wst n + j.val) e := by
    funext j
    unfold vw
    rw [if_pos (by omega), show 256 + (wst n + 128 + j.val - 128) = 256 + wst n + j.val by omega]
  rw [e1, e2, Nat.add_assoc 256 (n * 128) r]

abbrev kwin : FVec Ideal S16x16x384x2x64 .f32 :=
  Host.gather gd (pad S16x2304x2x64 ![0, 128, 0, 0] ![0, 128, 0, 0] ![0, 0, 0, 0] (ropeK (res_main_v5 V) (res_main_v31 V) (res_main_v38 V)) (sitofp .f32 (constantI S_ 32 0#32) : FVec Ideal S_ .f32) pads_S16x2048x2x64_S16x2304x2x64_000_1281280_000_000 h_S_) (gidx V)

abbrev vsrc : FVec Ideal S16x2048x2x64 .f32 :=
  shapeCast S16x2048x2x64 (extractStridedSlice S16x2048x128 ![0, 0, 384] (res_main_v0 V) slices_S16x2048x3328_S16x2048x128_0_0_384) shapeCasts_S16x2048x128_S16x2048x2x64

abbrev vwin : FVec Ideal S16x16x384x2x64 .f32 :=
  Host.gather gd (pad S16x2304x2x64 ![0, 128, 0, 0] ![0, 128, 0, 0] ![0, 0, 0, 0] (vsrc V) (sitofp .f32 (constantI S_ 32 0#32) : FVec Ideal S_ .f32) pads_S16x2048x2x64_S16x2304x2x64_000_1281280_000_000 h_S_) (gidx V)

theorem vsrc_eq (b : Fin 16) (i : Fin 2048) (g : Fin 2) (e : Fin 64) :
    (vsrc V (ix4 b i g e) : EReal) = vv (PR V) b.val g.val (256 + i.val) e.val := by
  have H : (vsrc V (ix4 b i g e) : EReal) = V (Proc.devRef .tc main_arg0) (ix3 b ⟨256 + i.val, by omega⟩ ⟨384 + (g.val * 64 + e.val), by omega⟩) := by
    pointwise [vsrc, res_main_v0]
  rw [H]; refine (pr V _ _ _).trans ?_; rw [vv]
  exact pn_congr _ _ _ (by show 384 + (g.val * 64 + e.val) = _; omega)

theorem vwin_eq (b n : Fin 16) (j : Fin 384) (g : Fin 2) (e : Fin 64) :
    (vwin V (ix5 b n j g e) : EReal) = vw (PR V) b.val g.val e.val (n.val * 128 + j.val) := by
  refine (win_eq V (vsrc V) b n j g e).trans ?_
  unfold vw
  by_cases h : 128 ≤ n.val * 128 + j.val ∧ n.val * 128 + j.val < 2176
  · rw [dif_pos h, if_pos h]
    exact vsrc_eq V b _ g e
  · rw [dif_neg h, if_neg h]

theorem v181_w (b n : Fin 16) (g h : Fin 2) (i : Fin 128) (j : Fin 384) :
    (res_main_v181 V (ix6 b n g h i ⟨j.val, by omega⟩) : EReal) = sw (PR V) b.val (2 * g.val + h.val) n.val i.val (n.val * 128 + j.val) := by
  refine (scoreL_w (maskR V) (kwin V) (res_main_v167 V) (res_main_v11 V) (V (Proc.devRef .tc main_arg1)) b n g h i j).trans ?_
  rw [maskR_eq, bot_word]
  unfold sw
  by_cases hc : (128 ≤ n.val * 128 + j.val ∧ n.val * 128 + j.val < 2176) ∧ i.val ≤ j.val ∧ j.val ≤ i.val + 256
  · rw [if_pos hc, if_pos (by omega), ← sc_of]
    refine congrArg (· * c0) (Finset.sum_congr rfl fun x _ => ?_)
    refine congrArg₂ (· * ·) ?_ (v167_eq V b n i g h x)
    refine (win_eq V _ b n j g x).trans ?_
    rw [dif_pos hc.1]
    exact rk_eq V b _ g x
  · rw [if_neg hc, if_neg (by omega)]

theorem v181_s (b n : Fin 16) (g h : Fin 2) (i : Fin 128) (j : Fin 256) :
    (res_main_v181 V (ix6 b n g h i ⟨384 + j.val, by omega⟩) : EReal) = sc (PR V) b.val (2 * g.val + h.val) (256 + (n.val * 128 + i.val)) j.val := by
  refine (scoreL_s (maskR V) (kwin V) (res_main_v167 V) (res_main_v11 V) (V (Proc.devRef .tc main_arg1)) b n g h i j).trans ?_
  rw [← sc_of]
  refine congrArg (· * c0) (Finset.sum_congr rfl fun x _ => ?_)
  exact congrArg₂ (· * ·) (v11_eq V b j g x) (v167_eq V b n i g h x)

theorem v181_z (b n : Fin 16) (g h : Fin 2) (i : Fin 128) :
    (res_main_v181 V (ix6 b n g h i ⟨640, by omega⟩) : EReal) = sn (SR V) (2 * g.val + h.val) := by
  refine (scoreL_z (maskR V) (kwin V) (res_main_v167 V) (res_main_v11 V) (V (Proc.devRef .tc main_arg1)) b n g h i).trans ((sr V _).trans ?_)
  show sn (SR V) (g.val * 2 + h.val) = _
  rw [Nat.mul_comm]

abbrev W5 : FVec Ideal S16x2x2x256x257 .f32 :=
  dv5 (ex5 (res_main_v209 V) (mx5 (res_main_v209 V))) (sm5 (ex5 (res_main_v209 V) (mx5 (res_main_v209 V))))
abbrev W6 : FVec Ideal S16x16x2x2x128x641 .f32 :=
  dv6 (ex6 (res_main_v181 V) (mx6 (res_main_v181 V))) (sm6 (ex6 (res_main_v181 V) (mx6 (res_main_v181 V))))

theorem resC (hP : FinP (PR V)) (hS : ∀ g, Fin1 (sn (SR V) g)) (b : Fin 16) (i : Fin 256) (g h : Fin 2) (e : Fin 64) :
    (oC (res_main_v13 V) (W5 V) (ix5 b i g h e) : EReal) = outC (PR V) (SR V) b.val (2 * g.val + h.val) i.val e.val := by
  rw [oC_eq]
  have h1 : ∀ j : Fin 256, (res_main_v13 V (ix4 b j g e) * W5 V (ix5 b g h i ⟨j.val, by omega⟩) : EReal)
      = Ideal.div (Ideal.exp (res_main_v209 V (ix5 b g h i ⟨j.val, by omega⟩) - Finset.univ.sup fun x => (res_main_v209 V (ix5 b g h i x) : EReal)))
          (∑ x, Ideal.exp (res_main_v209 V (ix5 b g h i x) - Finset.univ.sup fun x => (res_main_v209 V (ix5 b g h i x) : EReal))) * vv (PR V) b.val g.val j.val e.val := fun j => by
    rw [mul_comm]
    exact congrArg₂ (· * ·) (soft5 (res_main_v209 V) b g h i ⟨j.val, by omega⟩) (v13_eq V b j g e)
  refine (Finset.sum_congr rfl fun j _ => h1 j).trans ?_
  refine (attCN_of 256 rfl (fun x : Fin 257 => (res_main_v209 V (ix5 b g h i x) : EReal)) (fun j : Fin 256 => vv (PR V) b.val g.val j.val e.val)).trans ?_
  have e1 : (fun j : Fin 256 => (res_main_v209 V (ix5 b g h i ⟨j.val, by omega⟩) : EReal)) = fun j : Fin 256 => sc (PR V) b.val (2 * g.val + h.val) i.val j.val :=
    funext fun j => v209_s V b g h i j
  rw [e1, v209_z]
  unfold outC
  rw [show (2 * g.val + h.val) / 2 = g.val by omega]
  exact attCN_eq _ _ _ (fun j => (fin_sc hP _ _ _ _ (by omega) fin_c0).2) (hS _)

theorem resL (hP : FinP (PR V)) (hS : ∀ g, Fin1 (sn (SR V) g)) (b n : Fin 16) (i : Fin 128) (g h : Fin 2) (e : Fin 64) :
    (oL (vwin V) (res_main_v13 V) (W6 V) (ix6 b n i g h e) : EReal) = outL (PR V) (SR V) b.val (2 * g.val + h.val) n.val i.val e.val := by
  rw [oL_eq]
  have h1 : ∀ j : Fin 384, (vwin V (ix5 b n j g e) * W6 V (ix6 b n g h i ⟨j.val, by omega⟩) : EReal)
      = Ideal.div (Ideal.exp (res_main_v181 V (ix6 b n g h i ⟨j.val, by omega⟩) - Finset.univ.sup fun x => (res_main_v181 V (ix6 b n g h i x) : EReal)))
          (∑ x, Ideal.exp (res_main_v181 V (ix6 b n g h i x) - Finset.univ.sup fun x => (res_main_v181 V (ix6 b n g h i x) : EReal))) * vw (PR V) b.val g.val e.val (n.val * 128 + j.val) := fun j => by
    rw [mul_comm]
    exact congrArg₂ (· * ·) (soft6 (res_main_v181 V) b n g h i ⟨j.val, by omega⟩) (vwin_eq V b n j g e)
  have h2 : ∀ j : Fin 256, (res_main_v13 V (ix4 b j g e) * W6 V (ix6 b n g h i ⟨384 + j.val, by omega⟩) : EReal)
      = Ideal.div (Ideal.exp (res_main_v181 V (ix6 b n g h i ⟨384 + j.val, by omega⟩) - Finset.univ.sup fun x => (res_main_v181 V (ix6 b n g h i x) : EReal)))
          (∑ x, Ideal.exp (res_main_v181 V (ix6 b n g h i x) - Finset.univ.sup fun x => (res_main_v181 V (ix6 b n g h i x) : EReal))) * vv (PR V) b.val g.val j.val e.val := fun j => by
    rw [mul_comm]
    exact congrArg₂ (· * ·) (soft6 (res_main_v181 V) b n g h i ⟨384 + j.val, by omega⟩) (v13_eq V b j g e)
  refine (congrArg₂ (· + ·) (Finset.sum_congr rfl fun j _ => h1 j) (Finset.sum_congr rfl fun j _ => h2 j)).trans ?_
  refine (attN_of 384 256 rfl (fun x : Fin 641 => (res_main_v181 V (ix6 b n g h i x) : EReal)) (fun j : Fin 384 => vw (PR V) b.val g.val e.val (n.val * 128 + j.val)) (fun j : Fin 256 => vv (PR V) b.val g.val j.val e.val)).trans ?_
  have e1 : (fun j : Fin 384 => (res_main_v181 V (ix6 b n g h i ⟨j.val, by omega⟩) : EReal)) = fun j : Fin 384 => sw (PR V) b.val (2 * g.val + h.val) n.val i.val (n.val * 128 + j.val) :=
    funext fun j => v181_w V b n g h i j
  have e2 : (fun j : Fin 256 => (res_main_v181 V (ix6 b n g h i ⟨384 + j.val, by omega⟩) : EReal)) = fun j : Fin 256 => sc (PR V) b.val (2 * g.val + h.val) (256 + (n.val * 128 + i.val)) j.val :=
    funext fun j => v181_s V b n g h i j
  rw [e1, e2, v181_z]
  refine (attN_eq _ _ _ _ _ (fun j => ?_) (fun j => (fin_sc hP _ _ _ _ (by omega) fin_c0).2) (hS _)).trans ?_
  · unfold sw
    split
    · exact (fin_sc hP _ _ _ _ (by omega) fin_c0).2
    · exact bot_ne_top
  · have := att_pad (PR V) (SR V) b.val (2 * g.val + h.val) n.val i.val e.val n.isLt i.isLt
    rw [show (2 * g.val + h.val) / 2 = g.val by omega] at this
    exact this

/-- The reference's result. -/
def res : FVec Ideal S16x2304x256 .f32 :=
  concatenate S16x2304x256 1 [⟨S16x256x256, shapeCast S16x256x256 (oC (res_main_v13 V) (W5 V)) shapeCasts_S16x256x2x2x64_S16x256x256⟩,
    ⟨S16x2048x256, shapeCast S16x2048x256 (oL (vwin V) (res_main_v13 V) (W6 V)) shapeCasts_S16x16x128x2x2x64_S16x2048x256⟩] concatenates_S16x256x256_S16x2048x256_S16x2304x256_d1

theorem res_eq (hP : FinP (PR V)) (hS : ∀ g, Fin1 (sn (SR V) g)) (b : Fin 16) (i : Fin 2304) (l : Fin 256) :
    (res V (ix3 b i l) : EReal) = if i.val < 256 then outC (PR V) (SR V) b.val (l.val / 64) i.val (l.val % 64)
      else outL (PR V) (SR V) b.val (l.val / 64) ((i.val - 256) / 128) ((i.val - 256) % 128) (l.val % 64) := by
  have hl : 2 * (l.val / 128) + l.val / 64 % 2 = l.val / 64 := by omega
  unfold res
  rw [conc]
  by_cases h : i.val < 256
  · rw [dif_pos h, if_pos h]
    refine (cast5 _ b ⟨i.val, h⟩ l).trans ((resC V hP hS _ _ _ _ _).trans ?_)
    show outC (PR V) (SR V) b.val (2 * (l.val / 128) + l.val / 64 % 2) i.val (l.val % 64) = _
    rw [hl]
  · rw [dif_neg h, if_neg h]
    refine (cast6 _ b ⟨i.val - 256, by omega⟩ l).trans ((resL V hP hS _ _ _ _ _ _).trans ?_)
    show outL (PR V) (SR V) b.val (2 * (l.val / 128) + l.val / 64 % 2) ((i.val - 256) / 128) ((i.val - 256) % 128) (l.val % 64) = _
    rw [hl]

end Cert.ReferenceIdeal.RVal

end
-- ==== Proof.Final.lean ====
module

public import proofs.«01_k».proof.Defs
public import proofs.«01_k».proof.Proof.KG8
public import proofs.«01_k».proof.Proof.RRes
public import proofs.«01_k».proof.Proof.Ref5
public import Idealize.ShloMosaic.Lib.Pointwise

@[expose] public section

set_option maxRecDepth 16384

noncomputable section

/-! The two programs give the same result when the query and key lanes and the sinks are finite. -/
namespace Cert.Proof

open Idealize.ShloMosaic Idealize.ShloMosaic.TcCoe Idealize.SL.Sem Idealize.ShloMosaic.StableHlo Cert.Soft

theorem preFacts : Cert.Pre_finite_scores.Facts where
  slices_S16x2304x3328_S16x2304x384_0_0_0 := by decide
  bcast_S_S16x2304x384 := by decide
  bcast_S_S4 := by decide

theorem top_lit : (Ideal.ofBits .f32 0x7F800000#32 : EReal) = ⊤ := by
  simp (decide := true) [Ideal.ofBits, Ideal.ieee]

theorem fin_of_abs (x : EReal) (h : BitVec.ofBool (decide ((FloatOps.absf (F := Ideal) (φ := .f32) x : EReal) < Ideal.ofBits FTy.f32 2139095040#32)) = 1#1) : Fin1 x := by
  rw [show (Ideal.ofBits FTy.f32 2139095040#32 : EReal) = ⊤ from top_lit] at h
  have h' : max x (-x) < ⊤ := by
    by_contra hn
    have : decide ((FloatOps.absf (F := Ideal) (φ := .f32) x : EReal) < ⊤) = false := decide_eq_false hn
    rw [this] at h
    exact absurd h (by decide)
  refine ⟨fun e => ?_, fun e => ?_⟩
  · subst e
    simp at h'
  · subst e
    simp at h'

theorem finP (P : PA) (S : SA) (h : (@Cert.Pre_finite_scores.fn preFacts Ideal _ P S).1 = (fun _ => 1#1)) : FinP P := by
  intro b i l hl
  unfold pn
  split
  · rename_i hh
    have H := congrFun h (ix3 ⟨b, hh.1.1⟩ ⟨i, hh.1.2⟩ ⟨l, hl⟩)
    pointwise [Cert.Pre_finite_scores.fn] at H
    exact fin_of_abs _ H
  · exact ⟨EReal.zero_ne_bot, EReal.zero_ne_top⟩

theorem finS (P : PA) (S : SA) (h : (@Cert.Pre_finite_scores.fn preFacts Ideal _ P S).2 = (fun _ => 1#1)) (g : ℕ) : Fin1 (sn S g) := by
  unfold sn
  split
  · rename_i hh
    have H := congrFun h (ix1 ⟨g, hh⟩)
    pointwise [Cert.Pre_finite_scores.fn] at H
    exact fin_of_abs _ H
  · exact ⟨EReal.zero_ne_bot, EReal.zero_ne_top⟩

theorem result_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : Cert.ReferenceIdeal.RVal.PR V = Cert.KernelIdeal.KVal.PJ m c) (h1 : Cert.ReferenceIdeal.RVal.SR V = Cert.KernelIdeal.KVal.SK m c)
    (hP : FinP (Cert.KernelIdeal.KVal.PJ m c)) (hS : ∀ g, Fin1 (sn (Cert.KernelIdeal.KVal.SK m c) g)) :
    Cert.ReferenceIdeal.RVal.res V = Cert.KernelIdeal.Value.G8 m c := by
  funext x
  obtain ⟨b, i, l, rfl⟩ : ∃ (b : Fin 16) (i : Fin 2304) (l : Fin 256), x = ix3 b i l := ⟨x 0, x 1, x 2, eq_ix3 x⟩
  refine (Cert.ReferenceIdeal.RVal.res_eq V (by rw [h0]; exact hP) (by rw [h1]; exact hS) b i l).trans ?_
  rw [h0, h1]
  exact (Cert.KernelIdeal.KVal.G8_eq m c b i l).symm

theorem algebraic : @Cert.algebraic_KernelIdeal_ReferenceIdeal_pre_finite_scores Cert.KernelIdeal.Gen.facts Cert.ReferenceIdeal.Gen.facts preFacts := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  exact result_eq m c (launchContents m' c) (hagree c).1 (hagree c).2 (finP _ _ (hpre c).1) (finS _ _ (hpre c).2)

end Cert.Proof

end
-- ==== Proof.IPay.lean ====
module

public import proofs.«01_k».proof.Proof.Gen.Kernel2Ideal.Frame
public import proofs.«01_k».proof.Proof.Gen.Kernel2Ideal.Value
public import Idealize.ShloMosaic.Lib.Pointwise
public import Idealize.ShloMosaic.Lib.StableHlo.ReadAt
public import Idealize.ShloMosaic.Lib.Claim
public import Idealize.ShloMosaic.Lib.Pipeline.ValueKit

@[expose] public section

set_option maxRecDepth 16384

noncomputable section

/-! The input projection: what one step computes, row by row. -/
namespace Cert.Norm

open Idealize.ShloMosaic

/-- The reciprocal root of a row's mean square. -/
def rs (n : ℕ) (c : EReal) (x : Fin n → EReal) : EReal := Ideal.rsqrt (Ideal.div (∑ e : Fin n, x e * x e) c + Ideal.ofBits FTy.f32 0x358637BD#32)

/-- A row normed, multiplied by its gain, scaled and shifted. -/
def hrow (x g a s : Fin 1024 → EReal) (d : Fin 1024) : EReal :=
  x d * rs 1024 (Ideal.ofBits FTy.f32 0x44800000#32) x * g d * (1 + a d) + s d

end Cert.Norm

namespace Cert.Kernel2Ideal.KVal

open Idealize.ShloMosaic Idealize.ShloMosaic.TcCoe Idealize.SL.Sem Cert.Kernel2Ideal Cert.Kernel2Ideal.Gen Cert.Norm

theorem pay1_at (x : Vec Ideal S1x256x1024 .f32) (g : Vec Ideal S1x1024 .f32) (a s : Vec Ideal S1x1x1024 .f32) (w : Vec Ideal S1024x3328 .bf16)
    (r : Fin 256) (l : Fin 3328) :
    k0_pay1 x g a s w (ix3 0 r l) = ∑ d : Fin 1024, hrow (fun e => x (ix3 0 r e)) (fun e => g (ix2 0 e)) (fun e => a (ix3 0 0 e)) (fun e => s (ix3 0 0 e)) d * w (ix2 d l) := by
  pointwise [k0_pay1]
  rfl

variable (m : (ℓ : Loc nD τ sig) → Buf (Elt Ideal) ℓ)

theorem idx : ∀ t : Fin cfg0.N, win0_0.index t = ![t.val / 9, t.val % 9, 0] ∧ win0_1.index t = ![if t.val % 9 = 0 then 16 else t.val / 9, 0, 0]
    ∧ win0_2.index t = ![0, 0] ∧ win0_3.index t = ![0, 0] ∧ win0_4.index t = ![t.val / 9, t.val % 9, 0] := by decide +kernel

theorem blk3 (c : Dev nD) (t : Fin cfg0.N) : iblk m c 3 t = V m c main_v4 := by
  funext x
  blk_ext [iblk, idx t]

theorem blk2 (c : Dev nD) (t : Fin cfg0.N) : iblk m c 2 t = V m c main_v5 := by
  funext x
  blk_ext [iblk, idx t]

theorem blk1 (c : Dev nD) (t : Fin cfg0.N) (k : Fin 6) (e : Fin 1024) (hb : (if t.val % 9 = 0 then 16 else t.val / 9) < 17) :
    iblk m c 1 t (ix3 0 k e) = V m c main_v2 (ix3 ⟨if t.val % 9 = 0 then 16 else t.val / 9, hb⟩ k e) := by
  blk_ext [iblk, idx t]

theorem blk0 (c : Dev nD) (t : Fin cfg0.N) (r : Fin 256) (e : Fin 1024) (hb : t.val / 9 < 16) :
    iblk m c 0 t (ix3 0 r e) = V m c main_v3 (ix3 ⟨t.val / 9, hb⟩ ⟨t.val % 9 * 256 + r.val, by omega⟩ e) := by
  blk_ext [iblk, idx t]

theorem v4 (c : Dev nD) (d : Fin 1024) (l : Fin 3328) : (V m c main_v4 : Vec Ideal S1024x3328 .bf16) (ix2 d l) = m ((c : Thread nD τ).loc main_arg5) (ix2 d l) := by
  unfold V
  after_reads_at

theorem v5 (c : Dev nD) (d : Fin 1024) : (V m c main_v5 : Vec Ideal S1x1024 .f32) (ix2 0 d) = m ((c : Thread nD τ).loc main_arg4) (ix1 d) := by
  unfold V
  after_reads_at

theorem v3 (c : Dev nD) (b : Fin 16) (i : Fin 2304) (e : Fin 1024) : (V m c main_v3 : Vec Ideal S16x2304x1024 .f32) (ix3 b i e)
    = if h : i.val < 256 then m ((c : Thread nD τ).loc main_arg1) (ix3 b ⟨i.val, h⟩ e) else m ((c : Thread nD τ).loc main_arg0) (ix3 b ⟨i.val - 256, by omega⟩ e) := by
  unfold V
  after_reads_at

theorem v2 (c : Dev nD) (b : Fin 17) (k : Fin 6) (e : Fin 1024) : (V m c main_v2 : Vec Ideal S17x6x1024 .f32) (ix3 b k e)
    = if h : b.val < 16 then m ((c : Thread nD τ).loc main_arg2) (ix2 ⟨b.val, h⟩ ⟨k.val * 1024 + e.val, by omega⟩)
      else m ((c : Thread nD τ).loc main_arg3) (ix1 ⟨k.val * 1024 + e.val, by omega⟩) := by
  unfold V
  after_reads_at
  by_cases hb : b.val < 16
  · rw [dif_pos hb, dif_pos hb]
    after_reads_at
  · rw [dif_neg hb, dif_neg hb]
    after_reads_at

theorem flush4 : ∀ t : Fin cfg0.N, (cfg0.win 4).flush t = true := by decide +kernel

/-- The row of the modulations a tile takes: the last one for the context's tile. -/
def rowOf (b : Fin 16) (i : Fin 2304) : Fin 17 := ⟨if i.val / 256 = 0 then 16 else b.val, by split <;> omega⟩

/-- What the step of a tile leaves at one place of its block. -/
theorem out_at (c : Dev nD) (t : Fin cfg0.N) (b : Fin 16) (i : Fin 2304) (ht : t.val = b.val * 9 + i.val / 256) (l : Fin 3328) :
    out0_4 (iblk m c 0 t) (iblk m c 1 t) (iblk m c 2 t) (iblk m c 3 t) (ix3 0 (⟨i.val % 256, by omega⟩ : Fin 256) l)
      = ∑ d : Fin 1024, hrow (fun e => (V m c main_v3 : Vec Ideal S16x2304x1024 .f32) (ix3 b i e)) (fun e => (V m c main_v5 : Vec Ideal S1x1024 .f32) (ix2 0 e))
          (fun e => (V m c main_v2 : Vec Ideal S17x6x1024 .f32) (ix3 (rowOf b i) 1 e)) (fun e => (V m c main_v2 : Vec Ideal S17x6x1024 .f32) (ix3 (rowOf b i) 0 e)) d
          * (V m c main_v4 : Vec Ideal S1024x3328 .bf16) (ix2 d l) := by
  have h9 : t.val / 9 = b.val := by omega
  have h8 : t.val % 9 = i.val / 256 := by omega
  have hr : (if t.val % 9 = 0 then 16 else t.val / 9) = (rowOf b i).val := by rw [h9, h8]; rfl
  have z3 : (![0, 0, 0] : Fin 3 → ℕ) = fun _ => 0 := by decide
  have z2 : (![0, 0] : Fin 2 → ℕ) = fun _ => 0 := by decide
  unfold out0_4
  rw [View.canon_cons_unit_zero z3]
  refine (pay1_at _ _ _ _ _ _ l).trans (Finset.sum_congr rfl fun d _ => ?_)
  rw [View.ld_unit_zero z3, View.ld_unit_zero z2, View.ld_unit_zero z2, blk2, blk3]
  refine congrArg (· * _) ?_
  have hx : ∀ e : Fin 1024, iblk m c 0 t (ix3 0 (⟨i.val % 256, by omega⟩ : Fin 256) e) = (V m c main_v3 : Vec Ideal S16x2304x1024 .f32) (ix3 b i e) := fun e =>
    (blk0 m c t _ e (by omega)).trans (congrArg (V m c main_v3 : Vec Ideal S16x2304x1024 .f32) (by
      congr 1
      · exact Fin.ext h9
      · exact Fin.ext (by show t.val % 9 * 256 + i.val % 256 = i.val; omega)))
  have hm : ∀ (k : Fin 6) (e : Fin 1024), iblk m c 1 t (ix3 0 k e) = (V m c main_v2 : Vec Ideal S17x6x1024 .f32) (ix3 (rowOf b i) k e) := fun k e =>
    (blk1 m c t k e (by rw [hr]; exact (rowOf b i).isLt)).trans (congrArg (V m c main_v2 : Vec Ideal S17x6x1024 .f32) (by
      congr 1
      exact Fin.ext hr))
  have ha : ∀ e : Fin 1024, View.ld (iblk m c 1 t) r0_2 (ix3 0 0 e) = (V m c main_v2 : Vec Ideal S17x6x1024 .f32) (ix3 (rowOf b i) 1 e) := fun e => by
    rw [← hm]
    refine congrArg (iblk m c 1 t) ?_
    funext z; fin_cases z <;> exact Fin.ext (by first | rfl | (show 0 + 1 * e.val = e.val; omega))
  have hs : ∀ e : Fin 1024, View.ld (iblk m c 1 t) r0_3 (ix3 0 0 e) = (V m c main_v2 : Vec Ideal S17x6x1024 .f32) (ix3 (rowOf b i) 0 e) := fun e => by
    rw [← hm]
    refine congrArg (iblk m c 1 t) ?_
    funext z; fin_cases z <;> exact Fin.ext (by first | rfl | (show 0 + 1 * e.val = e.val; omega))
  rw [funext hx, funext ha, funext hs]

/-- The result array at one place. -/
theorem arr_at (c : Dev nD) (b : Fin 16) (i : Fin 2304) (l : Fin 3328) :
    ((dats m 0 c).arrAt 4 cfg0.N : Vec Ideal S16x2304x3328 .f32) (ix3 b i l)
      = ∑ d : Fin 1024, hrow (fun e => (V m c main_v3 : Vec Ideal S16x2304x1024 .f32) (ix3 b i e)) (fun e => (V m c main_v5 : Vec Ideal S1x1024 .f32) (ix2 0 e))
          (fun e => (V m c main_v2 : Vec Ideal S17x6x1024 .f32) (ix3 (rowOf b i) 1 e)) (fun e => (V m c main_v2 : Vec Ideal S17x6x1024 .f32) (ix3 (rowOf b i) 0 e)) d
          * (V m c main_v4 : Vec Ideal S1024x3328 .bf16) (ix2 d l) := by
  have hN : cfg0.N = 144 := by decide
  let t : Fin cfg0.N := ⟨b.val * 9 + i.val / 256, by rw [hN]; omega⟩
  have ht : t.val = b.val * 9 + i.val / 256 := rfl
  have hi := idx t
  have hb := congrFun (Cert.Kernel2Ideal.Value.blocks4 m c t (flush4 t)) (ix3 0 (⟨i.val % 256, by omega⟩ : Fin 256) l)
  rw [Cert.Kernel2Ideal.Value.flushed4] at hb
  have e0 : win0_4.index t 0 = t.val / 9 := congrFun hi.2.2.2.2 0
  have e1 : win0_4.index t 1 = t.val % 9 := congrFun hi.2.2.2.2 1
  have e2 : win0_4.index t 2 = 0 := congrFun hi.2.2.2.2 2
  have he : ((cfg0.win 4).blk t).view.emb (ix3 0 (⟨i.val % 256, by omega⟩ : Fin 256) l) = (ix3 b i l : S16x2304x3328.Idx) := by
    funext z
    match z with
    | ⟨0, _⟩ => exact Fin.ext (by show win0_4.index t 0 * 1 + 1 * 0 = b.val; rw [e0]; omega)
    | ⟨1, _⟩ => exact Fin.ext (by show win0_4.index t 1 * 256 + 1 * (i.val % 256) = i.val; rw [e1]; omega)
    | ⟨2, _⟩ => exact Fin.ext (by show win0_4.index t 2 * 3328 + 1 * l.val = l.val; rw [e2]; omega)
  refine Eq.trans ?_ (out_at m c t b i ht l)
  refine Eq.trans (congrArg _ he.symm) (hb.trans ?_)
  refine congrArg (out0_4 _ _ _ _) ?_
  funext z
  match z with
  | ⟨0, _⟩ => rfl
  | ⟨1, _⟩ => rfl
  | ⟨2, _⟩ => rfl

end Cert.Kernel2Ideal.KVal

end
-- ==== Proof.IRef.lean ====
module

public import proofs.«01_k».proof.Proof.Gen.Reference2Ideal
public import proofs.«01_k».proof.Proof.Gen.Reference2Ideal.Run
public import proofs.«01_k».proof.Proof.IPay
public import Idealize.ShloMosaic.Lib.Pointwise
public import Idealize.ShloMosaic.Lib.Claim

@[expose] public section

set_option maxRecDepth 16384

noncomputable section

/-! The input projection of the reference, row by row. -/
namespace Cert.Norm

open Idealize.ShloMosaic Idealize.ShloMosaic.TcCoe

theorem sum3 {n0 n1 n2 : ℕ} {u : Shape} (X : FVec Ideal ⟨3, ![n0, n1, n2]⟩ .f32) (init : FVec Ideal u .f32)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel)
    (a : Fin n0) (b : Fin n1) :
    Host.reduceAdd X init h' hu (ix2 a b)
      = (init (Shape.Idx.first hu) : EReal) + ∑ x : Fin n2, (X (ix3 a b x) : EReal) := by
  refine (Ideal.hostReduceAdd_single h' h X (init (Shape.Idx.first hu)) (ix2 a b)).trans ?_
  refine congrArg ((init (Shape.Idx.first hu) : EReal) + ·) (Finset.sum_congr rfl fun x _ => congrArg X ?_)
  funext k
  fin_cases k <;> rfl

end Cert.Norm

namespace Cert.Reference2Ideal.RVal

open Idealize.ShloMosaic Idealize.ShloMosaic.TcCoe Cert.Reference2Ideal Cert.Reference2Ideal.Gen Cert.Norm

/-- The context's sums of squares. -/
abbrev ssC (x : FVec Ideal S16x256x1024 .f32) : FVec Ideal S16x256 .f32 := Host.reduceAdd (mulf x x) (constant S_ .f32 0x00000000#32) reducesTo_S16x256x1024_S16x256_d2 h_S_
abbrev ssX (x : FVec Ideal S16x2048x1024 .f32) : FVec Ideal S16x2048 .f32 := Host.reduceAdd (mulf x x) (constant S_ .f32 0x00000000#32) reducesTo_S16x2048x1024_S16x2048_d2 h_S_

theorem ssC_at (x : FVec Ideal S16x256x1024 .f32) (b : Fin 16) (i : Fin 256) : (ssC x (ix2 b i) : EReal) = ∑ e : Fin 1024, x (ix3 b i e) * x (ix3 b i e) := by
  refine (sum3 _ _ _ (by decide) _ b i).trans ?_
  exact (congrArg (· + _) Ideal.ofBits_zero_f32).trans (zero_add _)

theorem ssX_at (x : FVec Ideal S16x2048x1024 .f32) (b : Fin 16) (i : Fin 2048) : (ssX x (ix2 b i) : EReal) = ∑ e : Fin 1024, x (ix3 b i e) * x (ix3 b i e) := by
  refine (sum3 _ _ _ (by decide) _ b i).trans ?_
  exact (congrArg (· + _) Ideal.ofBits_zero_f32).trans (zero_add _)

/-- The context's rows, normed, scaled and shifted. -/
abbrev hC (x : FVec Ideal S16x256x1024 .f32) (S : FVec Ideal S16x256 .f32) (g : FVec Ideal S1024 .f32) (mc : FVec Ideal S6144 .f32) : FVec Ideal S16x256x1024 .f32 :=
  (addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 S) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] mc slices_S6144_S1024_1024))))) (broadcastInDim S16x256x1024 ![0, 1, 2] bcast_S1x1x1024_S16x256x1024_0_1_2 (broadcastInDim S1x1x1024 ![2] bcast_S1024_S1x1x1024_2 (extractStridedSlice S1024 ![0] mc slices_S6144_S1024_0))))
abbrev hX (x : FVec Ideal S16x2048x1024 .f32) (S : FVec Ideal S16x2048 .f32) (g : FVec Ideal S1024 .f32) (mm : FVec Ideal S16x6144 .f32) : FVec Ideal S16x2048x1024 .f32 :=
  (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 S) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (broadcastInDim S16x1x6144 ![0, 2] bcast_S16x6144_S16x1x6144_0_2 mm) slices_S16x1x6144_S16x1x1024_0_0_1024)))) (broadcastInDim S16x2048x1024 ![0, 1, 2] bcast_S16x1x1024_S16x2048x1024_0_1_2 (extractStridedSlice S16x1x1024 ![0, 0, 0] (broadcastInDim S16x1x6144 ![0, 2] bcast_S16x6144_S16x1x6144_0_2 mm) slices_S16x1x6144_S16x1x1024_0_0_0)))

theorem hC_at (x : FVec Ideal S16x256x1024 .f32) (S : FVec Ideal S16x256 .f32) (g : FVec Ideal S1024 .f32) (mc : FVec Ideal S6144 .f32) (b : Fin 16) (i : Fin 256) (d : Fin 1024)
    (hS : (S (ix2 b i) : EReal) = ∑ e : Fin 1024, x (ix3 b i e) * x (ix3 b i e)) :
    hC x S g mc (ix3 b i d) = hrow (fun e => x (ix3 b i e)) (fun e => g (ix1 e)) (fun e => mc (ix1 ⟨1024 + e.val, by omega⟩)) (fun e => mc (ix1 ⟨e.val, by omega⟩)) d := by
  unfold hrow rs
  rw [← hS]
  unfold hC
  pointwise []

theorem hX_at (x : FVec Ideal S16x2048x1024 .f32) (S : FVec Ideal S16x2048 .f32) (g : FVec Ideal S1024 .f32) (mm : FVec Ideal S16x6144 .f32) (b : Fin 16) (i : Fin 2048) (d : Fin 1024)
    (hS : (S (ix2 b i) : EReal) = ∑ e : Fin 1024, x (ix3 b i e) * x (ix3 b i e)) :
    hX x S g mm (ix3 b i d) = hrow (fun e => x (ix3 b i e)) (fun e => g (ix1 e)) (fun e => mm (ix2 b ⟨1024 + e.val, by omega⟩)) (fun e => mm (ix2 b ⟨e.val, by omega⟩)) d := by
  unfold hrow rs
  rw [← hS]
  unfold hX
  pointwise []

/-- The reference's result. -/
abbrev outR (H : FVec Ideal S16x256x1024 .f32) (H' : FVec Ideal S16x2048x1024 .f32) (w : FVec Ideal S1024x3328 .f32) : FVec Ideal S16x2304x3328 .f32 :=
  concatenate S16x2304x3328 1 [⟨S16x256x3328, (Host.dotGeneral dot_S16x256x1024_S1024x3328_S16x256x3328_2_0_01_1_n_n none H w)⟩, ⟨S16x2048x3328, (Host.dotGeneral dot_S16x2048x1024_S1024x3328_S16x2048x3328_2_0_01_1_n_n none H' w)⟩] concatenates_S16x256x3328_S16x2048x3328_S16x2304x3328_d1

theorem outR_at (H : FVec Ideal S16x256x1024 .f32) (H' : FVec Ideal S16x2048x1024 .f32) (w : FVec Ideal S1024x3328 .f32) (b : Fin 16) (i : Fin 2304) (l : Fin 3328) :
    (outR H H' w (ix3 b i l) : EReal) = if h : i.val < 256 then ∑ d : Fin 1024, H (ix3 b ⟨i.val, h⟩ d) * w (ix2 d l)
      else ∑ d : Fin 1024, H' (ix3 b ⟨i.val - 256, by omega⟩ d) * w (ix2 d l) := by
  unfold outR
  pointwise []

end Cert.Reference2Ideal.RVal

end
-- ==== Proof.IFin.lean ====
module

public import proofs.«01_k».proof.Defs
public import proofs.«01_k».proof.Proof.IPay
public import proofs.«01_k».proof.Proof.IRef
public import Idealize.ShloMosaic.Lib.Pointwise

@[expose] public section

set_option maxRecDepth 16384

noncomputable section

/-! The two input projections give the same result. -/
namespace Cert.Proof

open Idealize.ShloMosaic Idealize.ShloMosaic.TcCoe Idealize.SL.Sem Idealize.ShloMosaic.StableHlo Cert.Norm
open Cert.Reference2Ideal.RVal Cert.Kernel2Ideal.KVal

theorem result2_eq (m : (ℓ : Loc Cert.Kernel2Ideal.nD Cert.Kernel2Ideal.τ Cert.Kernel2Ideal.sig) → Buf (Elt Ideal) ℓ) (c : Dev Cert.Kernel2Ideal.nD)
    (x : FVec Ideal ⟨3, ![16, 2048, 1024]⟩ .f32) (ctx : FVec Ideal ⟨3, ![16, 256, 1024]⟩ .f32) (mm : FVec Ideal ⟨2, ![16, 6144]⟩ .f32)
    (mc : FVec Ideal ⟨1, ![6144]⟩ .f32) (g : FVec Ideal ⟨1, ![1024]⟩ .f32) (w : FVec Ideal ⟨2, ![1024, 3328]⟩ .f32)
    (h0 : x = m ((c : Thread Cert.Kernel2Ideal.nD Cert.Kernel2Ideal.τ).loc Cert.Kernel2Ideal.main_arg0))
    (h1 : ctx = m ((c : Thread Cert.Kernel2Ideal.nD Cert.Kernel2Ideal.τ).loc Cert.Kernel2Ideal.main_arg1))
    (h2 : mm = m ((c : Thread Cert.Kernel2Ideal.nD Cert.Kernel2Ideal.τ).loc Cert.Kernel2Ideal.main_arg2))
    (h3 : mc = m ((c : Thread Cert.Kernel2Ideal.nD Cert.Kernel2Ideal.τ).loc Cert.Kernel2Ideal.main_arg3))
    (h4 : g = m ((c : Thread Cert.Kernel2Ideal.nD Cert.Kernel2Ideal.τ).loc Cert.Kernel2Ideal.main_arg4))
    (h5 : w = m ((c : Thread Cert.Kernel2Ideal.nD Cert.Kernel2Ideal.τ).loc Cert.Kernel2Ideal.main_arg5)) :
    outR (hC ctx (ssC ctx) g mc) (hX x (ssX x) g mm) w = (Cert.Kernel2Ideal.Gen.dats m 0 c).arrAt 4 Cert.Kernel2Ideal.cfg0.N := by
  funext z
  obtain ⟨b, i, l, rfl⟩ : ∃ (b : Fin 16) (i : Fin 2304) (l : Fin 3328), z = ix3 b i l := ⟨z 0, z 1, z 2, eq_ix3 z⟩
  refine (outR_at _ _ _ b i l).trans ?_
  refine Eq.trans ?_ (arr_at m c b i l).symm
  by_cases hi : i.val < 256
  · rw [dif_pos hi]
    refine Finset.sum_congr rfl fun d _ => ?_
    rw [hC_at ctx _ g mc b _ d (ssC_at ctx b _), v4, ← h5]
    refine congrArg (· * w (ix2 d l)) ?_
    have hr : ¬ (rowOf b i).val < 16 := by show ¬ (if i.val / 256 = 0 then 16 else b.val) < 16; rw [if_pos (by omega)]; omega
    congr 1
    · funext e; rw [v3, dif_pos hi, h1]
    · funext e; rw [v5, h4]
    · funext e; rw [v2, dif_neg hr, h3]; rfl
    · funext e; rw [v2, dif_neg hr, h3]; exact congrArg _ (congrArg ix1 (Fin.ext (by show e.val = 0 * 1024 + e.val; omega)))
  · rw [dif_neg hi]
    refine Finset.sum_congr rfl fun d _ => ?_
    rw [hX_at x _ g mm b _ d (ssX_at x b _), v4, ← h5]
    refine congrArg (· * w (ix2 d l)) ?_
    have hb : (rowOf b i).val = b.val := by show (if i.val / 256 = 0 then 16 else b.val) = b.val; rw [if_neg (by omega)]
    have hr : (rowOf b i).val < 16 := by rw [hb]; exact b.isLt
    have hb' : (⟨(rowOf b i).val, hr⟩ : Fin 16) = b := Fin.ext hb
    congr 1
    · funext e; rw [v3, dif_neg hi, h0]
    · funext e; rw [v5, h4]
    · funext e; rw [v2, dif_pos hr, h2, hb']; rfl
    · funext e; rw [v2, dif_pos hr, h2, hb']; exact congrArg _ (congrArg (ix2 b) (Fin.ext (by show e.val = 0 * 1024 + e.val; omega)))

theorem algebraic2 : @Cert.algebraic_Kernel2Ideal_Reference2Ideal Cert.Kernel2Ideal.Gen.facts Cert.Reference2Ideal.Gen.facts := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  exact result2_eq m c _ _ _ _ _ _ (hagree c).1 (hagree c).2.1 (hagree c).2.2.1 (hagree c).2.2.2.1 (hagree c).2.2.2.2.1 (hagree c).2.2.2.2.2

theorem frame_r2 : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.PSpec.lean ====
module

public import proofs.«01_k».proof.Proof.IPay
public import proofs.«01_k».proof.Proof.Soft

@[expose] public section

noncomputable section

/-! The mixer's output and the feed-forward part's scores, row by row. -/
namespace Cert.Norm

open Idealize.ShloMosaic Idealize.ShloMosaic.TcCoe

/-- A gate: a value by its logistic. -/
def gate (x : EReal) : EReal := Ideal.div x (1 + Ideal.exp (-x))

/-- The reciprocal root of a group's mean square. -/
def rg (p : Fin 256 → EReal) : EReal := rs 256 (Ideal.ofBits FTy.f32 0x43800000#32) p

/-- The four groups of a row, each normed by itself, side by side, times the gain. -/
def mix (p0 p1 p2 p3 : Fin 256 → EReal) (g : Fin 1024 → EReal) (d : Fin 1024) : EReal :=
  if h0 : d.val < 256 then p0 ⟨d.val, h0⟩ * rg p0 * g ⟨d.val, by omega⟩
  else if h1 : d.val - 256 < 256 then p1 ⟨d.val - 256, h1⟩ * rg p1 * g ⟨256 + (d.val - 256), by omega⟩
  else if h2 : d.val - 256 - 256 < 256 then p2 ⟨d.val - 256 - 256, h2⟩ * rg p2 * g ⟨512 + (d.val - 256 - 256), by omega⟩
  else p3 ⟨d.val - 256 - 256 - 256, by omega⟩ * rg p3 * g ⟨768 + (d.val - 256 - 256 - 256), by omega⟩

/-- A row after the mixer. -/
def mid (p0 p1 p2 p3 : Fin 256 → EReal) (g x a : Fin 1024 → EReal) (w : Fin 1024 → Fin 1024 → EReal) (l : Fin 1024) : EReal :=
  x l + a l * ∑ d : Fin 1024, mix p0 p1 p2 p3 g d * w d l

/-- The queries of a row. -/
def qrow (h : Fin 1024 → EReal) (w : Fin 1024 → Fin 2048 → EReal) (l : Fin 2048) : EReal := ∑ d : Fin 1024, h d * w d l

/-- The score of a row's query against a key. -/
def score (q : Fin 2048 → EReal) (k1 k2 : Fin 128 → Fin 128 → EReal) (g : Fin 16) (k : Fin 128) : EReal :=
  ∑ c : Fin 128, (if g.val % 2 = 0 then k1 k c else k2 k c) * q ⟨g.val * 128 + c.val, by omega⟩

/-- The arrays of the whole layer step, by token. -/
abbrev A3 (n k : ℕ) := FVec Ideal ⟨3, ![16, n, k]⟩ .f32
abbrev A2 (n k : ℕ) := FVec Ideal ⟨2, ![n, k]⟩ .f32
abbrev A1 (n : ℕ) := FVec Ideal ⟨1, ![n]⟩ .f32

/-- A token's input: the context comes first. -/
def xrow (x : A3 2048 1024) (ctx : A3 256 1024) (b : Fin 16) (i : Fin 2304) (e : Fin 1024) : EReal :=
  if h : i.val < 256 then ctx (ix3 b ⟨i.val, h⟩ e) else x (ix3 b ⟨i.val - 256, by omega⟩ e)

/-- A token's modulation: the context's tokens share one. -/
def mrow (mm : A2 16 6144) (mc : A1 6144) (k : Fin 6) (b : Fin 16) (i : Fin 2304) (e : Fin 1024) : EReal :=
  if i.val < 256 then mc (ix1 ⟨k.val * 1024 + e.val, by omega⟩) else mm (ix2 b ⟨k.val * 1024 + e.val, by omega⟩)

/-- A token after the mixer. -/
def smid (ya yb yc od : A3 2304 256) (pj : A3 2304 3328) (x : A3 2048 1024) (ctx : A3 256 1024) (mm : A2 16 6144) (mc : A1 6144) (gn : A1 1024) (wo : A2 1024 1024)
    (b : Fin 16) (i : Fin 2304) : Fin 1024 → EReal :=
  mid (fun e => ya (ix3 b i e)) (fun e => yb (ix3 b i e)) (fun e => yc (ix3 b i e)) (fun e => od (ix3 b i e) * gate (pj (ix3 b i ⟨3072 + e.val, by omega⟩)))
    (fun e => gn (ix1 e)) (xrow x ctx b i) (mrow mm mc 2 b i) (fun d l => wo (ix2 d l))

/-- That token normed, scaled and shifted. -/
def shid (ya yb yc od : A3 2304 256) (pj : A3 2304 3328) (x : A3 2048 1024) (ctx : A3 256 1024) (mm : A2 16 6144) (mc : A1 6144) (gn : A1 1024) (wo : A2 1024 1024) (nf : A1 1024)
    (b : Fin 16) (i : Fin 2304) : Fin 1024 → EReal :=
  hrow (smid ya yb yc od pj x ctx mm mc gn wo b i) (fun e => nf (ix1 e)) (mrow mm mc 4 b i) (mrow mm mc 3 b i)

/-- A score from the hidden row of a token. -/
def ssc (h : Fin 1024 → EReal) (wq : A2 1024 2048) (k1 k2 : A2 128 128) (g : Fin 16) (k : Fin 128) : EReal :=
  score (qrow h fun d l => wq (ix2 d l)) (fun k c => k1 (ix2 k c)) (fun k c => k2 (ix2 k c)) g k

theorem gate_eq (x : EReal) : x * Ideal.div 1 (1 + Ideal.exp (-x)) = gate x := by
  unfold gate
  have hp : (0 : EReal) < 1 + Ideal.exp (-x) := by
    have h0 : (0 : EReal) ≤ Ideal.exp (-x) := Cert.Soft.exp_nonneg _
    calc (0 : EReal) < 1 := zero_lt_one
      _ = 1 + 0 := (add_zero 1).symm
      _ ≤ 1 + Ideal.exp (-x) := add_le_add le_rfl h0
  rw [Cert.Soft.div_eq hp, Cert.Soft.div_eq hp, one_mul]

end Cert.Norm

end
-- ==== Proof.PPay.lean ====
module

public import proofs.«01_k».proof.Proof.PSpec
public import proofs.«01_k».proof.Proof.Gen.Kernel3Ideal.Frame
public import Idealize.ShloMosaic.Lib.Pointwise

@[expose] public section

set_option maxRecDepth 16384

noncomputable section

/-! What one step of the mixer's output computes. -/
namespace Cert.Kernel3Ideal.KVal

open Idealize.ShloMosaic Idealize.ShloMosaic.TcCoe Idealize.SL.Sem Cert.Kernel3Ideal Cert.Kernel3Ideal.Gen Cert.Norm

theorem pay2_at (o dg : Vec Ideal S1x256x256 .f32) (r e : Fin 256) : k0_pay2 o dg (ix2 r e) = o (ix3 0 r e) * gate (dg (ix3 0 r e)) := by
  unfold gate
  rw [← zero_sub]
  pointwise [k0_pay2]

theorem pay8_at (v10 v16 v18 : FVec Ideal S256x256 .f32) (gn : FVec Ideal S1x1024 .f32) (v34 : FVec Ideal S256x1 .f32) (v31 : FVec Ideal S256x256 .f32)
    (wo : Vec Ideal S1024x1024 .bf16) (r : Fin 256) (l : Fin 1024) (p0 : Fin 256 → EReal)
    (h34 : (v34 (ix2 r 0) : EReal) = ∑ e : Fin 256, v16 (ix2 r e) * v16 (ix2 r e))
    (h31 : ∀ e : Fin 256, (v31 (ix2 r e) : EReal) = p0 e * rg p0 * gn (ix2 0 ⟨e.val, by omega⟩)) :
    k0_pay8 v10 gn v16 v18 v31 v34 wo (ix2 r l) = ∑ d : Fin 1024, mix p0 (fun e => v16 (ix2 r e)) (fun e => v18 (ix2 r e)) (fun e => v10 (ix2 r e)) (fun e => gn (ix2 0 e)) d * wo (ix2 d l) := by
  pointwise [k0_pay8]
  refine Finset.sum_congr rfl fun d _ => congrArg (· * _) ?_
  unfold mix
  by_cases h0 : d.val < 256
  · rw [dif_pos h0, dif_pos h0]; exact h31 _
  · rw [dif_neg h0, dif_neg h0]
    by_cases h1 : d.val - 256 < 256
    · rw [dif_pos h1, dif_pos h1, h34]; rfl
    · rw [dif_neg h1, dif_neg h1]
      by_cases h2 : d.val - 256 - 256 < 256
      · rw [dif_pos h2, dif_pos h2]; rfl
      · rw [dif_neg h2, dif_neg h2]; rfl

theorem pay6_at (gn : Vec Ideal S1x1024 .f32) (ya : Vec Ideal S1x256x256 .f32) (r e : Fin 256) :
    k0_pay6 gn ya (ix2 r e) = ya (ix3 0 r e) * rg (fun e => ya (ix3 0 r e)) * gn (ix2 0 ⟨e.val, by omega⟩) := by
  unfold rg rs
  pointwise [k0_pay6, k0_pay3]

theorem pay7_at (yb : Vec Ideal S1x256x256 .f32) (r : Fin 256) :
    k0_pay7 yb (ix2 r 0) = ∑ e : Fin 256, k0_pay4 yb (ix2 r e) * k0_pay4 yb (ix2 r e) := by
  pointwise [k0_pay7]

theorem pay4_at (yb : Vec Ideal S1x256x256 .f32) (r e : Fin 256) : k0_pay4 yb (ix2 r e) = yb (ix3 0 r e) := by
  pointwise [k0_pay4]
theorem pay5_at (yb : Vec Ideal S1x256x256 .f32) (r e : Fin 256) : k0_pay5 yb (ix2 r e) = yb (ix3 0 r e) := by
  pointwise [k0_pay5]
theorem pay3_at (g : Vec Ideal S1x1024 .f32) (e : Fin 1024) : k0_pay3 g (ix2 0 e) = g (ix2 0 e) := by
  pointwise [k0_pay3]
theorem pay9_at (x : Vec Ideal S1x256x1024 .f32) (r : Fin 256) (e : Fin 1024) : k0_pay9 x (ix2 r e) = x (ix3 0 r e) := by
  pointwise [k0_pay9]

theorem pay11_at (y x : FVec Ideal S256x1024 .f32) (a : Vec Ideal S1x1x1024 .f32) (r : Fin 256) (l : Fin 1024) :
    k0_pay11 y x a (ix3 0 r l) = x (ix2 r l) + a (ix3 0 0 l) * y (ix2 r l) := by
  pointwise [k0_pay11, k0_pay10]

theorem pay12_at (y x : FVec Ideal S256x1024 .f32) (a : Vec Ideal S1x1x1024 .f32) (nf : Vec Ideal S1x1024 .f32) (sc sh : Vec Ideal S1x1x1024 .f32) (r : Fin 256) (l : Fin 1024) :
    k0_pay12 y x a nf sc sh (ix2 r l) = hrow (fun e => x (ix2 r e) + a (ix3 0 0 e) * y (ix2 r e)) (fun e => nf (ix2 0 e)) (fun e => sc (ix3 0 0 e)) (fun e => sh (ix3 0 0 e)) l := by
  unfold hrow rs
  pointwise [k0_pay12, k0_pay10]

theorem pay13_at (y x : FVec Ideal S256x1024 .f32) (a : Vec Ideal S1x1x1024 .f32) (nf : Vec Ideal S1x1024 .f32) (sc sh : Vec Ideal S1x1x1024 .f32) (r : Fin 256) (l : Fin 1024) :
    k0_pay13 y x a nf sc sh (ix3 0 r l) = k0_pay12 y x a nf sc sh (ix2 r l) := by
  pointwise [k0_pay13]

theorem pay16_at (h : FVec Ideal S256x1024 .bf16) (w : Vec Ideal S1024x2048 .bf16) (r : Fin 256) (l : Fin 2048) :
    k0_pay16 h (k0_pay15 w) (ix2 r l) = ∑ d : Fin 1024, h (ix2 r d) * w (ix2 d l) := by
  pointwise [k0_pay16, k0_pay15]

theorem sc0_at (h : FVec Ideal S256x1024 .bf16) (w : FVec Ideal S1024x2048 .bf16) (k : Vec Ideal S128x128 .bf16) (j : Fin 128) (r : Fin 256) :
    k0_pay17 h w k (ix3 0 j r) = ∑ c : Fin 128, k (ix2 j c) * k0_pay16 h w (ix2 r ⟨0 * 128 + c.val, by omega⟩) := by
  pointwise [k0_pay17]
  try rfl

theorem sc1_at (h : FVec Ideal S256x1024 .bf16) (w : FVec Ideal S1024x2048 .bf16) (k : Vec Ideal S128x128 .bf16) (j : Fin 128) (r : Fin 256) :
    k0_pay18 h w k (ix3 0 j r) = ∑ c : Fin 128, k (ix2 j c) * k0_pay16 h w (ix2 r ⟨1 * 128 + c.val, by omega⟩) := by
  pointwise [k0_pay18]
  try rfl

theorem sc2_at (h : FVec Ideal S256x1024 .bf16) (w : FVec Ideal S1024x2048 .bf16) (k : Vec Ideal S128x128 .bf16) (j : Fin 128) (r : Fin 256) :
    k0_pay19 h w k (ix3 0 j r) = ∑ c : Fin 128, k (ix2 j c) * k0_pay16 h w (ix2 r ⟨2 * 128 + c.val, by omega⟩) := by
  pointwise [k0_pay19]
  try rfl

theorem sc3_at (h : FVec Ideal S256x1024 .bf16) (w : FVec Ideal S1024x2048 .bf16) (k : Vec Ideal S128x128 .bf16) (j : Fin 128) (r : Fin 256) :
    k0_pay21 (k0_pay20 h w k) (ix3 0 j r) = ∑ c : Fin 128, k (ix2 j c) * k0_pay16 h w (ix2 r ⟨3 * 128 + c.val, by omega⟩) := by
  pointwise [k0_pay21, k0_pay20]

theorem sc4_at (q : FVec Ideal S256x2048 .f32) (k : Vec Ideal S128x128 .bf16) (j : Fin 128) (r : Fin 256) :
    k0_pay22 q k (ix3 0 j r) = ∑ c : Fin 128, k (ix2 j c) * q (ix2 r ⟨4 * 128 + c.val, by omega⟩) := by
  pointwise [k0_pay22]

theorem sc5_at (q : FVec Ideal S256x2048 .f32) (k : Vec Ideal S128x128 .bf16) (j : Fin 128) (r : Fin 256) :
    k0_pay23 q k (ix3 0 j r) = ∑ c : Fin 128, k (ix2 j c) * q (ix2 r ⟨5 * 128 + c.val, by omega⟩) := by
  pointwise [k0_pay23]

theorem sc6_at (q : FVec Ideal S256x2048 .f32) (k : Vec Ideal S128x128 .bf16) (j : Fin 128) (r : Fin 256) :
    k0_pay24 q k (ix3 0 j r) = ∑ c : Fin 128, k (ix2 j c) * q (ix2 r ⟨6 * 128 + c.val, by omega⟩) := by
  pointwise [k0_pay24]

theorem sc7_at (q : FVec Ideal S256x2048 .f32) (k : Vec Ideal S128x128 .bf16) (j : Fin 128) (r : Fin 256) :
    k0_pay26 (k0_pay25 q k) (ix3 0 j r) = ∑ c : Fin 128, k (ix2 j c) * q (ix2 r ⟨7 * 128 + c.val, by omega⟩) := by
  pointwise [k0_pay26, k0_pay25]

theorem sc8_at (q : FVec Ideal S256x2048 .f32) (k : Vec Ideal S128x128 .bf16) (j : Fin 128) (r : Fin 256) :
    k0_pay27 q k (ix3 0 j r) = ∑ c : Fin 128, k (ix2 j c) * q (ix2 r ⟨8 * 128 + c.val, by omega⟩) := by
  pointwise [k0_pay27]

theorem sc9_at (q : FVec Ideal S256x2048 .f32) (k : Vec Ideal S128x128 .bf16) (j : Fin 128) (r : Fin 256) :
    k0_pay28 q k (ix3 0 j r) = ∑ c : Fin 128, k (ix2 j c) * q (ix2 r ⟨9 * 128 + c.val, by omega⟩) := by
  pointwise [k0_pay28]

theorem sc10_at (q : FVec Ideal S256x2048 .f32) (k : Vec Ideal S128x128 .bf16) (j : Fin 128) (r : Fin 256) :
    k0_pay29 q k (ix3 0 j r) = ∑ c : Fin 128, k (ix2 j c) * q (ix2 r ⟨10 * 128 + c.val, by omega⟩) := by
  pointwise [k0_pay29]

theorem sc11_at (q : FVec Ideal S256x2048 .f32) (k : Vec Ideal S128x128 .bf16) (j : Fin 128) (r : Fin 256) :
    k0_pay31 (k0_pay30 q k) (ix3 0 j r) = ∑ c : Fin 128, k (ix2 j c) * q (ix2 r ⟨11 * 128 + c.val, by omega⟩) := by
  pointwise [k0_pay31, k0_pay30]

theorem sc12_at (q : FVec Ideal S256x2048 .f32) (k : Vec Ideal S128x128 .bf16) (j : Fin 128) (r : Fin 256) :
    k0_pay32 q k (ix3 0 j r) = ∑ c : Fin 128, k (ix2 j c) * q (ix2 r ⟨12 * 128 + c.val, by omega⟩) := by
  pointwise [k0_pay32]

theorem sc13_at (q : FVec Ideal S256x2048 .f32) (k : Vec Ideal S128x128 .bf16) (j : Fin 128) (r : Fin 256) :
    k0_pay33 q k (ix3 0 j r) = ∑ c : Fin 128, k (ix2 j c) * q (ix2 r ⟨13 * 128 + c.val, by omega⟩) := by
  pointwise [k0_pay33]

theorem sc14_at (q : FVec Ideal S256x2048 .f32) (k : Vec Ideal S128x128 .bf16) (j : Fin 128) (r : Fin 256) :
    k0_pay34 q k (ix3 0 j r) = ∑ c : Fin 128, k (ix2 j c) * q (ix2 r ⟨14 * 128 + c.val, by omega⟩) := by
  pointwise [k0_pay34]

theorem sc15_at (q : FVec Ideal S256x2048 .f32) (k : Vec Ideal S128x128 .bf16) (j : Fin 128) (r : Fin 256) :
    k0_pay1 (k0_pay35 q k) (ix3 0 j r) = ∑ c : Fin 128, k (ix2 j c) * q (ix2 r ⟨15 * 128 + c.val, by omega⟩) := by
  pointwise [k0_pay1, k0_pay35]

end Cert.Kernel3Ideal.KVal

end
-- ==== Proof.POut.lean ====
module

public import proofs.«01_k».proof.Proof.PPay
public import Idealize.ShloMosaic.Lib.Pipeline.ValueKit

@[expose] public section

set_option maxRecDepth 16384

noncomputable section

/-! What one step of the mixer's output leaves in its three blocks. -/
namespace Cert.Kernel3Ideal.KVal

open Idealize.ShloMosaic Idealize.ShloMosaic.TcCoe Idealize.SL.Sem Cert.Kernel3Ideal Cert.Kernel3Ideal.Gen Cert.Norm

theorem z3 : (![0, 0, 0] : Fin 3 → ℕ) = fun _ => 0 := by decide
theorem z2 : (![0, 0] : Fin 2 → ℕ) = fun _ => 0 := by decide

theorem ldrow (x : Vec Ideal S1x6x1024 .f32) (k : Fin 6) (inb : ∀ a, (![0, k.val, 0] : Fin 3 → ℕ) a + S1x1x1024.size a ≤ S1x6x1024.size a) (e : Fin 1024) :
    View.ld x (Rect.unit (s := S1x6x1024) ![0, k.val, 0] S1x1x1024.size inb) (ix3 0 0 e) = x (ix3 0 k e) := by
  refine congrArg x ?_
  funext z
  match z with
  | ⟨0, _⟩ => rfl
  | ⟨1, _⟩ => exact Fin.ext (by show k.val + 1 * 0 = k.val; omega)
  | ⟨2, _⟩ => exact Fin.ext (by show 0 + 1 * e.val = e.val; omega)

/-- The row of a step's blocks after the mixer. -/
abbrev bmid (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) : Fin 1024 → EReal :=
  mid (fun e => x0 (ix3 0 r e)) (fun e => x1 (ix3 0 r e)) (fun e => x2 (ix3 0 r e)) (fun e => x3 (ix3 0 r e) * gate (x4 (ix3 0 r e)))
    (fun e => x7 (ix2 0 e)) (fun e => x5 (ix3 0 r e)) (fun e => x6 (ix3 0 2 e)) (fun d l => x8 (ix2 d l))
/-- That row normed, scaled and shifted. -/
abbrev bhid (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) : Fin 1024 → EReal :=
  hrow (bmid x0 x1 x2 x3 x4 x5 x6 x7 x8 x9 x10 x11 x12 r) (fun e => x9 (ix2 0 e)) (fun e => x6 (ix3 0 4 e)) (fun e => x6 (ix3 0 3 e))

theorem y_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 1024) :
    k0_pay36 x0 x1 x2 x3 x4 x5 x6 x7 x8 x9 x10 x11 x12 (ix2 r l) = ∑ d : Fin 1024, mix (fun e => x0 (ix3 0 r e)) (fun e => x1 (ix3 0 r e)) (fun e => x2 (ix3 0 r e)) (fun e => x3 (ix3 0 r e) * gate (x4 (ix3 0 r e)))
      (fun e => x7 (ix2 0 e)) d * x8 (ix2 d l) := by
  unfold k0_pay36
  rw [View.ld_unit_zero z3, View.ld_unit_zero z3, View.ld_unit_zero z2, View.ld_unit_zero z3, View.ld_unit_zero z3, View.ld_unit_zero z3, View.ld_unit_zero z2]
  refine (pay8_at _ _ _ _ _ _ _ r l (fun e => x0 (ix3 0 r e)) (pay7_at x1 r) (fun e => ?_)).trans ?_
  · rw [pay3_at]; exact pay6_at x7 x0 r e
  · refine Finset.sum_congr rfl fun d _ => congrArg (· * _) ?_
    congr 1
    · funext e; exact pay4_at x1 r e
    · funext e; exact pay5_at x2 r e
    · funext e; exact pay2_at x3 x4 r e
    · funext e; exact pay3_at x7 e

theorem mid_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 1024) :
    k0_pay37 x0 x1 x2 x3 x4 x5 x6 x7 x8 x9 x10 x11 x12 (ix2 r l) + View.ld x6 r0_4 (ix3 0 0 l) * k0_pay36 x0 x1 x2 x3 x4 x5 x6 x7 x8 x9 x10 x11 x12 (ix2 r l) = bmid x0 x1 x2 x3 x4 x5 x6 x7 x8 x9 x10 x11 x12 r l := by
  rw [y_at]
  unfold k0_pay37
  rw [View.ld_unit_zero z3, pay9_at]
  rw [show View.ld x6 r0_4 (ix3 0 0 l) = x6 (ix3 0 2 l) from ldrow x6 2 _ l]
  rfl

theorem out13_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 1024) : out0_13 x0 x1 x2 x3 x4 x5 x6 x7 x8 x9 x10 x11 x12 (ix3 0 r l) = bmid x0 x1 x2 x3 x4 x5 x6 x7 x8 x9 x10 x11 x12 r l := by
  unfold out0_13
  rw [View.canon_cons_unit_zero z3]
  exact (pay11_at _ _ _ r l).trans (mid_at x0 x1 x2 x3 x4 x5 x6 x7 x8 x9 x10 x11 x12 r l)

theorem hid_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 1024) :
    k0_pay12 (k0_pay36 x0 x1 x2 x3 x4 x5 x6 x7 x8 x9 x10 x11 x12) (k0_pay37 x0 x1 x2 x3 x4 x5 x6 x7 x8 x9 x10 x11 x12) (View.ld x6 r0_4) (View.ld x9 r0_1) (View.ld x6 r0_5) (View.ld x6 r0_6) (ix2 r l) = bhid x0 x1 x2 x3 x4 x5 x6 x7 x8 x9 x10 x11 x12 r l := by
  refine (pay12_at _ _ _ _ _ _ r l).trans ?_
  rw [View.ld_unit_zero z2]
  unfold bhid
  congr 1
  · funext e; exact mid_at x0 x1 x2 x3 x4 x5 x6 x7 x8 x9 x10 x11 x12 r e
  · funext e; exact ldrow x6 4 _ e
  · funext e; exact ldrow x6 3 _ e

theorem out14_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 1024) : out0_14 x0 x1 x2 x3 x4 x5 x6 x7 x8 x9 x10 x11 x12 (ix3 0 r l) = bhid x0 x1 x2 x3 x4 x5 x6 x7 x8 x9 x10 x11 x12 r l := by
  unfold out0_14
  rw [View.canon_cons_unit_zero z3]
  exact (pay13_at _ _ _ _ _ _ r l).trans (hid_at x0 x1 x2 x3 x4 x5 x6 x7 x8 x9 x10 x11 x12 r l)

theorem q_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (r : Fin 256) (l : Fin 2048) : k0_pay40 x0 x1 x2 x3 x4 x5 x6 x7 x8 x9 x10 x11 x12 (ix2 r l) = qrow (bhid x0 x1 x2 x3 x4 x5 x6 x7 x8 x9 x10 x11 x12 r) (fun d l => x10 (ix2 d l)) l := by
  unfold k0_pay40 k0_pay39
  rw [View.ld_unit_zero z2]
  refine (pay16_at _ _ r l).trans (Finset.sum_congr rfl fun d _ => congrArg (· * _) ?_)
  exact hid_at x0 x1 x2 x3 x4 x5 x6 x7 x8 x9 x10 x11 x12 r d

theorem out15_at (x0 x1 x2 x3 x4 : Vec Ideal S1x256x256 .f32) (x5 : Vec Ideal S1x256x1024 .f32) (x6 : Vec Ideal S1x6x1024 .f32) (x7 : Vec Ideal S1x1024 .f32) (x8 : Vec Ideal S1024x1024 .bf16) (x9 : Vec Ideal S1x1024 .f32) (x10 : Vec Ideal S1024x2048 .bf16) (x11 x12 : Vec Ideal S128x128 .bf16) (g : Fin 16) (k : Fin 128) (r : Fin 256) :
    out0_15 x0 x1 x2 x3 x4 x5 x6 x7 x8 x9 x10 x11 x12 (ix3 g k r) = score (qrow (bhid x0 x1 x2 x3 x4 x5 x6 x7 x8 x9 x10 x11 x12 r) (fun d l => x10 (ix2 d l))) (fun k c => x11 (ix2 k c)) (fun k c => x12 (ix2 k c)) g k := by
  unfold out0_15
  rw [View.ld_unit_zero z2, View.ld_unit_zero z2]
  have key : ∀ (n : ℕ) (hn : n < 16) (w : Vec Ideal S1x128x256 .f32) (ky : Vec Ideal S128x128 .bf16)
      (_ : ∀ (j : Fin 128) (r : Fin 256), w (ix3 0 j r) = ∑ c : Fin 128, ky (ix2 j c) * k0_pay40 x0 x1 x2 x3 x4 x5 x6 x7 x8 x9 x10 x11 x12 (ix2 r ⟨n * 128 + c.val, by omega⟩))
      (_ : ky = if n % 2 = 0 then x11 else x12),
      View.TileAt (S := S16x128x256) (ix3 g k r) ![n, 0, 0] S1x128x256.size w
        (score (qrow (bhid x0 x1 x2 x3 x4 x5 x6 x7 x8 x9 x10 x11 x12 r) (fun d l => x10 (ix2 d l))) (fun k c => x11 (ix2 k c)) (fun k c => x12 (ix2 k c)) g k) := by
    intro n hn w ky hw hk x hx
    have a0 : g.val = n + (x 0).val := hx 0
    have a1 : k.val = 0 + (x 1).val := hx 1
    have a2 : r.val = 0 + (x 2).val := hx 2
    have b0 : (x 0).val < 1 := (x 0).isLt
    have hg : g = ⟨n, hn⟩ := Fin.ext (by show g.val = n; omega)
    have hx' : x = ix3 0 k r := by
      refine (eq_ix3 x).trans ?_
      congr 1
      · exact Fin.ext (by show (x 0).val = 0; omega)
      · exact Fin.ext (by omega)
      · exact Fin.ext (by omega)
    rw [hx']
    refine (hw k r).trans ?_
    unfold score
    rw [hg]
    refine Finset.sum_congr rfl fun c _ => ?_
    rw [q_at, hk]
    refine congrArg (· * _) ?_
    show _ = if n % 2 = 0 then x11 (ix2 k c) else x12 (ix2 k c)
    split <;> rfl
  refine View.canon_eq_of_allAt _ _ _ (View.cover_of_tiled_head _ _ _ rfl _) ?_
  exact View.allAt_cons_unit _ _ _ _ _ (key 15 (by omega) _ x12 (sc15_at _ x12) (by simp))
    (View.allAt_cons_unit _ _ _ _ _ (key 14 (by omega) _ x11 (sc14_at _ x11) (by simp))
    (View.allAt_cons_unit _ _ _ _ _ (key 13 (by omega) _ x12 (sc13_at _ x12) (by simp))
    (View.allAt_cons_unit _ _ _ _ _ (key 12 (by omega) _ x11 (sc12_at _ x11) (by simp))
    (View.allAt_cons_unit _ _ _ _ _ (key 11 (by omega) _ x12 (sc11_at _ x12) (by simp))
    (View.allAt_cons_unit _ _ _ _ _ (key 10 (by omega) _ x11 (sc10_at _ x11) (by simp))
    (View.allAt_cons_unit _ _ _ _ _ (key 9 (by omega) _ x12 (sc9_at _ x12) (by simp))
    (View.allAt_cons_unit _ _ _ _ _ (key 8 (by omega) _ x11 (sc8_at _ x11) (by simp))
    (View.allAt_cons_unit _ _ _ _ _ (key 7 (by omega) _ x12 (sc7_at _ x12) (by simp))
    (View.allAt_cons_unit _ _ _ _ _ (key 6 (by omega) _ x11 (sc6_at _ x11) (by simp))
    (View.allAt_cons_unit _ _ _ _ _ (key 5 (by omega) _ x12 (sc5_at _ x12) (by simp))
    (View.allAt_cons_unit _ _ _ _ _ (key 4 (by omega) _ x11 (sc4_at _ x11) (by simp))
    (View.allAt_cons_unit _ _ _ _ _ (key 3 (by omega) _ x12 (sc3_at _ _ x12) (by simp))
    (View.allAt_cons_unit _ _ _ _ _ (key 2 (by omega) _ x11 (sc2_at _ _ x11) (by simp))
    (View.allAt_cons_unit _ _ _ _ _ (key 1 (by omega) _ x12 (sc1_at _ _ x12) (by simp))
    (View.allAt_cons_unit _ _ _ _ _ (key 0 (by omega) _ x11 (sc0_at _ _ x11) (by simp))
    (View.allAt_nil _ _))))))))))))))))

end Cert.Kernel3Ideal.KVal

end
-- ==== Proof.PBlk.lean ====
module

public import proofs.«01_k».proof.Proof.POut
public import proofs.«01_k».proof.Proof.Gen.Kernel3Ideal.Value
public import Idealize.ShloMosaic.Lib.StableHlo.ReadAt
public import Idealize.ShloMosaic.Lib.Claim
public import Idealize.ShloMosaic.Lib.Pipeline.ValueKit

@[expose] public section

set_option maxRecDepth 16384

noncomputable section

/-! The blocks the mixer's output works on. -/
namespace Cert.Kernel3Ideal.KVal

open Idealize.ShloMosaic Idealize.ShloMosaic.TcCoe Idealize.SL.Sem Cert.Kernel3Ideal Cert.Kernel3Ideal.Gen Cert.Norm

variable (m : (ℓ : Loc nD τ sig) → Buf (Elt Ideal) ℓ)

theorem idxA : ∀ t : Fin cfg0.N, win0_0.index t = ![t.val / 9, t.val % 9, 0] ∧ win0_1.index t = ![t.val / 9, t.val % 9, 0]
    ∧ win0_2.index t = ![t.val / 9, t.val % 9, 0] ∧ win0_3.index t = ![t.val / 9, t.val % 9, 0] ∧ win0_4.index t = ![t.val / 9, t.val % 9, 12]
    ∧ win0_5.index t = ![t.val / 9, t.val % 9, 0] := by decide +kernel

theorem idxB : ∀ t : Fin cfg0.N, win0_6.index t = ![if t.val % 9 = 0 then 16 else t.val / 9, 0, 0]
    ∧ win0_7.index t = ![0, 0] ∧ win0_8.index t = ![0, 0] ∧ win0_9.index t = ![0, 0] ∧ win0_10.index t = ![0, 0] ∧ win0_11.index t = ![0, 0] ∧ win0_12.index t = ![0, 0] := by decide +kernel

theorem idxC : ∀ t : Fin cfg0.N, win0_13.index t = ![t.val / 9, t.val % 9, 0] ∧ win0_14.index t = ![t.val / 9, t.val % 9, 0] ∧ win0_15.index t = ![0, 0, t.val] := by decide +kernel

theorem flush13 : ∀ t : Fin cfg0.N, (cfg0.win 13).flush t = true := by decide +kernel
theorem flush14 : ∀ t : Fin cfg0.N, (cfg0.win 14).flush t = true := by decide +kernel
theorem flush15 : ∀ t : Fin cfg0.N, (cfg0.win 15).flush t = true := by decide +kernel

theorem blk0 (c : Dev nD) (t : Fin cfg0.N) (r e : Fin 256) (hb : t.val / 9 < 16) :
    iblk m c 0 t (ix3 0 r e) = V m c main_arg0 (ix3 ⟨t.val / 9, hb⟩ ⟨t.val % 9 * 256 + r.val, by omega⟩ e) := by
  blk_ext [iblk, idxA t]

theorem blk1 (c : Dev nD) (t : Fin cfg0.N) (r e : Fin 256) (hb : t.val / 9 < 16) :
    iblk m c 1 t (ix3 0 r e) = V m c main_arg1 (ix3 ⟨t.val / 9, hb⟩ ⟨t.val % 9 * 256 + r.val, by omega⟩ e) := by
  blk_ext [iblk, idxA t]

theorem blk2 (c : Dev nD) (t : Fin cfg0.N) (r e : Fin 256) (hb : t.val / 9 < 16) :
    iblk m c 2 t (ix3 0 r e) = V m c main_arg2 (ix3 ⟨t.val / 9, hb⟩ ⟨t.val % 9 * 256 + r.val, by omega⟩ e) := by
  blk_ext [iblk, idxA t]

theorem blk3 (c : Dev nD) (t : Fin cfg0.N) (r e : Fin 256) (hb : t.val / 9 < 16) :
    iblk m c 3 t (ix3 0 r e) = V m c main_arg3 (ix3 ⟨t.val / 9, hb⟩ ⟨t.val % 9 * 256 + r.val, by omega⟩ e) := by
  blk_ext [iblk, idxA t]

theorem blk4 (c : Dev nD) (t : Fin cfg0.N) (r e : Fin 256) (hb : t.val / 9 < 16) :
    iblk m c 4 t (ix3 0 r e) = V m c main_arg4 (ix3 ⟨t.val / 9, hb⟩ ⟨t.val % 9 * 256 + r.val, by omega⟩ ⟨3072 + e.val, by omega⟩) := by
  blk_ext [iblk, idxA t]

theorem blk5 (c : Dev nD) (t : Fin cfg0.N) (r : Fin 256) (e : Fin 1024) (hb : t.val / 9 < 16) :
    iblk m c 5 t (ix3 0 r e) = V m c main_v3 (ix3 ⟨t.val / 9, hb⟩ ⟨t.val % 9 * 256 + r.val, by omega⟩ e) := by
  blk_ext [iblk, idxA t]

theorem blk6 (c : Dev nD) (t : Fin cfg0.N) (k : Fin 6) (e : Fin 1024) (hb : (if t.val % 9 = 0 then 16 else t.val / 9) < 17) :
    iblk m c 6 t (ix3 0 k e) = V m c main_v2 (ix3 ⟨if t.val % 9 = 0 then 16 else t.val / 9, hb⟩ k e) := by
  blk_ext [iblk, idxB t]

theorem blk7 (c : Dev nD) (t : Fin cfg0.N) : iblk m c 7 t = V m c main_v8 := by
  funext x
  blk_ext [iblk, idxB t]

theorem blk8 (c : Dev nD) (t : Fin cfg0.N) : iblk m c 8 t = V m c main_v4 := by
  funext x
  blk_ext [iblk, idxB t]

theorem blk9 (c : Dev nD) (t : Fin cfg0.N) : iblk m c 9 t = V m c main_v9 := by
  funext x
  blk_ext [iblk, idxB t]

theorem blk10 (c : Dev nD) (t : Fin cfg0.N) : iblk m c 10 t = V m c main_v5 := by
  funext x
  blk_ext [iblk, idxB t]

theorem blk11 (c : Dev nD) (t : Fin cfg0.N) : iblk m c 11 t = V m c main_v6 := by
  funext x
  blk_ext [iblk, idxB t]

theorem blk12 (c : Dev nD) (t : Fin cfg0.N) : iblk m c 12 t = V m c main_v7 := by
  funext x
  blk_ext [iblk, idxB t]

theorem v4 (c : Dev nD) (d : Fin 1024) (l : Fin 1024) : (V m c main_v4 : Vec Ideal S1024x1024 .bf16) (ix2 d l) = m ((c : Thread nD τ).loc main_arg10) (ix2 d l) := by
  unfold V
  after_reads_at

theorem v5 (c : Dev nD) (d : Fin 1024) (l : Fin 2048) : (V m c main_v5 : Vec Ideal S1024x2048 .bf16) (ix2 d l) = m ((c : Thread nD τ).loc main_arg12) (ix2 d l) := by
  unfold V
  after_reads_at

theorem v6 (c : Dev nD) (d : Fin 128) (l : Fin 128) : (V m c main_v6 : Vec Ideal S128x128 .bf16) (ix2 d l) = m ((c : Thread nD τ).loc main_arg13) (ix2 d l) := by
  unfold V
  after_reads_at

theorem v7 (c : Dev nD) (d : Fin 128) (l : Fin 128) : (V m c main_v7 : Vec Ideal S128x128 .bf16) (ix2 d l) = m ((c : Thread nD τ).loc main_arg14) (ix2 d l) := by
  unfold V
  after_reads_at

theorem v8 (c : Dev nD) (d : Fin 1024) : (V m c main_v8 : Vec Ideal S1x1024 .f32) (ix2 0 d) = m ((c : Thread nD τ).loc main_arg9) (ix1 d) := by
  unfold V
  after_reads_at

theorem v9 (c : Dev nD) (d : Fin 1024) : (V m c main_v9 : Vec Ideal S1x1024 .f32) (ix2 0 d) = m ((c : Thread nD τ).loc main_arg11) (ix1 d) := by
  unfold V
  after_reads_at

theorem v3 (c : Dev nD) (b : Fin 16) (i : Fin 2304) (e : Fin 1024) : (V m c main_v3 : Vec Ideal S16x2304x1024 .f32) (ix3 b i e)
    = xrow (m ((c : Thread nD τ).loc main_arg5)) (m ((c : Thread nD τ).loc main_arg6)) b i e := by
  unfold V xrow
  after_reads_at

theorem v2 (c : Dev nD) (b : Fin 17) (k : Fin 6) (e : Fin 1024) : (V m c main_v2 : Vec Ideal S17x6x1024 .f32) (ix3 b k e)
    = if h : b.val < 16 then m ((c : Thread nD τ).loc main_arg7) (ix2 ⟨b.val, h⟩ ⟨k.val * 1024 + e.val, by omega⟩)
      else m ((c : Thread nD τ).loc main_arg8) (ix1 ⟨k.val * 1024 + e.val, by omega⟩) := by
  unfold V
  after_reads_at
  by_cases hb : b.val < 16
  · rw [dif_pos hb, dif_pos hb]
    after_reads_at
  · rw [dif_neg hb, dif_neg hb]
    after_reads_at

end Cert.Kernel3Ideal.KVal

end
-- ==== Proof.PFin.lean ====
module

public import proofs.«01_k».proof.Proof.PBlk

@[expose] public section

set_option maxRecDepth 16384

noncomputable section

/-! The arrays the mixer's output leaves. -/
namespace Cert.Kernel3Ideal.KVal

open Idealize.ShloMosaic Idealize.ShloMosaic.TcCoe Idealize.SL.Sem Cert.Kernel3Ideal Cert.Kernel3Ideal.Gen Cert.Norm

variable (m : (ℓ : Loc nD τ sig) → Buf (Elt Ideal) ℓ)

/-- A token after the mixer, from the arguments. -/
def kmid (c : Dev nD) (b : Fin 16) (i : Fin 2304) : Fin 1024 → EReal :=
  smid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b i

/-- That token normed, scaled and shifted. -/
def khid (c : Dev nD) (b : Fin 16) (i : Fin 2304) : Fin 1024 → EReal :=
  shid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b i

/-- The modulation a step's block holds is that of its token. -/
theorem mod_at (c : Dev nD) (t : Fin cfg0.N) (b : Fin 16) (i : Fin 2304) (ht : t.val = b.val * 9 + i.val / 256) (k : Fin 6) (e : Fin 1024) :
    iblk m c 6 t (ix3 0 k e) = mrow (m ((c : Thread nD τ).loc main_arg7)) (m ((c : Thread nD τ).loc main_arg8)) k b i e := by
  have h9 : t.val / 9 = b.val := by omega
  have h8 : t.val % 9 = i.val / 256 := by omega
  have hlt : (if t.val % 9 = 0 then 16 else t.val / 9) < 17 := by split <;> omega
  refine (blk6 m c t k e hlt).trans ((v2 m c _ k e).trans ?_)
  unfold mrow
  by_cases hi : i.val < 256
  · have h0 : t.val % 9 = 0 := by omega
    rw [if_pos hi, dif_neg (by show ¬ (if t.val % 9 = 0 then 16 else t.val / 9) < 16; rw [if_pos h0]; omega)]
  · have h0 : ¬ t.val % 9 = 0 := by omega
    rw [if_neg hi, dif_pos (by show (if t.val % 9 = 0 then 16 else t.val / 9) < 16; rw [if_neg h0]; omega)]
    refine congrArg (m ((c : Thread nD τ).loc main_arg7)) ?_
    congr 1
    exact Fin.ext (by show (if t.val % 9 = 0 then 16 else t.val / 9) = b.val; rw [if_neg h0]; exact h9)

theorem bmid_blk (c : Dev nD) (t : Fin cfg0.N) (b : Fin 16) (i : Fin 2304) (ht : t.val = b.val * 9 + i.val / 256) (r : Fin 256) (hr : r.val = i.val % 256) :
    bmid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r = kmid m c b i := by
  have hb : t.val / 9 < 16 := by omega
  have e0 : (⟨t.val / 9, hb⟩ : Fin 16) = b := Fin.ext (by show t.val / 9 = b.val; omega)
  have e1 : (⟨t.val % 9 * 256 + r.val, by omega⟩ : Fin 2304) = i := Fin.ext (by show t.val % 9 * 256 + r.val = i.val; omega)
  have p0 : ∀ e, iblk m c 0 t (ix3 0 r e) = (m ((c : Thread nD τ).loc main_arg0)) (ix3 b i e) := fun e => by rw [blk0 m c t r e hb, e0, e1, V_main_arg0]
  have p1 : ∀ e, iblk m c 1 t (ix3 0 r e) = (m ((c : Thread nD τ).loc main_arg1)) (ix3 b i e) := fun e => by rw [blk1 m c t r e hb, e0, e1, V_main_arg1]
  have p2 : ∀ e, iblk m c 2 t (ix3 0 r e) = (m ((c : Thread nD τ).loc main_arg2)) (ix3 b i e) := fun e => by rw [blk2 m c t r e hb, e0, e1, V_main_arg2]
  have p3 : ∀ e, iblk m c 3 t (ix3 0 r e) = (m ((c : Thread nD τ).loc main_arg3)) (ix3 b i e) := fun e => by rw [blk3 m c t r e hb, e0, e1, V_main_arg3]
  have p4 : ∀ e : Fin 256, iblk m c 4 t (ix3 0 r e) = (m ((c : Thread nD τ).loc main_arg4)) (ix3 b i (⟨3072 + e.val, by omega⟩ : Fin 3328)) := fun e => by rw [blk4 m c t r e hb, e0, e1, V_main_arg4]
  have p5 : ∀ e, iblk m c 5 t (ix3 0 r e) = xrow (m ((c : Thread nD τ).loc main_arg5)) (m ((c : Thread nD τ).loc main_arg6)) b i e := fun e => by rw [blk5 m c t r e hb, e0, e1, v3]
  have p7 : ∀ e, iblk m c 7 t (ix2 0 e) = (m ((c : Thread nD τ).loc main_arg9)) (ix1 e) := fun e => by rw [blk7 m c t]; exact v8 m c e
  have p8 : ∀ d l, iblk m c 8 t (ix2 d l) = (m ((c : Thread nD τ).loc main_arg10)) (ix2 d l) := fun d l => by rw [blk8 m c t]; exact v4 m c d l
  unfold bmid kmid smid
  congr 1
  · exact funext p0
  · exact funext p1
  · exact funext p2
  · funext e; rw [p3, p4]
  · exact funext p7
  · exact funext p5
  · exact funext fun e => mod_at m c t b i ht 2 e
  · funext d l; exact p8 d l

theorem bhid_blk (c : Dev nD) (t : Fin cfg0.N) (b : Fin 16) (i : Fin 2304) (ht : t.val = b.val * 9 + i.val / 256) (r : Fin 256) (hr : r.val = i.val % 256) :
    bhid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r = khid m c b i := by
  unfold bhid khid shid
  congr 1
  · exact bmid_blk m c t b i ht r hr
  · funext e; rw [blk9 m c t]; exact v9 m c e
  · exact funext fun e => mod_at m c t b i ht 4 e
  · exact funext fun e => mod_at m c t b i ht 3 e

theorem arr13_at (c : Dev nD) (b : Fin 16) (i : Fin 2304) (l : Fin 1024) :
    ((dats m 0 c).arrAt 13 cfg0.N : Vec Ideal S16x2304x1024 .f32) (ix3 b i l) = kmid m c b i l := by
  have hN : cfg0.N = 144 := by decide
  let t : Fin cfg0.N := ⟨b.val * 9 + i.val / 256, by rw [hN]; omega⟩
  have ht : t.val = b.val * 9 + i.val / 256 := rfl
  have hi := (idxC t).1
  have hb := congrFun (Cert.Kernel3Ideal.Value.blocks13 m c t (flush13 t)) (ix3 0 (⟨i.val % 256, by omega⟩ : Fin 256) l)
  rw [Cert.Kernel3Ideal.Value.flushed13] at hb
  have e0 : win0_13.index t 0 = t.val / 9 := congrFun hi 0
  have e1 : win0_13.index t 1 = t.val % 9 := congrFun hi 1
  have e2 : win0_13.index t 2 = 0 := congrFun hi 2
  have he : ((cfg0.win 13).blk t).view.emb (ix3 0 (⟨i.val % 256, by omega⟩ : Fin 256) l) = (ix3 b i l : S16x2304x1024.Idx) := by
    funext z
    match z with
    | ⟨0, _⟩ => exact Fin.ext (by show win0_13.index t 0 * 1 + 1 * 0 = b.val; rw [e0]; omega)
    | ⟨1, _⟩ => exact Fin.ext (by show win0_13.index t 1 * 256 + 1 * (i.val % 256) = i.val; rw [e1]; omega)
    | ⟨2, _⟩ => exact Fin.ext (by show win0_13.index t 2 * 1024 + 1 * l.val = l.val; rw [e2]; omega)
  refine Eq.trans ?_ (congrFun (bmid_blk m c t b i ht ⟨i.val % 256, by omega⟩ rfl) l)
  refine Eq.trans ?_ (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (⟨i.val % 256, by omega⟩ : Fin 256) l)
  refine Eq.trans (congrArg _ he.symm) (hb.trans ?_)
  refine congrArg (out0_13 _ _ _ _ _ _ _ _ _ _ _ _ _) ?_
  funext z
  match z with
  | ⟨0, _⟩ => rfl
  | ⟨1, _⟩ => rfl
  | ⟨2, _⟩ => rfl

theorem arr14_at (c : Dev nD) (b : Fin 16) (i : Fin 2304) (l : Fin 1024) :
    ((dats m 0 c).arrAt 14 cfg0.N : Vec Ideal S16x2304x1024 .f32) (ix3 b i l) = khid m c b i l := by
  have hN : cfg0.N = 144 := by decide
  let t : Fin cfg0.N := ⟨b.val * 9 + i.val / 256, by rw [hN]; omega⟩
  have ht : t.val = b.val * 9 + i.val / 256 := rfl
  have hi := (idxC t).2.1
  have hb := congrFun (Cert.Kernel3Ideal.Value.blocks14 m c t (flush14 t)) (ix3 0 (⟨i.val % 256, by omega⟩ : Fin 256) l)
  rw [Cert.Kernel3Ideal.Value.flushed14] at hb
  have e0 : win0_14.index t 0 = t.val / 9 := congrFun hi 0
  have e1 : win0_14.index t 1 = t.val % 9 := congrFun hi 1
  have e2 : win0_14.index t 2 = 0 := congrFun hi 2
  have he : ((cfg0.win 14).blk t).view.emb (ix3 0 (⟨i.val % 256, by omega⟩ : Fin 256) l) = (ix3 b i l : S16x2304x1024.Idx) := by
    funext z
    match z with
    | ⟨0, _⟩ => exact Fin.ext (by show win0_14.index t 0 * 1 + 1 * 0 = b.val; rw [e0]; omega)
    | ⟨1, _⟩ => exact Fin.ext (by show win0_14.index t 1 * 256 + 1 * (i.val % 256) = i.val; rw [e1]; omega)
    | ⟨2, _⟩ => exact Fin.ext (by show win0_14.index t 2 * 1024 + 1 * l.val = l.val; rw [e2]; omega)
  refine Eq.trans ?_ (congrFun (bhid_blk m c t b i ht ⟨i.val % 256, by omega⟩ rfl) l)
  refine Eq.trans ?_ (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (⟨i.val % 256, by omega⟩ : Fin 256) l)
  refine Eq.trans (congrArg _ he.symm) (hb.trans ?_)
  refine congrArg (out0_14 _ _ _ _ _ _ _ _ _ _ _ _ _) ?_
  funext z
  match z with
  | ⟨0, _⟩ => rfl
  | ⟨1, _⟩ => rfl
  | ⟨2, _⟩ => rfl

theorem arr15_at (c : Dev nD) (b : Fin 16) (i : Fin 2304) (g : Fin 16) (k : Fin 128) :
    ((dats m 0 c).arrAt 15 cfg0.N : Vec Ideal S16x128x36864 .f32) (ix3 g k (⟨b.val * 2304 + i.val, by omega⟩ : Fin 36864)) = ssc (khid m c b i) (m ((c : Thread nD τ).loc main_arg12)) (m ((c : Thread nD τ).loc main_arg13)) (m ((c : Thread nD τ).loc main_arg14)) g k := by
  have hN : cfg0.N = 144 := by decide
  let t : Fin cfg0.N := ⟨b.val * 9 + i.val / 256, by rw [hN]; omega⟩
  have ht : t.val = b.val * 9 + i.val / 256 := rfl
  have hi := (idxC t).2.2
  have hb := congrFun (Cert.Kernel3Ideal.Value.blocks15 m c t (flush15 t)) (ix3 g k (⟨i.val % 256, by omega⟩ : Fin 256))
  rw [Cert.Kernel3Ideal.Value.flushed15] at hb
  have e0 : win0_15.index t 0 = 0 := congrFun hi 0
  have e1 : win0_15.index t 1 = 0 := congrFun hi 1
  have e2 : win0_15.index t 2 = t.val := congrFun hi 2
  have he : ((cfg0.win 15).blk t).view.emb (ix3 g k (⟨i.val % 256, by omega⟩ : Fin 256)) = (ix3 g k (⟨b.val * 2304 + i.val, by omega⟩ : Fin 36864) : S16x128x36864.Idx) := by
    funext z
    match z with
    | ⟨0, _⟩ => exact Fin.ext (by show win0_15.index t 0 * 16 + 1 * g.val = g.val; rw [e0]; omega)
    | ⟨1, _⟩ => exact Fin.ext (by show win0_15.index t 1 * 128 + 1 * k.val = k.val; rw [e1]; omega)
    | ⟨2, _⟩ => exact Fin.ext (by show win0_15.index t 2 * 256 + 1 * (i.val % 256) = b.val * 2304 + i.val; rw [e2]; omega)
  have hs : ssc (khid m c b i) (m ((c : Thread nD τ).loc main_arg12)) (m ((c : Thread nD τ).loc main_arg13)) (m ((c : Thread nD τ).loc main_arg14)) g k = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 g k (⟨i.val % 256, by omega⟩ : Fin 256)) := by
    rw [out15_at, bhid_blk m c t b i ht ⟨i.val % 256, by omega⟩ rfl, blk10 m c t, blk11 m c t, blk12 m c t]
    unfold ssc
    have q0 : (fun d l => (m ((c : Thread nD τ).loc main_arg12)) (ix2 d l)) = fun d l => (V m c main_v5 : Vec Ideal S1024x2048 .bf16) (ix2 d l) := by funext d l; exact (v5 m c d l).symm
    have q1 : (fun k e => (m ((c : Thread nD τ).loc main_arg13)) (ix2 k e)) = fun k e => (V m c main_v6 : Vec Ideal S128x128 .bf16) (ix2 k e) := by funext k e; exact (v6 m c k e).symm
    have q2 : (fun k e => (m ((c : Thread nD τ).loc main_arg14)) (ix2 k e)) = fun k e => (V m c main_v7 : Vec Ideal S128x128 .bf16) (ix2 k e) := by funext k e; exact (v7 m c k e).symm
    rw [q0, q1, q2]
  refine Eq.trans ?_ hs.symm
  refine Eq.trans (congrArg _ he.symm) (hb.trans ?_)
  refine congrArg (out0_15 _ _ _ _ _ _ _ _ _ _ _ _ _) ?_
  funext z
  match z with
  | ⟨0, _⟩ => rfl
  | ⟨1, _⟩ => rfl
  | ⟨2, _⟩ => rfl

end Cert.Kernel3Ideal.KVal

end
-- ==== Proof.PRef.lean ====
module

public import proofs.«01_k».proof.Proof.PSpec
public import proofs.«01_k».proof.Proof.IRef
public import proofs.«01_k».proof.Proof.Gen.Reference3Ideal
public import Idealize.ShloMosaic.Lib.Pointwise
public import Idealize.ShloMosaic.Lib.Claim

@[expose] public section

set_option maxRecDepth 16384

noncomputable section

/-! The mixer's output of the reference, row by row. -/
namespace Cert.Reference3Ideal.RVal

open Idealize.ShloMosaic Idealize.ShloMosaic.TcCoe Cert.Reference3Ideal Cert.Reference3Ideal.Gen Cert.Norm

/-- The sums of squares of a group. -/
abbrev ssC (x : FVec Ideal S16x256x256 .f32) : FVec Ideal S16x256 .f32 := Host.reduceAdd (mulf x x) (constant S_ .f32 0x00000000#32) reducesTo_S16x256x256_S16x256_d2 h_S_
abbrev stC (x : FVec Ideal S16x256x1024 .f32) : FVec Ideal S16x256 .f32 := Host.reduceAdd (mulf x x) (constant S_ .f32 0x00000000#32) reducesTo_S16x256x1024_S16x256_d2 h_S_

theorem ssC_at (x : FVec Ideal S16x256x256 .f32) (b : Fin 16) (i : Fin 256) : (ssC x (ix2 b i) : EReal) = ∑ e : Fin 256, x (ix3 b i e) * x (ix3 b i e) := by
  refine (sum3 _ _ _ (by decide) _ b i).trans ?_
  exact (congrArg (· + _) Ideal.ofBits_zero_f32).trans (zero_add _)

theorem stC_at (x : FVec Ideal S16x256x1024 .f32) (b : Fin 16) (i : Fin 256) : (stC x (ix2 b i) : EReal) = ∑ e : Fin 1024, x (ix3 b i e) * x (ix3 b i e) := by
  refine (sum3 _ _ _ (by decide) _ b i).trans ?_
  exact (congrArg (· + _) Ideal.ofBits_zero_f32).trans (zero_add _)

/-- The four groups side by side. -/
def catC (P0 P1 P2 P3 : FVec Ideal S16x256x256 .f32) (S0 S1 S2 S3 : FVec Ideal S16x256 .f32) (g : FVec Ideal S1024 .f32) : FVec Ideal S16x256x1024 .f32 :=
  (concatenate S16x256x1024 2 [⟨S16x256x256, ((mulf (mulf P0 (broadcastInDim S16x256x256 ![0, 1, 2] bcast_S16x256x1_S16x256x256_0_1_2 (Host.rsqrt (addf (Host.divf (broadcastInDim S16x256x1 ![0, 1] bcast_S16x256_S16x256x1_0_1 S0) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 (extractStridedSlice S256 ![0] g slices_S1024_S256_0)))) : (⟨S16x256x256, .f32⟩ : BufTy).Contents (Elt Ideal))⟩, ⟨S16x256x256, ((mulf (mulf P1 (broadcastInDim S16x256x256 ![0, 1, 2] bcast_S16x256x1_S16x256x256_0_1_2 (Host.rsqrt (addf (Host.divf (broadcastInDim S16x256x1 ![0, 1] bcast_S16x256_S16x256x1_0_1 S1) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 (extractStridedSlice S256 ![256] g slices_S1024_S256_256)))) : (⟨S16x256x256, .f32⟩ : BufTy).Contents (Elt Ideal))⟩, ⟨S16x256x256, ((mulf (mulf P2 (broadcastInDim S16x256x256 ![0, 1, 2] bcast_S16x256x1_S16x256x256_0_1_2 (Host.rsqrt (addf (Host.divf (broadcastInDim S16x256x1 ![0, 1] bcast_S16x256_S16x256x1_0_1 S2) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 (extractStridedSlice S256 ![512] g slices_S1024_S256_512)))) : (⟨S16x256x256, .f32⟩ : BufTy).Contents (Elt Ideal))⟩, ⟨S16x256x256, ((mulf (mulf P3 (broadcastInDim S16x256x256 ![0, 1, 2] bcast_S16x256x1_S16x256x256_0_1_2 (Host.rsqrt (addf (Host.divf (broadcastInDim S16x256x1 ![0, 1] bcast_S16x256_S16x256x1_0_1 S3) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 (extractStridedSlice S256 ![768] g slices_S1024_S256_768)))) : (⟨S16x256x256, .f32⟩ : BufTy).Contents (Elt Ideal))⟩] concatenates_S16x256x256_S16x256x256_S16x256x256_S16x256x256_S16x256x1024_d2 : (⟨S16x256x1024, .f32⟩ : BufTy).Contents (Elt Ideal))

theorem catC_at (P0 P1 P2 P3 : FVec Ideal S16x256x256 .f32) (S0 S1 S2 S3 : FVec Ideal S16x256 .f32) (g : FVec Ideal S1024 .f32) (b : Fin 16) (i : Fin 256) (d : Fin 1024)
    (h0 : (S0 (ix2 b i) : EReal) = ∑ e : Fin 256, P0 (ix3 b i e) * P0 (ix3 b i e)) (h1 : (S1 (ix2 b i) : EReal) = ∑ e : Fin 256, P1 (ix3 b i e) * P1 (ix3 b i e)) (h2 : (S2 (ix2 b i) : EReal) = ∑ e : Fin 256, P2 (ix3 b i e) * P2 (ix3 b i e)) (h3 : (S3 (ix2 b i) : EReal) = ∑ e : Fin 256, P3 (ix3 b i e) * P3 (ix3 b i e)) :
    catC P0 P1 P2 P3 S0 S1 S2 S3 g (ix3 b i d) = mix (fun e => P0 (ix3 b i e)) (fun e => P1 (ix3 b i e)) (fun e => P2 (ix3 b i e)) (fun e => P3 (ix3 b i e)) (fun e => g (ix1 e)) d := by
  unfold mix rg rs
  rw [← h0, ← h1, ← h2, ← h3]
  pointwise [catC]

/-- The rows after the mixer. -/
def midC (x : FVec Ideal S16x256x1024 .f32) (mc : FVec Ideal S6144 .f32) (wo : FVec Ideal S1024x1024 .f32) (Y : FVec Ideal S16x256x1024 .f32) : FVec Ideal S16x256x1024 .f32 :=
  addf x (mulf (broadcastInDim S16x256x1024 ![0, 1, 2] bcast_S1x1x1024_S16x256x1024_0_1_2 (broadcastInDim S1x1x1024 ![2] bcast_S1024_S1x1x1024_2 (extractStridedSlice S1024 ![2048] mc slices_S6144_S1024_2048))) (Host.dotGeneral dot_S16x256x1024_S1024x1024_S16x256x1024_2_0_01_1_n_n none (Y) wo))

theorem midC_at (x : FVec Ideal S16x256x1024 .f32) (mc : FVec Ideal S6144 .f32) (wo : FVec Ideal S1024x1024 .f32) (Y : FVec Ideal S16x256x1024 .f32) (b : Fin 16) (i : Fin 256) (l : Fin 1024) :
    midC x mc wo Y (ix3 b i l) = x (ix3 b i l) + (fun e => mc (ix1 ⟨2048 + e.val, by omega⟩)) l * ∑ d : Fin 1024, Y (ix3 b i d) * wo (ix2 d l) := by
  pointwise [midC]

/-- The rows normed, scaled and shifted. -/
def hidC (x : FVec Ideal S16x256x1024 .f32) (S : FVec Ideal S16x256 .f32) (g : FVec Ideal S1024 .f32) (mc : FVec Ideal S6144 .f32) : FVec Ideal S16x256x1024 .f32 :=
  (addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 S) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![4096] mc slices_S6144_S1024_4096))))) (broadcastInDim S16x256x1024 ![0, 1, 2] bcast_S1x1x1024_S16x256x1024_0_1_2 (broadcastInDim S1x1x1024 ![2] bcast_S1024_S1x1x1024_2 (extractStridedSlice S1024 ![3072] mc slices_S6144_S1024_3072))))

theorem hidC_at (x : FVec Ideal S16x256x1024 .f32) (S : FVec Ideal S16x256 .f32) (g : FVec Ideal S1024 .f32) (mc : FVec Ideal S6144 .f32) (b : Fin 16) (i : Fin 256) (d : Fin 1024)
    (hS : (S (ix2 b i) : EReal) = ∑ e : Fin 1024, x (ix3 b i e) * x (ix3 b i e)) :
    hidC x S g mc (ix3 b i d) = hrow (fun e => x (ix3 b i e)) (fun e => g (ix1 e)) (fun e => mc (ix1 ⟨4096 + e.val, by omega⟩)) (fun e => mc (ix1 ⟨3072 + e.val, by omega⟩)) d := by
  unfold hrow rs
  rw [← hS]
  pointwise [hidC]

/-- The sums of squares of a group. -/
abbrev ssX (x : FVec Ideal S16x2048x256 .f32) : FVec Ideal S16x2048 .f32 := Host.reduceAdd (mulf x x) (constant S_ .f32 0x00000000#32) reducesTo_S16x2048x256_S16x2048_d2 h_S_
abbrev stX (x : FVec Ideal S16x2048x1024 .f32) : FVec Ideal S16x2048 .f32 := Host.reduceAdd (mulf x x) (constant S_ .f32 0x00000000#32) reducesTo_S16x2048x1024_S16x2048_d2 h_S_

theorem ssX_at (x : FVec Ideal S16x2048x256 .f32) (b : Fin 16) (i : Fin 2048) : (ssX x (ix2 b i) : EReal) = ∑ e : Fin 256, x (ix3 b i e) * x (ix3 b i e) := by
  refine (sum3 _ _ _ (by decide) _ b i).trans ?_
  exact (congrArg (· + _) Ideal.ofBits_zero_f32).trans (zero_add _)

theorem stX_at (x : FVec Ideal S16x2048x1024 .f32) (b : Fin 16) (i : Fin 2048) : (stX x (ix2 b i) : EReal) = ∑ e : Fin 1024, x (ix3 b i e) * x (ix3 b i e) := by
  refine (sum3 _ _ _ (by decide) _ b i).trans ?_
  exact (congrArg (· + _) Ideal.ofBits_zero_f32).trans (zero_add _)

/-- The four groups side by side. -/
def catX (P0 P1 P2 P3 : FVec Ideal S16x2048x256 .f32) (S0 S1 S2 S3 : FVec Ideal S16x2048 .f32) (g : FVec Ideal S1024 .f32) : FVec Ideal S16x2048x1024 .f32 :=
  (concatenate S16x2048x1024 2 [⟨S16x2048x256, ((mulf (mulf P0 (broadcastInDim S16x2048x256 ![0, 1, 2] bcast_S16x2048x1_S16x2048x256_0_1_2 (Host.rsqrt (addf (Host.divf (broadcastInDim S16x2048x1 ![0, 1] bcast_S16x2048_S16x2048x1_0_1 S0) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 (extractStridedSlice S256 ![0] g slices_S1024_S256_0)))) : (⟨S16x2048x256, .f32⟩ : BufTy).Contents (Elt Ideal))⟩, ⟨S16x2048x256, ((mulf (mulf P1 (broadcastInDim S16x2048x256 ![0, 1, 2] bcast_S16x2048x1_S16x2048x256_0_1_2 (Host.rsqrt (addf (Host.divf (broadcastInDim S16x2048x1 ![0, 1] bcast_S16x2048_S16x2048x1_0_1 S1) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 (extractStridedSlice S256 ![256] g slices_S1024_S256_256)))) : (⟨S16x2048x256, .f32⟩ : BufTy).Contents (Elt Ideal))⟩, ⟨S16x2048x256, ((mulf (mulf P2 (broadcastInDim S16x2048x256 ![0, 1, 2] bcast_S16x2048x1_S16x2048x256_0_1_2 (Host.rsqrt (addf (Host.divf (broadcastInDim S16x2048x1 ![0, 1] bcast_S16x2048_S16x2048x1_0_1 S2) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 (extractStridedSlice S256 ![512] g slices_S1024_S256_512)))) : (⟨S16x2048x256, .f32⟩ : BufTy).Contents (Elt Ideal))⟩, ⟨S16x2048x256, ((mulf (mulf P3 (broadcastInDim S16x2048x256 ![0, 1, 2] bcast_S16x2048x1_S16x2048x256_0_1_2 (Host.rsqrt (addf (Host.divf (broadcastInDim S16x2048x1 ![0, 1] bcast_S16x2048_S16x2048x1_0_1 S3) (broadcastInDim S16x2048x1 ![] bcast_S_S16x2048x1 (constant S_ .f32 0x43800000#32))) (broadcastInDim S16x2048x1 ![] bcast_S_S16x2048x1 (constant S_ .f32 0x358637BD#32)))))) (broadcastInDim S16x2048x256 ![0, 1, 2] bcast_S1x1x256_S16x2048x256_0_1_2 (broadcastInDim S1x1x256 ![2] bcast_S256_S1x1x256_2 (extractStridedSlice S256 ![768] g slices_S1024_S256_768)))) : (⟨S16x2048x256, .f32⟩ : BufTy).Contents (Elt Ideal))⟩] concatenates_S16x2048x256_S16x2048x256_S16x2048x256_S16x2048x256_S16x2048x1024_d2 : (⟨S16x2048x1024, .f32⟩ : BufTy).Contents (Elt Ideal))

theorem catX_at (P0 P1 P2 P3 : FVec Ideal S16x2048x256 .f32) (S0 S1 S2 S3 : FVec Ideal S16x2048 .f32) (g : FVec Ideal S1024 .f32) (b : Fin 16) (i : Fin 2048) (d : Fin 1024)
    (h0 : (S0 (ix2 b i) : EReal) = ∑ e : Fin 256, P0 (ix3 b i e) * P0 (ix3 b i e)) (h1 : (S1 (ix2 b i) : EReal) = ∑ e : Fin 256, P1 (ix3 b i e) * P1 (ix3 b i e)) (h2 : (S2 (ix2 b i) : EReal) = ∑ e : Fin 256, P2 (ix3 b i e) * P2 (ix3 b i e)) (h3 : (S3 (ix2 b i) : EReal) = ∑ e : Fin 256, P3 (ix3 b i e) * P3 (ix3 b i e)) :
    catX P0 P1 P2 P3 S0 S1 S2 S3 g (ix3 b i d) = mix (fun e => P0 (ix3 b i e)) (fun e => P1 (ix3 b i e)) (fun e => P2 (ix3 b i e)) (fun e => P3 (ix3 b i e)) (fun e => g (ix1 e)) d := by
  unfold mix rg rs
  rw [← h0, ← h1, ← h2, ← h3]
  pointwise [catX]

/-- The rows after the mixer. -/
def midX (x : FVec Ideal S16x2048x1024 .f32) (mm : FVec Ideal S16x6144 .f32) (wo : FVec Ideal S1024x1024 .f32) (Y : FVec Ideal S16x2048x1024 .f32) : FVec Ideal S16x2048x1024 .f32 :=
  addf x (mulf (broadcastInDim S16x2048x1024 ![0, 1, 2] bcast_S16x1x1024_S16x2048x1024_0_1_2 (extractStridedSlice S16x1x1024 ![0, 0, 2048] (broadcastInDim S16x1x6144 ![0, 2] bcast_S16x6144_S16x1x6144_0_2 mm) slices_S16x1x6144_S16x1x1024_0_0_2048)) (Host.dotGeneral dot_S16x2048x1024_S1024x1024_S16x2048x1024_2_0_01_1_n_n none (Y) wo))

theorem midX_at (x : FVec Ideal S16x2048x1024 .f32) (mm : FVec Ideal S16x6144 .f32) (wo : FVec Ideal S1024x1024 .f32) (Y : FVec Ideal S16x2048x1024 .f32) (b : Fin 16) (i : Fin 2048) (l : Fin 1024) :
    midX x mm wo Y (ix3 b i l) = x (ix3 b i l) + (fun e => mm (ix2 b ⟨2048 + e.val, by omega⟩)) l * ∑ d : Fin 1024, Y (ix3 b i d) * wo (ix2 d l) := by
  pointwise [midX]

/-- The rows normed, scaled and shifted. -/
def hidX (x : FVec Ideal S16x2048x1024 .f32) (S : FVec Ideal S16x2048 .f32) (g : FVec Ideal S1024 .f32) (mm : FVec Ideal S16x6144 .f32) : FVec Ideal S16x2048x1024 .f32 :=
  (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 S) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 4096] (broadcastInDim S16x1x6144 ![0, 2] bcast_S16x6144_S16x1x6144_0_2 mm) slices_S16x1x6144_S16x1x1024_0_0_4096)))) (broadcastInDim S16x2048x1024 ![0, 1, 2] bcast_S16x1x1024_S16x2048x1024_0_1_2 (extractStridedSlice S16x1x1024 ![0, 0, 3072] (broadcastInDim S16x1x6144 ![0, 2] bcast_S16x6144_S16x1x6144_0_2 mm) slices_S16x1x6144_S16x1x1024_0_0_3072)))

theorem hidX_at (x : FVec Ideal S16x2048x1024 .f32) (S : FVec Ideal S16x2048 .f32) (g : FVec Ideal S1024 .f32) (mm : FVec Ideal S16x6144 .f32) (b : Fin 16) (i : Fin 2048) (d : Fin 1024)
    (hS : (S (ix2 b i) : EReal) = ∑ e : Fin 1024, x (ix3 b i e) * x (ix3 b i e)) :
    hidX x S g mm (ix3 b i d) = hrow (fun e => x (ix3 b i e)) (fun e => g (ix1 e)) (fun e => mm (ix2 b ⟨4096 + e.val, by omega⟩)) (fun e => mm (ix2 b ⟨3072 + e.val, by omega⟩)) d := by
  unfold hrow rs
  rw [← hS]
  pointwise [hidX]

/-- The context's rows before the tokens'. -/
def joinR (A : FVec Ideal S16x256x1024 .f32) (B : FVec Ideal S16x2048x1024 .f32) : FVec Ideal S16x2304x1024 .f32 :=
  concatenate S16x2304x1024 1 [⟨S16x256x1024, A⟩, ⟨S16x2048x1024, B⟩] concatenates_S16x256x1024_S16x2048x1024_S16x2304x1024_d1

theorem joinR_at (A : FVec Ideal S16x256x1024 .f32) (B : FVec Ideal S16x2048x1024 .f32) (b : Fin 16) (i : Fin 2304) (l : Fin 1024) :
    (joinR A B (ix3 b i l) : EReal) = if h : i.val < 256 then A (ix3 b ⟨i.val, h⟩ l) else B (ix3 b ⟨i.val - 256, by omega⟩ l) := by
  pointwise [joinR]

/-- The queries, by token, head and half. -/
def queR (H : FVec Ideal S16x2304x1024 .f32) (wq : FVec Ideal S1024x2048 .f32) : FVec Ideal S36864x8x2x128 .f32 :=
  shapeCast _ (Host.dotGeneral dot_S36864x1024_S1024x2048_S36864x2048_1_0_0_1_n_n none (shapeCast _ H shapeCasts_S16x2304x1024_S36864x1024) wq) shapeCasts_S36864x2048_S36864x8x2x128

theorem queR_at (H : FVec Ideal S16x2304x1024 .f32) (wq : FVec Ideal S1024x2048 .f32) (b : Fin 16) (i : Fin 2304) (h : Fin 8) (u : Fin 2) (c : Fin 128) :
    queR H wq (ix4 (⟨b.val * 2304 + i.val, by omega⟩ : Fin 36864) h u c) = ∑ d : Fin 1024, H (ix3 b i d) * wq (ix2 d ⟨(h.val * 2 + u.val) * 128 + c.val, by omega⟩) := by
  pointwise [queR]
  refine Finset.sum_congr rfl fun d _ => ?_
  congr 3
  exact Fin.ext (by simp only []; omega)

/-- The scores. -/
def scoR (Q : FVec Ideal S36864x8x2x128 .f32) (k1 k2 : FVec Ideal S128x128 .f32) : FVec Ideal S16x128x36864 .f32 :=
  transpose S16x128x36864 [1, 2, 0] (shapeCast _ (concatenate S36864x8x2x128 2 [⟨S36864x8x1x128, (broadcastInDim S36864x8x1x128 ![0, 1, 3] bcast_S36864x8x128_S36864x8x1x128_0_1_3 (Host.dotGeneral dot_S36864x8x128_S128x128_S36864x8x128_2_1_01_0_n_n none (shapeCast _ (extractStridedSlice S36864x8x1x128 ![0, 0, 0, 0] Q slices_S36864x8x2x128_S36864x8x1x128_0_0_0_0) shapeCasts_S36864x8x1x128_S36864x8x128) k1))⟩, ⟨S36864x8x1x128, (broadcastInDim S36864x8x1x128 ![0, 1, 3] bcast_S36864x8x128_S36864x8x1x128_0_1_3 (Host.dotGeneral dot_S36864x8x128_S128x128_S36864x8x128_2_1_01_0_n_n none (shapeCast _ (extractStridedSlice S36864x8x1x128 ![0, 0, 1, 0] Q slices_S36864x8x2x128_S36864x8x1x128_0_0_1_0) shapeCasts_S36864x8x1x128_S36864x8x128) k2))⟩] concatenates_S36864x8x1x128_S36864x8x1x128_S36864x8x2x128_d2) shapeCasts_S36864x8x2x128_S36864x16x128) transposes_S36864x16x128_S16x128x36864_1_2_0

theorem scoR_at (Q : FVec Ideal S36864x8x2x128 .f32) (k1 k2 : FVec Ideal S128x128 .f32) (g : Fin 16) (k : Fin 128) (t : Fin 36864) :
    (scoR Q k1 k2 (ix3 g k t) : EReal) = ∑ c : Fin 128, Q (ix4 t ⟨g.val / 2, by omega⟩ ⟨g.val % 2, by omega⟩ c) * (if g.val % 2 = 0 then k1 (ix2 k c) else k2 (ix2 k c)) := by
  pointwise [scoR]
  by_cases h : g.val % 2 = 0
  · rw [dif_pos (by omega)]
    simp only [h, if_true]
    rfl
  · have h1 : g.val % 2 = 1 := by omega
    rw [dif_neg (by omega)]
    simp only [h1, one_ne_zero, if_false]
    rfl

end Cert.Reference3Ideal.RVal

end
-- ==== Proof.PMid.lean ====
module

public import proofs.«01_k».proof.Proof.PRef

@[expose] public section

set_option maxRecDepth 16384

noncomputable section

/-! The three results of the reference of the mixer's output. -/
namespace Cert.Reference3Ideal.RVal

open Idealize.ShloMosaic Idealize.ShloMosaic.TcCoe Cert.Reference3Ideal Cert.Reference3Ideal.Gen Cert.Norm

/-- A piece of a group's rows. -/
def cutC (y : FVec Ideal S16x2304x256 .f32) : FVec Ideal S16x256x256 .f32 := extractStridedSlice S16x256x256 ![0, 0, 0] y slices_S16x2304x256_S16x256x256_0_0_0

/-- A piece of the gates. -/
def pcutC (y : FVec Ideal S16x2304x3328 .f32) : FVec Ideal S16x256x256 .f32 := extractStridedSlice S16x256x256 ![0, 0, 3072] y slices_S16x2304x3328_S16x256x256_0_0_3072

/-- The gated group. -/
def gatC (y p : FVec Ideal S16x256x256 .f32) : FVec Ideal S16x256x256 .f32 :=
  mulf y (mulf p (Host.divf (broadcastInDim S16x256x256 ![] bcast_S_S16x256x256 (constant S_ .f32 0x3F800000#32)) (addf (broadcastInDim S16x256x256 ![] bcast_S_S16x256x256 (constant S_ .f32 0x3F800000#32)) (Host.exp (Host.negf p)))))

theorem gatC_at (y p : FVec Ideal S16x256x256 .f32) (b : Fin 16) (i : Fin 256) (e : Fin 256) :
    gatC y p (ix3 b i e) = y (ix3 b i e) * gate (p (ix3 b i e)) := by
  rw [← gate_eq]
  pointwise [gatC]

/-- A piece of a group's rows. -/
def cutX (y : FVec Ideal S16x2304x256 .f32) : FVec Ideal S16x2048x256 .f32 := extractStridedSlice S16x2048x256 ![0, 256, 0] y slices_S16x2304x256_S16x2048x256_0_256_0

/-- A piece of the gates. -/
def pcutX (y : FVec Ideal S16x2304x3328 .f32) : FVec Ideal S16x2048x256 .f32 := extractStridedSlice S16x2048x256 ![0, 256, 3072] y slices_S16x2304x3328_S16x2048x256_0_256_3072

/-- The gated group. -/
def gatX (y p : FVec Ideal S16x2048x256 .f32) : FVec Ideal S16x2048x256 .f32 :=
  mulf y (mulf p (Host.divf (broadcastInDim S16x2048x256 ![] bcast_S_S16x2048x256 (constant S_ .f32 0x3F800000#32)) (addf (broadcastInDim S16x2048x256 ![] bcast_S_S16x2048x256 (constant S_ .f32 0x3F800000#32)) (Host.exp (Host.negf p)))))

theorem gatX_at (y p : FVec Ideal S16x2048x256 .f32) (b : Fin 16) (i : Fin 2048) (e : Fin 256) :
    gatX y p (ix3 b i e) = y (ix3 b i e) * gate (p (ix3 b i e)) := by
  rw [← gate_eq]
  pointwise [gatX]

theorem cutC_at (y : FVec Ideal S16x2304x256 .f32) (b : Fin 16) (i : Fin 2304) (h : i.val < 256) (e : Fin 256) : cutC y (ix3 b (⟨i.val, h⟩ : Fin 256) e) = y (ix3 b i e) := by
  pointwise [cutC]

theorem cutX_at (y : FVec Ideal S16x2304x256 .f32) (b : Fin 16) (i : Fin 2304) (h : ¬ i.val < 256) (e : Fin 256) : cutX y (ix3 b (⟨i.val - 256, by omega⟩ : Fin 2048) e) = y (ix3 b i e) := by
  have hi : (⟨256 + (i.val - 256), by omega⟩ : Fin 2304) = i := Fin.ext (by show 256 + (i.val - 256) = i.val; omega)
  refine Eq.trans ?_ (congrArg (fun j => y (ix3 b j e)) hi)
  pointwise [cutX]

theorem pcutC_at (y : FVec Ideal S16x2304x3328 .f32) (b : Fin 16) (i : Fin 2304) (h : i.val < 256) (e : Fin 256) : pcutC y (ix3 b (⟨i.val, h⟩ : Fin 256) e) = y (ix3 b i (⟨3072 + e.val, by omega⟩ : Fin 3328)) := by
  pointwise [pcutC]

theorem pcutX_at (y : FVec Ideal S16x2304x3328 .f32) (b : Fin 16) (i : Fin 2304) (h : ¬ i.val < 256) (e : Fin 256) : pcutX y (ix3 b (⟨i.val - 256, by omega⟩ : Fin 2048) e) = y (ix3 b i (⟨3072 + e.val, by omega⟩ : Fin 3328)) := by
  have hi : (⟨256 + (i.val - 256), by omega⟩ : Fin 2304) = i := Fin.ext (by show 256 + (i.val - 256) = i.val; omega)
  refine Eq.trans ?_ (congrArg (fun j => y (ix3 b j (⟨3072 + e.val, by omega⟩ : Fin 3328))) hi)
  pointwise [pcutX]

/-- The rows after the mixer, from the arguments. -/
def rmC (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) : FVec Ideal S16x256x1024 .f32 :=
  midC ctx mc wo (catC (cutC ya) (cutC yb) (cutC yc) (gatC (cutC od) (pcutC pj)) (ssC (cutC ya)) (ssC (cutC yb)) (ssC (cutC yc)) (ssC (gatC (cutC od) (pcutC pj))) gn)

theorem rmC_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (b : Fin 16) (i : Fin 2304) (h : i.val < 256) (l : Fin 1024) :
    rmC ya yb yc od pj x ctx mm mc gn wo (ix3 b (⟨i.val, h⟩ : Fin 256) l) = smid ya yb yc od pj x ctx mm mc gn wo b i l := by
  unfold rmC smid mid
  refine (midC_at _ _ _ _ _ _ _).trans ?_
  have hs : ∀ d : Fin 1024, catC (cutC ya) (cutC yb) (cutC yc) (gatC (cutC od) (pcutC pj)) (ssC (cutC ya)) (ssC (cutC yb)) (ssC (cutC yc)) (ssC (gatC (cutC od) (pcutC pj))) gn (ix3 b (⟨i.val, h⟩ : Fin 256) d) = mix (fun e => ya (ix3 b i e)) (fun e => yb (ix3 b i e)) (fun e => yc (ix3 b i e)) (fun e => od (ix3 b i e) * gate (pj (ix3 b i ⟨3072 + e.val, by omega⟩))) (fun e => gn (ix1 e)) d := fun d => by
    refine (catC_at _ _ _ _ _ _ _ _ _ _ _ _ (ssC_at _ _ _) (ssC_at _ _ _) (ssC_at _ _ _) (ssC_at _ _ _)).trans ?_
    have p0 := funext (cutC_at ya b i h)
    have p1 := funext (cutC_at yb b i h)
    have p2 := funext (cutC_at yc b i h)
    have p3 : ∀ e, gatC (cutC od) (pcutC pj) (ix3 b (⟨i.val, h⟩ : Fin 256) e) = od (ix3 b i e) * gate (pj (ix3 b i (⟨3072 + e.val, by omega⟩ : Fin 3328))) := fun e => by
      rw [gatC_at, cutC_at od b i h, pcutC_at pj b i h]
    rw [p0, p1, p2, funext p3]
  have hm : mrow mm mc 2 b i l = mc (ix1 ⟨2048 + l.val, by omega⟩) := by
    unfold mrow; rw [if_pos h]; rfl
  have hx : xrow x ctx b i l = ctx (ix3 b (⟨i.val, h⟩ : Fin 256) l) := by unfold xrow; rw [dif_pos h]
  rw [hm, hx, Finset.sum_congr rfl fun d _ => congrArg (· * wo (ix2 d l)) (hs d)]

/-- The rows normed, from the arguments. -/
def rhC (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) : FVec Ideal S16x256x1024 .f32 :=
  hidC (rmC ya yb yc od pj x ctx mm mc gn wo) (stC (rmC ya yb yc od pj x ctx mm mc gn wo)) nf mc

theorem rhC_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) (b : Fin 16) (i : Fin 2304) (h : i.val < 256) (l : Fin 1024) :
    rhC ya yb yc od pj x ctx mm mc gn wo nf (ix3 b (⟨i.val, h⟩ : Fin 256) l) = shid ya yb yc od pj x ctx mm mc gn wo nf b i l := by
  unfold rhC shid
  refine (hidC_at _ _ _ _ _ _ _ (stC_at _ _ _)).trans ?_
  have h4 : mrow mm mc 4 b i = fun l => mc (ix1 ⟨4096 + l.val, by omega⟩) := by
    funext l; unfold mrow; rw [if_pos h]; rfl
  have h3 : mrow mm mc 3 b i = fun l => mc (ix1 ⟨3072 + l.val, by omega⟩) := by
    funext l; unfold mrow; rw [if_pos h]; rfl
  rw [h4, h3, funext (rmC_at ya yb yc od pj x ctx mm mc gn wo b i h)]

/-- The rows after the mixer, from the arguments. -/
def rmX (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) : FVec Ideal S16x2048x1024 .f32 :=
  midX x mm wo (catX (cutX ya) (cutX yb) (cutX yc) (gatX (cutX od) (pcutX pj)) (ssX (cutX ya)) (ssX (cutX yb)) (ssX (cutX yc)) (ssX (gatX (cutX od) (pcutX pj))) gn)

theorem rmX_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (b : Fin 16) (i : Fin 2304) (h : ¬ i.val < 256) (l : Fin 1024) :
    rmX ya yb yc od pj x ctx mm mc gn wo (ix3 b (⟨i.val - 256, by omega⟩ : Fin 2048) l) = smid ya yb yc od pj x ctx mm mc gn wo b i l := by
  unfold rmX smid mid
  refine (midX_at _ _ _ _ _ _ _).trans ?_
  have hs : ∀ d : Fin 1024, catX (cutX ya) (cutX yb) (cutX yc) (gatX (cutX od) (pcutX pj)) (ssX (cutX ya)) (ssX (cutX yb)) (ssX (cutX yc)) (ssX (gatX (cutX od) (pcutX pj))) gn (ix3 b (⟨i.val - 256, by omega⟩ : Fin 2048) d) = mix (fun e => ya (ix3 b i e)) (fun e => yb (ix3 b i e)) (fun e => yc (ix3 b i e)) (fun e => od (ix3 b i e) * gate (pj (ix3 b i ⟨3072 + e.val, by omega⟩))) (fun e => gn (ix1 e)) d := fun d => by
    refine (catX_at _ _ _ _ _ _ _ _ _ _ _ _ (ssX_at _ _ _) (ssX_at _ _ _) (ssX_at _ _ _) (ssX_at _ _ _)).trans ?_
    have p0 := funext (cutX_at ya b i h)
    have p1 := funext (cutX_at yb b i h)
    have p2 := funext (cutX_at yc b i h)
    have p3 : ∀ e, gatX (cutX od) (pcutX pj) (ix3 b (⟨i.val - 256, by omega⟩ : Fin 2048) e) = od (ix3 b i e) * gate (pj (ix3 b i (⟨3072 + e.val, by omega⟩ : Fin 3328))) := fun e => by
      rw [gatX_at, cutX_at od b i h, pcutX_at pj b i h]
    rw [p0, p1, p2, funext p3]
  have hm : mrow mm mc 2 b i l = mm (ix2 b ⟨2048 + l.val, by omega⟩) := by
    unfold mrow; rw [if_neg h]; rfl
  have hx : xrow x ctx b i l = x (ix3 b (⟨i.val - 256, by omega⟩ : Fin 2048) l) := by unfold xrow; rw [dif_neg h]
  rw [hm, hx, Finset.sum_congr rfl fun d _ => congrArg (· * wo (ix2 d l)) (hs d)]

/-- The rows normed, from the arguments. -/
def rhX (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) : FVec Ideal S16x2048x1024 .f32 :=
  hidX (rmX ya yb yc od pj x ctx mm mc gn wo) (stX (rmX ya yb yc od pj x ctx mm mc gn wo)) nf mm

theorem rhX_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) (b : Fin 16) (i : Fin 2304) (h : ¬ i.val < 256) (l : Fin 1024) :
    rhX ya yb yc od pj x ctx mm mc gn wo nf (ix3 b (⟨i.val - 256, by omega⟩ : Fin 2048) l) = shid ya yb yc od pj x ctx mm mc gn wo nf b i l := by
  unfold rhX shid
  refine (hidX_at _ _ _ _ _ _ _ (stX_at _ _ _)).trans ?_
  have h4 : mrow mm mc 4 b i = fun l => mm (ix2 b ⟨4096 + l.val, by omega⟩) := by
    funext l; unfold mrow; rw [if_neg h]; rfl
  have h3 : mrow mm mc 3 b i = fun l => mm (ix2 b ⟨3072 + l.val, by omega⟩) := by
    funext l; unfold mrow; rw [if_neg h]; rfl
  rw [h4, h3, funext (rmX_at ya yb yc od pj x ctx mm mc gn wo b i h)]

/-- The first result. -/
def rm (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) : FVec Ideal S16x2304x1024 .f32 := joinR (rmC ya yb yc od pj x ctx mm mc gn wo) (rmX ya yb yc od pj x ctx mm mc gn wo)

/-- The second result. -/
def rh (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) : FVec Ideal S16x2304x1024 .f32 := joinR (rhC ya yb yc od pj x ctx mm mc gn wo nf) (rhX ya yb yc od pj x ctx mm mc gn wo nf)

theorem rm_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (b : Fin 16) (i : Fin 2304) (l : Fin 1024) : rm ya yb yc od pj x ctx mm mc gn wo (ix3 b i l) = smid ya yb yc od pj x ctx mm mc gn wo b i l := by
  unfold rm
  refine (joinR_at _ _ _ _ _).trans ?_
  by_cases h : i.val < 256
  · rw [dif_pos h]; exact rmC_at ya yb yc od pj x ctx mm mc gn wo b i h l
  · rw [dif_neg h]; exact rmX_at ya yb yc od pj x ctx mm mc gn wo b i h l

theorem rh_at (ya yb yc od : FVec Ideal S16x2304x256 .f32) (pj : FVec Ideal S16x2304x3328 .f32) (x : FVec Ideal S16x2048x1024 .f32) (ctx : FVec Ideal S16x256x1024 .f32) (mm : FVec Ideal S16x6144 .f32) (mc : FVec Ideal S6144 .f32) (gn : FVec Ideal S1024 .f32) (wo : FVec Ideal S1024x1024 .f32) (nf : FVec Ideal S1024 .f32) (b : Fin 16) (i : Fin 2304) (l : Fin 1024) : rh ya yb yc od pj x ctx mm mc gn wo nf (ix3 b i l) = shid ya yb yc od pj x ctx mm mc gn wo nf b i l := by
  unfold rh
  refine (joinR_at _ _ _ _ _).trans ?_
  by_cases h : i.val < 256
  · rw [dif_pos h]; exact rhC_at ya yb yc od pj x ctx mm mc gn wo nf b i h l
  · rw [dif_neg h]; exact rhX_at ya yb yc od pj x ctx mm mc gn wo nf b i h l

/-- The scores of hidden rows. -/
theorem sco_at (H : FVec Ideal S16x2304x1024 .f32) (wq : FVec Ideal S1024x2048 .f32) (k1 k2 : FVec Ideal S128x128 .f32) (b : Fin 16) (i : Fin 2304) (g : Fin 16) (k : Fin 128)
    (y : Fin 1024 → EReal) (hy : ∀ l, H (ix3 b i l) = y l) :
    (scoR (queR H wq) k1 k2 (ix3 g k (⟨b.val * 2304 + i.val, by omega⟩ : Fin 36864)) : EReal) = ssc y wq k1 k2 g k := by
  refine (scoR_at _ _ _ _ _ _).trans ?_
  unfold ssc score qrow
  refine Finset.sum_congr rfl fun c _ => ?_
  rw [queR_at]
  refine (mul_comm _ _).trans ?_
  have e : (⟨(g.val / 2 * 2 + g.val % 2) * 128 + c.val, by omega⟩ : Fin 2048) = ⟨g.val * 128 + c.val, by omega⟩ := Fin.ext (by show (g.val / 2 * 2 + g.val % 2) * 128 + c.val = g.val * 128 + c.val; omega)
  refine congrArg (_ * ·) (Finset.sum_congr rfl fun d _ => ?_)
  rw [hy d]
  exact congrArg (y d * ·) (congrArg (fun l => wq (ix2 d l)) e)

end Cert.Reference3Ideal.RVal

end
-- ==== Proof.PEnd.lean ====
module

public import proofs.«01_k».proof.Defs
public import proofs.«01_k».proof.Proof.PFin
public import proofs.«01_k».proof.Proof.PMid
public import proofs.«01_k».proof.Proof.Gen.Reference3Ideal.Run
public import Idealize.ShloMosaic.Lib.Claim

@[expose] public section

set_option maxRecDepth 16384

noncomputable section

/-! The two programs of the mixer's output give the same three results. -/
namespace Cert.Proof

open Idealize.ShloMosaic Idealize.ShloMosaic.TcCoe Idealize.SL.Sem Idealize.ShloMosaic.StableHlo Cert.Norm
open Cert.Reference3Ideal.RVal Cert.Kernel3Ideal.KVal

section
variable (m : (ℓ : Loc Cert.Kernel3Ideal.nD Cert.Kernel3Ideal.τ Cert.Kernel3Ideal.sig) → Buf (Elt Ideal) ℓ) (c : Dev Cert.Kernel3Ideal.nD)
  (ya yb yc od : A3 2304 256) (pj : A3 2304 3328) (x : A3 2048 1024) (ctx : A3 256 1024) (mm : A2 16 6144) (mc : A1 6144) (gn : A1 1024) (wo : A2 1024 1024) (nf : A1 1024) (wq : A2 1024 2048) (k1 k2 : A2 128 128)

theorem mid_eq (h0 : ya = (m ((c : Thread Cert.Kernel3Ideal.nD Cert.Kernel3Ideal.τ).loc Cert.Kernel3Ideal.main_arg0))) (h1 : yb = (m ((c : Thread Cert.Kernel3Ideal.nD Cert.Kernel3Ideal.τ).loc Cert.Kernel3Ideal.main_arg1))) (h2 : yc = (m ((c : Thread Cert.Kernel3Ideal.nD Cert.Kernel3Ideal.τ).loc Cert.Kernel3Ideal.main_arg2))) (h3 : od = (m ((c : Thread Cert.Kernel3Ideal.nD Cert.Kernel3Ideal.τ).loc Cert.Kernel3Ideal.main_arg3))) (h4 : pj = (m ((c : Thread Cert.Kernel3Ideal.nD Cert.Kernel3Ideal.τ).loc Cert.Kernel3Ideal.main_arg4))) (h5 : x = (m ((c : Thread Cert.Kernel3Ideal.nD Cert.Kernel3Ideal.τ).loc Cert.Kernel3Ideal.main_arg5))) (h6 : ctx = (m ((c : Thread Cert.Kernel3Ideal.nD Cert.Kernel3Ideal.τ).loc Cert.Kernel3Ideal.main_arg6))) (h7 : mm = (m ((c : Thread Cert.Kernel3Ideal.nD Cert.Kernel3Ideal.τ).loc Cert.Kernel3Ideal.main_arg7))) (h8 : mc = (m ((c : Thread Cert.Kernel3Ideal.nD Cert.Kernel3Ideal.τ).loc Cert.Kernel3Ideal.main_arg8))) (h9 : gn = (m ((c : Thread Cert.Kernel3Ideal.nD Cert.Kernel3Ideal.τ).loc Cert.Kernel3Ideal.main_arg9))) (h10 : wo = (m ((c : Thread Cert.Kernel3Ideal.nD Cert.Kernel3Ideal.τ).loc Cert.Kernel3Ideal.main_arg10))) :
    rm ya yb yc od pj x ctx mm mc gn wo = (Cert.Kernel3Ideal.Gen.dats m 0 c).arrAt 13 Cert.Kernel3Ideal.cfg0.N := by
  funext z
  obtain ⟨b, i, l, rfl⟩ : ∃ (b : Fin 16) (i : Fin 2304) (l : Fin 1024), z = ix3 b i l := ⟨z 0, z 1, z 2, eq_ix3 z⟩
  refine (rm_at ya yb yc od pj x ctx mm mc gn wo b i l).trans (Eq.trans ?_ (arr13_at m c b i l).symm)
  unfold kmid
  rw [h0, h1, h2, h3, h4, h5, h6, h7, h8, h9, h10]

theorem hid_eq (h0 : ya = (m ((c : Thread Cert.Kernel3Ideal.nD Cert.Kernel3Ideal.τ).loc Cert.Kernel3Ideal.main_arg0))) (h1 : yb = (m ((c : Thread Cert.Kernel3Ideal.nD Cert.Kernel3Ideal.τ).loc Cert.Kernel3Ideal.main_arg1))) (h2 : yc = (m ((c : Thread Cert.Kernel3Ideal.nD Cert.Kernel3Ideal.τ).loc Cert.Kernel3Ideal.main_arg2))) (h3 : od = (m ((c : Thread Cert.Kernel3Ideal.nD Cert.Kernel3Ideal.τ).loc Cert.Kernel3Ideal.main_arg3))) (h4 : pj = (m ((c : Thread Cert.Kernel3Ideal.nD Cert.Kernel3Ideal.τ).loc Cert.Kernel3Ideal.main_arg4))) (h5 : x = (m ((c : Thread Cert.Kernel3Ideal.nD Cert.Kernel3Ideal.τ).loc Cert.Kernel3Ideal.main_arg5))) (h6 : ctx = (m ((c : Thread Cert.Kernel3Ideal.nD Cert.Kernel3Ideal.τ).loc Cert.Kernel3Ideal.main_arg6))) (h7 : mm = (m ((c : Thread Cert.Kernel3Ideal.nD Cert.Kernel3Ideal.τ).loc Cert.Kernel3Ideal.main_arg7))) (h8 : mc = (m ((c : Thread Cert.Kernel3Ideal.nD Cert.Kernel3Ideal.τ).loc Cert.Kernel3Ideal.main_arg8))) (h9 : gn = (m ((c : Thread Cert.Kernel3Ideal.nD Cert.Kernel3Ideal.τ).loc Cert.Kernel3Ideal.main_arg9))) (h10 : wo = (m ((c : Thread Cert.Kernel3Ideal.nD Cert.Kernel3Ideal.τ).loc Cert.Kernel3Ideal.main_arg10))) (h11 : nf = (m ((c : Thread Cert.Kernel3Ideal.nD Cert.Kernel3Ideal.τ).loc Cert.Kernel3Ideal.main_arg11))) :
    rh ya yb yc od pj x ctx mm mc gn wo nf = (Cert.Kernel3Ideal.Gen.dats m 0 c).arrAt 14 Cert.Kernel3Ideal.cfg0.N := by
  funext z
  obtain ⟨b, i, l, rfl⟩ : ∃ (b : Fin 16) (i : Fin 2304) (l : Fin 1024), z = ix3 b i l := ⟨z 0, z 1, z 2, eq_ix3 z⟩
  refine (rh_at ya yb yc od pj x ctx mm mc gn wo nf b i l).trans (Eq.trans ?_ (arr14_at m c b i l).symm)
  unfold khid
  rw [h0, h1, h2, h3, h4, h5, h6, h7, h8, h9, h10, h11]

theorem sco_eq (h0 : ya = (m ((c : Thread Cert.Kernel3Ideal.nD Cert.Kernel3Ideal.τ).loc Cert.Kernel3Ideal.main_arg0))) (h1 : yb = (m ((c : Thread Cert.Kernel3Ideal.nD Cert.Kernel3Ideal.τ).loc Cert.Kernel3Ideal.main_arg1))) (h2 : yc = (m ((c : Thread Cert.Kernel3Ideal.nD Cert.Kernel3Ideal.τ).loc Cert.Kernel3Ideal.main_arg2))) (h3 : od = (m ((c : Thread Cert.Kernel3Ideal.nD Cert.Kernel3Ideal.τ).loc Cert.Kernel3Ideal.main_arg3))) (h4 : pj = (m ((c : Thread Cert.Kernel3Ideal.nD Cert.Kernel3Ideal.τ).loc Cert.Kernel3Ideal.main_arg4))) (h5 : x = (m ((c : Thread Cert.Kernel3Ideal.nD Cert.Kernel3Ideal.τ).loc Cert.Kernel3Ideal.main_arg5))) (h6 : ctx = (m ((c : Thread Cert.Kernel3Ideal.nD Cert.Kernel3Ideal.τ).loc Cert.Kernel3Ideal.main_arg6))) (h7 : mm = (m ((c : Thread Cert.Kernel3Ideal.nD Cert.Kernel3Ideal.τ).loc Cert.Kernel3Ideal.main_arg7))) (h8 : mc = (m ((c : Thread Cert.Kernel3Ideal.nD Cert.Kernel3Ideal.τ).loc Cert.Kernel3Ideal.main_arg8))) (h9 : gn = (m ((c : Thread Cert.Kernel3Ideal.nD Cert.Kernel3Ideal.τ).loc Cert.Kernel3Ideal.main_arg9))) (h10 : wo = (m ((c : Thread Cert.Kernel3Ideal.nD Cert.Kernel3Ideal.τ).loc Cert.Kernel3Ideal.main_arg10))) (h11 : nf = (m ((c : Thread Cert.Kernel3Ideal.nD Cert.Kernel3Ideal.τ).loc Cert.Kernel3Ideal.main_arg11))) (h12 : wq = (m ((c : Thread Cert.Kernel3Ideal.nD Cert.Kernel3Ideal.τ).loc Cert.Kernel3Ideal.main_arg12))) (h13 : k1 = (m ((c : Thread Cert.Kernel3Ideal.nD Cert.Kernel3Ideal.τ).loc Cert.Kernel3Ideal.main_arg13))) (h14 : k2 = (m ((c : Thread Cert.Kernel3Ideal.nD Cert.Kernel3Ideal.τ).loc Cert.Kernel3Ideal.main_arg14))) :
    scoR (queR (rh ya yb yc od pj x ctx mm mc gn wo nf) wq) k1 k2 = (Cert.Kernel3Ideal.Gen.dats m 0 c).arrAt 15 Cert.Kernel3Ideal.cfg0.N := by
  funext z
  obtain ⟨g, k, t, rfl⟩ : ∃ (g : Fin 16) (k : Fin 128) (t : Fin 36864), z = ix3 g k t := ⟨z 0, z 1, z 2, eq_ix3 z⟩
  obtain ⟨b, i, rfl⟩ : ∃ (b : Fin 16) (i : Fin 2304), t = ⟨b.val * 2304 + i.val, by omega⟩ :=
    ⟨⟨t.val / 2304, by omega⟩, ⟨t.val % 2304, by omega⟩, Fin.ext (by show t.val = t.val / 2304 * 2304 + t.val % 2304; omega)⟩
  refine (sco_at _ wq k1 k2 b i g k _ (rh_at ya yb yc od pj x ctx mm mc gn wo nf b i)).trans (Eq.trans ?_ (arr15_at m c b i g k).symm)
  unfold khid
  rw [h0, h1, h2, h3, h4, h5, h6, h7, h8, h9, h10, h11, h12, h13, h14]

end

theorem algebraic3 : @Cert.algebraic_Kernel3Ideal_Reference3Ideal Cert.Kernel3Ideal.Gen.facts Cert.Reference3Ideal.Gen.facts := by
  intro m ρ m' ρ' hpre hagree
  refine ⟨_, _, _, Cert.Kernel3Ideal.Value.run_blocks (F := Ideal) m ρ, ?_⟩
  refine (θ_run Cert.Reference3Ideal.defs _ _).mono (fun _ h c => ⟨(h c).1.trans ?_, (h c).2.1.trans ?_, (h c).2.2.1.trans ?_, (h c).2.2.2⟩) (Cert.Reference3Ideal.Value.run (F := Ideal) m' ρ')
  · exact mid_eq m c _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1
  · exact hid_eq m c _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1
  · exact sco_eq m c _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2

theorem frame_r3 : @Cert.quiescent_Reference3Ideal Cert.Reference3Ideal.Gen.facts := fun m ρ _ =>
  (θ_run Cert.Reference3Ideal.defs _ _).mono (fun r h => ⟨fun c => (h c).2.2.2, sem_eq_zero_of_no_sems (by decide) r.2⟩)
    (Cert.Reference3Ideal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Ref5
public import proofs.«01_k».proof.Proof.Final
public import proofs.«01_k».proof.Proof.IFin
public import proofs.«01_k».proof.Proof.PEnd
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, preFacts,
  fun m ρ _ => Cert.Kernel.Gen.frame m ρ, fun m ρ _ => Cert.KernelIdeal.Gen.frame m ρ,
  fun m ρ _ => Cert.KernelIdeal.Gen.frame m ρ, frame_ri, fun m ρ _ => frame_ri m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  preserves, algebraic, trivial, algebraic2, trivial, algebraic3⟩

end Cert.Proof

end
